-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def preserves_Kernel_KernelIdeal : Prop :=
  IdealRules.named_const.Statement Cert.KernelIdeal.κ "q_scale" .f32 0x3E38AA3B#32 ((8⁻¹ * (Real.log 2)⁻¹ : ℝ) : EReal)
  ∧ IdealRules.named_const.Statement Cert.KernelIdeal.κ "masked" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)) (v2 : (c : Dev Cert.Kernel4Ideal.nD) → Buf (Elt Ideal) ((c.tc : Thread Cert.Kernel4Ideal.nD Cert.Kernel4Ideal.τ).loc Cert.Kernel4Ideal.main_v4_2)) (v3 : (c : Dev Cert.Kernel4Ideal.nD) → Buf (Elt Ideal) ((c.tc : Thread Cert.Kernel4Ideal.nD Cert.Kernel4Ideal.τ).loc Cert.Kernel4Ideal.main_v4_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_v4_2) = v2 c
          ∧ r.2.mem ((c.tc : Thread Cert.Kernel4Ideal.nD Cert.Kernel4Ideal.τ).loc Cert.Kernel4Ideal.main_v4_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v41) = v0 c
          ∧ r.2.mem ((c.tc : Thread Cert.Reference4Ideal.nD Cert.Reference4Ideal.τ).loc Cert.Reference4Ideal.main_v44) = v1 c
          ∧ r.2.mem ((c.tc : Thread Cert.Reference4Ideal.nD Cert.Reference4Ideal.τ).loc Cert.Reference4Ideal.main_v47) = v2 c
          ∧ r.2.mem ((c.tc : Thread Cert.Reference4Ideal.nD Cert.Reference4Ideal.τ).loc Cert.Reference4Ideal.main_v50) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v14_0)) (v1 : (c : Dev Cert.Kernel5Ideal.nD) → Buf (Elt Ideal) ((c.tc : Thread Cert.Kernel5Ideal.nD Cert.Kernel5Ideal.τ).loc Cert.Kernel5Ideal.main_v14_1)) (v2 : (c : Dev Cert.Kernel5Ideal.nD) → Buf (Elt Ideal) ((c.tc : Thread Cert.Kernel5Ideal.nD Cert.Kernel5Ideal.τ).loc Cert.Kernel5Ideal.main_v14_2)) (v3 : (c : Dev Cert.Kernel5Ideal.nD) → Buf (Elt Ideal) ((c.tc : Thread Cert.Kernel5Ideal.nD Cert.Kernel5Ideal.τ).loc Cert.Kernel5Ideal.main_v14_3)) (v4 : (c : Dev Cert.Kernel5Ideal.nD) → Buf (Elt Ideal) ((c.tc : Thread Cert.Kernel5Ideal.nD Cert.Kernel5Ideal.τ).loc Cert.Kernel5Ideal.main_v14_4)) (v5 : (c : Dev Cert.Kernel5Ideal.nD) → Buf (Elt Ideal) ((c.tc : Thread Cert.Kernel5Ideal.nD Cert.Kernel5Ideal.τ).loc Cert.Kernel5Ideal.main_v14_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v14_0) = v0 c
          ∧ r.2.mem ((c.tc : Thread Cert.Kernel5Ideal.nD Cert.Kernel5Ideal.τ).loc Cert.Kernel5Ideal.main_v14_1) = v1 c
          ∧ r.2.mem ((c.tc : Thread Cert.Kernel5Ideal.nD Cert.Kernel5Ideal.τ).loc Cert.Kernel5Ideal.main_v14_2) = v2 c
          ∧ r.2.mem ((c.tc : Thread Cert.Kernel5Ideal.nD Cert.Kernel5Ideal.τ).loc Cert.Kernel5Ideal.main_v14_3) = v3 c
          ∧ r.2.mem ((c.tc : Thread Cert.Kernel5Ideal.nD Cert.Kernel5Ideal.τ).loc Cert.Kernel5Ideal.main_v14_4) = v4 c
          ∧ r.2.mem ((c.tc : Thread Cert.Kernel5Ideal.nD Cert.Kernel5Ideal.τ).loc Cert.Kernel5Ideal.main_v14_5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v22) = v0 c
          ∧ r.2.mem ((c.tc : Thread Cert.Reference5Ideal.nD Cert.Reference5Ideal.τ).loc Cert.Reference5Ideal.main_v23) = v1 c
          ∧ r.2.mem ((c.tc : Thread Cert.Reference5Ideal.nD Cert.Reference5Ideal.τ).loc Cert.Reference5Ideal.main_v26) = v2 c
          ∧ r.2.mem ((c.tc : Thread Cert.Reference5Ideal.nD Cert.Reference5Ideal.τ).loc Cert.Reference5Ideal.main_v29) = v3 c
          ∧ r.2.mem ((c.tc : Thread Cert.Reference5Ideal.nD Cert.Reference5Ideal.τ).loc Cert.Reference5Ideal.main_v32) = v4 c
          ∧ r.2.mem ((c.tc : Thread Cert.Reference5Ideal.nD Cert.Reference5Ideal.τ).loc Cert.Reference5Ideal.main_v36) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v29_0)) (v1 : (c : Dev Cert.Kernel6Ideal.nD) → Buf (Elt Ideal) ((c.tc : Thread Cert.Kernel6Ideal.nD Cert.Kernel6Ideal.τ).loc Cert.Kernel6Ideal.main_v29_1)) (v2 : (c : Dev Cert.Kernel6Ideal.nD) → Buf (Elt Ideal) ((c.tc : Thread Cert.Kernel6Ideal.nD Cert.Kernel6Ideal.τ).loc Cert.Kernel6Ideal.main_v29_2)) (v3 : (c : Dev Cert.Kernel6Ideal.nD) → Buf (Elt Ideal) ((c.tc : Thread Cert.Kernel6Ideal.nD Cert.Kernel6Ideal.τ).loc Cert.Kernel6Ideal.main_v29_3)) (v4 : (c : Dev Cert.Kernel6Ideal.nD) → Buf (Elt Ideal) ((c.tc : Thread Cert.Kernel6Ideal.nD Cert.Kernel6Ideal.τ).loc Cert.Kernel6Ideal.main_v29_4)) (v5 : (c : Dev Cert.Kernel6Ideal.nD) → Buf (Elt Ideal) ((c.tc : Thread Cert.Kernel6Ideal.nD Cert.Kernel6Ideal.τ).loc Cert.Kernel6Ideal.main_v29_5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v29_0) = v0 c
          ∧ r.2.mem ((c.tc : Thread Cert.Kernel6Ideal.nD Cert.Kernel6Ideal.τ).loc Cert.Kernel6Ideal.main_v29_1) = v1 c
          ∧ r.2.mem ((c.tc : Thread Cert.Kernel6Ideal.nD Cert.Kernel6Ideal.τ).loc Cert.Kernel6Ideal.main_v29_2) = v2 c
          ∧ r.2.mem ((c.tc : Thread Cert.Kernel6Ideal.nD Cert.Kernel6Ideal.τ).loc Cert.Kernel6Ideal.main_v29_3) = v3 c
          ∧ r.2.mem ((c.tc : Thread Cert.Kernel6Ideal.nD Cert.Kernel6Ideal.τ).loc Cert.Kernel6Ideal.main_v29_4) = v4 c
          ∧ r.2.mem ((c.tc : Thread Cert.Kernel6Ideal.nD Cert.Kernel6Ideal.τ).loc Cert.Kernel6Ideal.main_v29_5) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v32) = v0 c
          ∧ r.2.mem ((c.tc : Thread Cert.Reference6Ideal.nD Cert.Reference6Ideal.τ).loc Cert.Reference6Ideal.main_v34) = v1 c
          ∧ r.2.mem ((c.tc : Thread Cert.Reference6Ideal.nD Cert.Reference6Ideal.τ).loc Cert.Reference6Ideal.main_v36) = v2 c
          ∧ r.2.mem ((c.tc : Thread Cert.Reference6Ideal.nD Cert.Reference6Ideal.τ).loc Cert.Reference6Ideal.main_v39) = v3 c
          ∧ r.2.mem ((c.tc : Thread Cert.Reference6Ideal.nD Cert.Reference6Ideal.τ).loc Cert.Reference6Ideal.main_v42) = v4 c
          ∧ r.2.mem ((c.tc : Thread Cert.Reference6Ideal.nD Cert.Reference6Ideal.τ).loc Cert.Reference6Ideal.main_v45) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v19)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v19) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v76) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_finite7 : Cert.Pre_finite7.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
-- ==== Pre_finite.lean ====
abbrev S8x2048x1024 : Shape := ⟨3, ![8, 2048, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel

variable [Facts]

def fn {F : FTy → Type} [FloatOps F] (main_arg0 : FVec F S8x2048x1024 .f32) (main_arg1 : FVec F S8x2048x1024 .f32) (main_arg2 : FVec F S8x2048x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S8x2048x1024 .f32 := Host.absf main_arg2
  let main_cst_2 : FVec F S_ .f32 := constant S_ .f32 0x7F800000#32
  let main_v10 : FVec F S8x2048x1024 .f32 := broadcastInDim S8x2048x1024 ![] bcast_S_S8x2048x1024 main_cst_2
  let main_v11 : IVec S8x2048x1024 1 := cmpf .olt main_v9 main_v10
  let main_c_3 : IVec S_ 1 := constantI S_ 1 1#1
  let main_v12 : IVec S_ 1 := (fun x v => Host.reduce IntOp.andi x v reducesTo_S8x2048x1024_S_d0_1_2 h_S_) main_v11 main_c_3
  let main_v13 : IVec S_ 1 := andi main_v8 main_v12
  main_v13
-- ==== Pre_finite7.lean ====
abbrev S8x2048x256 : Shape := ⟨3, ![8, 2048, 256]⟩
abbrev S32x64 : Shape := ⟨2, ![32, 64]⟩
abbrev S2048x256 : Shape := ⟨2, ![2048, 256]⟩
abbrev S256x64 : Shape := ⟨2, ![256, 64]⟩
abbrev S_ : Shape := ⟨0, ![]⟩

class Facts : Prop where
  bcast_S_S32x64 : S_.BroadcastsInDim S32x64 (![] : Fin 0 → Fin S32x64.rank)
  reducesTo_S32x64_S_d0_1 : S32x64.ReducesTo [0, 1] S_
  h_S_ : 0 < S_.numel
  bcast_S_S2048x256 : S_.BroadcastsInDim S2048x256 (![] : Fin 0 → Fin S2048x256.rank)
  reducesTo_S2048x256_S_d0_1 : S2048x256.ReducesTo [0, 1] S_

variable [Facts]

def fn_part1 {F : FTy → Type} [FloatOps F] (main_v13 : IVec S_ 1) (main_v16 : IVec S2048x256 1) : IVec S_ 1 :=
  let main_c_5 : IVec S_ 1 := constantI S_ 1 1#1
  let main_v17 : IVec S_ 1 := (fun x v => Host.reduce IntOp.andi x v reducesTo_S2048x256_S_d0_1 h_S_) main_v16 main_c_5
  let main_v18 : IVec S_ 1 := andi main_v13 main_v17
  main_v18

def fn {F : FTy → Type} [FloatOps F] (main_arg0 : FVec F S8x2048x256 .f32) (main_arg1 : FVec F S8x2048x256 .f32) (main_arg2 : FVec F S32x64 .f32) (main_arg3 : FVec F S32x64 .f32) (main_arg4 : FVec F S2048x256 .f32) (main_arg5 : FVec F S256x64 .f32) (main_arg6 : FVec F S2048x256 .f32) (main_arg7 : FVec F S256x64 .f32) : IVec S_ 1 :=
  let main_v0 : FVec F S32x64 .f32 := Host.absf main_arg2
  let main_cst : FVec F S_ .f32 := constant S_ .f32 0x7F800000#32
  let main_v1 : FVec F S32x64 .f32 := broadcastInDim S32x64 ![] bcast_S_S32x64 main_cst
  let main_v2 : IVec S32x64 1 := cmpf .olt main_v0 main_v1
  let main_c : IVec S_ 1 := constantI S_ 1 1#1
  let main_v3 : IVec S_ 1 := (fun x v => Host.reduce IntOp.andi x v reducesTo_S32x64_S_d0_1 h_S_) main_v2 main_c
  let main_v4 : FVec F S32x64 .f32 := Host.absf main_arg3
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S2048x256 .f32 := Host.absf main_arg4
  let main_cst_2 : FVec F S_ .f32 := constant S_ .f32 0x7F800000#32
  let main_v10 : FVec F S2048x256 .f32 := broadcastInDim S2048x256 ![] bcast_S_S2048x256 main_cst_2
  let main_v11 : IVec S2048x256 1 := cmpf .olt main_v9 main_v10
  let main_c_3 : IVec S_ 1 := constantI S_ 1 1#1
  let main_v12 : IVec S_ 1 := (fun x v => Host.reduce IntOp.andi x v reducesTo_S2048x256_S_d0_1 h_S_) main_v11 main_c_3
  let main_v13 : IVec S_ 1 := andi main_v8 main_v12
  let main_v14 : FVec F S2048x256 .f32 := Host.absf main_arg6
  let main_cst_4 : FVec F S_ .f32 := constant S_ .f32 0x7F800000#32
  let main_v15 : FVec F S2048x256 .f32 := broadcastInDim S2048x256 ![] bcast_S_S2048x256 main_cst_4
  let main_v16 : IVec S2048x256 1 := cmpf .olt main_v14 main_v15
  fn_part1 (F := F) main_v13 main_v16
-- ==== Kernel.lean ====
abbrev S8x2048x1024 : Shape := ⟨3, ![8, 2048, 1024]⟩
abbrev S16384x1024 : Shape := ⟨2, ![16384, 1024]⟩
abbrev S16384x16x64 : Shape := ⟨3, ![16384, 16, 64]⟩
abbrev S16384x16x1x64 : Shape := ⟨4, ![16384, 16, 1, 64]⟩
abbrev S16384x16x2x64 : Shape := ⟨4, ![16384, 16, 2, 64]⟩
abbrev S16384x2048 : Shape := ⟨2, ![16384, 2048]⟩
abbrev S64x256x2048 : Shape := ⟨3, ![64, 256, 2048]⟩
abbrev S_ : Shape := ⟨0, ![]⟩
abbrev S64x2048 : Shape := ⟨2, ![64, 2048]⟩
abbrev S8x8x2048 : Shape := ⟨3, ![8, 8, 2048]⟩
abbrev S256x1024 : Shape := ⟨2, ![256, 1024]⟩
abbrev S2048x2048 : Shape := ⟨2, ![2048, 2048]⟩
abbrev S1x8x2048 : Shape := ⟨3, ![1, 8, 2048]⟩
abbrev S16x1x256 : Shape := ⟨3, ![16, 1, 256]⟩
abbrev S16x80x256 : Shape := ⟨3, ![16, 80, 256]⟩
abbrev S16x8x256 : Shape := ⟨3, ![16, 8, 256]⟩
abbrev S1024x256 : Shape := ⟨2, ![1024, 256]⟩
abbrev S64x256 : Shape := ⟨2, ![64, 256]⟩
abbrev S128x256 : Shape := ⟨2, ![128, 256]⟩
abbrev S256x128 : Shape := ⟨2, ![256, 128]⟩
abbrev S8x256 : Shape := ⟨2, ![8, 256]⟩
abbrev S1x8x128 : Shape := ⟨3, ![1, 8, 128]⟩
abbrev S8x128 : Shape := ⟨2, ![8, 128]⟩
abbrev S1x256 : Shape := ⟨2, ![1, 256]⟩
abbrev S1x8x256 : Shape := ⟨3, ![1, 8, 256]⟩
abbrev S128x128 : Shape := ⟨2, ![128, 128]⟩
abbrev S128 : Shape := ⟨1, ![128]⟩
abbrev S1x128 : Shape := ⟨2, ![1, 128]⟩
abbrev S16x128 : Shape := ⟨2, ![16, 128]⟩
abbrev S64x128 : Shape := ⟨2, ![64, 128]⟩
abbrev S80x128 : Shape := ⟨2, ![80, 128]⟩
abbrev S16x256 : Shape := ⟨2, ![16, 256]⟩
abbrev S80x256 : Shape := ⟨2, ![80, 256]⟩
abbrev S1x1x256 : Shape := ⟨3, ![1, 1, 256]⟩
abbrev S1x80x256 : Shape := ⟨3, ![1, 80, 256]⟩
abbrev S256x256 : Shape := ⟨2, ![256, 256]⟩
abbrev S32x8x256 : Shape := ⟨3, ![32, 8, 256]⟩
abbrev S256 : Shape := ⟨1, ![256]⟩

abbrev nBuf : Space → Nat
  | .hbm => 22
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S16384x1024, .f32⟩
  | .hbm, ⟨4, _⟩ => ⟨S16384x1024, .f32⟩
  | .hbm, ⟨5, _⟩ => ⟨S16384x16x64, .f32⟩
  | .hbm, ⟨6, _⟩ => ⟨S16384x16x64, .f32⟩
  | .hbm, ⟨7, _⟩ => ⟨S16384x16x1x64, .f32⟩
  | .hbm, ⟨8, _⟩ => ⟨S16384x16x1x64, .f32⟩
  | .hbm, ⟨9, _⟩ => ⟨S16384x16x2x64, .f32⟩
  | .hbm, ⟨10, _⟩ => ⟨S16384x2048, .f32⟩
  | .hbm, ⟨11, _⟩ => ⟨S64x256x2048, .f32⟩
  | .hbm, ⟨12, _⟩ => ⟨S_, .f32⟩
  | .hbm, ⟨13, _⟩ => ⟨S64x2048, .f32⟩
  | .hbm, ⟨14, _⟩ => ⟨S_, .f32⟩
  | .hbm, ⟨15, _⟩ => ⟨S64x2048, .f32⟩
  | .hbm, ⟨16, _⟩ => ⟨S64x2048, .f32⟩
  | .hbm, ⟨17, _⟩ => ⟨S16384x1024, .f32⟩
  | .hbm, ⟨18, _⟩ => ⟨S16384x1024, .bf16⟩
  | .hbm, ⟨19, _⟩ => ⟨S16384x2048, .bf16⟩
  | .hbm, ⟨20, _⟩ => ⟨S8x8x2048, .f32⟩
  | .hbm, ⟨21, _⟩ => ⟨S16384x1024, .bf16⟩
  | .local _ .vmem, ⟨0, _⟩ => ⟨S256x1024, .bf16⟩
  | .local _ .vmem, ⟨1, _⟩ => ⟨S256x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1x8x2048, .f32⟩
  | .local _ .vmem, ⟨5, _⟩ => ⟨S1x8x2048, .f32⟩
  | .local _ .vmem, ⟨6, _⟩ => ⟨S256x1024, .bf16⟩
  | .local _ .vmem, ⟨7, _⟩ => ⟨S256x1024, .bf16⟩
  | .local _ .vmem, ⟨8, _⟩ => ⟨S16x1x256, .f32⟩
  | .local _ .vmem, ⟨9, _⟩ => ⟨S16x80x256, .f32⟩
  | .local _ .vmem, ⟨10, _⟩ => ⟨S16x8x256, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 8], ![false, false, false]⟩

def k0_mult1 (i : grid0.Coords) : BitVec 32 :=
  let arg2 : BitVec 32 := BitVec.ofNat 32 (i 2).val
  let c256_i32 : BitVec 32 := 256#32
  let v0 : BitVec 32 := Scalar.muli arg2 c256_i32
  v0
def k0_off1 (i : grid0.Coords) : Fin 2 → Nat :=
  let arg2 : BitVec 32 := BitVec.ofNat 32 (i 2).val
  let c256_i32 : BitVec 32 := 256#32
  let v0 : BitVec 32 := Scalar.muli arg2 c256_i32
  let v56 : BitVec 32 := v0
  let v57 : Index := Scalar.indexCast v56
  let c0_2 : Index := 0#32
  ![v57.toNat, 0]
def k0_off2 (i : grid0.Coords) : Fin 2 → Nat :=
  let arg2 : BitVec 32 := BitVec.ofNat 32 (i 2).val
  let c256_i32 : BitVec 32 := 256#32
  let v0 : BitVec 32 := Scalar.muli arg2 c256_i32
  let v56 : BitVec 32 := v0
  let v60 : Index := Scalar.indexCast v56
  let c128 : Index := 128#32
  ![v60.toNat, 128]
def k0_off3 (i : grid0.Coords) : Fin 2 → Nat :=
  let arg2 : BitVec 32 := BitVec.ofNat 32 (i 2).val
  let c256_i32 : BitVec 32 := 256#32
  let v0 : BitVec 32 := Scalar.muli arg2 c256_i32
  let v56 : BitVec 32 := v0
  let v63 : Index := Scalar.indexCast v56
  let c256 : Index := 256#32
  ![v63.toNat, 256]
def k0_off4 (i : grid0.Coords) : Fin 2 → Nat :=
  let arg2 : BitVec 32 := BitVec.ofNat 32 (i 2).val
  let c256_i32 : BitVec 32 := 256#32
  let v0 : BitVec 32 := Scalar.muli arg2 c256_i32
  let v56 : BitVec 32 := v0
  let v66 : Index := Scalar.indexCast v56
  let c384 : Index := 384#32
  ![v66.toNat, 384]
def k0_off5 (i : grid0.Coords) : Fin 2 → Nat :=
  let arg2 : BitVec 32 := BitVec.ofNat 32 (i 2).val
  let c256_i32 : BitVec 32 := 256#32
  let v0 : BitVec 32 := Scalar.muli arg2 c256_i32
  let v56 : BitVec 32 := v0
  let v69 : Index := Scalar.indexCast v56
  let c512 : Index := 512#32
  ![v69.toNat, 512]
def k0_off6 (i : grid0.Coords) : Fin 2 → Nat :=
  let arg2 : BitVec 32 := BitVec.ofNat 32 (i 2).val
  let c256_i32 : BitVec 32 := 256#32
  let v0 : BitVec 32 := Scalar.muli arg2 c256_i32
  let v56 : BitVec 32 := v0
  let v72 : Index := Scalar.indexCast v56
  let c640 : Index := 640#32
  ![v72.toNat, 640]
def k0_off7 (i : grid0.Coords) : Fin 2 → Nat :=
  let arg2 : BitVec 32 := BitVec.ofNat 32 (i 2).val
  let c256_i32 : BitVec 32 := 256#32
  let v0 : BitVec 32 := Scalar.muli arg2 c256_i32
  let v56 : BitVec 32 := v0
  let v75 : Index := Scalar.indexCast v56
  let c768 : Index := 768#32
  ![v75.toNat, 768]
def k0_off8 (i : grid0.Coords) : Fin 2 → Nat :=
  let arg2 : BitVec 32 := BitVec.ofNat 32 (i 2).val
  let c256_i32 : BitVec 32 := 256#32
  let v0 : BitVec 32 := Scalar.muli arg2 c256_i32
  let v56 : BitVec 32 := v0
  let v78 : Index := Scalar.indexCast v56
  let c896 : Index := 896#32
  ![v78.toNat, 896]
def k0_off9 (i : grid0.Coords) : Fin 2 → Nat :=
  let arg2 : BitVec 32 := BitVec.ofNat 32 (i 2).val
  let c256_i32 : BitVec 32 := 256#32
  let v0 : BitVec 32 := Scalar.muli arg2 c256_i32
  let v56 : BitVec 32 := v0
  let v81 : Index := Scalar.indexCast v56
  let c1024 : Index := 1024#32
  ![v81.toNat, 1024]
def k0_off10 (i : grid0.Coords) : Fin 2 → Nat :=
  let arg2 : BitVec 32 := BitVec.ofNat 32 (i 2).val
  let c256_i32 : BitVec 32 := 256#32
  let v0 : BitVec 32 := Scalar.muli arg2 c256_i32
  let v56 : BitVec 32 := v0
  let v84 : Index := Scalar.indexCast v56
  let c1152 : Index := 1152#32
  ![v84.toNat, 1152]
def k0_off11 (i : grid0.Coords) : Fin 2 → Nat :=
  let arg2 : BitVec 32 := BitVec.ofNat 32 (i 2).val
  let c256_i32 : BitVec 32 := 256#32
  let v0 : BitVec 32 := Scalar.muli arg2 c256_i32
  let v56 : BitVec 32 := v0
  let v87 : Index := Scalar.indexCast v56
  let c1280 : Index := 1280#32
  ![v87.toNat, 1280]
def k0_off12 (i : grid0.Coords) : Fin 2 → Nat :=
  let arg2 : BitVec 32 := BitVec.ofNat 32 (i 2).val
  let c256_i32 : BitVec 32 := 256#32
  let v0 : BitVec 32 := Scalar.muli arg2 c256_i32
  let v56 : BitVec 32 := v0
  let v90 : Index := Scalar.indexCast v56
  let c1408 : Index := 1408#32
  ![v90.toNat, 1408]
def k0_off13 (i : grid0.Coords) : Fin 2 → Nat :=
  let arg2 : BitVec 32 := BitVec.ofNat 32 (i 2).val
  let c256_i32 : BitVec 32 := 256#32
  let v0 : BitVec 32 := Scalar.muli arg2 c256_i32
  let v56 : BitVec 32 := v0
  let v93 : Index := Scalar.indexCast v56
  let c1536 : Index := 1536#32
  ![v93.toNat, 1536]
def k0_off14 (i : grid0.Coords) : Fin 2 → Nat :=
  let arg2 : BitVec 32 := BitVec.ofNat 32 (i 2).val
  let c256_i32 : BitVec 32 := 256#32
  let v0 : BitVec 32 := Scalar.muli arg2 c256_i32
  let v56 : BitVec 32 := v0
  let v96 : Index := Scalar.indexCast v56
  let c1664 : Index := 1664#32
  ![v96.toNat, 1664]
def k0_off15 (i : grid0.Coords) : Fin 2 → Nat :=
  let arg2 : BitVec 32 := BitVec.ofNat 32 (i 2).val
  let c256_i32 : BitVec 32 := 256#32
  let v0 : BitVec 32 := Scalar.muli arg2 c256_i32
  let v56 : BitVec 32 := v0
  let v99 : Index := Scalar.indexCast v56
  let c1792 : Index := 1792#32
  ![v99.toNat, 1792]
def k0_off16 (i : grid0.Coords) : Fin 2 → Nat :=
  let arg2 : BitVec 32 := BitVec.ofNat 32 (i 2).val
  let c256_i32 : BitVec 32 := 256#32
  let v0 : BitVec 32 := Scalar.muli arg2 c256_i32
  let v56 : BitVec 32 := v0
  let v102 : Index := Scalar.indexCast v56
  let c1920 : Index := 1920#32
  ![v102.toNat, 1920]
@[reducible] def k0_t1_loop (i : grid0.Coords) : Scf.Loop 32 :=
  let c0_i32_586 : BitVec 32 := 0#32
  let arg2 : BitVec 32 := BitVec.ofNat 32 (i 2).val
  let v2460 : BitVec 32 := Scalar.subi arg2 c0_i32_586
  let c1_i32_587 : BitVec 32 := 1#32
  let v2462 : BitVec 32 := Scalar.divsi v2460 c1_i32_587
  let v2463 : BitVec 32 := Scalar.muli v2462 c1_i32_587
  let v2464 : BitVec 32 := Scalar.addi c0_i32_586 v2463
  let c1_i32_588 : BitVec 32 := 1#32
  ⟨c0_i32_586, v2464, c1_i32_588⟩
def k0_mult2 (i : grid0.Coords) (k0_t1 : Fin (k0_t1_loop i).trips) : BitVec 32 :=
  let c0_i32_586 : BitVec 32 := 0#32
  let c1_i32_588 : BitVec 32 := 1#32
  let arg10 : BitVec 32 := Scf.iv c0_i32_586 c1_i32_588 k0_t1
  let c256_i32_672 : BitVec 32 := 256#32
  let v2629 : BitVec 32 := Scalar.muli arg10 c256_i32_672
  v2629
def k0_off17 (i : grid0.Coords) (k0_t1 : Fin (k0_t1_loop i).trips) : Fin 2 → Nat :=
  let c0_i32_586 : BitVec 32 := 0#32
  let c1_i32_588 : BitVec 32 := 1#32
  let arg10 : BitVec 32 := Scf.iv c0_i32_586 c1_i32_588 k0_t1
  let c256_i32_672 : BitVec 32 := 256#32
  let v2629 : BitVec 32 := Scalar.muli arg10 c256_i32_672
  let v2630 : BitVec 32 := v2629
  let v2631 : Index := Scalar.indexCast v2630
  let c0_673 : Index := 0#32
  ![v2631.toNat, 0]
def k0_off18 (i : grid0.Coords) (k0_t1 : Fin (k0_t1_loop i).trips) : Fin 2 → Nat :=
  let c0_i32_586 : BitVec 32 := 0#32
  let c1_i32_588 : BitVec 32 := 1#32
  let arg10 : BitVec 32 := Scf.iv c0_i32_586 c1_i32_588 k0_t1
  let c256_i32_672 : BitVec 32 := 256#32
  let v2629 : BitVec 32 := Scalar.muli arg10 c256_i32_672
  let v2630 : BitVec 32 := v2629
  let v2634 : Index := Scalar.indexCast v2630
  let c128_674 : Index := 128#32
  ![v2634.toNat, 128]
def k0_off19 (i : grid0.Coords) (k0_t1 : Fin (k0_t1_loop i).trips) : Fin 2 → Nat :=
  let c0_i32_586 : BitVec 32 := 0#32
  let c1_i32_588 : BitVec 32 := 1#32
  let arg10 : BitVec 32 := Scf.iv c0_i32_586 c1_i32_588 k0_t1
  let c256_i32_672 : BitVec 32 := 256#32
  let v2629 : BitVec 32 := Scalar.muli arg10 c256_i32_672
  let v2630 : BitVec 32 := v2629
  let v2637 : Index := Scalar.indexCast v2630
  let c256_675 : Index := 256#32
  ![v2637.toNat, 256]
def k0_off20 (i : grid0.Coords) (k0_t1 : Fin (k0_t1_loop i).trips) : Fin 2 → Nat :=
  let c0_i32_586 : BitVec 32 := 0#32
  let c1_i32_588 : BitVec 32 := 1#32
  let arg10 : BitVec 32 := Scf.iv c0_i32_586 c1_i32_588 k0_t1
  let c256_i32_672 : BitVec 32 := 256#32
  let v2629 : BitVec 32 := Scalar.muli arg10 c256_i32_672
  let v2630 : BitVec 32 := v2629
  let v2640 : Index := Scalar.indexCast v2630
  let c384_676 : Index := 384#32
  ![v2640.toNat, 384]
def k0_off21 (i : grid0.Coords) (k0_t1 : Fin (k0_t1_loop i).trips) : Fin 2 → Nat :=
  let c0_i32_586 : BitVec 32 := 0#32
  let c1_i32_588 : BitVec 32 := 1#32
  let arg10 : BitVec 32 := Scf.iv c0_i32_586 c1_i32_588 k0_t1
  let c256_i32_672 : BitVec 32 := 256#32
  let v2629 : BitVec 32 := Scalar.muli arg10 c256_i32_672
  let v2630 : BitVec 32 := v2629
  let v2643 : Index := Scalar.indexCast v2630
  let c512_677 : Index := 512#32
  ![v2643.toNat, 512]
def k0_off22 (i : grid0.Coords) (k0_t1 : Fin (k0_t1_loop i).trips) : Fin 2 → Nat :=
  let c0_i32_586 : BitVec 32 := 0#32
  let c1_i32_588 : BitVec 32 := 1#32
  let arg10 : BitVec 32 := Scf.iv c0_i32_586 c1_i32_588 k0_t1
  let c256_i32_672 : BitVec 32 := 256#32
  let v2629 : BitVec 32 := Scalar.muli arg10 c256_i32_672
  let v2630 : BitVec 32 := v2629
  let v2646 : Index := Scalar.indexCast v2630
  let c640_678 : Index := 640#32
  ![v2646.toNat, 640]
def k0_off23 (i : grid0.Coords) (k0_t1 : Fin (k0_t1_loop i).trips) : Fin 2 → Nat :=
  let c0_i32_586 : BitVec 32 := 0#32
  let c1_i32_588 : BitVec 32 := 1#32
  let arg10 : BitVec 32 := Scf.iv c0_i32_586 c1_i32_588 k0_t1
  let c256_i32_672 : BitVec 32 := 256#32
  let v2629 : BitVec 32 := Scalar.muli arg10 c256_i32_672
  let v2630 : BitVec 32 := v2629
  let v2649 : Index := Scalar.indexCast v2630
  let c768_679 : Index := 768#32
  ![v2649.toNat, 768]
def k0_off24 (i : grid0.Coords) (k0_t1 : Fin (k0_t1_loop i).trips) : Fin 2 → Nat :=
  let c0_i32_586 : BitVec 32 := 0#32
  let c1_i32_588 : BitVec 32 := 1#32
  let arg10 : BitVec 32 := Scf.iv c0_i32_586 c1_i32_588 k0_t1
  let c256_i32_672 : BitVec 32 := 256#32
  let v2629 : BitVec 32 := Scalar.muli arg10 c256_i32_672
  let v2630 : BitVec 32 := v2629
  let v2652 : Index := Scalar.indexCast v2630
  let c896_680 : Index := 896#32
  ![v2652.toNat, 896]
def k0_off25 (i : grid0.Coords) (k0_t1 : Fin (k0_t1_loop i).trips) : Fin 2 → Nat :=
  let c0_i32_586 : BitVec 32 := 0#32
  let c1_i32_588 : BitVec 32 := 1#32
  let arg10 : BitVec 32 := Scf.iv c0_i32_586 c1_i32_588 k0_t1
  let c256_i32_672 : BitVec 32 := 256#32
  let v2629 : BitVec 32 := Scalar.muli arg10 c256_i32_672
  let v2630 : BitVec 32 := v2629
  let v2655 : Index := Scalar.indexCast v2630
  let c1024_681 : Index := 1024#32
  ![v2655.toNat, 1024]
def k0_off26 (i : grid0.Coords) (k0_t1 : Fin (k0_t1_loop i).trips) : Fin 2 → Nat :=
  let c0_i32_586 : BitVec 32 := 0#32
  let c1_i32_588 : BitVec 32 := 1#32
  let arg10 : BitVec 32 := Scf.iv c0_i32_586 c1_i32_588 k0_t1
  let c256_i32_672 : BitVec 32 := 256#32
  let v2629 : BitVec 32 := Scalar.muli arg10 c256_i32_672
  let v2630 : BitVec 32 := v2629
  let v2658 : Index := Scalar.indexCast v2630
  let c1152_682 : Index := 1152#32
  ![v2658.toNat, 1152]
def k0_off27 (i : grid0.Coords) (k0_t1 : Fin (k0_t1_loop i).trips) : Fin 2 → Nat :=
  let c0_i32_586 : BitVec 32 := 0#32
  let c1_i32_588 : BitVec 32 := 1#32
  let arg10 : BitVec 32 := Scf.iv c0_i32_586 c1_i32_588 k0_t1
  let c256_i32_672 : BitVec 32 := 256#32
  let v2629 : BitVec 32 := Scalar.muli arg10 c256_i32_672
  let v2630 : BitVec 32 := v2629
  let v2661 : Index := Scalar.indexCast v2630
  let c1280_683 : Index := 1280#32
  ![v2661.toNat, 1280]
def k0_off28 (i : grid0.Coords) (k0_t1 : Fin (k0_t1_loop i).trips) : Fin 2 → Nat :=
  let c0_i32_586 : BitVec 32 := 0#32
  let c1_i32_588 : BitVec 32 := 1#32
  let arg10 : BitVec 32 := Scf.iv c0_i32_586 c1_i32_588 k0_t1
  let c256_i32_672 : BitVec 32 := 256#32
  let v2629 : BitVec 32 := Scalar.muli arg10 c256_i32_672
  let v2630 : BitVec 32 := v2629
  let v2664 : Index := Scalar.indexCast v2630
  let c1408_684 : Index := 1408#32
  ![v2664.toNat, 1408]
def k0_off29 (i : grid0.Coords) (k0_t1 : Fin (k0_t1_loop i).trips) : Fin 2 → Nat :=
  let c0_i32_586 : BitVec 32 := 0#32
  let c1_i32_588 : BitVec 32 := 1#32
  let arg10 : BitVec 32 := Scf.iv c0_i32_586 c1_i32_588 k0_t1
  let c256_i32_672 : BitVec 32 := 256#32
  let v2629 : BitVec 32 := Scalar.muli arg10 c256_i32_672
  let v2630 : BitVec 32 := v2629
  let v2667 : Index := Scalar.indexCast v2630
  let c1536_685 : Index := 1536#32
  ![v2667.toNat, 1536]
def k0_off30 (i : grid0.Coords) (k0_t1 : Fin (k0_t1_loop i).trips) : Fin 2 → Nat :=
  let c0_i32_586 : BitVec 32 := 0#32
  let c1_i32_588 : BitVec 32 := 1#32
  let arg10 : BitVec 32 := Scf.iv c0_i32_586 c1_i32_588 k0_t1
  let c256_i32_672 : BitVec 32 := 256#32
  let v2629 : BitVec 32 := Scalar.muli arg10 c256_i32_672
  let v2630 : BitVec 32 := v2629
  let v2670 : Index := Scalar.indexCast v2630
  let c1664_686 : Index := 1664#32
  ![v2670.toNat, 1664]
def k0_off31 (i : grid0.Coords) (k0_t1 : Fin (k0_t1_loop i).trips) : Fin 2 → Nat :=
  let c0_i32_586 : BitVec 32 := 0#32
  let c1_i32_588 : BitVec 32 := 1#32
  let arg10 : BitVec 32 := Scf.iv c0_i32_586 c1_i32_588 k0_t1
  let c256_i32_672 : BitVec 32 := 256#32
  let v2629 : BitVec 32 := Scalar.muli arg10 c256_i32_672
  let v2630 : BitVec 32 := v2629
  let v2673 : Index := Scalar.indexCast v2630
  let c1792_687 : Index := 1792#32
  ![v2673.toNat, 1792]
def k0_off32 (i : grid0.Coords) (k0_t1 : Fin (k0_t1_loop i).trips) : Fin 2 → Nat :=
  let c0_i32_586 : BitVec 32 := 0#32
  let c1_i32_588 : BitVec 32 := 1#32
  let arg10 : BitVec 32 := Scf.iv c0_i32_586 c1_i32_588 k0_t1
  let c256_i32_672 : BitVec 32 := 256#32
  let v2629 : BitVec 32 := Scalar.muli arg10 c256_i32_672
  let v2630 : BitVec 32 := v2629
  let v2676 : Index := Scalar.indexCast v2630
  let c1920_688 : Index := 1920#32
  ![v2676.toNat, 1920]
def k0_off33 (i : grid0.Coords) (k0_t1 : Fin (k0_t1_loop i).trips) : Fin 3 → Nat :=
  let c0_689 : Index := 0#32
  let c0_i32_586 : BitVec 32 := 0#32
  let c1_i32_588 : BitVec 32 := 1#32
  let arg10 : BitVec 32 := Scf.iv c0_i32_586 c1_i32_588 k0_t1
  let v2679 : Index := Scalar.indexCast arg10
  let c0_690 : Index := 0#32
  ![0, v2679.toNat, 0]
def k0_off34 (i : grid0.Coords) (k0_t1 : Fin (k0_t1_loop i).trips) : Fin 3 → Nat :=
  let c1_691 : Index := 1#32
  let c0_i32_586 : BitVec 32 := 0#32
  let c1_i32_588 : BitVec 32 := 1#32
  let arg10 : BitVec 32 := Scf.iv c0_i32_586 c1_i32_588 k0_t1
  let v2682 : Index := Scalar.indexCast arg10
  let c0_692 : Index := 0#32
  ![1, v2682.toNat, 0]
def k0_off35 (i : grid0.Coords) (k0_t1 : Fin (k0_t1_loop i).trips) : Fin 3 → Nat :=
  let c2_693 : Index := 2#32
  let c0_i32_586 : BitVec 32 := 0#32
  let c1_i32_588 : BitVec 32 := 1#32
  let arg10 : BitVec 32 := Scf.iv c0_i32_586 c1_i32_588 k0_t1
  let v2685 : Index := Scalar.indexCast arg10
  let c0_694 : Index := 0#32
  ![2, v2685.toNat, 0]
def k0_off36 (i : grid0.Coords) (k0_t1 : Fin (k0_t1_loop i).trips) : Fin 3 → Nat :=
  let c3_695 : Index := 3#32
  let c0_i32_586 : BitVec 32 := 0#32
  let c1_i32_588 : BitVec 32 := 1#32
  let arg10 : BitVec 32 := Scf.iv c0_i32_586 c1_i32_588 k0_t1
  let v2688 : Index := Scalar.indexCast arg10
  let c0_696 : Index := 0#32
  ![3, v2688.toNat, 0]
def k0_off37 (i : grid0.Coords) (k0_t1 : Fin (k0_t1_loop i).trips) : Fin 3 → Nat :=
  let c4_697 : Index := 4#32
  let c0_i32_586 : BitVec 32 := 0#32
  let c1_i32_588 : BitVec 32 := 1#32
  let arg10 : BitVec 32 := Scf.iv c0_i32_586 c1_i32_588 k0_t1
  let v2691 : Index := Scalar.indexCast arg10
  let c0_698 : Index := 0#32
  ![4, v2691.toNat, 0]
def k0_off38 (i : grid0.Coords) (k0_t1 : Fin (k0_t1_loop i).trips) : Fin 3 → Nat :=
  let c5_699 : Index := 5#32
  let c0_i32_586 : BitVec 32 := 0#32
  let c1_i32_588 : BitVec 32 := 1#32
  let arg10 : BitVec 32 := Scf.iv c0_i32_586 c1_i32_588 k0_t1
  let v2694 : Index := Scalar.indexCast arg10
  let c0_700 : Index := 0#32
  ![5, v2694.toNat, 0]
def k0_off39 (i : grid0.Coords) (k0_t1 : Fin (k0_t1_loop i).trips) : Fin 3 → Nat :=
  let c6_701 : Index := 6#32
  let c0_i32_586 : BitVec 32 := 0#32
  let c1_i32_588 : BitVec 32 := 1#32
  let arg10 : BitVec 32 := Scf.iv c0_i32_586 c1_i32_588 k0_t1
  let v2697 : Index := Scalar.indexCast arg10
  let c0_702 : Index := 0#32
  ![6, v2697.toNat, 0]
def k0_off40 (i : grid0.Coords) (k0_t1 : Fin (k0_t1_loop i).trips) : Fin 3 → Nat :=
  let c7_703 : Index := 7#32
  let c0_i32_586 : BitVec 32 := 0#32
  let c1_i32_588 : BitVec 32 := 1#32
  let arg10 : BitVec 32 := Scf.iv c0_i32_586 c1_i32_588 k0_t1
  let v2700 : Index := Scalar.indexCast arg10
  let c0_704 : Index := 0#32
  ![7, v2700.toNat, 0]
def k0_off41 (i : grid0.Coords) (k0_t1 : Fin (k0_t1_loop i).trips) : Fin 3 → Nat :=
  let c8_705 : Index := 8#32
  let c0_i32_586 : BitVec 32 := 0#32
  let c1_i32_588 : BitVec 32 := 1#32
  let arg10 : BitVec 32 := Scf.iv c0_i32_586 c1_i32_588 k0_t1
  let v2703 : Index := Scalar.indexCast arg10
  let c0_706 : Index := 0#32
  ![8, v2703.toNat, 0]
def k0_off42 (i : grid0.Coords) (k0_t1 : Fin (k0_t1_loop i).trips) : Fin 3 → Nat :=
  let c9_707 : Index := 9#32
  let c0_i32_586 : BitVec 32 := 0#32
  let c1_i32_588 : BitVec 32 := 1#32
  let arg10 : BitVec 32 := Scf.iv c0_i32_586 c1_i32_588 k0_t1
  let v2706 : Index := Scalar.indexCast arg10
  let c0_708 : Index := 0#32
  ![9, v2706.toNat, 0]
def k0_off43 (i : grid0.Coords) (k0_t1 : Fin (k0_t1_loop i).trips) : Fin 3 → Nat :=
  let c10_709 : Index := 10#32
  let c0_i32_586 : BitVec 32 := 0#32
  let c1_i32_588 : BitVec 32 := 1#32
  let arg10 : BitVec 32 := Scf.iv c0_i32_586 c1_i32_588 k0_t1
  let v2709 : Index := Scalar.indexCast arg10
  let c0_710 : Index := 0#32
  ![10, v2709.toNat, 0]
def k0_off44 (i : grid0.Coords) (k0_t1 : Fin (k0_t1_loop i).trips) : Fin 3 → Nat :=
  let c11_711 : Index := 11#32
  let c0_i32_586 : BitVec 32 := 0#32
  let c1_i32_588 : BitVec 32 := 1#32
  let arg10 : BitVec 32 := Scf.iv c0_i32_586 c1_i32_588 k0_t1
  let v2712 : Index := Scalar.indexCast arg10
  let c0_712 : Index := 0#32
  ![11, v2712.toNat, 0]
def k0_off45 (i : grid0.Coords) (k0_t1 : Fin (k0_t1_loop i).trips) : Fin 3 → Nat :=
  let c12_713 : Index := 12#32
  let c0_i32_586 : BitVec 32 := 0#32
  let c1_i32_588 : BitVec 32 := 1#32
  let arg10 : BitVec 32 := Scf.iv c0_i32_586 c1_i32_588 k0_t1
  let v2715 : Index := Scalar.indexCast arg10
  let c0_714 : Index := 0#32
  ![12, v2715.toNat, 0]
def k0_off46 (i : grid0.Coords) (k0_t1 : Fin (k0_t1_loop i).trips) : Fin 3 → Nat :=
  let c13_715 : Index := 13#32
  let c0_i32_586 : BitVec 32 := 0#32
  let c1_i32_588 : BitVec 32 := 1#32
  let arg10 : BitVec 32 := Scf.iv c0_i32_586 c1_i32_588 k0_t1
  let v2718 : Index := Scalar.indexCast arg10
  let c0_716 : Index := 0#32
  ![13, v2718.toNat, 0]
def k0_off47 (i : grid0.Coords) (k0_t1 : Fin (k0_t1_loop i).trips) : Fin 3 → Nat :=
  let c14_717 : Index := 14#32
  let c0_i32_586 : BitVec 32 := 0#32
  let c1_i32_588 : BitVec 32 := 1#32
  let arg10 : BitVec 32 := Scf.iv c0_i32_586 c1_i32_588 k0_t1
  let v2721 : Index := Scalar.indexCast arg10
  let c0_718 : Index := 0#32
  ![14, v2721.toNat, 0]
def k0_off48 (i : grid0.Coords) (k0_t1 : Fin (k0_t1_loop i).trips) : Fin 3 → Nat :=
  let c15_719 : Index := 15#32
  let c0_i32_586 : BitVec 32 := 0#32
  let c1_i32_588 : BitVec 32 := 1#32
  let arg10 : BitVec 32 := Scf.iv c0_i32_586 c1_i32_588 k0_t1
  let v2724 : Index := Scalar.indexCast arg10
  let c0_720 : Index := 0#32
  ![15, v2724.toNat, 0]
@[reducible] def k0_t2_loop (i : grid0.Coords) : Scf.Loop 32 :=
  let c0_i32_586 : BitVec 32 := 0#32
  let arg2 : BitVec 32 := BitVec.ofNat 32 (i 2).val
  let v2460 : BitVec 32 := Scalar.subi arg2 c0_i32_586
  let c1_i32_587 : BitVec 32 := 1#32
  let v2462 : BitVec 32 := Scalar.divsi v2460 c1_i32_587
  let v2463 : BitVec 32 := Scalar.muli v2462 c1_i32_587
  let v2464 : BitVec 32 := Scalar.addi c0_i32_586 v2463
  let v2461 : BitVec 32 := Scalar.addi c0_i32_586 v2460
  let c1_i32_589 : BitVec 32 := 1#32
  ⟨v2464, v2461, c1_i32_589⟩
def k0_mult3 (i : grid0.Coords) (k0_t2 : Fin (k0_t2_loop i).trips) : BitVec 32 :=
  let c0_i32_586 : BitVec 32 := 0#32
  let arg2 : BitVec 32 := BitVec.ofNat 32 (i 2).val
  let v2460 : BitVec 32 := Scalar.subi arg2 c0_i32_586
  let c1_i32_587 : BitVec 32 := 1#32
  let v2462 : BitVec 32 := Scalar.divsi v2460 c1_i32_587
  let v2463 : BitVec 32 := Scalar.muli v2462 c1_i32_587
  let v2464 : BitVec 32 := Scalar.addi c0_i32_586 v2463
  let c1_i32_589 : BitVec 32 := 1#32
  let arg10 : BitVec 32 := Scf.iv v2464 c1_i32_589 k0_t2
  let c256_i32_672 : BitVec 32 := 256#32
  let v2629 : BitVec 32 := Scalar.muli arg10 c256_i32_672
  v2629
def k0_off49 (i : grid0.Coords) (k0_t2 : Fin (k0_t2_loop i).trips) : Fin 2 → Nat :=
  let c0_i32_586 : BitVec 32 := 0#32
  let arg2 : BitVec 32 := BitVec.ofNat 32 (i 2).val
  let v2460 : BitVec 32 := Scalar.subi arg2 c0_i32_586
  let c1_i32_587 : BitVec 32 := 1#32
  let v2462 : BitVec 32 := Scalar.divsi v2460 c1_i32_587
  let v2463 : BitVec 32 := Scalar.muli v2462 c1_i32_587
  let v2464 : BitVec 32 := Scalar.addi c0_i32_586 v2463
  let c1_i32_589 : BitVec 32 := 1#32
  let arg10 : BitVec 32 := Scf.iv v2464 c1_i32_589 k0_t2
  let c256_i32_672 : BitVec 32 := 256#32
  let v2629 : BitVec 32 := Scalar.muli arg10 c256_i32_672
  let v2630 : BitVec 32 := v2629
  let v2631 : Index := Scalar.indexCast v2630
  let c0_673 : Index := 0#32
  ![v2631.toNat, 0]
def k0_off50 (i : grid0.Coords) (k0_t2 : Fin (k0_t2_loop i).trips) : Fin 2 → Nat :=
  let c0_i32_586 : BitVec 32 := 0#32
  let arg2 : BitVec 32 := BitVec.ofNat 32 (i 2).val
  let v2460 : BitVec 32 := Scalar.subi arg2 c0_i32_586
  let c1_i32_587 : BitVec 32 := 1#32
  let v2462 : BitVec 32 := Scalar.divsi v2460 c1_i32_587
  let v2463 : BitVec 32 := Scalar.muli v2462 c1_i32_587
  let v2464 : BitVec 32 := Scalar.addi c0_i32_586 v2463
  let c1_i32_589 : BitVec 32 := 1#32
  let arg10 : BitVec 32 := Scf.iv v2464 c1_i32_589 k0_t2
  let c256_i32_672 : BitVec 32 := 256#32
  let v2629 : BitVec 32 := Scalar.muli arg10 c256_i32_672
  let v2630 : BitVec 32 := v2629
  let v2634 : Index := Scalar.indexCast v2630
  let c128_674 : Index := 128#32
  ![v2634.toNat, 128]
def k0_off51 (i : grid0.Coords) (k0_t2 : Fin (k0_t2_loop i).trips) : Fin 2 → Nat :=
  let c0_i32_586 : BitVec 32 := 0#32
  let arg2 : BitVec 32 := BitVec.ofNat 32 (i 2).val
  let v2460 : BitVec 32 := Scalar.subi arg2 c0_i32_586
  let c1_i32_587 : BitVec 32 := 1#32
  let v2462 : BitVec 32 := Scalar.divsi v2460 c1_i32_587
  let v2463 : BitVec 32 := Scalar.muli v2462 c1_i32_587
  let v2464 : BitVec 32 := Scalar.addi c0_i32_586 v2463
  let c1_i32_589 : BitVec 32 := 1#32
  let arg10 : BitVec 32 := Scf.iv v2464 c1_i32_589 k0_t2
  let c256_i32_672 : BitVec 32 := 256#32
  let v2629 : BitVec 32 := Scalar.muli arg10 c256_i32_672
  let v2630 : BitVec 32 := v2629
  let v2637 : Index := Scalar.indexCast v2630
  let c256_675 : Index := 256#32
  ![v2637.toNat, 256]
def k0_off52 (i : grid0.Coords) (k0_t2 : Fin (k0_t2_loop i).trips) : Fin 2 → Nat :=
  let c0_i32_586 : BitVec 32 := 0#32
  let arg2 : BitVec 32 := BitVec.ofNat 32 (i 2).val
  let v2460 : BitVec 32 := Scalar.subi arg2 c0_i32_586
  let c1_i32_587 : BitVec 32 := 1#32
  let v2462 : BitVec 32 := Scalar.divsi v2460 c1_i32_587
  let v2463 : BitVec 32 := Scalar.muli v2462 c1_i32_587
  let v2464 : BitVec 32 := Scalar.addi c0_i32_586 v2463
  let c1_i32_589 : BitVec 32 := 1#32
  let arg10 : BitVec 32 := Scf.iv v2464 c1_i32_589 k0_t2
  let c256_i32_672 : BitVec 32 := 256#32
  let v2629 : BitVec 32 := Scalar.muli arg10 c256_i32_672
  let v2630 : BitVec 32 := v2629
  let v2640 : Index := Scalar.indexCast v2630
  let c384_676 : Index := 384#32
  ![v2640.toNat, 384]
def k0_off53 (i : grid0.Coords) (k0_t2 : Fin (k0_t2_loop i).trips) : Fin 2 → Nat :=
  let c0_i32_586 : BitVec 32 := 0#32
  let arg2 : BitVec 32 := BitVec.ofNat 32 (i 2).val
  let v2460 : BitVec 32 := Scalar.subi arg2 c0_i32_586
  let c1_i32_587 : BitVec 32 := 1#32
  let v2462 : BitVec 32 := Scalar.divsi v2460 c1_i32_587
  let v2463 : BitVec 32 := Scalar.muli v2462 c1_i32_587
  let v2464 : BitVec 32 := Scalar.addi c0_i32_586 v2463
  let c1_i32_589 : BitVec 32 := 1#32
  let arg10 : BitVec 32 := Scf.iv v2464 c1_i32_589 k0_t2
  let c256_i32_672 : BitVec 32 := 256#32
  let v2629 : BitVec 32 := Scalar.muli arg10 c256_i32_672
  let v2630 : BitVec 32 := v2629
  let v2643 : Index := Scalar.indexCast v2630
  let c512_677 : Index := 512#32
  ![v2643.toNat, 512]
def k0_off54 (i : grid0.Coords) (k0_t2 : Fin (k0_t2_loop i).trips) : Fin 2 → Nat :=
  let c0_i32_586 : BitVec 32 := 0#32
  let arg2 : BitVec 32 := BitVec.ofNat 32 (i 2).val
  let v2460 : BitVec 32 := Scalar.subi arg2 c0_i32_586
  let c1_i32_587 : BitVec 32 := 1#32
  let v2462 : BitVec 32 := Scalar.divsi v2460 c1_i32_587
  let v2463 : BitVec 32 := Scalar.muli v2462 c1_i32_587
  let v2464 : BitVec 32 := Scalar.addi c0_i32_586 v2463
  let c1_i32_589 : BitVec 32 := 1#32
  let arg10 : BitVec 32 := Scf.iv v2464 c1_i32_589 k0_t2
  let c256_i32_672 : BitVec 32 := 256#32
  let v2629 : BitVec 32 := Scalar.muli arg10 c256_i32_672
  let v2630 : BitVec 32 := v2629
  let v2646 : Index := Scalar.indexCast v2630
  let c640_678 : Index := 640#32
  ![v2646.toNat, 640]
def k0_off55 (i : grid0.Coords) (k0_t2 : Fin (k0_t2_loop i).trips) : Fin 2 → Nat :=
  let c0_i32_586 : BitVec 32 := 0#32
  let arg2 : BitVec 32 := BitVec.ofNat 32 (i 2).val
  let v2460 : BitVec 32 := Scalar.subi arg2 c0_i32_586
  let c1_i32_587 : BitVec 32 := 1#32
  let v2462 : BitVec 32 := Scalar.divsi v2460 c1_i32_587
  let v2463 : BitVec 32 := Scalar.muli v2462 c1_i32_587
  let v2464 : BitVec 32 := Scalar.addi c0_i32_586 v2463
  let c1_i32_589 : BitVec 32 := 1#32
  let arg10 : BitVec 32 := Scf.iv v2464 c1_i32_589 k0_t2
  let c256_i32_672 : BitVec 32 := 256#32
  let v2629 : BitVec 32 := Scalar.muli arg10 c256_i32_672
  let v2630 : BitVec 32 := v2629
  let v2649 : Index := Scalar.indexCast v2630
  let c768_679 : Index := 768#32
  ![v2649.toNat, 768]
def k0_off56 (i : grid0.Coords) (k0_t2 : Fin (k0_t2_loop i).trips) : Fin 2 → Nat :=
  let c0_i32_586 : BitVec 32 := 0#32
  let arg2 : BitVec 32 := BitVec.ofNat 32 (i 2).val
  let v2460 : BitVec 32 := Scalar.subi arg2 c0_i32_586
  let c1_i32_587 : BitVec 32 := 1#32
  let v2462 : BitVec 32 := Scalar.divsi v2460 c1_i32_587
  let v2463 : BitVec 32 := Scalar.muli v2462 c1_i32_587
  let v2464 : BitVec 32 := Scalar.addi c0_i32_586 v2463
  let c1_i32_589 : BitVec 32 := 1#32
  let arg10 : BitVec 32 := Scf.iv v2464 c1_i32_589 k0_t2
  let c256_i32_672 : BitVec 32 := 256#32
  let v2629 : BitVec 32 := Scalar.muli arg10 c256_i32_672
  let v2630 : BitVec 32 := v2629
  let v2652 : Index := Scalar.indexCast v2630
  let c896_680 : Index := 896#32
  ![v2652.toNat, 896]
def k0_off57 (i : grid0.Coords) (k0_t2 : Fin (k0_t2_loop i).trips) : Fin 2 → Nat :=
  let c0_i32_586 : BitVec 32 := 0#32
  let arg2 : BitVec 32 := BitVec.ofNat 32 (i 2).val
  let v2460 : BitVec 32 := Scalar.subi arg2 c0_i32_586
  let c1_i32_587 : BitVec 32 := 1#32
  let v2462 : BitVec 32 := Scalar.divsi v2460 c1_i32_587
  let v2463 : BitVec 32 := Scalar.muli v2462 c1_i32_587
  let v2464 : BitVec 32 := Scalar.addi c0_i32_586 v2463
  let c1_i32_589 : BitVec 32 := 1#32
  let arg10 : BitVec 32 := Scf.iv v2464 c1_i32_589 k0_t2
  let c256_i32_672 : BitVec 32 := 256#32
  let v2629 : BitVec 32 := Scalar.muli arg10 c256_i32_672
  let v2630 : BitVec 32 := v2629
  let v2655 : Index := Scalar.indexCast v2630
  let c1024_681 : Index := 1024#32
  ![v2655.toNat, 1024]
def k0_off58 (i : grid0.Coords) (k0_t2 : Fin (k0_t2_loop i).trips) : Fin 2 → Nat :=
  let c0_i32_586 : BitVec 32 := 0#32
  let arg2 : BitVec 32 := BitVec.ofNat 32 (i 2).val
  let v2460 : BitVec 32 := Scalar.subi arg2 c0_i32_586
  let c1_i32_587 : BitVec 32 := 1#32
  let v2462 : BitVec 32 := Scalar.divsi v2460 c1_i32_587
  let v2463 : BitVec 32 := Scalar.muli v2462 c1_i32_587
  let v2464 : BitVec 32 := Scalar.addi c0_i32_586 v2463
  let c1_i32_589 : BitVec 32 := 1#32
  let arg10 : BitVec 32 := Scf.iv v2464 c1_i32_589 k0_t2
  let c256_i32_672 : BitVec 32 := 256#32
  let v2629 : BitVec 32 := Scalar.muli arg10 c256_i32_672
  let v2630 : BitVec 32 := v2629
  let v2658 : Index := Scalar.indexCast v2630
  let c1152_682 : Index := 1152#32
  ![v2658.toNat, 1152]
def k0_off59 (i : grid0.Coords) (k0_t2 : Fin (k0_t2_loop i).trips) : Fin 2 → Nat :=
  let c0_i32_586 : BitVec 32 := 0#32
  let arg2 : BitVec 32 := BitVec.ofNat 32 (i 2).val
  let v2460 : BitVec 32 := Scalar.subi arg2 c0_i32_586
  let c1_i32_587 : BitVec 32 := 1#32
  let v2462 : BitVec 32 := Scalar.divsi v2460 c1_i32_587
  let v2463 : BitVec 32 := Scalar.muli v2462 c1_i32_587
  let v2464 : BitVec 32 := Scalar.addi c0_i32_586 v2463
  let c1_i32_589 : BitVec 32 := 1#32
  let arg10 : BitVec 32 := Scf.iv v2464 c1_i32_589 k0_t2
  let c256_i32_672 : BitVec 32 := 256#32
  let v2629 : BitVec 32 := Scalar.muli arg10 c256_i32_672
  let v2630 : BitVec 32 := v2629
  let v2661 : Index := Scalar.indexCast v2630
  let c1280_683 : Index := 1280#32
  ![v2661.toNat, 1280]
def k0_off60 (i : grid0.Coords) (k0_t2 : Fin (k0_t2_loop i).trips) : Fin 2 → Nat :=
  let c0_i32_586 : BitVec 32 := 0#32
  let arg2 : BitVec 32 := BitVec.ofNat 32 (i 2).val
  let v2460 : BitVec 32 := Scalar.subi arg2 c0_i32_586
  let c1_i32_587 : BitVec 32 := 1#32
  let v2462 : BitVec 32 := Scalar.divsi v2460 c1_i32_587
  let v2463 : BitVec 32 := Scalar.muli v2462 c1_i32_587
  let v2464 : BitVec 32 := Scalar.addi c0_i32_586 v2463
  let c1_i32_589 : BitVec 32 := 1#32
  let arg10 : BitVec 32 := Scf.iv v2464 c1_i32_589 k0_t2
  let c256_i32_672 : BitVec 32 := 256#32
  let v2629 : BitVec 32 := Scalar.muli arg10 c256_i32_672
  let v2630 : BitVec 32 := v2629
  let v2664 : Index := Scalar.indexCast v2630
  let c1408_684 : Index := 1408#32
  ![v2664.toNat, 1408]
def k0_off61 (i : grid0.Coords) (k0_t2 : Fin (k0_t2_loop i).trips) : Fin 2 → Nat :=
  let c0_i32_586 : BitVec 32 := 0#32
  let arg2 : BitVec 32 := BitVec.ofNat 32 (i 2).val
  let v2460 : BitVec 32 := Scalar.subi arg2 c0_i32_586
  let c1_i32_587 : BitVec 32 := 1#32
  let v2462 : BitVec 32 := Scalar.divsi v2460 c1_i32_587
  let v2463 : BitVec 32 := Scalar.muli v2462 c1_i32_587
  let v2464 : BitVec 32 := Scalar.addi c0_i32_586 v2463
  let c1_i32_589 : BitVec 32 := 1#32
  let arg10 : BitVec 32 := Scf.iv v2464 c1_i32_589 k0_t2
  let c256_i32_672 : BitVec 32 := 256#32
  let v2629 : BitVec 32 := Scalar.muli arg10 c256_i32_672
  let v2630 : BitVec 32 := v2629
  let v2667 : Index := Scalar.indexCast v2630
  let c1536_685 : Index := 1536#32
  ![v2667.toNat, 1536]
def k0_off62 (i : grid0.Coords) (k0_t2 : Fin (k0_t2_loop i).trips) : Fin 2 → Nat :=
  let c0_i32_586 : BitVec 32 := 0#32
  let arg2 : BitVec 32 := BitVec.ofNat 32 (i 2).val
  let v2460 : BitVec 32 := Scalar.subi arg2 c0_i32_586
  let c1_i32_587 : BitVec 32 := 1#32
  let v2462 : BitVec 32 := Scalar.divsi v2460 c1_i32_587
  let v2463 : BitVec 32 := Scalar.muli v2462 c1_i32_587
  let v2464 : BitVec 32 := Scalar.addi c0_i32_586 v2463
  let c1_i32_589 : BitVec 32 := 1#32
  let arg10 : BitVec 32 := Scf.iv v2464 c1_i32_589 k0_t2
  let c256_i32_672 : BitVec 32 := 256#32
  let v2629 : BitVec 32 := Scalar.muli arg10 c256_i32_672
  let v2630 : BitVec 32 := v2629
  let v2670 : Index := Scalar.indexCast v2630
  let c1664_686 : Index := 1664#32
  ![v2670.toNat, 1664]
def k0_off63 (i : grid0.Coords) (k0_t2 : Fin (k0_t2_loop i).trips) : Fin 2 → Nat :=
  let c0_i32_586 : BitVec 32 := 0#32
  let arg2 : BitVec 32 := BitVec.ofNat 32 (i 2).val
  let v2460 : BitVec 32 := Scalar.subi arg2 c0_i32_586
  let c1_i32_587 : BitVec 32 := 1#32
  let v2462 : BitVec 32 := Scalar.divsi v2460 c1_i32_587
  let v2463 : BitVec 32 := Scalar.muli v2462 c1_i32_587
  let v2464 : BitVec 32 := Scalar.addi c0_i32_586 v2463
  let c1_i32_589 : BitVec 32 := 1#32
  let arg10 : BitVec 32 := Scf.iv v2464 c1_i32_589 k0_t2
  let c256_i32_672 : BitVec 32 := 256#32
  let v2629 : BitVec 32 := Scalar.muli arg10 c256_i32_672
  let v2630 : BitVec 32 := v2629
  let v2673 : Index := Scalar.indexCast v2630
  let c1792_687 : Index := 1792#32
  ![v2673.toNat, 1792]
def k0_off64 (i : grid0.Coords) (k0_t2 : Fin (k0_t2_loop i).trips) : Fin 2 → Nat :=
  let c0_i32_586 : BitVec 32 := 0#32
  let arg2 : BitVec 32 := BitVec.ofNat 32 (i 2).val
  let v2460 : BitVec 32 := Scalar.subi arg2 c0_i32_586
  let c1_i32_587 : BitVec 32 := 1#32
  let v2462 : BitVec 32 := Scalar.divsi v2460 c1_i32_587
  let v2463 : BitVec 32 := Scalar.muli v2462 c1_i32_587
  let v2464 : BitVec 32 := Scalar.addi c0_i32_586 v2463
  let c1_i32_589 : BitVec 32 := 1#32
  let arg10 : BitVec 32 := Scf.iv v2464 c1_i32_589 k0_t2
  let c256_i32_672 : BitVec 32 := 256#32
  let v2629 : BitVec 32 := Scalar.muli arg10 c256_i32_672
  let v2630 : BitVec 32 := v2629
  let v2676 : Index := Scalar.indexCast v2630
  let c1920_688 : Index := 1920#32
  ![v2676.toNat, 1920]
def k0_off65 (i : grid0.Coords) (k0_t2 : Fin (k0_t2_loop i).trips) : Fin 3 → Nat :=
  let c0_689 : Index := 0#32
  let c0_i32_586 : BitVec 32 := 0#32
  let arg2 : BitVec 32 := BitVec.ofNat 32 (i 2).val
  let v2460 : BitVec 32 := Scalar.subi arg2 c0_i32_586
  let c1_i32_587 : BitVec 32 := 1#32
  let v2462 : BitVec 32 := Scalar.divsi v2460 c1_i32_587
  let v2463 : BitVec 32 := Scalar.muli v2462 c1_i32_587
  let v2464 : BitVec 32 := Scalar.addi c0_i32_586 v2463
  let c1_i32_589 : BitVec 32 := 1#32
  let arg10 : BitVec 32 := Scf.iv v2464 c1_i32_589 k0_t2
  let v2679 : Index := Scalar.indexCast arg10
  let c0_690 : Index := 0#32
  ![0, v2679.toNat, 0]
def k0_off66 (i : grid0.Coords) (k0_t2 : Fin (k0_t2_loop i).trips) : Fin 3 → Nat :=
  let c1_691 : Index := 1#32
  let c0_i32_586 : BitVec 32 := 0#32
  let arg2 : BitVec 32 := BitVec.ofNat 32 (i 2).val
  let v2460 : BitVec 32 := Scalar.subi arg2 c0_i32_586
  let c1_i32_587 : BitVec 32 := 1#32
  let v2462 : BitVec 32 := Scalar.divsi v2460 c1_i32_587
  let v2463 : BitVec 32 := Scalar.muli v2462 c1_i32_587
  let v2464 : BitVec 32 := Scalar.addi c0_i32_586 v2463
  let c1_i32_589 : BitVec 32 := 1#32
  let arg10 : BitVec 32 := Scf.iv v2464 c1_i32_589 k0_t2
  let v2682 : Index := Scalar.indexCast arg10
  let c0_692 : Index := 0#32
  ![1, v2682.toNat, 0]
def k0_off67 (i : grid0.Coords) (k0_t2 : Fin (k0_t2_loop i).trips) : Fin 3 → Nat :=
  let c2_693 : Index := 2#32
  let c0_i32_586 : BitVec 32 := 0#32
  let arg2 : BitVec 32 := BitVec.ofNat 32 (i 2).val
  let v2460 : BitVec 32 := Scalar.subi arg2 c0_i32_586
  let c1_i32_587 : BitVec 32 := 1#32
  let v2462 : BitVec 32 := Scalar.divsi v2460 c1_i32_587
  let v2463 : BitVec 32 := Scalar.muli v2462 c1_i32_587
  let v2464 : BitVec 32 := Scalar.addi c0_i32_586 v2463
  let c1_i32_589 : BitVec 32 := 1#32
  let arg10 : BitVec 32 := Scf.iv v2464 c1_i32_589 k0_t2
  let v2685 : Index := Scalar.indexCast arg10
  let c0_694 : Index := 0#32
  ![2, v2685.toNat, 0]
def k0_off68 (i : grid0.Coords) (k0_t2 : Fin (k0_t2_loop i).trips) : Fin 3 → Nat :=
  let c3_695 : Index := 3#32
  let c0_i32_586 : BitVec 32 := 0#32
  let arg2 : BitVec 32 := BitVec.ofNat 32 (i 2).val
  let v2460 : BitVec 32 := Scalar.subi arg2 c0_i32_586
  let c1_i32_587 : BitVec 32 := 1#32
  let v2462 : BitVec 32 := Scalar.divsi v2460 c1_i32_587
  let v2463 : BitVec 32 := Scalar.muli v2462 c1_i32_587
  let v2464 : BitVec 32 := Scalar.addi c0_i32_586 v2463
  let c1_i32_589 : BitVec 32 := 1#32
  let arg10 : BitVec 32 := Scf.iv v2464 c1_i32_589 k0_t2
  let v2688 : Index := Scalar.indexCast arg10
  let c0_696 : Index := 0#32
  ![3, v2688.toNat, 0]
def k0_off69 (i : grid0.Coords) (k0_t2 : Fin (k0_t2_loop i).trips) : Fin 3 → Nat :=
  let c4_697 : Index := 4#32
  let c0_i32_586 : BitVec 32 := 0#32
  let arg2 : BitVec 32 := BitVec.ofNat 32 (i 2).val
  let v2460 : BitVec 32 := Scalar.subi arg2 c0_i32_586
  let c1_i32_587 : BitVec 32 := 1#32
  let v2462 : BitVec 32 := Scalar.divsi v2460 c1_i32_587
  let v2463 : BitVec 32 := Scalar.muli v2462 c1_i32_587
  let v2464 : BitVec 32 := Scalar.addi c0_i32_586 v2463
  let c1_i32_589 : BitVec 32 := 1#32
  let arg10 : BitVec 32 := Scf.iv v2464 c1_i32_589 k0_t2
  let v2691 : Index := Scalar.indexCast arg10
  let c0_698 : Index := 0#32
  ![4, v2691.toNat, 0]
def k0_off70 (i : grid0.Coords) (k0_t2 : Fin (k0_t2_loop i).trips) : Fin 3 → Nat :=
  let c5_699 : Index := 5#32
  let c0_i32_586 : BitVec 32 := 0#32
  let arg2 : BitVec 32 := BitVec.ofNat 32 (i 2).val
  let v2460 : BitVec 32 := Scalar.subi arg2 c0_i32_586
  let c1_i32_587 : BitVec 32 := 1#32
  let v2462 : BitVec 32 := Scalar.divsi v2460 c1_i32_587
  let v2463 : BitVec 32 := Scalar.muli v2462 c1_i32_587
  let v2464 : BitVec 32 := Scalar.addi c0_i32_586 v2463
  let c1_i32_589 : BitVec 32 := 1#32
  let arg10 : BitVec 32 := Scf.iv v2464 c1_i32_589 k0_t2
  let v2694 : Index := Scalar.indexCast arg10
  let c0_700 : Index := 0#32
  ![5, v2694.toNat, 0]
def k0_off71 (i : grid0.Coords) (k0_t2 : Fin (k0_t2_loop i).trips) : Fin 3 → Nat :=
  let c6_701 : Index := 6#32
  let c0_i32_586 : BitVec 32 := 0#32
  let arg2 : BitVec 32 := BitVec.ofNat 32 (i 2).val
  let v2460 : BitVec 32 := Scalar.subi arg2 c0_i32_586
  let c1_i32_587 : BitVec 32 := 1#32
  let v2462 : BitVec 32 := Scalar.divsi v2460 c1_i32_587
  let v2463 : BitVec 32 := Scalar.muli v2462 c1_i32_587
  let v2464 : BitVec 32 := Scalar.addi c0_i32_586 v2463
  let c1_i32_589 : BitVec 32 := 1#32
  let arg10 : BitVec 32 := Scf.iv v2464 c1_i32_589 k0_t2
  let v2697 : Index := Scalar.indexCast arg10
  let c0_702 : Index := 0#32
  ![6, v2697.toNat, 0]
def k0_off72 (i : grid0.Coords) (k0_t2 : Fin (k0_t2_loop i).trips) : Fin 3 → Nat :=
  let c7_703 : Index := 7#32
  let c0_i32_586 : BitVec 32 := 0#32
  let arg2 : BitVec 32 := BitVec.ofNat 32 (i 2).val
  let v2460 : BitVec 32 := Scalar.subi arg2 c0_i32_586
  let c1_i32_587 : BitVec 32 := 1#32
  let v2462 : BitVec 32 := Scalar.divsi v2460 c1_i32_587
  let v2463 : BitVec 32 := Scalar.muli v2462 c1_i32_587
  let v2464 : BitVec 32 := Scalar.addi c0_i32_586 v2463
  let c1_i32_589 : BitVec 32 := 1#32
  let arg10 : BitVec 32 := Scf.iv v2464 c1_i32_589 k0_t2
  let v2700 : Index := Scalar.indexCast arg10
  let c0_704 : Index := 0#32
  ![7, v2700.toNat, 0]
def k0_off73 (i : grid0.Coords) (k0_t2 : Fin (k0_t2_loop i).trips) : Fin 3 → Nat :=
  let c8_705 : Index := 8#32
  let c0_i32_586 : BitVec 32 := 0#32
  let arg2 : BitVec 32 := BitVec.ofNat 32 (i 2).val
  let v2460 : BitVec 32 := Scalar.subi arg2 c0_i32_586
  let c1_i32_587 : BitVec 32 := 1#32
  let v2462 : BitVec 32 := Scalar.divsi v2460 c1_i32_587
  let v2463 : BitVec 32 := Scalar.muli v2462 c1_i32_587
  let v2464 : BitVec 32 := Scalar.addi c0_i32_586 v2463
  let c1_i32_589 : BitVec 32 := 1#32
  let arg10 : BitVec 32 := Scf.iv v2464 c1_i32_589 k0_t2
  let v2703 : Index := Scalar.indexCast arg10
  let c0_706 : Index := 0#32
  ![8, v2703.toNat, 0]
def k0_off74 (i : grid0.Coords) (k0_t2 : Fin (k0_t2_loop i).trips) : Fin 3 → Nat :=
  let c9_707 : Index := 9#32
  let c0_i32_586 : BitVec 32 := 0#32
  let arg2 : BitVec 32 := BitVec.ofNat 32 (i 2).val
  let v2460 : BitVec 32 := Scalar.subi arg2 c0_i32_586
  let c1_i32_587 : BitVec 32 := 1#32
  let v2462 : BitVec 32 := Scalar.divsi v2460 c1_i32_587
  let v2463 : BitVec 32 := Scalar.muli v2462 c1_i32_587
  let v2464 : BitVec 32 := Scalar.addi c0_i32_586 v2463
  let c1_i32_589 : BitVec 32 := 1#32
  let arg10 : BitVec 32 := Scf.iv v2464 c1_i32_589 k0_t2
  let v2706 : Index := Scalar.indexCast arg10
  let c0_708 : Index := 0#32
  ![9, v2706.toNat, 0]
def k0_off75 (i : grid0.Coords) (k0_t2 : Fin (k0_t2_loop i).trips) : Fin 3 → Nat :=
  let c10_709 : Index := 10#32
  let c0_i32_586 : BitVec 32 := 0#32
  let arg2 : BitVec 32 := BitVec.ofNat 32 (i 2).val
  let v2460 : BitVec 32 := Scalar.subi arg2 c0_i32_586
  let c1_i32_587 : BitVec 32 := 1#32
  let v2462 : BitVec 32 := Scalar.divsi v2460 c1_i32_587
  let v2463 : BitVec 32 := Scalar.muli v2462 c1_i32_587
  let v2464 : BitVec 32 := Scalar.addi c0_i32_586 v2463
  let c1_i32_589 : BitVec 32 := 1#32
  let arg10 : BitVec 32 := Scf.iv v2464 c1_i32_589 k0_t2
  let v2709 : Index := Scalar.indexCast arg10
  let c0_710 : Index := 0#32
  ![10, v2709.toNat, 0]
def k0_off76 (i : grid0.Coords) (k0_t2 : Fin (k0_t2_loop i).trips) : Fin 3 → Nat :=
  let c11_711 : Index := 11#32
  let c0_i32_586 : BitVec 32 := 0#32
  let arg2 : BitVec 32 := BitVec.ofNat 32 (i 2).val
  let v2460 : BitVec 32 := Scalar.subi arg2 c0_i32_586
  let c1_i32_587 : BitVec 32 := 1#32
  let v2462 : BitVec 32 := Scalar.divsi v2460 c1_i32_587
  let v2463 : BitVec 32 := Scalar.muli v2462 c1_i32_587
  let v2464 : BitVec 32 := Scalar.addi c0_i32_586 v2463
  let c1_i32_589 : BitVec 32 := 1#32
  let arg10 : BitVec 32 := Scf.iv v2464 c1_i32_589 k0_t2
  let v2712 : Index := Scalar.indexCast arg10
  let c0_712 : Index := 0#32
  ![11, v2712.toNat, 0]
def k0_off77 (i : grid0.Coords) (k0_t2 : Fin (k0_t2_loop i).trips) : Fin 3 → Nat :=
  let c12_713 : Index := 12#32
  let c0_i32_586 : BitVec 32 := 0#32
  let arg2 : BitVec 32 := BitVec.ofNat 32 (i 2).val
  let v2460 : BitVec 32 := Scalar.subi arg2 c0_i32_586
  let c1_i32_587 : BitVec 32 := 1#32
  let v2462 : BitVec 32 := Scalar.divsi v2460 c1_i32_587
  let v2463 : BitVec 32 := Scalar.muli v2462 c1_i32_587
  let v2464 : BitVec 32 := Scalar.addi c0_i32_586 v2463
  let c1_i32_589 : BitVec 32 := 1#32
  let arg10 : BitVec 32 := Scf.iv v2464 c1_i32_589 k0_t2
  let v2715 : Index := Scalar.indexCast arg10
  let c0_714 : Index := 0#32
  ![12, v2715.toNat, 0]
def k0_off78 (i : grid0.Coords) (k0_t2 : Fin (k0_t2_loop i).trips) : Fin 3 → Nat :=
  let c13_715 : Index := 13#32
  let c0_i32_586 : BitVec 32 := 0#32
  let arg2 : BitVec 32 := BitVec.ofNat 32 (i 2).val
  let v2460 : BitVec 32 := Scalar.subi arg2 c0_i32_586
  let c1_i32_587 : BitVec 32 := 1#32
  let v2462 : BitVec 32 := Scalar.divsi v2460 c1_i32_587
  let v2463 : BitVec 32 := Scalar.muli v2462 c1_i32_587
  let v2464 : BitVec 32 := Scalar.addi c0_i32_586 v2463
  let c1_i32_589 : BitVec 32 := 1#32
  let arg10 : BitVec 32 := Scf.iv v2464 c1_i32_589 k0_t2
  let v2718 : Index := Scalar.indexCast arg10
  let c0_716 : Index := 0#32
  ![13, v2718.toNat, 0]
def k0_off79 (i : grid0.Coords) (k0_t2 : Fin (k0_t2_loop i).trips) : Fin 3 → Nat :=
  let c14_717 : Index := 14#32
  let c0_i32_586 : BitVec 32 := 0#32
  let arg2 : BitVec 32 := BitVec.ofNat 32 (i 2).val
  let v2460 : BitVec 32 := Scalar.subi arg2 c0_i32_586
  let c1_i32_587 : BitVec 32 := 1#32
  let v2462 : BitVec 32 := Scalar.divsi v2460 c1_i32_587
  let v2463 : BitVec 32 := Scalar.muli v2462 c1_i32_587
  let v2464 : BitVec 32 := Scalar.addi c0_i32_586 v2463
  let c1_i32_589 : BitVec 32 := 1#32
  let arg10 : BitVec 32 := Scf.iv v2464 c1_i32_589 k0_t2
  let v2721 : Index := Scalar.indexCast arg10
  let c0_718 : Index := 0#32
  ![14, v2721.toNat, 0]
def k0_off80 (i : grid0.Coords) (k0_t2 : Fin (k0_t2_loop i).trips) : Fin 3 → Nat :=
  let c15_719 : Index := 15#32
  let c0_i32_586 : BitVec 32 := 0#32
  let arg2 : BitVec 32 := BitVec.ofNat 32 (i 2).val
  let v2460 : BitVec 32 := Scalar.subi arg2 c0_i32_586
  let c1_i32_587 : BitVec 32 := 1#32
  let v2462 : BitVec 32 := Scalar.divsi v2460 c1_i32_587
  let v2463 : BitVec 32 := Scalar.muli v2462 c1_i32_587
  let v2464 : BitVec 32 := Scalar.addi c0_i32_586 v2463
  let c1_i32_589 : BitVec 32 := 1#32
  let arg10 : BitVec 32 := Scf.iv v2464 c1_i32_589 k0_t2
  let v2724 : Index := Scalar.indexCast arg10
  let c0_720 : Index := 0#32
  ![15, v2724.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "masked" => some ⊥
  | "q_scale" => some ((8⁻¹ * (Real.log 2)⁻¹ : ℝ) : EReal)
  | _ => none
-- ==== ReferenceIdeal.lean ====
abbrev S8x2048x1024 : Shape := ⟨3, ![8, 2048, 1024]⟩
abbrev S8x2048x16x64 : Shape := ⟨4, ![8, 2048, 16, 64]⟩
abbrev S8x16x2048x64 : Shape := ⟨4, ![8, 16, 2048, 64]⟩
abbrev S_ : Shape := ⟨0, ![]⟩
abbrev S8x16x8x256x64 : Shape := ⟨5, ![8, 16, 8, 256, 64]⟩
abbrev S8x16x8x64 : Shape := ⟨4, ![8, 16, 8, 64]⟩
abbrev S2048 : Shape := ⟨1, ![2048]⟩
abbrev S8x16x2048x8 : Shape := ⟨4, ![8, 16, 2048, 8]⟩
abbrev S8 : Shape := ⟨1, ![8]⟩
abbrev S1x8 : Shape := ⟨2, ![1, 8]⟩
abbrev S2048x1 : Shape := ⟨2, ![2048, 1]⟩
abbrev S2048x8 : Shape := ⟨2, ![2048, 8]⟩
abbrev S8x16x2048x3 : Shape := ⟨4, ![8, 16, 2048, 3]⟩
abbrev S8x16x2048x3x1 : Shape := ⟨5, ![8, 16, 2048, 3, 1]⟩
abbrev S1x1x1x1x8 : Shape := ⟨5, ![1, 1, 1, 1, 8]⟩
abbrev S8x16x2048x3x8 : Shape := ⟨5, ![8, 16, 2048, 3, 8]⟩
abbrev S1x1x2048x8 : Shape := ⟨4, ![1, 1, 2048, 8]⟩
abbrev S1x2048 : Shape := ⟨2, ![1, 2048]⟩
abbrev S2048x2048 : Shape := ⟨2, ![2048, 2048]⟩
abbrev S8x16x2048x8x256 : Shape := ⟨5, ![8, 16, 2048, 8, 256]⟩
abbrev S8x16x2048x2048 : Shape := ⟨4, ![8, 16, 2048, 2048]⟩
abbrev S1x1x2048x2048 : Shape := ⟨4, ![1, 1, 2048, 2048]⟩
abbrev S8x16x2048 : Shape := ⟨3, ![8, 16, 2048]⟩
abbrev S8x16x2048x1 : Shape := ⟨4, ![8, 16, 2048, 1]⟩
abbrev S16384x1024 : Shape := ⟨2, ![16384, 1024]⟩

abbrev nBuf : Space → Nat
  | .hbm => 117
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S8x2048x16x64, .f32⟩
  | .hbm, ⟨4, _⟩ => ⟨S8x16x2048x64, .f32⟩
  | .hbm, ⟨5, _⟩ => ⟨S_, .f32⟩
  | .hbm, ⟨6, _⟩ => ⟨S8x16x2048x64, .f32⟩
  | .hbm, ⟨7, _⟩ => ⟨S8x16x2048x64, .f32⟩
  | .hbm, ⟨8, _⟩ => ⟨S8x2048x16x64, .f32⟩
  | .hbm, ⟨9, _⟩ => ⟨S8x16x2048x64, .f32⟩
  | .hbm, ⟨10, _⟩ => ⟨S8x2048x16x64, .f32⟩
  | .hbm, ⟨11, _⟩ => ⟨S8x16x2048x64, .f32⟩
  | .hbm, ⟨12, _⟩ => ⟨S8x16x8x256x64, .f32⟩
  | .hbm, ⟨13, _⟩ => ⟨S_, .f32⟩
  | .hbm, ⟨14, _⟩ => ⟨S8x16x8x64, .f32⟩
  | .hbm, ⟨15, _⟩ => ⟨S_, .f32⟩
  | .hbm, ⟨16, _⟩ => ⟨S8x16x8x64, .f32⟩
  | .hbm, ⟨17, _⟩ => ⟨S8x16x8x64, .f32⟩
  | .hbm, ⟨18, _⟩ => ⟨S2048, .i32⟩
  | .hbm, ⟨19, _⟩ => ⟨S_, .i32⟩
  | .hbm, ⟨20, _⟩ => ⟨S_, .i32⟩
  | .hbm, ⟨21, _⟩ => ⟨S2048, .i32⟩
  | .hbm, ⟨22, _⟩ => ⟨S2048, .i32⟩
  | .hbm, ⟨23, _⟩ => ⟨S2048, .i32⟩
  | .hbm, ⟨24, _⟩ => ⟨S_, .i32⟩
  | .hbm, ⟨25, _⟩ => ⟨S2048, .i32⟩
  | .hbm, ⟨26, _⟩ => ⟨S2048, .i1⟩
  | .hbm, ⟨27, _⟩ => ⟨S2048, .i32⟩
  | .hbm, ⟨28, _⟩ => ⟨S2048, .i32⟩
  | .hbm, ⟨29, _⟩ => ⟨S_, .i32⟩
  | .hbm, ⟨30, _⟩ => ⟨S2048, .i32⟩
  | .hbm, ⟨31, _⟩ => ⟨S2048, .i1⟩
  | .hbm, ⟨32, _⟩ => ⟨S2048, .i1⟩
  | .hbm, ⟨33, _⟩ => ⟨S_, .i32⟩
  | .hbm, ⟨34, _⟩ => ⟨S2048, .i32⟩
  | .hbm, ⟨35, _⟩ => ⟨S2048, .i32⟩
  | .hbm, ⟨36, _⟩ => ⟨S2048, .i32⟩
  | .hbm, ⟨37, _⟩ => ⟨S8x16x2048x8, .f32⟩
  | .hbm, ⟨38, _⟩ => ⟨S8, .i32⟩
  | .hbm, ⟨39, _⟩ => ⟨S1x8, .i32⟩
  | .hbm, ⟨40, _⟩ => ⟨S2048x1, .i32⟩
  | .hbm, ⟨41, _⟩ => ⟨S2048x8, .i32⟩
  | .hbm, ⟨42, _⟩ => ⟨S2048x8, .i32⟩
  | .hbm, ⟨43, _⟩ => ⟨S2048x8, .i1⟩
  | .hbm, ⟨44, _⟩ => ⟨S_, .f32⟩
  | .hbm, ⟨45, _⟩ => ⟨S_, .f32⟩
  | .hbm, ⟨46, _⟩ => ⟨S8x16x2048x8, .i1⟩
  | .hbm, ⟨47, _⟩ => ⟨S8x16x2048x8, .f32⟩
  | .hbm, ⟨48, _⟩ => ⟨S8x16x2048x8, .f32⟩
  | .hbm, ⟨49, _⟩ => ⟨S8x16x2048x3, .f32⟩
  | .hbm, ⟨50, _⟩ => ⟨S8x16x2048x3, .i32⟩
  | .hbm, ⟨51, _⟩ => ⟨S8x16x2048x3x1, .i32⟩
  | .hbm, ⟨52, _⟩ => ⟨S8, .i32⟩
  | .hbm, ⟨53, _⟩ => ⟨S1x1x1x1x8, .i32⟩
  | .hbm, ⟨54, _⟩ => ⟨S8x16x2048x3x8, .i32⟩
  | .hbm, ⟨55, _⟩ => ⟨S8x16x2048x3x8, .i32⟩
  | .hbm, ⟨56, _⟩ => ⟨S8x16x2048x3x8, .i1⟩
  | .hbm, ⟨57, _⟩ => ⟨S_, .i1⟩
  | .hbm, ⟨58, _⟩ => ⟨S8x16x2048x8, .i1⟩
  | .hbm, ⟨59, _⟩ => ⟨S1x1x2048x8, .i1⟩
  | .hbm, ⟨60, _⟩ => ⟨S8x16x2048x8, .i1⟩
  | .hbm, ⟨61, _⟩ => ⟨S8x16x2048x8, .i1⟩
  | .hbm, ⟨62, _⟩ => ⟨S1x2048, .i32⟩
  | .hbm, ⟨63, _⟩ => ⟨S2048x1, .i32⟩
  | .hbm, ⟨64, _⟩ => ⟨S2048x2048, .i32⟩
  | .hbm, ⟨65, _⟩ => ⟨S2048x2048, .i32⟩
  | .hbm, ⟨66, _⟩ => ⟨S2048x2048, .i1⟩
  | .hbm, ⟨67, _⟩ => ⟨S1x2048, .i32⟩
  | .hbm, ⟨68, _⟩ => ⟨S2048x1, .i32⟩
  | .hbm, ⟨69, _⟩ => ⟨S2048x2048, .i32⟩
  | .hbm, ⟨70, _⟩ => ⟨S2048x2048, .i32⟩
  | .hbm, ⟨71, _⟩ => ⟨S2048x2048, .i1⟩
  | .hbm, ⟨72, _⟩ => ⟨S2048x2048, .i1⟩
  | .hbm, ⟨73, _⟩ => ⟨S8x16x2048x8x256, .i1⟩
  | .hbm, ⟨74, _⟩ => ⟨S8x16x2048x2048, .i1⟩
  | .hbm, ⟨75, _⟩ => ⟨S1x1x2048x2048, .i1⟩
  | .hbm, ⟨76, _⟩ => ⟨S8x16x2048x2048, .i1⟩
  | .hbm, ⟨77, _⟩ => ⟨S8x16x2048x2048, .i1⟩
  | .hbm, ⟨78, _⟩ => ⟨S8x16x2048x2048, .f32⟩
  | .hbm, ⟨79, _⟩ => ⟨S_, .f32⟩
  | .hbm, ⟨80, _⟩ => ⟨S_, .f32⟩
  | .hbm, ⟨81, _⟩ => ⟨S8x16x2048x2048, .f32⟩
  | .hbm, ⟨82, _⟩ => ⟨S8x16x2048x2048, .f32⟩
  | .hbm, ⟨83, _⟩ => ⟨S_, .f32⟩
  | .hbm, ⟨84, _⟩ => ⟨S8x16x2048, .f32⟩
  | .hbm, ⟨85, _⟩ => ⟨S8x16x2048x1, .f32⟩
  | .hbm, ⟨86, _⟩ => ⟨S8x16x2048x1, .f32⟩
  | .hbm, ⟨87, _⟩ => ⟨S_, .f32⟩
  | .hbm, ⟨88, _⟩ => ⟨S8x16x2048x1, .f32⟩
  | .hbm, ⟨89, _⟩ => ⟨S8x16x2048x1, .i1⟩
  | .hbm, ⟨90, _⟩ => ⟨S_, .f32⟩
  | .hbm, ⟨91, _⟩ => ⟨S_, .f32⟩
  | .hbm, ⟨92, _⟩ => ⟨S8x16x2048x1, .f32⟩
  | .hbm, ⟨93, _⟩ => ⟨S8x16x2048x1, .f32⟩
  | .hbm, ⟨94, _⟩ => ⟨S8x16x2048x2048, .f32⟩
  | .hbm, ⟨95, _⟩ => ⟨S8x16x2048x2048, .f32⟩
  | .hbm, ⟨96, _⟩ => ⟨S8x16x2048x2048, .f32⟩
  | .hbm, ⟨97, _⟩ => ⟨S_, .f32⟩
  | .hbm, ⟨98, _⟩ => ⟨S_, .f32⟩
  | .hbm, ⟨99, _⟩ => ⟨S8x16x2048x2048, .f32⟩
  | .hbm, ⟨100, _⟩ => ⟨S8x16x2048x2048, .f32⟩
  | .hbm, ⟨101, _⟩ => ⟨S_, .f32⟩
  | .hbm, ⟨102, _⟩ => ⟨S8x16x2048, .f32⟩
  | .hbm, ⟨103, _⟩ => ⟨S8x16x2048x1, .f32⟩
  | .hbm, ⟨104, _⟩ => ⟨S_, .f32⟩
  | .hbm, ⟨105, _⟩ => ⟨S8x16x2048x1, .f32⟩
  | .hbm, ⟨106, _⟩ => ⟨S8x16x2048x1, .i1⟩
  | .hbm, ⟨107, _⟩ => ⟨S_, .f32⟩
  | .hbm, ⟨108, _⟩ => ⟨S_, .f32⟩
  | .hbm, ⟨109, _⟩ => ⟨S8x16x2048x1, .f32⟩
  | .hbm, ⟨110, _⟩ => ⟨S8x16x2048x1, .f32⟩
  | .hbm, ⟨111, _⟩ => ⟨S8x16x2048x2048, .f32⟩
  | .hbm, ⟨112, _⟩ => ⟨S8x16x2048x2048, .f32⟩
  | .hbm, ⟨113, _⟩ => ⟨S8x16x2048x64, .f32⟩
  | .hbm, ⟨114, _⟩ => ⟨S8x2048x16x64, .f32⟩
  | .hbm, ⟨115, _⟩ => ⟨S16384x1024, .f32⟩
  | .hbm, ⟨116, _⟩ => ⟨S16384x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_2 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v21 : Ref sig .tc := ⟨.hbm, 48, rfl⟩
abbrev main_values : Ref sig .tc := ⟨.hbm, 49, rfl⟩
abbrev main_indices : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_c_3 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_4 : Ref sig .tc := ⟨.hbm, 79, rfl⟩
abbrev main_call2_v0 : Ref sig .tc := ⟨.hbm, 80, rfl⟩
abbrev main_call2_v1 : Ref sig .tc := ⟨.hbm, 81, rfl⟩
abbrev main_v49 : Ref sig .tc := ⟨.hbm, 82, rfl⟩
abbrev main_cst_5 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_6 : Ref sig .tc := ⟨.hbm, 87, rfl⟩
abbrev main_v53 : Ref sig .tc := ⟨.hbm, 88, rfl⟩
abbrev main_v54 : Ref sig .tc := ⟨.hbm, 89, rfl⟩
abbrev main_cst_7 : Ref sig .tc := ⟨.hbm, 90, rfl⟩
abbrev main_call3_v0 : Ref sig .tc := ⟨.hbm, 91, rfl⟩
abbrev main_call3_v1 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_8 : Ref sig .tc := ⟨.hbm, 97, rfl⟩
abbrev main_call4_v0 : Ref sig .tc := ⟨.hbm, 98, rfl⟩
abbrev main_call4_v1 : Ref sig .tc := ⟨.hbm, 99, rfl⟩
abbrev main_v59 : Ref sig .tc := ⟨.hbm, 100, rfl⟩
abbrev main_cst_9 : Ref sig .tc := ⟨.hbm, 101, rfl⟩
abbrev main_v60 : Ref sig .tc := ⟨.hbm, 102, rfl⟩
abbrev main_v61 : Ref sig .tc := ⟨.hbm, 103, rfl⟩
abbrev main_cst_10 : Ref sig .tc := ⟨.hbm, 104, rfl⟩
abbrev main_v62 : Ref sig .tc := ⟨.hbm, 105, rfl⟩
abbrev main_v63 : Ref sig .tc := ⟨.hbm, 106, rfl⟩
abbrev main_cst_11 : Ref sig .tc := ⟨.hbm, 107, rfl⟩
abbrev main_call5_v0 : Ref sig .tc := ⟨.hbm, 108, rfl⟩
abbrev main_call5_v1 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩

abbrev nD : Nat := 1
abbrev τ : Topo := Topo.v7x

variable {F : FTy → Type} [FloatOps F]
-- ==== Kernel2.lean ====
abbrev S8x2048x1024 : Shape := ⟨3, ![8, 2048, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S16384x1024 : Shape := ⟨2, ![16384, 1024]⟩
abbrev S1x1024 : Shape := ⟨2, ![1, 1024]⟩
abbrev S1024x1 : Shape := ⟨2, ![1024, 1]⟩
abbrev S1024x768 : Shape := ⟨2, ![1024, 768]⟩
abbrev S768x1024 : Shape := ⟨2, ![768, 1024]⟩
abbrev S1024x512 : Shape := ⟨2, ![1024, 512]⟩
abbrev S512x1024 : Shape := ⟨2, ![512, 1024]⟩

abbrev nBuf : Space → Nat
  | .hbm => 18
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S1024x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024, .f32⟩
  | .hbm, ⟨8, _⟩ => ⟨S16384x1024, .f32⟩
  | .hbm, ⟨9, _⟩ => ⟨S16384x1024, .f32⟩
  | .hbm, ⟨10, _⟩ => ⟨S16384x1024, .bf16⟩
  | .hbm, ⟨11, _⟩ => ⟨S1024x1024, .bf16⟩
  | .hbm, ⟨12, _⟩ => ⟨S1024x2816, .bf16⟩
  | .hbm, ⟨13, _⟩ => ⟨S1024x2816, .bf16⟩
  | .hbm, ⟨14, _⟩ => ⟨S2816x1024, .bf16⟩
  | .hbm, ⟨15, _⟩ => ⟨S1x1024, .f32⟩
  | .hbm, ⟨16, _⟩ => ⟨S1x1024, .f32⟩
  | .hbm, ⟨17, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x2816, .bf16⟩
  | .local _ .vmem, ⟨7, _⟩ => ⟨S1024x2816, .bf16⟩
  | .local _ .vmem, ⟨8, _⟩ => ⟨S2816x1024, .bf16⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S8x2048x1024 : Shape := ⟨3, ![8, 2048, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2816 : Shape := ⟨3, ![8, 2048, 2816]⟩
abbrev S16384x1024 : Shape := ⟨2, ![16384, 1024]⟩

abbrev nBuf : Space → Nat
  | .hbm => 57
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S1024x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024, .f32⟩
  | .hbm, ⟨8, _⟩ => ⟨S8x2048x1024, .f32⟩
  | .hbm, ⟨9, _⟩ => ⟨S8x2048x1024, .f32⟩
  | .hbm, ⟨10, _⟩ => ⟨S8x2048x1024, .f32⟩
  | .hbm, ⟨11, _⟩ => ⟨S_, .f32⟩
  | .hbm, ⟨12, _⟩ => ⟨S8x2048, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S8x2048x1, .f32⟩
  | .hbm, ⟨21, _⟩ => ⟨S8x2048x1024, .f32⟩
  | .hbm, ⟨22, _⟩ => ⟨S8x2048x1024, .f32⟩
  | .hbm, ⟨23, _⟩ => ⟨S1x1x1024, .f32⟩
  | .hbm, ⟨24, _⟩ => ⟨S8x2048x1024, .f32⟩
  | .hbm, ⟨25, _⟩ => ⟨S8x2048x1024, .f32⟩
  | .hbm, ⟨26, _⟩ => ⟨S8x2048x2816, .f32⟩
  | .hbm, ⟨27, _⟩ => ⟨S8x2048x2816, .f32⟩
  | .hbm, ⟨28, _⟩ => ⟨S8x2048x2816, .f32⟩
  | .hbm, ⟨29, _⟩ => ⟨S_, .f32⟩
  | .hbm, ⟨30, _⟩ => ⟨S8x2048x2816, .f32⟩
  | .hbm, ⟨31, _⟩ => ⟨S8x2048x2816, .f32⟩
  | .hbm, ⟨32, _⟩ => ⟨S_, .f32⟩
  | .hbm, ⟨33, _⟩ => ⟨S8x2048x2816, .f32⟩
  | .hbm, ⟨34, _⟩ => ⟨S8x2048x2816, .f32⟩
  | .hbm, ⟨35, _⟩ => ⟨S8x2048x2816, .f32⟩
  | .hbm, ⟨36, _⟩ => ⟨S8x2048x2816, .f32⟩
  | .hbm, ⟨37, _⟩ => ⟨S8x2048x2816, .f32⟩
  | .hbm, ⟨38, _⟩ => ⟨S8x2048x1024, .f32⟩
  | .hbm, ⟨39, _⟩ => ⟨S8x2048x1024, .f32⟩
  | .hbm, ⟨40, _⟩ => ⟨S8x2048x1024, .f32⟩
  | .hbm, ⟨41, _⟩ => ⟨S_, .f32⟩
  | .hbm, ⟨42, _⟩ => ⟨S8x2048, .f32⟩
  | .hbm, ⟨43, _⟩ => ⟨S8x2048x1, .f32⟩
  | .hbm, ⟨44, _⟩ => ⟨S_, .f32⟩
  | .hbm, ⟨45, _⟩ => ⟨S8x2048x1, .f32⟩
  | .hbm, ⟨46, _⟩ => ⟨S8x2048x1, .f32⟩
  | .hbm, ⟨47, _⟩ => ⟨S_, .f32⟩
  | .hbm, ⟨48, _⟩ => ⟨S8x2048x1, .f32⟩
  | .hbm, ⟨49, _⟩ => ⟨S8x2048x1, .f32⟩
  | .hbm, ⟨50, _⟩ => ⟨S8x2048x1, .f32⟩
  | .hbm, ⟨51, _⟩ => ⟨S8x2048x1024, .f32⟩
  | .hbm, ⟨52, _⟩ => ⟨S8x2048x1024, .f32⟩
  | .hbm, ⟨53, _⟩ => ⟨S1x1x1024, .f32⟩
  | .hbm, ⟨54, _⟩ => ⟨S8x2048x1024, .f32⟩
  | .hbm, ⟨55, _⟩ => ⟨S8x2048x1024, .f32⟩
  | .hbm, ⟨56, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_2 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_cst_4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Kernel3.lean ====
abbrev S8x2048x1024 : Shape := ⟨3, ![8, 2048, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S16384x1024 : Shape := ⟨2, ![16384, 1024]⟩
abbrev S1x1024 : Shape := ⟨2, ![1, 1024]⟩
abbrev S1024x1 : Shape := ⟨2, ![1024, 1]⟩
abbrev S1024x768 : Shape := ⟨2, ![1024, 768]⟩
abbrev S768x1024 : Shape := ⟨2, ![768, 1024]⟩
abbrev S1024x512 : Shape := ⟨2, ![1024, 512]⟩
abbrev S512x1024 : Shape := ⟨2, ![512, 1024]⟩

abbrev nBuf : Space → Nat
  | .hbm => 18
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S1024x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024, .f32⟩
  | .hbm, ⟨8, _⟩ => ⟨S16384x1024, .f32⟩
  | .hbm, ⟨9, _⟩ => ⟨S16384x1024, .f32⟩
  | .hbm, ⟨10, _⟩ => ⟨S16384x1024, .bf16⟩
  | .hbm, ⟨11, _⟩ => ⟨S1024x1024, .bf16⟩
  | .hbm, ⟨12, _⟩ => ⟨S1024x2816, .bf16⟩
  | .hbm, ⟨13, _⟩ => ⟨S1024x2816, .bf16⟩
  | .hbm, ⟨14, _⟩ => ⟨S2816x1024, .bf16⟩
  | .hbm, ⟨15, _⟩ => ⟨S1x1024, .f32⟩
  | .hbm, ⟨16, _⟩ => ⟨S1x1024, .f32⟩
  | .hbm, ⟨17, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x2816, .bf16⟩
  | .local _ .vmem, ⟨7, _⟩ => ⟨S1024x2816, .bf16⟩
  | .local _ .vmem, ⟨8, _⟩ => ⟨S2816x1024, .bf16⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S8x2048x1024 : Shape := ⟨3, ![8, 2048, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2816 : Shape := ⟨3, ![8, 2048, 2816]⟩
abbrev S16384x1024 : Shape := ⟨2, ![16384, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S1024x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024, .f32⟩
  | .hbm, ⟨8, _⟩ => ⟨S8x2048x1024, .f32⟩
  | .hbm, ⟨9, _⟩ => ⟨S8x2048x1024, .f32⟩
  | .hbm, ⟨10, _⟩ => ⟨S8x2048x1024, .f32⟩
  | .hbm, ⟨11, _⟩ => ⟨S_, .f32⟩
  | .hbm, ⟨12, _⟩ => ⟨S8x2048, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S8x2048x1, .f32⟩
  | .hbm, ⟨21, _⟩ => ⟨S8x2048x1024, .f32⟩
  | .hbm, ⟨22, _⟩ => ⟨S8x2048x1024, .f32⟩
  | .hbm, ⟨23, _⟩ => ⟨S1x1x1024, .f32⟩
  | .hbm, ⟨24, _⟩ => ⟨S8x2048x1024, .f32⟩
  | .hbm, ⟨25, _⟩ => ⟨S8x2048x1024, .f32⟩
  | .hbm, ⟨26, _⟩ => ⟨S8x2048x2816, .f32⟩
  | .hbm, ⟨27, _⟩ => ⟨S8x2048x2816, .f32⟩
  | .hbm, ⟨28, _⟩ => ⟨S8x2048x2816, .f32⟩
  | .hbm, ⟨29, _⟩ => ⟨S_, .f32⟩
  | .hbm, ⟨30, _⟩ => ⟨S8x2048x2816, .f32⟩
  | .hbm, ⟨31, _⟩ => ⟨S8x2048x2816, .f32⟩
  | .hbm, ⟨32, _⟩ => ⟨S_, .f32⟩
  | .hbm, ⟨33, _⟩ => ⟨S8x2048x2816, .f32⟩
  | .hbm, ⟨34, _⟩ => ⟨S8x2048x2816, .f32⟩
  | .hbm, ⟨35, _⟩ => ⟨S8x2048x2816, .f32⟩
  | .hbm, ⟨36, _⟩ => ⟨S8x2048x2816, .f32⟩
  | .hbm, ⟨37, _⟩ => ⟨S8x2048x2816, .f32⟩
  | .hbm, ⟨38, _⟩ => ⟨S8x2048x1024, .f32⟩
  | .hbm, ⟨39, _⟩ => ⟨S8x2048x1024, .f32⟩
  | .hbm, ⟨40, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩

abbrev nD : Nat := 1
abbrev τ : Topo := Topo.v7x

variable {F : FTy → Type} [FloatOps F]
-- ==== Kernel4.lean ====
abbrev S8x2048x1024 : Shape := ⟨3, ![8, 2048, 1024]⟩
abbrev S1024 : Shape := ⟨1, ![1024]⟩
abbrev S1024x3072 : Shape := ⟨2, ![1024, 3072]⟩
abbrev S3x1024 : Shape := ⟨2, ![3, 1024]⟩
abbrev S4x1024x2816 : Shape := ⟨3, ![4, 1024, 2816]⟩
abbrev S4x2816x1024 : Shape := ⟨3, ![4, 2816, 1024]⟩
abbrev S16384x1024 : Shape := ⟨2, ![16384, 1024]⟩
abbrev S_ : Shape := ⟨0, ![]⟩
abbrev S8x1024 : Shape := ⟨2, ![8, 1024]⟩
abbrev S1x1024 : Shape := ⟨2, ![1, 1024]⟩
abbrev S1024x2816 : Shape := ⟨2, ![1024, 2816]⟩
abbrev S2816x1024 : Shape := ⟨2, ![2816, 1024]⟩
abbrev S1024x1024 : Shape := ⟨2, ![1024, 1024]⟩
abbrev S1x64x2816 : Shape := ⟨3, ![1, 64, 2816]⟩
abbrev S1x176x1024 : Shape := ⟨3, ![1, 176, 1024]⟩
abbrev S64x2816 : Shape := ⟨2, ![64, 2816]⟩
abbrev S176x1024 : Shape := ⟨2, ![176, 1024]⟩
abbrev S1024x1 : Shape := ⟨2, ![1024, 1]⟩
abbrev S1024x256 : Shape := ⟨2, ![1024, 256]⟩
abbrev S8x256 : Shape := ⟨2, ![8, 256]⟩
abbrev S1x256 : Shape := ⟨2, ![1, 256]⟩

abbrev nBuf : Space → Nat
  | .hbm => 17
  | .vmem => 20
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x3072, .f32⟩
  | .hbm, ⟨3, _⟩ => ⟨S3x1024, .f32⟩
  | .hbm, ⟨4, _⟩ => ⟨S4x1024x2816, .f32⟩
  | .hbm, ⟨5, _⟩ => ⟨S4x1024x2816, .f32⟩
  | .hbm, ⟨6, _⟩ => ⟨S4x2816x1024, .f32⟩
  | .hbm, ⟨7, _⟩ => ⟨S16384x1024, .f32⟩
  | .hbm, ⟨8, _⟩ => ⟨S_, .i32⟩
  | .hbm, ⟨9, _⟩ => ⟨S_, .f32⟩
  | .hbm, ⟨10, _⟩ => ⟨S8x1024, .f32⟩
  | .hbm, ⟨11, _⟩ => ⟨S1x1024, .f32⟩
  | .hbm, ⟨12, _⟩ => ⟨S1024x3072, .bf16⟩
  | .hbm, ⟨13, _⟩ => ⟨S16384x1024, .bf16⟩
  | .hbm, ⟨14, _⟩ => ⟨S1024x2816, .bf16⟩
  | .hbm, ⟨15, _⟩ => ⟨S1024x2816, .bf16⟩
  | .hbm, ⟨16, _⟩ => ⟨S2816x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3072, .bf16⟩
  | .local _ .vmem, ⟨4, _⟩ => ⟨S8x1024, .f32⟩
  | .local _ .vmem, ⟨5, _⟩ => ⟨S1x64x2816, .f32⟩
  | .local _ .vmem, ⟨6, _⟩ => ⟨S1x64x2816, .f32⟩
  | .local _ .vmem, ⟨7, _⟩ => ⟨S1x64x2816, .f32⟩
  | .local _ .vmem, ⟨8, _⟩ => ⟨S1x64x2816, .f32⟩
  | .local _ .vmem, ⟨9, _⟩ => ⟨S1x176x1024, .f32⟩
  | .local _ .vmem, ⟨10, _⟩ => ⟨S1x176x1024, .f32⟩
  | .local _ .vmem, ⟨11, _⟩ => ⟨S1024x1024, .bf16⟩
  | .local _ .vmem, ⟨12, _⟩ => ⟨S1024x1024, .bf16⟩
  | .local _ .vmem, ⟨13, _⟩ => ⟨S64x2816, .bf16⟩
  | .local _ .vmem, ⟨14, _⟩ => ⟨S64x2816, .bf16⟩
  | .local _ .vmem, ⟨15, _⟩ => ⟨S64x2816, .bf16⟩
  | .local _ .vmem, ⟨16, _⟩ => ⟨S64x2816, .bf16⟩
  | .local _ .vmem, ⟨17, _⟩ => ⟨S176x1024, .bf16⟩
  | .local _ .vmem, ⟨18, _⟩ => ⟨S176x1024, .bf16⟩
  | .local _ .vmem, ⟨19, _⟩ => ⟨S8x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c15_i32 : BitVec 32 := 15#32
  let v2 : BitVec 32 := Scalar.minsi v1 c15_i32
  let c2_i32_0 : BitVec 32 := 2#32
  let c0_i32 : BitVec 32 := 0#32
  let c0_i32_1 : BitVec 32 := 0#32
  ![c2_i32_0.toNat, v2.toNat, c0_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c15_i32 : BitVec 32 := 15#32
  let v2 : BitVec 32 := Scalar.minsi v1 c15_i32
  let c2_i32_0 : BitVec 32 := 2#32
  let c0_i32 : BitVec 32 := 0#32
  let c0_i32_1 : BitVec 32 := 0#32
  ![c2_i32_0.toNat, v2.toNat, c0_i32.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c15_i32 : BitVec 32 := 15#32
  let v2 : BitVec 32 := Scalar.minsi v1 c15_i32
  let c2_i32_0 : BitVec 32 := 2#32
  let c0_i32 : BitVec 32 := 0#32
  let c0_i32_1 : BitVec 32 := 0#32
  ![c2_i32_0.toNat, v2.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  ![v2.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x64x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S176x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference4Ideal.lean ====
abbrev S8x2048x1024 : Shape := ⟨3, ![8, 2048, 1024]⟩
abbrev S1024 : Shape := ⟨1, ![1024]⟩
abbrev S1024x3072 : Shape := ⟨2, ![1024, 3072]⟩
abbrev S3x1024 : Shape := ⟨2, ![3, 1024]⟩
abbrev S4x1024x2816 : Shape := ⟨3, ![4, 1024, 2816]⟩
abbrev S4x2816x1024 : Shape := ⟨3, ![4, 2816, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x3072 : Shape := ⟨3, ![8, 2048, 3072]⟩
abbrev S8x2050x1024 : Shape := ⟨3, ![8, 2050, 1024]⟩
abbrev S1x1024 : Shape := ⟨2, ![1, 1024]⟩
abbrev S16384x1024 : Shape := ⟨2, ![16384, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩

abbrev nBuf : Space → Nat
  | .hbm => 63
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x3072, .f32⟩
  | .hbm, ⟨3, _⟩ => ⟨S3x1024, .f32⟩
  | .hbm, ⟨4, _⟩ => ⟨S4x1024x2816, .f32⟩
  | .hbm, ⟨5, _⟩ => ⟨S4x1024x2816, .f32⟩
  | .hbm, ⟨6, _⟩ => ⟨S4x2816x1024, .f32⟩
  | .hbm, ⟨7, _⟩ => ⟨S8x2048x1024, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x1024, .f32⟩
  | .hbm, ⟨19, _⟩ => ⟨S8x2048x1024, .f32⟩
  | .hbm, ⟨20, _⟩ => ⟨S1x1x1024, .f32⟩
  | .hbm, ⟨21, _⟩ => ⟨S8x2048x1024, .f32⟩
  | .hbm, ⟨22, _⟩ => ⟨S8x2048x1024, .f32⟩
  | .hbm, ⟨23, _⟩ => ⟨S8x2048x3072, .f32⟩
  | .hbm, ⟨24, _⟩ => ⟨S8x2048x1024, .f32⟩
  | .hbm, ⟨25, _⟩ => ⟨S8x2048x1024, .f32⟩
  | .hbm, ⟨26, _⟩ => ⟨S8x2048x1024, .f32⟩
  | .hbm, ⟨27, _⟩ => ⟨S8x2048x1024, .f32⟩
  | .hbm, ⟨28, _⟩ => ⟨S_, .i32⟩
  | .hbm, ⟨29, _⟩ => ⟨S_, .f32⟩
  | .hbm, ⟨30, _⟩ => ⟨S8x2050x1024, .f32⟩
  | .hbm, ⟨31, _⟩ => ⟨S1x1024, .f32⟩
  | .hbm, ⟨32, _⟩ => ⟨S1024, .f32⟩
  | .hbm, ⟨33, _⟩ => ⟨S8x2048x1024, .f32⟩
  | .hbm, ⟨34, _⟩ => ⟨S1x1x1024, .f32⟩
  | .hbm, ⟨35, _⟩ => ⟨S8x2048x1024, .f32⟩
  | .hbm, ⟨36, _⟩ => ⟨S8x2048x1024, .f32⟩
  | .hbm, ⟨37, _⟩ => ⟨S1x1024, .f32⟩
  | .hbm, ⟨38, _⟩ => ⟨S1024, .f32⟩
  | .hbm, ⟨39, _⟩ => ⟨S8x2048x1024, .f32⟩
  | .hbm, ⟨40, _⟩ => ⟨S1x1x1024, .f32⟩
  | .hbm, ⟨41, _⟩ => ⟨S8x2048x1024, .f32⟩
  | .hbm, ⟨42, _⟩ => ⟨S8x2048x1024, .f32⟩
  | .hbm, ⟨43, _⟩ => ⟨S8x2048x1024, .f32⟩
  | .hbm, ⟨44, _⟩ => ⟨S1x1024, .f32⟩
  | .hbm, ⟨45, _⟩ => ⟨S1024, .f32⟩
  | .hbm, ⟨46, _⟩ => ⟨S8x2048x1024, .f32⟩
  | .hbm, ⟨47, _⟩ => ⟨S1x1x1024, .f32⟩
  | .hbm, ⟨48, _⟩ => ⟨S8x2048x1024, .f32⟩
  | .hbm, ⟨49, _⟩ => ⟨S8x2048x1024, .f32⟩
  | .hbm, ⟨50, _⟩ => ⟨S8x2048x1024, .f32⟩
  | .hbm, ⟨51, _⟩ => ⟨S8x2048x1024, .f32⟩
  | .hbm, ⟨52, _⟩ => ⟨S16384x1024, .f32⟩
  | .hbm, ⟨53, _⟩ => ⟨S16384x1024, .bf16⟩
  | .hbm, ⟨54, _⟩ => ⟨S1x1024x2816, .f32⟩
  | .hbm, ⟨55, _⟩ => ⟨S1024x2816, .f32⟩
  | .hbm, ⟨56, _⟩ => ⟨S1024x2816, .bf16⟩
  | .hbm, ⟨57, _⟩ => ⟨S1x1024x2816, .f32⟩
  | .hbm, ⟨58, _⟩ => ⟨S1024x2816, .f32⟩
  | .hbm, ⟨59, _⟩ => ⟨S1024x2816, .bf16⟩
  | .hbm, ⟨60, _⟩ => ⟨S1x2816x1024, .f32⟩
  | .hbm, ⟨61, _⟩ => ⟨S2816x1024, .f32⟩
  | .hbm, ⟨62, _⟩ => ⟨S2816x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_call0_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩

abbrev nD : Nat := 1
abbrev τ : Topo := Topo.v7x

variable {F : FTy → Type} [FloatOps F]
-- ==== Kernel5.lean ====
abbrev S8x2048x1024 : Shape := ⟨3, ![8, 2048, 1024]⟩
abbrev S1024 : Shape := ⟨1, ![1024]⟩
abbrev S1024x3072 : Shape := ⟨2, ![1024, 3072]⟩
abbrev S4x1024x2816 : Shape := ⟨3, ![4, 1024, 2816]⟩
abbrev S4x2816x1024 : Shape := ⟨3, ![4, 2816, 1024]⟩
abbrev S1024x1024 : Shape := ⟨2, ![1024, 1024]⟩
abbrev S1024x16x64 : Shape := ⟨3, ![1024, 16, 64]⟩
abbrev S1024x16x1x64 : Shape := ⟨4, ![1024, 16, 1, 64]⟩
abbrev S1024x16x2x64 : Shape := ⟨4, ![1024, 16, 2, 64]⟩
abbrev S1024x2048 : Shape := ⟨2, ![1024, 2048]⟩
abbrev S16384x1024 : Shape := ⟨2, ![16384, 1024]⟩
abbrev S_ : Shape := ⟨0, ![]⟩
abbrev S1x1024 : Shape := ⟨2, ![1, 1024]⟩
abbrev S16384x2048 : Shape := ⟨2, ![16384, 2048]⟩
abbrev S1024x2816 : Shape := ⟨2, ![1024, 2816]⟩
abbrev S2816x1024 : Shape := ⟨2, ![2816, 1024]⟩
abbrev S16x4x2048 : Shape := ⟨3, ![16, 4, 2048]⟩
abbrev S1x64x2816 : Shape := ⟨3, ![1, 64, 2816]⟩
abbrev S1x176x1024 : Shape := ⟨3, ![1, 176, 1024]⟩
abbrev S64x2816 : Shape := ⟨2, ![64, 2816]⟩
abbrev S176x1024 : Shape := ⟨2, ![176, 1024]⟩
abbrev S1x4x2048 : Shape := ⟨3, ![1, 4, 2048]⟩
abbrev S1024x1 : Shape := ⟨2, ![1024, 1]⟩
abbrev S1024x512 : Shape := ⟨2, ![1024, 512]⟩
abbrev S1x512 : Shape := ⟨2, ![1, 512]⟩
abbrev S4x256x512 : Shape := ⟨3, ![4, 256, 512]⟩
abbrev S4x512 : Shape := ⟨2, ![4, 512]⟩
abbrev S1x4x512 : Shape := ⟨3, ![1, 4, 512]⟩

abbrev nBuf : Space → Nat
  | .hbm => 27
  | .vmem => 24
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x3072, .f32⟩
  | .hbm, ⟨3, _⟩ => ⟨S4x1024x2816, .f32⟩
  | .hbm, ⟨4, _⟩ => ⟨S4x1024x2816, .f32⟩
  | .hbm, ⟨5, _⟩ => ⟨S4x2816x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x16x64, .f32⟩
  | .hbm, ⟨10, _⟩ => ⟨S1024x16x64, .f32⟩
  | .hbm, ⟨11, _⟩ => ⟨S1024x16x1x64, .f32⟩
  | .hbm, ⟨12, _⟩ => ⟨S1024x16x1x64, .f32⟩
  | .hbm, ⟨13, _⟩ => ⟨S1024x16x2x64, .f32⟩
  | .hbm, ⟨14, _⟩ => ⟨S1024x2048, .f32⟩
  | .hbm, ⟨15, _⟩ => ⟨S1024x2048, .bf16⟩
  | .hbm, ⟨16, _⟩ => ⟨S16384x1024, .f32⟩
  | .hbm, ⟨17, _⟩ => ⟨S_, .f32⟩
  | .hbm, ⟨18, _⟩ => ⟨S1x1024, .f32⟩
  | .hbm, ⟨19, _⟩ => ⟨S1024x1024, .bf16⟩
  | .hbm, ⟨20, _⟩ => ⟨S1x1024, .f32⟩
  | .hbm, ⟨21, _⟩ => ⟨S16384x1024, .bf16⟩
  | .hbm, ⟨22, _⟩ => ⟨S16384x2048, .bf16⟩
  | .hbm, ⟨23, _⟩ => ⟨S1024x2816, .bf16⟩
  | .hbm, ⟨24, _⟩ => ⟨S1024x2816, .bf16⟩
  | .hbm, ⟨25, _⟩ => ⟨S2816x1024, .bf16⟩
  | .hbm, ⟨26, _⟩ => ⟨S16x4x2048, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .bf16⟩
  | .local _ .vmem, ⟨5, _⟩ => ⟨S1024x2048, .bf16⟩
  | .local _ .vmem, ⟨6, _⟩ => ⟨S1x64x2816, .f32⟩
  | .local _ .vmem, ⟨7, _⟩ => ⟨S1x64x2816, .f32⟩
  | .local _ .vmem, ⟨8, _⟩ => ⟨S1x64x2816, .f32⟩
  | .local _ .vmem, ⟨9, _⟩ => ⟨S1x64x2816, .f32⟩
  | .local _ .vmem, ⟨10, _⟩ => ⟨S1x176x1024, .f32⟩
  | .local _ .vmem, ⟨11, _⟩ => ⟨S1x176x1024, .f32⟩
  | .local _ .vmem, ⟨12, _⟩ => ⟨S1024x1024, .bf16⟩
  | .local _ .vmem, ⟨13, _⟩ => ⟨S1024x1024, .bf16⟩
  | .local _ .vmem, ⟨14, _⟩ => ⟨S1024x2048, .bf16⟩
  | .local _ .vmem, ⟨15, _⟩ => ⟨S1024x2048, .bf16⟩
  | .local _ .vmem, ⟨16, _⟩ => ⟨S64x2816, .bf16⟩
  | .local _ .vmem, ⟨17, _⟩ => ⟨S64x2816, .bf16⟩
  | .local _ .vmem, ⟨18, _⟩ => ⟨S64x2816, .bf16⟩
  | .local _ .vmem, ⟨19, _⟩ => ⟨S64x2816, .bf16⟩
  | .local _ .vmem, ⟨20, _⟩ => ⟨S176x1024, .bf16⟩
  | .local _ .vmem, ⟨21, _⟩ => ⟨S176x1024, .bf16⟩
  | .local _ .vmem, ⟨22, _⟩ => ⟨S1x4x2048, .f32⟩
  | .local _ .vmem, ⟨23, _⟩ => ⟨S1x4x2048, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev main_v14_2 : Ref sig .tc := ⟨.hbm, 23, rfl⟩
abbrev main_v14_3 : Ref sig .tc := ⟨.hbm, 24, rfl⟩
abbrev main_v14_4 : Ref sig .tc := ⟨.hbm, 25, rfl⟩
abbrev main_v14_5 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c15_i32 : BitVec 32 := 15#32
  let v0 : BitVec 32 := Scalar.minsi arg0 c15_i32
  let c1_i32 : BitVec 32 := 1#32
  let c0_i32 : BitVec 32 := 0#32
  let c0_i32_0 : BitVec 32 := 0#32
  ![c1_i32.toNat, v0.toNat, c0_i32.toNat]

def cc0_transform_6 (i : grid0.Coords) : Fin 3 → Nat :=
  let arg0 : BitVec 32 := BitVec.ofNat 32 (i 0).val
  let c15_i32 : BitVec 32 := 15#32
  let v0 : BitVec 32 := Scalar.minsi arg0 c15_i32
  let c1_i32 : BitVec 32 := 1#32
  let c0_i32 : BitVec 32 := 0#32
  let c0_i32_0 : BitVec 32 := 0#32
  ![c1_i32.toNat, v0.toNat, c0_i32.toNat]

def cc0_transform_7 (i : grid0.Coords) : Fin 3 → Nat :=
  let arg0 : BitVec 32 := BitVec.ofNat 32 (i 0).val
  let c15_i32 : BitVec 32 := 15#32
  let v0 : BitVec 32 := Scalar.minsi arg0 c15_i32
  let c1_i32 : BitVec 32 := 1#32
  let c0_i32 : BitVec 32 := 0#32
  let c0_i32_0 : BitVec 32 := 0#32
  ![c1_i32.toNat, v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x64x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S176x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x4x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference5Ideal.lean ====
abbrev S8x2048x1024 : Shape := ⟨3, ![8, 2048, 1024]⟩
abbrev S1024 : Shape := ⟨1, ![1024]⟩
abbrev S1024x3072 : Shape := ⟨2, ![1024, 3072]⟩
abbrev S4x1024x2816 : Shape := ⟨3, ![4, 1024, 2816]⟩
abbrev S4x2816x1024 : Shape := ⟨3, ![4, 2816, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x3072 : Shape := ⟨3, ![8, 2048, 3072]⟩
abbrev S16384x16x1x64 : Shape := ⟨4, ![16384, 16, 1, 64]⟩
abbrev S16384x16x2x64 : Shape := ⟨4, ![16384, 16, 2, 64]⟩
abbrev S16384x2048 : Shape := ⟨2, ![16384, 2048]⟩
abbrev S16384x1024 : Shape := ⟨2, ![16384, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S16x4x256x2048 : Shape := ⟨4, ![16, 4, 256, 2048]⟩
abbrev S16x4x2048 : Shape := ⟨3, ![16, 4, 2048]⟩

abbrev nBuf : Space → Nat
  | .hbm => 48
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x3072, .f32⟩
  | .hbm, ⟨3, _⟩ => ⟨S4x1024x2816, .f32⟩
  | .hbm, ⟨4, _⟩ => ⟨S4x1024x2816, .f32⟩
  | .hbm, ⟨5, _⟩ => ⟨S4x2816x1024, .f32⟩
  | .hbm, ⟨6, _⟩ => ⟨S8x2048x1024, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S8x2048x3072, .f32⟩
  | .hbm, ⟨23, _⟩ => ⟨S8x2048x1024, .f32⟩
  | .hbm, ⟨24, _⟩ => ⟨S8x2048x1024, .f32⟩
  | .hbm, ⟨25, _⟩ => ⟨S8x2048x1024, .f32⟩
  | .hbm, ⟨26, _⟩ => ⟨S16384x16x1x64, .f32⟩
  | .hbm, ⟨27, _⟩ => ⟨S16384x16x1x64, .f32⟩
  | .hbm, ⟨28, _⟩ => ⟨S16384x16x2x64, .f32⟩
  | .hbm, ⟨29, _⟩ => ⟨S16384x2048, .f32⟩
  | .hbm, ⟨30, _⟩ => ⟨S16384x1024, .f32⟩
  | .hbm, ⟨31, _⟩ => ⟨S16384x1024, .bf16⟩
  | .hbm, ⟨32, _⟩ => ⟨S16384x2048, .bf16⟩
  | .hbm, ⟨33, _⟩ => ⟨S1x1024x2816, .f32⟩
  | .hbm, ⟨34, _⟩ => ⟨S1024x2816, .f32⟩
  | .hbm, ⟨35, _⟩ => ⟨S1024x2816, .bf16⟩
  | .hbm, ⟨36, _⟩ => ⟨S1x1024x2816, .f32⟩
  | .hbm, ⟨37, _⟩ => ⟨S1024x2816, .f32⟩
  | .hbm, ⟨38, _⟩ => ⟨S1024x2816, .bf16⟩
  | .hbm, ⟨39, _⟩ => ⟨S1x2816x1024, .f32⟩
  | .hbm, ⟨40, _⟩ => ⟨S2816x1024, .f32⟩
  | .hbm, ⟨41, _⟩ => ⟨S2816x1024, .bf16⟩
  | .hbm, ⟨42, _⟩ => ⟨S16x4x256x2048, .f32⟩
  | .hbm, ⟨43, _⟩ => ⟨S_, .f32⟩
  | .hbm, ⟨44, _⟩ => ⟨S16x4x2048, .f32⟩
  | .hbm, ⟨45, _⟩ => ⟨S_, .f32⟩
  | .hbm, ⟨46, _⟩ => ⟨S16x4x2048, .f32⟩
  | .hbm, ⟨47, _⟩ => ⟨S16x4x2048, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_2 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Kernel6.lean ====
abbrev S8x2048x1024 : Shape := ⟨3, ![8, 2048, 1024]⟩
abbrev S1024 : Shape := ⟨1, ![1024]⟩
abbrev S1024x2608 : Shape := ⟨2, ![1024, 2608]⟩
abbrev S4x1024x2816 : Shape := ⟨3, ![4, 1024, 2816]⟩
abbrev S4x2816x1024 : Shape := ⟨3, ![4, 2816, 1024]⟩
abbrev S1024x1024 : Shape := ⟨2, ![1024, 1024]⟩
abbrev S1024x256 : Shape := ⟨2, ![1024, 256]⟩
abbrev S1024x48 : Shape := ⟨2, ![1024, 48]⟩
abbrev S1024x4x64 : Shape := ⟨3, ![1024, 4, 64]⟩
abbrev S1024x4x1x64 : Shape := ⟨4, ![1024, 4, 1, 64]⟩
abbrev S1024x4x2x64 : Shape := ⟨4, ![1024, 4, 2, 64]⟩
abbrev S1024x512 : Shape := ⟨2, ![1024, 512]⟩
abbrev S1024x2048 : Shape := ⟨2, ![1024, 2048]⟩
abbrev S_ : Shape := ⟨0, ![]⟩
abbrev S1024x128 : Shape := ⟨2, ![1024, 128]⟩
abbrev S16384x1024 : Shape := ⟨2, ![16384, 1024]⟩
abbrev S1x2048 : Shape := ⟨2, ![1, 2048]⟩
abbrev S1x1024 : Shape := ⟨2, ![1, 1024]⟩
abbrev S16384x2048 : Shape := ⟨2, ![16384, 2048]⟩
abbrev S16384x128 : Shape := ⟨2, ![16384, 128]⟩
abbrev S16384x512 : Shape := ⟨2, ![16384, 512]⟩
abbrev S1024x2816 : Shape := ⟨2, ![1024, 2816]⟩
abbrev S2816x1024 : Shape := ⟨2, ![2816, 1024]⟩
abbrev S1x64x2816 : Shape := ⟨3, ![1, 64, 2816]⟩
abbrev S1x176x1024 : Shape := ⟨3, ![1, 176, 1024]⟩
abbrev S64x2816 : Shape := ⟨2, ![64, 2816]⟩
abbrev S176x1024 : Shape := ⟨2, ![176, 1024]⟩
abbrev S1024x1 : Shape := ⟨2, ![1024, 1]⟩
abbrev S1x512 : Shape := ⟨2, ![1, 512]⟩

abbrev nBuf : Space → Nat
  | .hbm => 44
  | .vmem => 25
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x2608, .f32⟩
  | .hbm, ⟨3, _⟩ => ⟨S4x1024x2816, .f32⟩
  | .hbm, ⟨4, _⟩ => ⟨S4x1024x2816, .f32⟩
  | .hbm, ⟨5, _⟩ => ⟨S4x2816x1024, .f32⟩
  | .hbm, ⟨6, _⟩ => ⟨S1024x1024, .f32⟩
  | .hbm, ⟨7, _⟩ => ⟨S1024x256, .f32⟩
  | .hbm, ⟨8, _⟩ => ⟨S1024x256, .f32⟩
  | .hbm, ⟨9, _⟩ => ⟨S1024x256, .f32⟩
  | .hbm, ⟨10, _⟩ => ⟨S1024x256, .f32⟩
  | .hbm, ⟨11, _⟩ => ⟨S1024x256, .f32⟩
  | .hbm, ⟨12, _⟩ => ⟨S1024x256, .f32⟩
  | .hbm, ⟨13, _⟩ => ⟨S1024x48, .f32⟩
  | .hbm, ⟨14, _⟩ => ⟨S1024x4x64, .f32⟩
  | .hbm, ⟨15, _⟩ => ⟨S1024x4x64, .f32⟩
  | .hbm, ⟨16, _⟩ => ⟨S1024x4x1x64, .f32⟩
  | .hbm, ⟨17, _⟩ => ⟨S1024x4x1x64, .f32⟩
  | .hbm, ⟨18, _⟩ => ⟨S1024x4x2x64, .f32⟩
  | .hbm, ⟨19, _⟩ => ⟨S1024x512, .f32⟩
  | .hbm, ⟨20, _⟩ => ⟨S1024x4x64, .f32⟩
  | .hbm, ⟨21, _⟩ => ⟨S1024x4x64, .f32⟩
  | .hbm, ⟨22, _⟩ => ⟨S1024x4x1x64, .f32⟩
  | .hbm, ⟨23, _⟩ => ⟨S1024x4x1x64, .f32⟩
  | .hbm, ⟨24, _⟩ => ⟨S1024x4x2x64, .f32⟩
  | .hbm, ⟨25, _⟩ => ⟨S1024x512, .f32⟩
  | .hbm, ⟨26, _⟩ => ⟨S1024x2048, .f32⟩
  | .hbm, ⟨27, _⟩ => ⟨S1024x2048, .bf16⟩
  | .hbm, ⟨28, _⟩ => ⟨S1024x512, .f32⟩
  | .hbm, ⟨29, _⟩ => ⟨S1024x512, .bf16⟩
  | .hbm, ⟨30, _⟩ => ⟨S_, .i32⟩
  | .hbm, ⟨31, _⟩ => ⟨S_, .f32⟩
  | .hbm, ⟨32, _⟩ => ⟨S1024x128, .f32⟩
  | .hbm, ⟨33, _⟩ => ⟨S1024x128, .bf16⟩
  | .hbm, ⟨34, _⟩ => ⟨S16384x1024, .f32⟩
  | .hbm, ⟨35, _⟩ => ⟨S_, .f32⟩
  | .hbm, ⟨36, _⟩ => ⟨S1x2048, .f32⟩
  | .hbm, ⟨37, _⟩ => ⟨S1x1024, .f32⟩
  | .hbm, ⟨38, _⟩ => ⟨S16384x2048, .bf16⟩
  | .hbm, ⟨39, _⟩ => ⟨S16384x128, .f32⟩
  | .hbm, ⟨40, _⟩ => ⟨S16384x512, .f32⟩
  | .hbm, ⟨41, _⟩ => ⟨S1024x2816, .bf16⟩
  | .hbm, ⟨42, _⟩ => ⟨S1024x2816, .bf16⟩
  | .hbm, ⟨43, _⟩ => ⟨S2816x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x2048, .f32⟩
  | .local _ .vmem, ⟨4, _⟩ => ⟨S1024x2048, .bf16⟩
  | .local _ .vmem, ⟨5, _⟩ => ⟨S1024x128, .bf16⟩
  | .local _ .vmem, ⟨6, _⟩ => ⟨S1024x512, .bf16⟩
  | .local _ .vmem, ⟨7, _⟩ => ⟨S1x64x2816, .f32⟩
  | .local _ .vmem, ⟨8, _⟩ => ⟨S1x64x2816, .f32⟩
  | .local _ .vmem, ⟨9, _⟩ => ⟨S1x64x2816, .f32⟩
  | .local _ .vmem, ⟨10, _⟩ => ⟨S1x64x2816, .f32⟩
  | .local _ .vmem, ⟨11, _⟩ => ⟨S1x176x1024, .f32⟩
  | .local _ .vmem, ⟨12, _⟩ => ⟨S1x176x1024, .f32⟩
  | .local _ .vmem, ⟨13, _⟩ => ⟨S1024x2048, .bf16⟩
  | .local _ .vmem, ⟨14, _⟩ => ⟨S1024x2048, .bf16⟩
  | .local _ .vmem, ⟨15, _⟩ => ⟨S1024x128, .f32⟩
  | .local _ .vmem, ⟨16, _⟩ => ⟨S1024x128, .f32⟩
  | .local _ .vmem, ⟨17, _⟩ => ⟨S1024x512, .f32⟩
  | .local _ .vmem, ⟨18, _⟩ => ⟨S1024x512, .f32⟩
  | .local _ .vmem, ⟨19, _⟩ => ⟨S64x2816, .bf16⟩
  | .local _ .vmem, ⟨20, _⟩ => ⟨S64x2816, .bf16⟩
  | .local _ .vmem, ⟨21, _⟩ => ⟨S64x2816, .bf16⟩
  | .local _ .vmem, ⟨22, _⟩ => ⟨S64x2816, .bf16⟩
  | .local _ .vmem, ⟨23, _⟩ => ⟨S176x1024, .bf16⟩
  | .local _ .vmem, ⟨24, _⟩ => ⟨S176x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_c : Ref sig .tc := ⟨.hbm, 30, rfl⟩
abbrev main_call0_v0 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst : Ref sig .tc := ⟨.hbm, 35, rfl⟩
abbrev main_v27 : Ref sig .tc := ⟨.hbm, 36, rfl⟩
abbrev main_v28 : Ref sig .tc := ⟨.hbm, 37, rfl⟩
abbrev main_v29_0 : Ref sig .tc := ⟨.hbm, 38, rfl⟩
abbrev main_v29_1 : Ref sig .tc := ⟨.hbm, 39, rfl⟩
abbrev main_v29_2 : Ref sig .tc := ⟨.hbm, 40, rfl⟩
abbrev main_v29_3 : Ref sig .tc := ⟨.hbm, 41, rfl⟩
abbrev main_v29_4 : Ref sig .tc := ⟨.hbm, 42, rfl⟩
abbrev main_v29_5 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![c0_i32.toNat, v0.toNat, c0_i32_0.toNat]

def cc0_transform_7 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![c0_i32.toNat, v0.toNat, c0_i32_0.toNat]

def cc0_transform_8 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![c0_i32.toNat, v0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x64x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x2816 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S176x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference6Ideal.lean ====
abbrev S8x2048x1024 : Shape := ⟨3, ![8, 2048, 1024]⟩
abbrev S1024 : Shape := ⟨1, ![1024]⟩
abbrev S1024x2608 : Shape := ⟨2, ![1024, 2608]⟩
abbrev S4x1024x2816 : Shape := ⟨3, ![4, 1024, 2816]⟩
abbrev S4x2816x1024 : Shape := ⟨3, ![4, 2816, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2608 : Shape := ⟨3, ![8, 2048, 2608]⟩
abbrev S8x2048x256 : Shape := ⟨3, ![8, 2048, 256]⟩
abbrev S8x2048x48 : Shape := ⟨3, ![8, 2048, 48]⟩
abbrev S16384x1024 : Shape := ⟨2, ![16384, 1024]⟩
abbrev S16384x4x1x64 : Shape := ⟨4, ![16384, 4, 1, 64]⟩
abbrev S16384x4x2x64 : Shape := ⟨4, ![16384, 4, 2, 64]⟩
abbrev S16384x512 : Shape := ⟨2, ![16384, 512]⟩
abbrev S16384x2048 : Shape := ⟨2, ![16384, 2048]⟩
abbrev S16384x48 : Shape := ⟨2, ![16384, 48]⟩
abbrev S16384x128 : Shape := ⟨2, ![16384, 128]⟩
abbrev S8x2048x512 : Shape := ⟨3, ![8, 2048, 512]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩

abbrev nBuf : Space → Nat
  | .hbm => 57
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x2608, .f32⟩
  | .hbm, ⟨3, _⟩ => ⟨S4x1024x2816, .f32⟩
  | .hbm, ⟨4, _⟩ => ⟨S4x1024x2816, .f32⟩
  | .hbm, ⟨5, _⟩ => ⟨S4x2816x1024, .f32⟩
  | .hbm, ⟨6, _⟩ => ⟨S8x2048x1024, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S8x2048x2608, .f32⟩
  | .hbm, ⟨23, _⟩ => ⟨S8x2048x1024, .f32⟩
  | .hbm, ⟨24, _⟩ => ⟨S8x2048x256, .f32⟩
  | .hbm, ⟨25, _⟩ => ⟨S8x2048x256, .f32⟩
  | .hbm, ⟨26, _⟩ => ⟨S8x2048x256, .f32⟩
  | .hbm, ⟨27, _⟩ => ⟨S8x2048x256, .f32⟩
  | .hbm, ⟨28, _⟩ => ⟨S8x2048x256, .f32⟩
  | .hbm, ⟨29, _⟩ => ⟨S8x2048x256, .f32⟩
  | .hbm, ⟨30, _⟩ => ⟨S8x2048x48, .f32⟩
  | .hbm, ⟨31, _⟩ => ⟨S16384x1024, .f32⟩
  | .hbm, ⟨32, _⟩ => ⟨S16384x4x1x64, .f32⟩
  | .hbm, ⟨33, _⟩ => ⟨S16384x4x1x64, .f32⟩
  | .hbm, ⟨34, _⟩ => ⟨S16384x4x2x64, .f32⟩
  | .hbm, ⟨35, _⟩ => ⟨S16384x512, .f32⟩
  | .hbm, ⟨36, _⟩ => ⟨S16384x4x1x64, .f32⟩
  | .hbm, ⟨37, _⟩ => ⟨S16384x4x1x64, .f32⟩
  | .hbm, ⟨38, _⟩ => ⟨S16384x4x2x64, .f32⟩
  | .hbm, ⟨39, _⟩ => ⟨S16384x512, .f32⟩
  | .hbm, ⟨40, _⟩ => ⟨S16384x2048, .f32⟩
  | .hbm, ⟨41, _⟩ => ⟨S16384x2048, .bf16⟩
  | .hbm, ⟨42, _⟩ => ⟨S16384x48, .f32⟩
  | .hbm, ⟨43, _⟩ => ⟨S_, .i32⟩
  | .hbm, ⟨44, _⟩ => ⟨S_, .f32⟩
  | .hbm, ⟨45, _⟩ => ⟨S16384x128, .f32⟩
  | .hbm, ⟨46, _⟩ => ⟨S8x2048x512, .f32⟩
  | .hbm, ⟨47, _⟩ => ⟨S16384x512, .f32⟩
  | .hbm, ⟨48, _⟩ => ⟨S1x1024x2816, .f32⟩
  | .hbm, ⟨49, _⟩ => ⟨S1024x2816, .f32⟩
  | .hbm, ⟨50, _⟩ => ⟨S1024x2816, .bf16⟩
  | .hbm, ⟨51, _⟩ => ⟨S1x1024x2816, .f32⟩
  | .hbm, ⟨52, _⟩ => ⟨S1024x2816, .f32⟩
  | .hbm, ⟨53, _⟩ => ⟨S1024x2816, .bf16⟩
  | .hbm, ⟨54, _⟩ => ⟨S1x2816x1024, .f32⟩
  | .hbm, ⟨55, _⟩ => ⟨S2816x1024, .f32⟩
  | .hbm, ⟨56, _⟩ => ⟨S2816x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_c : Ref sig .tc := ⟨.hbm, 43, rfl⟩
abbrev main_call0_v0 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩

abbrev nD : Nat := 1
abbrev τ : Topo := Topo.v7x

variable {F : FTy → Type} [FloatOps F]
-- ==== Kernel7.lean ====
abbrev S8x2048x256 : Shape := ⟨3, ![8, 2048, 256]⟩
abbrev S32x64 : Shape := ⟨2, ![32, 64]⟩
abbrev S2048x256 : Shape := ⟨2, ![2048, 256]⟩
abbrev S256x64 : Shape := ⟨2, ![256, 64]⟩
abbrev S8x2048x512 : Shape := ⟨3, ![8, 2048, 512]⟩
abbrev S16384x512 : Shape := ⟨2, ![16384, 512]⟩
abbrev S1024x256 : Shape := ⟨2, ![1024, 256]⟩
abbrev S1024x512 : Shape := ⟨2, ![1024, 512]⟩
abbrev S2x1024 : Shape := ⟨2, ![2, 1024]⟩
abbrev S_ : Shape := ⟨0, ![]⟩
abbrev S8x1024 : Shape := ⟨2, ![8, 1024]⟩
abbrev S8x4x128x128 : Shape := ⟨4, ![8, 4, 128, 128]⟩
abbrev S8192x128 : Shape := ⟨2, ![8192, 128]⟩
abbrev S4x4x128x128 : Shape := ⟨4, ![4, 4, 128, 128]⟩
abbrev S128x128 : Shape := ⟨2, ![128, 128]⟩
abbrev S512x128 : Shape := ⟨2, ![512, 128]⟩
abbrev S8x512 : Shape := ⟨2, ![8, 512]⟩
abbrev S1x256 : Shape := ⟨2, ![1, 256]⟩
abbrev S512x64 : Shape := ⟨2, ![512, 64]⟩
abbrev S512x1024 : Shape := ⟨2, ![512, 1024]⟩
abbrev S512x512 : Shape := ⟨2, ![512, 512]⟩
abbrev S512x256 : Shape := ⟨2, ![512, 256]⟩
abbrev S128x64 : Shape := ⟨2, ![128, 64]⟩
abbrev S1x1x128x64 : Shape := ⟨4, ![1, 1, 128, 64]⟩
abbrev S8x4x127x128 : Shape := ⟨4, ![8, 4, 127, 128]⟩

abbrev nBuf : Space → Nat
  | .hbm => 32
  | .vmem => 16
  | .smem => 0
  | _ => 0

abbrev bufTy : (tb : Table) → Fin (tcTables nBuf tb) → BufTy
  | .hbm, ⟨0, _⟩ => ⟨S8x2048x256, .f32⟩
  | .hbm, ⟨1, _⟩ => ⟨S8x2048x256, .f32⟩
  | .hbm, ⟨2, _⟩ => ⟨S32x64, .f32⟩
  | .hbm, ⟨3, _⟩ => ⟨S32x64, .f32⟩
  | .hbm, ⟨4, _⟩ => ⟨S2048x256, .f32⟩
  | .hbm, ⟨5, _⟩ => ⟨S256x64, .f32⟩
  | .hbm, ⟨6, _⟩ => ⟨S2048x256, .f32⟩
  | .hbm, ⟨7, _⟩ => ⟨S256x64, .f32⟩
  | .hbm, ⟨8, _⟩ => ⟨S8x2048x512, .f32⟩
  | .hbm, ⟨9, _⟩ => ⟨S16384x512, .f32⟩
  | .hbm, ⟨10, _⟩ => ⟨S1024x256, .f32⟩
  | .hbm, ⟨11, _⟩ => ⟨S1024x256, .f32⟩
  | .hbm, ⟨12, _⟩ => ⟨S1024x512, .f32⟩
  | .hbm, ⟨13, _⟩ => ⟨S1024x512, .bf16⟩
  | .hbm, ⟨14, _⟩ => ⟨S256x64, .bf16⟩
  | .hbm, ⟨15, _⟩ => ⟨S2x1024, .f32⟩
  | .hbm, ⟨16, _⟩ => ⟨S_, .i32⟩
  | .hbm, ⟨17, _⟩ => ⟨S_, .f32⟩
  | .hbm, ⟨18, _⟩ => ⟨S8x1024, .f32⟩
  | .hbm, ⟨19, _⟩ => ⟨S8x1024, .bf16⟩
  | .hbm, ⟨20, _⟩ => ⟨S1024x256, .f32⟩
  | .hbm, ⟨21, _⟩ => ⟨S1024x256, .f32⟩
  | .hbm, ⟨22, _⟩ => ⟨S1024x512, .f32⟩
  | .hbm, ⟨23, _⟩ => ⟨S1024x512, .bf16⟩
  | .hbm, ⟨24, _⟩ => ⟨S256x64, .bf16⟩
  | .hbm, ⟨25, _⟩ => ⟨S2x1024, .f32⟩
  | .hbm, ⟨26, _⟩ => ⟨S_, .i32⟩
  | .hbm, ⟨27, _⟩ => ⟨S_, .f32⟩
  | .hbm, ⟨28, _⟩ => ⟨S8x1024, .f32⟩
  | .hbm, ⟨29, _⟩ => ⟨S8x1024, .bf16⟩
  | .hbm, ⟨30, _⟩ => ⟨S8x4x128x128, .bf16⟩
  | .hbm, ⟨31, _⟩ => ⟨S8x4x127x128, .bf16⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S8192x128, .f32⟩
  | .local _ .vmem, ⟨7, _⟩ => ⟨S8192x128, .f32⟩
  | .local _ .vmem, ⟨8, _⟩ => ⟨S1024x512, .bf16⟩
  | .local _ .vmem, ⟨9, _⟩ => ⟨S256x64, .bf16⟩
  | .local _ .vmem, ⟨10, _⟩ => ⟨S8x1024, .bf16⟩
  | .local _ .vmem, ⟨11, _⟩ => ⟨S1024x512, .bf16⟩
  | .local _ .vmem, ⟨12, _⟩ => ⟨S256x64, .bf16⟩
  | .local _ .vmem, ⟨13, _⟩ => ⟨S8x1024, .bf16⟩
  | .local _ .vmem, ⟨14, _⟩ => ⟨S4x4x128x128, .bf16⟩
  | .local _ .vmem, ⟨15, _⟩ => ⟨S4x4x128x128, .bf16⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_call0_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_0 : Ref sig .tc := ⟨.hbm, 26, rfl⟩
abbrev main_call1_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4x4x128x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference7Ideal.lean ====
abbrev S8x2048x256 : Shape := ⟨3, ![8, 2048, 256]⟩
abbrev S32x64 : Shape := ⟨2, ![32, 64]⟩
abbrev S2048x256 : Shape := ⟨2, ![2048, 256]⟩
abbrev S256x64 : Shape := ⟨2, ![256, 64]⟩
abbrev S127 : Shape := ⟨1, ![127]⟩
abbrev S127x1 : Shape := ⟨2, ![127, 1]⟩
abbrev S_ : Shape := ⟨0, ![]⟩
abbrev S32 : Shape := ⟨1, ![32]⟩
abbrev S1x32 : Shape := ⟨2, ![1, 32]⟩
abbrev S127x32 : Shape := ⟨2, ![127, 32]⟩
abbrev S8x2048x4x64 : Shape := ⟨4, ![8, 2048, 4, 64]⟩
abbrev S127x32x1 : Shape := ⟨3, ![127, 32, 1]⟩
abbrev S8x127x32x4x64 : Shape := ⟨5, ![8, 127, 32, 4, 64]⟩
abbrev S1x1x32x1x64 : Shape := ⟨5, ![1, 1, 32, 1, 64]⟩
abbrev S8x127x4x32x64 : Shape := ⟨5, ![8, 127, 4, 32, 64]⟩
abbrev S8x127x4x2048 : Shape := ⟨4, ![8, 127, 4, 2048]⟩
abbrev S8x127x4x256 : Shape := ⟨4, ![8, 127, 4, 256]⟩
abbrev S8x127x4x64 : Shape := ⟨4, ![8, 127, 4, 64]⟩
abbrev S8x127x4x128 : Shape := ⟨4, ![8, 127, 4, 128]⟩
abbrev S8x4x127x128 : Shape := ⟨4, ![8, 4, 127, 128]⟩

abbrev nBuf : Space → Nat
  | .hbm => 99
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S8x2048x256, .f32⟩
  | .hbm, ⟨2, _⟩ => ⟨S32x64, .f32⟩
  | .hbm, ⟨3, _⟩ => ⟨S32x64, .f32⟩
  | .hbm, ⟨4, _⟩ => ⟨S2048x256, .f32⟩
  | .hbm, ⟨5, _⟩ => ⟨S256x64, .f32⟩
  | .hbm, ⟨6, _⟩ => ⟨S2048x256, .f32⟩
  | .hbm, ⟨7, _⟩ => ⟨S256x64, .f32⟩
  | .hbm, ⟨8, _⟩ => ⟨S127, .i32⟩
  | .hbm, ⟨9, _⟩ => ⟨S127x1, .i32⟩
  | .hbm, ⟨10, _⟩ => ⟨S_, .i32⟩
  | .hbm, ⟨11, _⟩ => ⟨S127x1, .i32⟩
  | .hbm, ⟨12, _⟩ => ⟨S127x1, .i32⟩
  | .hbm, ⟨13, _⟩ => ⟨S32, .i32⟩
  | .hbm, ⟨14, _⟩ => ⟨S1x32, .i32⟩
  | .hbm, ⟨15, _⟩ => ⟨S127x32, .i32⟩
  | .hbm, ⟨16, _⟩ => ⟨S127x32, .i32⟩
  | .hbm, ⟨17, _⟩ => ⟨S127x32, .i32⟩
  | .hbm, ⟨18, _⟩ => ⟨S8x2048x4x64, .f32⟩
  | .hbm, ⟨19, _⟩ => ⟨S_, .i32⟩
  | .hbm, ⟨20, _⟩ => ⟨S127x32, .i32⟩
  | .hbm, ⟨21, _⟩ => ⟨S127x32, .i1⟩
  | .hbm, ⟨22, _⟩ => ⟨S_, .i32⟩
  | .hbm, ⟨23, _⟩ => ⟨S127x32, .i32⟩
  | .hbm, ⟨24, _⟩ => ⟨S127x32, .i32⟩
  | .hbm, ⟨25, _⟩ => ⟨S127x32, .i32⟩
  | .hbm, ⟨26, _⟩ => ⟨S127x32x1, .i32⟩
  | .hbm, ⟨27, _⟩ => ⟨S8x127x32x4x64, .f32⟩
  | .hbm, ⟨28, _⟩ => ⟨S1x1x32x1x64, .f32⟩
  | .hbm, ⟨29, _⟩ => ⟨S8x127x32x4x64, .f32⟩
  | .hbm, ⟨30, _⟩ => ⟨S8x127x32x4x64, .f32⟩
  | .hbm, ⟨31, _⟩ => ⟨S8x127x4x32x64, .f32⟩
  | .hbm, ⟨32, _⟩ => ⟨S8x127x4x2048, .f32⟩
  | .hbm, ⟨33, _⟩ => ⟨S8x127x4x256, .f32⟩
  | .hbm, ⟨34, _⟩ => ⟨S8x127x4x256, .f32⟩
  | .hbm, ⟨35, _⟩ => ⟨S8x127x4x256, .f32⟩
  | .hbm, ⟨36, _⟩ => ⟨S_, .f32⟩
  | .hbm, ⟨37, _⟩ => ⟨S8x127x4x256, .f32⟩
  | .hbm, ⟨38, _⟩ => ⟨S8x127x4x256, .f32⟩
  | .hbm, ⟨39, _⟩ => ⟨S8x127x4x256, .f32⟩
  | .hbm, ⟨40, _⟩ => ⟨S_, .f32⟩
  | .hbm, ⟨41, _⟩ => ⟨S8x127x4x256, .f32⟩
  | .hbm, ⟨42, _⟩ => ⟨S8x127x4x256, .f32⟩
  | .hbm, ⟨43, _⟩ => ⟨S8x127x4x256, .f32⟩
  | .hbm, ⟨44, _⟩ => ⟨S_, .f32⟩
  | .hbm, ⟨45, _⟩ => ⟨S8x127x4x256, .f32⟩
  | .hbm, ⟨46, _⟩ => ⟨S8x127x4x256, .f32⟩
  | .hbm, ⟨47, _⟩ => ⟨S_, .f32⟩
  | .hbm, ⟨48, _⟩ => ⟨S8x127x4x256, .f32⟩
  | .hbm, ⟨49, _⟩ => ⟨S8x127x4x256, .f32⟩
  | .hbm, ⟨50, _⟩ => ⟨S8x127x4x256, .f32⟩
  | .hbm, ⟨51, _⟩ => ⟨S8x127x4x64, .f32⟩
  | .hbm, ⟨52, _⟩ => ⟨S127, .i32⟩
  | .hbm, ⟨53, _⟩ => ⟨S127x1, .i32⟩
  | .hbm, ⟨54, _⟩ => ⟨S_, .i32⟩
  | .hbm, ⟨55, _⟩ => ⟨S127x1, .i32⟩
  | .hbm, ⟨56, _⟩ => ⟨S127x1, .i32⟩
  | .hbm, ⟨57, _⟩ => ⟨S32, .i32⟩
  | .hbm, ⟨58, _⟩ => ⟨S1x32, .i32⟩
  | .hbm, ⟨59, _⟩ => ⟨S127x32, .i32⟩
  | .hbm, ⟨60, _⟩ => ⟨S127x32, .i32⟩
  | .hbm, ⟨61, _⟩ => ⟨S127x32, .i32⟩
  | .hbm, ⟨62, _⟩ => ⟨S8x2048x4x64, .f32⟩
  | .hbm, ⟨63, _⟩ => ⟨S_, .i32⟩
  | .hbm, ⟨64, _⟩ => ⟨S127x32, .i32⟩
  | .hbm, ⟨65, _⟩ => ⟨S127x32, .i1⟩
  | .hbm, ⟨66, _⟩ => ⟨S_, .i32⟩
  | .hbm, ⟨67, _⟩ => ⟨S127x32, .i32⟩
  | .hbm, ⟨68, _⟩ => ⟨S127x32, .i32⟩
  | .hbm, ⟨69, _⟩ => ⟨S127x32, .i32⟩
  | .hbm, ⟨70, _⟩ => ⟨S127x32x1, .i32⟩
  | .hbm, ⟨71, _⟩ => ⟨S8x127x32x4x64, .f32⟩
  | .hbm, ⟨72, _⟩ => ⟨S1x1x32x1x64, .f32⟩
  | .hbm, ⟨73, _⟩ => ⟨S8x127x32x4x64, .f32⟩
  | .hbm, ⟨74, _⟩ => ⟨S8x127x32x4x64, .f32⟩
  | .hbm, ⟨75, _⟩ => ⟨S8x127x4x32x64, .f32⟩
  | .hbm, ⟨76, _⟩ => ⟨S8x127x4x2048, .f32⟩
  | .hbm, ⟨77, _⟩ => ⟨S8x127x4x256, .f32⟩
  | .hbm, ⟨78, _⟩ => ⟨S8x127x4x256, .f32⟩
  | .hbm, ⟨79, _⟩ => ⟨S8x127x4x256, .f32⟩
  | .hbm, ⟨80, _⟩ => ⟨S_, .f32⟩
  | .hbm, ⟨81, _⟩ => ⟨S8x127x4x256, .f32⟩
  | .hbm, ⟨82, _⟩ => ⟨S8x127x4x256, .f32⟩
  | .hbm, ⟨83, _⟩ => ⟨S8x127x4x256, .f32⟩
  | .hbm, ⟨84, _⟩ => ⟨S_, .f32⟩
  | .hbm, ⟨85, _⟩ => ⟨S8x127x4x256, .f32⟩
  | .hbm, ⟨86, _⟩ => ⟨S8x127x4x256, .f32⟩
  | .hbm, ⟨87, _⟩ => ⟨S8x127x4x256, .f32⟩
  | .hbm, ⟨88, _⟩ => ⟨S_, .f32⟩
  | .hbm, ⟨89, _⟩ => ⟨S8x127x4x256, .f32⟩
  | .hbm, ⟨90, _⟩ => ⟨S8x127x4x256, .f32⟩
  | .hbm, ⟨91, _⟩ => ⟨S_, .f32⟩
  | .hbm, ⟨92, _⟩ => ⟨S8x127x4x256, .f32⟩
  | .hbm, ⟨93, _⟩ => ⟨S8x127x4x256, .f32⟩
  | .hbm, ⟨94, _⟩ => ⟨S8x127x4x256, .f32⟩
  | .hbm, ⟨95, _⟩ => ⟨S8x127x4x64, .f32⟩
  | .hbm, ⟨96, _⟩ => ⟨S8x127x4x128, .f32⟩
  | .hbm, ⟨97, _⟩ => ⟨S8x4x127x128, .f32⟩
  | .hbm, ⟨98, _⟩ => ⟨S8x4x127x128, .bf16⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c_5 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c_6 : Ref sig .tc := ⟨.hbm, 63, rfl⟩
abbrev main_v47 : Ref sig .tc := ⟨.hbm, 64, rfl⟩
abbrev main_v48 : Ref sig .tc := ⟨.hbm, 65, rfl⟩
abbrev main_c_7 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_8 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_9 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_10 : Ref sig .tc := ⟨.hbm, 88, rfl⟩
abbrev main_v68 : Ref sig .tc := ⟨.hbm, 89, rfl⟩
abbrev main_v69 : Ref sig .tc := ⟨.hbm, 90, rfl⟩
abbrev main_cst_11 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩

abbrev nD : Nat := 1
abbrev τ : Topo := Topo.v7x

variable {F : FTy → Type} [FloatOps F]
-- ==== Proof.Ref.lean ====
/- The reference attention as a composition of named parts, and its parts read at an index. -/
module

public import proofs.«01_k».proof.Proof.Gen.ReferenceIdeal.Run
public import Idealize.ShloMosaic.Lib.Pointwise
public import Idealize.ShloMosaic.Lib.WordCmp

@[expose] public section

set_option maxRecDepth 16384

noncomputable section

namespace Cert.ReferenceIdeal.Sem

open Cert.ReferenceIdeal Cert.ReferenceIdeal.Gen Cert.ReferenceIdeal.Value
open Idealize.ShloMosaic Idealize.ShloMosaic.TcCoe Idealize.ShloMosaic.StableHlo

/-- An argument: its batch, its token and its lane. -/
abbrev A3 := FVec Ideal S8x2048x1024 .f32

/-- The heads of an argument. -/
def heads (x : A3) : FVec Ideal S8x16x2048x64 .f32 :=
  transpose S8x16x2048x64 [0, 2, 1, 3] (shapeCast S8x2048x16x64 x shapeCasts_S8x2048x1024_S8x2048x16x64) transposes_S8x2048x16x64_S8x16x2048x64_0_2_1_3
/-- The scaled queries. -/
def qs (q : A3) : FVec Ideal S8x16x2048x64 .f32 :=
  mulf (heads q) (broadcastInDim S8x16x2048x64 ![] bcast_S_S8x16x2048x64 (constant (F := Ideal) S_ .f32 0x3E000000#32))
/-- The block means of the keys. -/
def kmean (k : A3) : FVec Ideal S8x16x8x64 .f32 :=
  Host.divf (Host.reduceAdd (shapeCast S8x16x8x256x64 (heads k) shapeCasts_S8x16x2048x64_S8x16x8x256x64) (constant (F := Ideal) S_ .f32 0x00000000#32)
    reducesTo_S8x16x8x256x64_S8x16x8x64_d3 h_S_) (broadcastInDim S8x16x8x64 ![] bcast_S_S8x16x8x64 (constant (F := Ideal) S_ .f32 0x43800000#32))
/-- Each token's block. -/
def cur : IVec S2048 32 :=
  select (andi (cmpi .ne (signi (iotaInDim S2048 32 0)) (broadcastInDim S2048 ![] bcast_S_S2048 (signi (constantI S_ 32 256#32))))
      (cmpi .ne (Host.remsi (iotaInDim S2048 32 0) (broadcastInDim S2048 ![] bcast_S_S2048 (constantI S_ 32 256#32)))
        (broadcastInDim S2048 ![] bcast_S_S2048 (constantI S_ 32 0#32))))
    (subi (Host.divsi (iotaInDim S2048 32 0) (broadcastInDim S2048 ![] bcast_S_S2048 (constantI S_ 32 256#32)))
      (broadcastInDim S2048 ![] bcast_S_S2048 (constantI S_ 32 1#32)))
    (Host.divsi (iotaInDim S2048 32 0) (broadcastInDim S2048 ![] bcast_S_S2048 (constantI S_ 32 256#32)))
/-- The scores of the blocks. -/
def gate (q k : A3) : FVec Ideal S8x16x2048x8 .f32 :=
  Host.dotGeneral dot_S8x16x2048x64_S8x16x8x64_S8x16x2048x8_3_3_2_2_01_01 none (qs q) (kmean k)
/-- Which blocks lie before a token's. -/
def past : IVec S2048x8 1 :=
  cmpi .slt (broadcastInDim S2048x8 ![0, 1] bcast_S1x8_S2048x8_0_1 (broadcastInDim S1x8 ![1] bcast_S8_S1x8_1 (iotaInDim S8 32 0)))
    (broadcastInDim S2048x8 ![0, 1] bcast_S2048x1_S2048x8_0_1 (broadcastInDim S2048x1 ![0] bcast_S2048_S2048x1_0 cur))
/-- The scores of the past blocks, minus infinity at the others. -/
def gated (q k : A3) : FVec Ideal S8x16x2048x8 .f32 :=
  select (broadcastInDim S8x16x2048x8 ![2, 3] bcast_S2048x8_S8x16x2048x8_2_3 past) (gate q k)
    (broadcastInDim S8x16x2048x8 ![] bcast_S_S8x16x2048x8 (constant (F := Ideal) S_ .f32 0xFF800000#32))
/-- The three best blocks. -/
def picks (g : FVec Ideal S8x16x2048x8 .f32) : IVec S8x16x2048x3 32 :=
  (Host.topK S8x16x2048x3 3 (FloatOps.cmpfTotal (F := Ideal) (φ := .f32) .gt) g sliceFits_S8x16x2048x8_S8x16x2048x3).2
/-- Whether a block is among those picked. -/
def found (p : IVec S8x16x2048x3 32) : IVec S8x16x2048x8 1 :=
  Host.reduce IntOp.ori
    (cmpi .eq (broadcastInDim S8x16x2048x3x8 ![0, 1, 2, 3, 4] bcast_S8x16x2048x3x1_S8x16x2048x3x8_0_1_2_3_4
        (broadcastInDim S8x16x2048x3x1 ![0, 1, 2, 3] bcast_S8x16x2048x3_S8x16x2048x3x1_0_1_2_3 p))
      (broadcastInDim S8x16x2048x3x8 ![0, 1, 2, 3, 4] bcast_S1x1x1x1x8_S8x16x2048x3x8_0_1_2_3_4
        (broadcastInDim S1x1x1x1x8 ![4] bcast_S8_S1x1x1x1x8_4 (iotaInDim S8 32 0))))
    (constantI S_ 1 0#1) reducesTo_S8x16x2048x3x8_S8x16x2048x8_d3 h_S_
/-- Which blocks a token attends to besides its own. -/
def chosen (q k : A3) : IVec S8x16x2048x8 1 :=
  andi (found (picks (gated q k)))
    (broadcastInDim S8x16x2048x8 ![0, 1, 2, 3] bcast_S1x1x2048x8_S8x16x2048x8_0_1_2_3 (broadcastInDim S1x1x2048x8 ![2, 3] bcast_S2048x8_S1x1x2048x8_2_3 past))
/-- The own block up to the token. -/
def ownMask : IVec S2048x2048 1 :=
  andi (cmpi .eq (broadcastInDim S2048x2048 ![0, 1] bcast_S1x2048_S2048x2048_0_1 (broadcastInDim S1x2048 ![1] bcast_S2048_S1x2048_1 cur))
      (broadcastInDim S2048x2048 ![0, 1] bcast_S2048x1_S2048x2048_0_1 (broadcastInDim S2048x1 ![0] bcast_S2048_S2048x1_0 cur)))
    (cmpi .sle (broadcastInDim S2048x2048 ![0, 1] bcast_S1x2048_S2048x2048_0_1 (broadcastInDim S1x2048 ![1] bcast_S2048_S1x2048_1 (iotaInDim S2048 32 0)))
      (broadcastInDim S2048x2048 ![0, 1] bcast_S2048x1_S2048x2048_0_1 (broadcastInDim S2048x1 ![0] bcast_S2048_S2048x1_0 (iotaInDim S2048 32 0))))
/-- The tokens attended to. -/
def mask (q k : A3) : IVec S8x16x2048x2048 1 :=
  ori (shapeCast S8x16x2048x2048 (broadcastInDim S8x16x2048x8x256 ![0, 1, 2, 3] bcast_S8x16x2048x8_S8x16x2048x8x256_0_1_2_3 (chosen q k)) shapeCasts_S8x16x2048x8x256_S8x16x2048x2048)
    (broadcastInDim S8x16x2048x2048 ![0, 1, 2, 3] bcast_S1x1x2048x2048_S8x16x2048x2048_0_1_2_3 (broadcastInDim S1x1x2048x2048 ![2, 3] bcast_S2048x2048_S1x1x2048x2048_2_3 ownMask))
/-- The scores of the tokens. -/
def att (q k : A3) : FVec Ideal S8x16x2048x2048 .f32 :=
  Host.dotGeneral dot_S8x16x2048x64_S8x16x2048x64_S8x16x2048x2048_3_3_2_2_01_01 none (qs q) (heads k)
/-- The scores under a mask. -/
def masked (b : IVec S8x16x2048x2048 1) (s : FVec Ideal S8x16x2048x2048 .f32) : FVec Ideal S8x16x2048x2048 .f32 :=
  select b s (broadcastInDim S8x16x2048x2048 ![] bcast_S_S8x16x2048x2048 (constant (F := Ideal) S_ .f32 0xFF800000#32))
/-- The greatest score of each row. -/
def rowMax (s : FVec Ideal S8x16x2048x2048 .f32) : FVec Ideal S8x16x2048 .f32 :=
  Host.reduce FloatOps.maximumf s (constant (F := Ideal) S_ .f32 0xFF800000#32) reducesTo_S8x16x2048x2048_S8x16x2048_d3 h_S_
/-- The rows' greatest scores as a column. -/
def column (g : FVec Ideal S8x16x2048 .f32) : FVec Ideal S8x16x2048x1 .f32 :=
  broadcastInDim S8x16x2048x1 ![0, 1, 2] bcast_S8x16x2048_S8x16x2048x1_0_1_2 g
/-- Zero where a greatest score is not finite. -/
def guarded (g : FVec Ideal S8x16x2048x1 .f32) : FVec Ideal S8x16x2048x1 .f32 :=
  select (cmpf .olt (Host.absf g) (broadcastInDim S8x16x2048x1 ![] bcast_S_S8x16x2048x1 (constant (F := Ideal) S_ .f32 0x7F800000#32))) g
    (broadcastInDim S8x16x2048x1 ![] bcast_S_S8x16x2048x1 (constant (F := Ideal) S_ .f32 0x00000000#32))
/-- The greatest score of each row, zero where it is not finite. -/
def top (s : FVec Ideal S8x16x2048x2048 .f32) : FVec Ideal S8x16x2048x1 .f32 := guarded (column (rowMax s))
/-- The weights, before they are normalised. -/
def weights (b : IVec S8x16x2048x2048 1) (s : FVec Ideal S8x16x2048x2048 .f32) : FVec Ideal S8x16x2048x2048 .f32 :=
  select b (Host.exp (subf (masked b s) (broadcastInDim S8x16x2048x2048 ![0, 1, 2, 3] bcast_S8x16x2048x1_S8x16x2048x2048_0_1_2_3 (top (masked b s)))))
    (broadcastInDim S8x16x2048x2048 ![] bcast_S_S8x16x2048x2048 (constant (F := Ideal) S_ .f32 0x00000000#32))
/-- The sum of each row's weights, one where it is not positive. -/
def total (e : FVec Ideal S8x16x2048x2048 .f32) : FVec Ideal S8x16x2048x1 .f32 :=
  let g := broadcastInDim S8x16x2048x1 ![0, 1, 2] bcast_S8x16x2048_S8x16x2048x1_0_1_2
    (Host.reduceAdd e (constant (F := Ideal) S_ .f32 0x00000000#32) reducesTo_S8x16x2048x2048_S8x16x2048_d3 h_S_)
  select (cmpf .ogt g (broadcastInDim S8x16x2048x1 ![] bcast_S_S8x16x2048x1 (constant (F := Ideal) S_ .f32 0x00000000#32))) g
    (broadcastInDim S8x16x2048x1 ![] bcast_S_S8x16x2048x1 (constant (F := Ideal) S_ .f32 0x3F800000#32))
/-- The heads' results. -/
def mix (e : FVec Ideal S8x16x2048x2048 .f32) (v : A3) : FVec Ideal S8x16x2048x64 .f32 :=
  Host.dotGeneral dot_S8x16x2048x2048_S8x16x2048x64_S8x16x2048x64_3_2_2_3_01_01 none
    (Host.divf e (broadcastInDim S8x16x2048x2048 ![0, 1, 2, 3] bcast_S8x16x2048x1_S8x16x2048x2048_0_1_2_3 (total e))) (heads v)
/-- The result's rows. -/
def out (o : FVec Ideal S8x16x2048x64 .f32) : FVec Ideal S16384x1024 .bf16 :=
  truncf .bf16 (shapeCast S16384x1024 (transpose S8x2048x16x64 [0, 2, 1, 3] o transposes_S8x16x2048x64_S8x2048x16x64_0_2_1_3) shapeCasts_S8x2048x16x64_S16384x1024) bitsLt_bf16_f32

/-- The reference's result is the composition. -/
theorem res_eq (m : (ℓ : Loc nD τ sig) → Buf (Elt Ideal) ℓ) (c : Dev nD) :
    (res_out0 m c : FVec Ideal S16384x1024 .bf16) = out (mix (weights (mask (m ((c.tc : Thread nD τ).loc main_arg0)) (m ((c.tc : Thread nD τ).loc main_arg1)))
      (att (m ((c.tc : Thread nD τ).loc main_arg0)) (m ((c.tc : Thread nD τ).loc main_arg1)))) (m ((c.tc : Thread nD τ).loc main_arg2))) := by
  unfold res_out0 res_main_v70
  rfl

theorem heads_apply (x : A3) (b : Fin 8) (h : Fin 16) (t : Fin 2048) (d : Fin 64) :
    heads x (ix4 b h t d) = x (ix3 b t ⟨h.1 * 64 + d.1, by omega⟩) := by
  pointwise [heads]

theorem qs_apply (x : A3) (b : Fin 8) (h : Fin 16) (t : Fin 2048) (d : Fin 64) :
    qs x (ix4 b h t d) = heads x (ix4 b h t d) * Ideal.ofBits .f32 0x3E000000#32 := by
  pointwise [qs]

theorem kmean_apply (x : A3) (b : Fin 8) (h : Fin 16) (n : Fin 8) (d : Fin 64) :
    kmean x (ix4 b h n d) = Ideal.div (∑ r : Fin 256, heads x (ix4 b h ⟨n.1 * 256 + r.1, by omega⟩ d)) (Ideal.ofBits .f32 0x43800000#32) := by
  pointwise [kmean]

theorem cur_words : ∀ t : Fin 2048, Scalar.select
      (IntOp.andi
        (IntOp.cmpi CmpIPredicate.ne
          (if BitVec.ofNat 32 t.1 = 0 then (0 : BitVec 32) else if (BitVec.ofNat 32 t.1).msb = true then (-1 : BitVec 32) else (1 : BitVec 32))
          (if 256#32 = 0 then (0 : BitVec 32) else if (256#32).msb = true then (-1 : BitVec 32) else (1 : BitVec 32)))
        (IntOp.cmpi CmpIPredicate.ne (IntOp.remsi ArithUnit.host (BitVec.ofNat 32 t.1) 256#32) 0#32))
      (IntOp.subi (IntOp.divsi ArithUnit.host (BitVec.ofNat 32 t.1) 256#32) 1#32)
      (IntOp.divsi ArithUnit.host (BitVec.ofNat 32 t.1) 256#32) = BitVec.ofNat 32 (t.1 / 256) := by
  decide +kernel

theorem cur_apply (t : Fin 2048) : cur (ix1 t) = BitVec.ofNat 32 (t.1 / 256) := by
  pointwise [cur]
  exact cur_words t

theorem gate_apply (q k : A3) (b : Fin 8) (h : Fin 16) (t : Fin 2048) (n : Fin 8) :
    gate q k (ix4 b h t n) = ∑ d, qs q (ix4 b h t d) * kmean k (ix4 b h n d) := by
  pointwise [gate]

theorem past_apply (t : Fin 2048) (n : Fin 8) : past (ix2 t n) = BitVec.ofBool (decide (n.1 < t.1 / 256)) := by
  pointwise [past]
  rw [cur_apply]
  exact WordCmp.cmpi_slt_ofNat (by omega) (by omega)

theorem gated_apply (q k : A3) (b : Fin 8) (h : Fin 16) (t : Fin 2048) (n : Fin 8) :
    gated q k (ix4 b h t n) = Scalar.select (past (ix2 t n)) (gate q k (ix4 b h t n)) (Ideal.ofBits .f32 0xFF800000#32) := by
  pointwise [gated]

theorem picks_apply (g : FVec Ideal S8x16x2048x8 .f32) (b : Fin 8) (h : Fin 16) (t : Fin 2048) (n : Fin 3) :
    picks g (ix4 b h t n) = BitVec.ofNat 32 (sortedFrom (fun a a' : Fin 8 => decide (g (ix4 b h t a') < g (ix4 b h t a))) ⟨n.1, by omega⟩).1 := by
  have hal : ∀ a : Fin 8, (ix4 b h t (⟨n.1, by omega⟩ : Fin 8) : S8x16x2048x8.Idx).along 3 a = ix4 b h t a := by
    intro a
    funext i
    match i with
    | ⟨0, _⟩ => rfl
    | ⟨1, _⟩ => rfl
    | ⟨2, _⟩ => rfl
    | ⟨3, _⟩ => rfl
  have hcmp : (fun k k' : Fin 8 => FloatOps.cmpfTotal (F := Ideal) (φ := .f32) CmpDirection.gt (g ((ix4 b h t (⟨n.1, by omega⟩ : Fin 8) : S8x16x2048x8.Idx).along 3 k))
                  (g ((ix4 b h t (⟨n.1, by omega⟩ : Fin 8) : S8x16x2048x8.Idx).along 3 k')) == 1#1)
      = fun a a' : Fin 8 => decide (g (ix4 b h t a') < g (ix4 b h t a)) := by
    funext a a'
    rw [hal, hal]
    show (BitVec.ofBool (decide (g (ix4 b h t a') < g (ix4 b h t a))) == 1#1) = _
    by_cases hlt : g (ix4 b h t a') < g (ix4 b h t a)
    · simp only [hlt, decide_true]; rfl
    · simp only [hlt, decide_false]; rfl
  pointwise [picks, Host.topK, Host.sort2]
  rw [hal]
  exact congrArg (fun f => BitVec.ofNat 32 (sortedFrom f (⟨n.1, by omega⟩ : Fin 8)).1) hcmp

theorem ori_fold {ι : Type} (s : Finset ι) (f : ι → Prop) [DecidablePred f] :
    Finset.fold IntOp.ori (0#1) (fun x => BitVec.ofBool (decide (f x))) s = BitVec.ofBool (decide (∃ x ∈ s, f x)) := by
  classical
  induction s using Finset.induction_on with
  | empty => simp
  | insert a s ha ih =>
    rw [Finset.fold_insert ha, ih, WordCmp.ori_ofBool]
    congr 1
    simp

theorem found_apply (p : IVec S8x16x2048x3 32) (b : Fin 8) (h : Fin 16) (t : Fin 2048) (n : Fin 8) :
    found p (ix4 b h t n) = BitVec.ofBool (decide (∃ j : Fin 3, p (ix4 b h t j) = BitVec.ofNat 32 n.1)) := by
  pointwise [found]
  simp only [WordCmp.cmpi_eq_eq]
  rw [ori_fold]
  simp

theorem chosen_apply (q k : A3) (b : Fin 8) (h : Fin 16) (t : Fin 2048) (n : Fin 8) :
    chosen q k (ix4 b h t n) = IntOp.andi (found (picks (gated q k)) (ix4 b h t n)) (past (ix2 t n)) := by
  pointwise [chosen]

theorem ownMask_apply (t s : Fin 2048) :
    ownMask (ix2 t s) = BitVec.ofBool (decide (s.1 / 256 = t.1 / 256 ∧ s.1 ≤ t.1)) := by
  pointwise [ownMask]
  rw [cur_apply, cur_apply, WordCmp.cmpi_eq_eq, WordCmp.cmpi_sle_ofNat (by omega) (by omega)]
  rw [WordCmp.andi_ofBool, ← Bool.decide_and]
  congr 1
  refine decide_eq_decide.mpr (and_congr (WordCmp.ofNat_eq_ofNat_iff (by omega) (by omega)) Iff.rfl)

theorem mask_apply (q k : A3) (b : Fin 8) (h : Fin 16) (t s : Fin 2048) :
    mask q k (ix4 b h t s) = IntOp.ori (chosen q k (ix4 b h t ⟨s.1 / 256, by omega⟩)) (ownMask (ix2 t s)) := by
  pointwise [mask]

theorem att_apply (q k : A3) (b : Fin 8) (h : Fin 16) (t s : Fin 2048) :
    att q k (ix4 b h t s) = ∑ d, qs q (ix4 b h t d) * heads k (ix4 b h s d) := by
  pointwise [att]

theorem masked_apply (c : IVec S8x16x2048x2048 1) (x : FVec Ideal S8x16x2048x2048 .f32) (b : Fin 8) (h : Fin 16) (t s : Fin 2048) :
    masked c x (ix4 b h t s) = Scalar.select (c (ix4 b h t s)) (x (ix4 b h t s)) (Ideal.ofBits .f32 0xFF800000#32) := by
  pointwise [masked]

theorem rowMax_apply (x : FVec Ideal S8x16x2048x2048 .f32) (b : Fin 8) (h : Fin 16) (t : Fin 2048) :
    rowMax x (ix3 b h t) = Finset.fold max (Ideal.ofBits .f32 0xFF800000#32) (fun s => x (ix4 b h t s)) Finset.univ := by
  pointwise [rowMax]

theorem column_apply (x : FVec Ideal S8x16x2048 .f32) (b : Fin 8) (h : Fin 16) (t : Fin 2048) :
    column x (ix4 b h t (0 : Fin 1)) = x (ix3 b h t) := by
  pointwise [column]

theorem guarded_apply (g : FVec Ideal S8x16x2048x1 .f32) (j : S8x16x2048x1.Idx) (r : ℝ) (hr : g j = (r : EReal)) :
    guarded g j = (r : EReal) := by
  have hinf : Ideal.ofBits .f32 0x7F800000#32 = ⊤ := by simp [Ideal.ofBits, Ideal.ieee]
  show Scalar.select (BitVec.ofBool (decide (max (g j) (-(g j)) < Ideal.ofBits .f32 0x7F800000#32))) (g j) _ = _
  rw [hinf, hr, decide_eq_true (max_lt (EReal.coe_lt_top r) (by rw [← EReal.coe_neg]; exact EReal.coe_lt_top _))]
  rfl

theorem weights_apply (c : IVec S8x16x2048x2048 1) (x : FVec Ideal S8x16x2048x2048 .f32) (b : Fin 8) (h : Fin 16) (t s : Fin 2048) :
    weights c x (ix4 b h t s) = Scalar.select (c (ix4 b h t s))
      (Ideal.exp (masked c x (ix4 b h t s) - top (masked c x) (ix4 b h t (0 : Fin 1)))) (0 : EReal) := by
  pointwise [weights]

theorem total_apply (e : FVec Ideal S8x16x2048x2048 .f32) (b : Fin 8) (h : Fin 16) (t : Fin 2048)
    (hp : 0 < ∑ s, e (ix4 b h t s)) : total e (ix4 b h t (0 : Fin 1)) = ∑ s, e (ix4 b h t s) := by
  pointwise [total]
  rw [if_pos hp]

theorem mix_apply (e : FVec Ideal S8x16x2048x2048 .f32) (v : A3) (b : Fin 8) (h : Fin 16) (t : Fin 2048) (d : Fin 64) :
    mix e v (ix4 b h t d) = ∑ s, Ideal.div (e (ix4 b h t s)) (total e (ix4 b h t (0 : Fin 1))) * heads v (ix4 b h s d) := by
  pointwise [mix]

theorem out_apply (o : FVec Ideal S8x16x2048x64 .f32) (b : Fin 8) (h : Fin 16) (t : Fin 2048) (d : Fin 64) :
    out o (ix2 ⟨2048 * b.1 + t.1, by omega⟩ ⟨64 * h.1 + d.1, by omega⟩) = o (ix4 b h t d) := by
  pointwise [out]

end Cert.ReferenceIdeal.Sem

end

end
-- ==== Proof.Run.lean ====
/- The launch of the ideal kernel: the run of one grid point's body, the proof data of its pipeline, the frame, and
   the final array block by block.  The shape is the launch set-up every kernel of this class has. -/
module

public import proofs.«01_k».proof.Proof.Gen.KernelIdeal.Frame.Runs
public import Idealize.ShloMosaic.Lib.Claim
public import Idealize.ShloMosaic.Lib.Pipeline.Value

@[expose] public section

-- membership in a rectangle of production extents (`View.cover_of_tiled`): the elaborator's structural look
-- recurses once per coordinate of the long axes
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The part that holds the two loops is its skeleton, at no named constants: the run looks it up by this name. -/
theorem _root_.Cert.KernelIdeal.k0_part85_eq_skeleton {F : FTy → Type} [FloatOps F] :
    k0_part85 (F := F) = Gen.k0_part85_skel (F := F) := rfl

-- (the run's proof term is large: the definition's epilogue — `abstractNestedProofs` — walks it past the default budget)
set_option maxHeartbeats 1820000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg3 : Memref sig .tc .vmem S256x1024 .bf16) (harg3 : arg3.IsWhole) (arg4 : Memref sig .tc .vmem S2048x2048 .bf16) (harg4 : arg4.IsWhole) (arg5 : Memref sig .tc .vmem S1x8x2048 .f32) (harg5 : arg5.IsWhole) (arg6 : Memref sig .tc .vmem S256x1024 .bf16) (harg6 : arg6.IsWhole) (arg7 : Memref sig .tc .vmem S16x1x256 .f32) (harg7 : arg7.IsWhole) (arg8 : Memref sig .tc .vmem S16x80x256 .f32) (harg8 : arg8.IsWhole) (arg9 : Memref sig .tc .vmem S16x8x256 .f32) (harg9 : arg9.IsWhole)
    (x0 : Vec F S256x1024 .bf16) (x1 : Vec F S2048x2048 .bf16) (x2 : Vec F S1x8x2048 .f32) :
    { L3 : List (View.Piece (Elt F) S256x1024 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_moba_attn i arg3 harg3 arg4 harg4 arg5 harg5 arg6 harg6 arg7 harg7 arg8 harg8 arg9 harg9) K } := by
  refine ⟨?_, fun E K => ?run⟩
  case run =>
    simp only [cc0_moba_attn_eq_skeleton]; unfold cc0_moba_attn_skel
    simp only [k0_part89_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

/-- The run's pieces for output 3 tile its block (1 store of `S256x1024`, checked by the kernel's evaluation: Lib/Ring.lean `Piece.tiledL`, linear in the pieces, through a loop's `@[irreducible]` trip theorem too), so they cover it. -/
theorem cover0_A_3 (c : Dev nD) (i : grid0.Coords) (arg3 : Memref sig .tc .vmem S256x1024 .bf16) (harg3 : arg3.IsWhole) (arg4 : Memref sig .tc .vmem S2048x2048 .bf16) (harg4 : arg4.IsWhole) (arg5 : Memref sig .tc .vmem S1x8x2048 .f32) (harg5 : arg5.IsWhole) (arg6 : Memref sig .tc .vmem S256x1024 .bf16) (harg6 : arg6.IsWhole) (arg7 : Memref sig .tc .vmem S16x1x256 .f32) (harg7 : arg7.IsWhole) (arg8 : Memref sig .tc .vmem S16x80x256 .f32) (harg8 : arg8.IsWhole) (arg9 : Memref sig .tc .vmem S16x8x256 .f32) (harg9 : arg9.IsWhole)
    (x0 : Vec F S256x1024 .bf16) (x1 : Vec F S2048x2048 .bf16) (x2 : Vec F S1x8x2048 .f32) (y : S256x1024.Idx) :
    ∃ pc ∈ (kernelRun0_A c i arg3 harg3 arg4 harg4 arg5 harg5 arg6 harg6 arg7 harg7 arg8 harg8 arg9 harg9 x0 x1 x2).1, y ∈ pc.1.set :=
  View.cover_of_tiledL (kernelRun0_A c i arg3 harg3 arg4 harg4 arg5 harg5 arg6 harg6 arg7 harg7 arg8 harg8 arg9 harg9 x0 x1 x2).1 S256x1024.size (by sl_kernel_rfl) y

/-- What the run leaves in output 3's staging buffer: its pieces read back over junk. -/
def out0_A_3 (c : Dev nD) (i : grid0.Coords) (arg3 : Memref sig .tc .vmem S256x1024 .bf16) (harg3 : arg3.IsWhole) (arg4 : Memref sig .tc .vmem S2048x2048 .bf16) (harg4 : arg4.IsWhole) (arg5 : Memref sig .tc .vmem S1x8x2048 .f32) (harg5 : arg5.IsWhole) (arg6 : Memref sig .tc .vmem S256x1024 .bf16) (harg6 : arg6.IsWhole) (arg7 : Memref sig .tc .vmem S16x1x256 .f32) (harg7 : arg7.IsWhole) (arg8 : Memref sig .tc .vmem S16x80x256 .f32) (harg8 : arg8.IsWhole) (arg9 : Memref sig .tc .vmem S16x8x256 .f32) (harg9 : arg9.IsWhole)
    (x0 : Vec F S256x1024 .bf16) (x1 : Vec F S2048x2048 .bf16) (x2 : Vec F S1x8x2048 .f32) : Vec F S256x1024 .bf16 :=
  VO0_3.read (Elt F) (VO0_3.writes (Elt F) VO0_3.junk (kernelRun0_A c i arg3 harg3 arg4 harg4 arg5 harg5 arg6 harg6 arg7 harg7 arg8 harg8 arg9 harg9 x0 x1 x2).1)

/-! ## What the outputs hold after each point -/

/-- What the outputs' staging buffers hold after the body at point `t`: the run's contents at
    the point's memrefs and input blocks. -/
def outsAt0 (c : Dev nD) (t : Fin cfg0.N) : Vec F S256x1024 .bf16 :=
  out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  unfold outsAt0
  unfold out0_A_3
  iintro ⟨⟨⟨HS0, HS1, HS2⟩, Hg⟩, Ho, ⟨%d0, H0⟩, ⟨%d1, H1⟩, ⟨%d2, H2⟩, ⟨%d3, H3⟩⟩
  iapply ((kernelRun0_A c (grid0.coords t) _ _ _ _ _ _ _ _ _ _ _ _ _ _ (iblk m c 0 t) (iblk m c 1 t) (iblk m c 2 t)).2 Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  iintro ⟨H0, H1, H2, ⟨%e3, H3⟩, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0_A_3 c _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

/-! ## Blockwise: what each point writes back, and the final array block by block -/

/-- WHAT POINT `t` WRITES BACK to output window 3's array: the run's contents for that window after the body (`Gen.outsAt0`), read through the window's block. -/
theorem flushed3 (c : Dev nD) (t : Fin cfg0.N) :
    (dats m 0 c).flushed 3 t = (cfg0.win 3).cut (grid0.coords t) (outsAt0 m c t) := by
  show (cfg0.win 3).cut (grid0.coords t) ((dats m 0 c).after 3 t) = _
  rw [after0_3]

/-- … so at a point where case A runs, what its write-back would write is that case's NAMED TERM for the window (`Gen.out0_A_3`: the pieces
    its run found, read back) at the point's memrefs and input blocks, and for an output the case reads back what the point before left (`Gen.outsAt0` at `t - 1`) — the kernel's one case, `Gen.outsAt0` by definition. -/
theorem flushed3_A (c : Dev nD) (t : Fin cfg0.N) :
    (dats m 0 c).flushed 3 t = (cfg0.win 3).cut (grid0.coords t) (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t)) := by
  simp only [flushed3, outsAt0]

/-- The index map sends distinct grid points to distinct block indices (decided over the 64 points). -/
theorem idx_inj3 : ∀ t t' : Fin cfg0.N, win0_3.index t = win0_3.index t' → t = t' :=
  (by decide +kernel : ∀ t t' : Fin grid0.N, win0_3.index t = win0_3.index t' → t = t')

/-- So two flushing points' blocks share no array index (Lib/Pipeline/Cells.lean `Window.disjoint_blk`). -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- BLOCK `t` OF THE FINAL ARRAY, read back through the window, is what point `t` wrote back (`flushed3`), for every
    point that writes back: no other point's block meets it. -/
theorem blocks3 (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 disjoint3 cfg0.N t t.isLt hf

/-- An index that no flushing point's block covers keeps output window 3's array contents at region entry. -/
theorem entry3 (c : Dev nD) (i : S16384x1024.Idx) (h : ∀ t : Fin cfg0.N, (cfg0.win 3).flush t = true → i ∉ ((cfg0.win 3).blk t).view.set) :
    (dats m 0 c).arrAt 3 cfg0.N i = V m c (Pipeline.arrRef spec0 3) i := by
  rw [(dats m 0 c).arrAt_apply_of_forall_not_mem 3 cfg0.N i (fun t _ hf => h t hf), A_eq]

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v16) = (dats m 0 c).arrAt 3 cfg0.N :=
  (h c).1 3

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v16) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post3 m r h c,
      kept_main_arg0 m r h c,
      kept_main_arg1 m r h c,
      kept_main_arg2 m r h c⟩)
    (run_main m ρ)

end Cert.KernelIdeal.Run

end
-- ==== Proof.Ops.lean ====
/- One head of the attention kernel's body, as functions of the head's number: the scaled queries, the choice of
   blocks, the diagonal block, one trip of the loop over past blocks, and the quotient written out. -/
module

public import proofs.«01_k».proof.Proof.Run

@[expose] public section

set_option maxRecDepth 16384

noncomputable section

namespace Cert.KernelIdeal.Head

open Cert.KernelIdeal Cert.KernelIdeal.Gen
open Idealize.ShloMosaic Idealize.ShloMosaic.TcCoe

variable {F : FTy → Type} [FloatOps F] [Named F]

/-- The rows of one head lie within the transposed queries. -/
theorem slQ (h : Fin 16) : S1024x256.Slices ![64 * h.1, 0] S64x256 := by
  revert h; decide

/-- One row of the block scores lies within them. -/
theorem slRow (k : Fin 8) : S8x256.Slices ![k.1, 0] S1x256 := by
  revert k; decide

/-- The scaled queries of all heads, one head under the other. -/
def qT (x0 : Vec F S256x1024 .bf16) : FVec F S1024x256 .f32 :=
  transpose S1024x256 [1, 0]
    (mulf (extf .f32 (shapeCast S256x1024 x0 shapeCasts_S256x1024_S256x1024) bitsLt_bf16_f32)
      (broadcast S256x1024 (Named.named κ "q_scale" 0x3E38AA3B#32))) transposes_S256x1024_p1_0_S1024x256

/-- The scaled queries of head `h`, zeros below them. -/
def qP (h : Fin 16) (x0 : Vec F S256x1024 .bf16) : FVec F S128x256 .bf16 :=
  truncf .bf16 (concatenate S128x256 0
    [⟨S64x256, extractStridedSlice S64x256 ![64 * h.1, 0] (qT x0) (slQ h)⟩,
     ⟨S64x256, broadcast S64x256 (Scalar.ofBits .f32 0x00000000#32)⟩]
    concatenates_S64x256_S64x256_S128x256_d0) bitsLt_bf16_f32

/-- Which blocks lie before the query block. -/
def past (i : grid0.Coords) : IVec S8x256 1 :=
  cmpi .slt (iota .tc S8x256 32 [0] iota_S8x256_d0_w32) (broadcast S8x256 (BitVec.ofNat 32 (i 2).val))

/-- The block scores, minus infinity at the blocks that are not before the query block. -/
def adj (i : grid0.Coords) (km : Vec F S1x8x128 .f32) (q : FVec F S128x256 .bf16) : FVec F S8x256 .f32 :=
  select (past i)
    (matmul dot_S8x128_S128x256_S8x256_1_0_0_1_n_n none
      (truncf .bf16 (shapeCast S8x128 km shapeCasts_S1x8x128_S8x128) bitsLt_bf16_f32) q
      (constant S8x256 .f32 0x00000000#32))
    (broadcast S8x256 (Scalar.ofBits .f32 0xFF800000#32))

/-- Whether block `k` stands before each block in the order of the scores. -/
def beats (a : FVec F S8x256 .f32) (k : Fin 8) : IVec S8x256 1 :=
  ori (cmpf .ogt (broadcastTo S8x256 (extractStridedSlice S1x256 ![k.1, 0] a (slRow k)) broadcasts_S1x256_S8x256) a)
    (andi (cmpf .oeq (broadcastTo S8x256 (extractStridedSlice S1x256 ![k.1, 0] a (slRow k)) broadcasts_S1x256_S8x256) a)
      (cmpi .sgt (iota .tc S8x256 32 [0] iota_S8x256_d0_w32) (broadcast S8x256 (BitVec.ofNat 32 k.1))))

/-- How many of the first `n` blocks stand before each block. -/
def rankTo (a : FVec F S8x256 .f32) : (n : Nat) → n ≤ 8 → IVec S8x256 32
  | 0, _ => broadcast S8x256 0#32
  | n + 1, h => addi (rankTo a n (Nat.le_of_succ_le h)) (extui 32 (beats a ⟨n, h⟩) natLt_1_32)

/-- What is added to a block's scores: zero at a chosen block, the masked value elsewhere. -/
def selRow (i : grid0.Coords) (km : Vec F S1x8x128 .f32) (q : FVec F S128x256 .bf16) : FVec F S8x256 .f32 :=
  select (andi (past i) (cmpi .slt (rankTo (adj i km q) 8 le_rfl) (broadcast S8x256 3#32)))
    (broadcast S8x256 (Scalar.ofBits .f32 0x00000000#32))
    (broadcast S8x256 (Named.named κ "masked" 0xF149F2CA#32))

/-- The scores of the first half of the query block against the first half of the own block. -/
def scoreLo (kv : Vec F S256x128 .bf16) (q : FVec F S128x256 .bf16) : FVec F S128x128 .f32 :=
  addf (matmul dot_S128x128_S128x128_S128x128_1_0_0_1_n_n none
      (extractStridedSlice S128x128 ![0, 0] (shapeCast S256x128 kv shapeCasts_S256x128_S256x128) slices_S256x128_o0_0_S128x128)
      (extractStridedSlice S128x128 ![0, 0] q slices_S128x256_o0_0_S128x128)
      (constant S128x128 .f32 0x00000000#32))
    (select (cmpi .sle (iota .tc S128x128 32 [0] iota_S128x128_d0_w32)
        (addi (broadcast S128x128 0#32) (iota .tc S128x128 32 [1] iota_S128x128_d1_w32)))
      (broadcast S128x128 (Scalar.ofBits .f32 0x00000000#32))
      (broadcast S128x128 (Named.named κ "masked" 0xF149F2CA#32)))

/-- The scores of the second half of the query block against the own block. -/
def scoreHi (kv : Vec F S256x128 .bf16) (q : FVec F S128x256 .bf16) : FVec F S256x128 .f32 :=
  addf (matmul dot_S256x128_S128x128_S256x128_1_0_0_1_n_n none
      (shapeCast S256x128 kv shapeCasts_S256x128_S256x128)
      (extractStridedSlice S128x128 ![0, 128] q slices_S128x256_o0_128_S128x128)
      (constant S256x128 .f32 0x00000000#32))
    (select (cmpi .sle (iota .tc S256x128 32 [0] iota_S256x128_d0_w32)
        (addi (broadcast S256x128 128#32) (iota .tc S256x128 32 [1] iota_S256x128_d1_w32)))
      (broadcast S256x128 (Scalar.ofBits .f32 0x00000000#32))
      (broadcast S256x128 (Named.named κ "masked" 0xF149F2CA#32)))

/-- The largest score of each query of the first half, at least the floor. -/
def maxLo (s : FVec F S128x128 .f32) : FVec F S1x128 .f32 :=
  maximumf (shapeCast S1x128 (multiReduction .maximumf [0] S128 s 0xFF800000#32 reduces_S128x128_S128 (.inl rfl) rfl)
    shapeCasts_S128_S1x128) (broadcast S1x128 (Scalar.ofBits .f32 0xEFA18F08#32))

/-- The largest score of each query of the second half, at least the floor. -/
def maxHi (s : FVec F S256x128 .f32) : FVec F S1x128 .f32 :=
  maximumf (shapeCast S1x128 (multiReduction .maximumf [0] S128 s 0xFF800000#32 reduces_S256x128_S128 (.inl rfl) rfl)
    shapeCasts_S128_S1x128) (broadcast S1x128 (Scalar.ofBits .f32 0xEFA18F08#32))

/-- The running maximum after the own block. -/
def m0 (kv : Vec F S256x128 .bf16) (q : FVec F S128x256 .bf16) : FVec F S1x256 .f32 :=
  concatenate S1x256 1 [⟨S1x128, maxLo (scoreLo kv q)⟩, ⟨S1x128, maxHi (scoreHi kv q)⟩]
    concatenates_S1x128_S1x128_S1x256_d1

/-- The sums over the own block, first half of the queries. -/
def accLo (kv : Vec F S256x128 .bf16) (q : FVec F S128x256 .bf16) : FVec F S80x128 .f32 :=
  matmul dot_S80x128_S128x128_S80x128_1_0_0_1_n_n none
    (concatenate S80x128 0 [⟨S16x128, broadcast S16x128 (Scalar.ofBits .bf16 0x3F80#16)⟩,
      ⟨S64x128, extractStridedSlice S64x128 ![64, 0]
        (transpose S128x128 [1, 0] (extractStridedSlice S128x128 ![0, 0]
          (shapeCast S256x128 kv shapeCasts_S256x128_S256x128) slices_S256x128_o0_0_S128x128)
          transposes_S128x128_p1_0_S128x128) slices_S128x128_o64_0_S64x128⟩]
      concatenates_S16x128_S64x128_S80x128_d0)
    (truncf .bf16 (exp2 (subf (scoreLo kv q)
      (broadcastTo S128x128 (maxLo (scoreLo kv q)) broadcasts_S1x128_S128x128))) bitsLt_bf16_f32)
    (constant S80x128 .f32 0x00000000#32)

/-- The values of a block under sixteen rows of ones. -/
def onesV (kv : Vec F S256x128 .bf16) : FVec F S80x256 .bf16 :=
  concatenate S80x256 0 [⟨S16x256, broadcast S16x256 (Scalar.ofBits .bf16 0x3F80#16)⟩,
      ⟨S64x256, extractStridedSlice S64x256 ![64, 0]
        (transpose S128x256 [1, 0] (shapeCast S256x128 kv shapeCasts_S256x128_S256x128)
          transposes_S256x128_p1_0_S128x256) slices_S128x256_o64_0_S64x256⟩]
      concatenates_S16x256_S64x256_S80x256_d0

/-- The sums over the own block, second half of the queries. -/
def accHi (kv : Vec F S256x128 .bf16) (q : FVec F S128x256 .bf16) : FVec F S80x128 .f32 :=
  matmul dot_S80x256_S256x128_S80x128_1_0_0_1_n_n none (onesV kv)
    (truncf .bf16 (exp2 (subf (scoreHi kv q)
      (broadcastTo S256x128 (maxHi (scoreHi kv q)) broadcasts_S1x128_S256x128))) bitsLt_bf16_f32)
    (constant S80x128 .f32 0x00000000#32)

/-- The sums after the own block. -/
def acc0 (kv : Vec F S256x128 .bf16) (q : FVec F S128x256 .bf16) : FVec F S80x256 .f32 :=
  concatenate S80x256 1 [⟨S80x128, accLo kv q⟩, ⟨S80x128, accHi kv q⟩] concatenates_S80x128_S80x128_S80x256_d1

/-- The scores of the query block against a past block. -/
def scoreP (kv : Vec F S256x128 .bf16) (q : FVec F S128x256 .bf16) : FVec F S256x256 .f32 :=
  matmul dot_S256x128_S128x256_S256x256_1_0_0_1_n_n none (shapeCast S256x128 kv shapeCasts_S256x128_S256x128) q
    (constant S256x256 .f32 0x00000000#32)

/-- The running maximum after a past block. -/
def mStep (kv : Vec F S256x128 .bf16) (q : FVec F S128x256 .bf16) (row m : Vec F S1x1x256 .f32) : FVec F S1x256 .f32 :=
  maximumf (shapeCast S1x256 m shapeCasts_S1x1x256_S1x256)
    (shapeCast S1x256 (multiReduction .maximumf [0] S256
      (addf (multiReduction .maximumf [0] S8x256 (shapeCast S32x8x256 (scoreP kv q) shapeCasts_S256x256_S32x8x256)
          0xFF800000#32 reduces_S32x8x256_S8x256 (.inl rfl) rfl)
        (broadcastTo S8x256 (shapeCast S1x256 row shapeCasts_S1x1x256_S1x256) broadcasts_S1x256_S8x256))
      0xFF800000#32 reduces_S8x256_S256 (.inl rfl) rfl) shapeCasts_S256_S1x256)

/-- The sums after a past block. -/
def accStep (kv : Vec F S256x128 .bf16) (q : FVec F S128x256 .bf16) (row m : Vec F S1x1x256 .f32)
    (a : Vec F S1x80x256 .f32) : FVec F S80x256 .f32 :=
  addf (mulf (broadcastTo S80x256 (exp2 (subf (shapeCast S1x256 m shapeCasts_S1x1x256_S1x256) (mStep kv q row m)))
      broadcasts_S1x256_S80x256) (shapeCast S80x256 a shapeCasts_S1x80x256_S80x256))
    (matmul dot_S80x256_S256x256_S80x256_1_0_0_1_n_n none (onesV kv)
      (truncf .bf16 (exp2 (subf (scoreP kv q)
        (broadcastTo S256x256 (subf (mStep kv q row m) (shapeCast S1x256 row shapeCasts_S1x1x256_S1x256))
          broadcasts_S1x256_S256x256))) bitsLt_bf16_f32)
      (constant S80x256 .f32 0x00000000#32))

/-- The weighted values over the sum of the weights. -/
def quot (a : Vec F S1x80x256 .f32) : FVec F S64x256 .f32 :=
  divf (extractStridedSlice S64x256 ![16, 0] (shapeCast S80x256 a shapeCasts_S1x80x256_S80x256) slices_S80x256_o16_0_S64x256)
    (broadcastTo S64x256
      (select (cmpf .ogt (extractStridedSlice S1x256 ![0, 0] (shapeCast S80x256 a shapeCasts_S1x80x256_S80x256)
          slices_S80x256_o0_0_S1x256) (broadcast S1x256 (Scalar.ofBits .f32 0x00000000#32)))
        (extractStridedSlice S1x256 ![0, 0] (shapeCast S80x256 a shapeCasts_S1x80x256_S80x256) slices_S80x256_o0_0_S1x256)
        (broadcast S1x256 (Scalar.ofBits .f32 0x3F800000#32))) broadcasts_S1x256_S64x256)

/-- The block written out: the heads' quotients one under the other, turned round. -/
def outB (a : Fin 16 → Vec F S1x80x256 .f32) : FVec F S256x1024 .bf16 :=
  truncf .bf16 (transpose S256x1024 [1, 0] (concatenate S1024x256 0
    [⟨S64x256, quot (a 0)⟩, ⟨S64x256, quot (a 1)⟩, ⟨S64x256, quot (a 2)⟩, ⟨S64x256, quot (a 3)⟩,
     ⟨S64x256, quot (a 4)⟩, ⟨S64x256, quot (a 5)⟩, ⟨S64x256, quot (a 6)⟩, ⟨S64x256, quot (a 7)⟩,
     ⟨S64x256, quot (a 8)⟩, ⟨S64x256, quot (a 9)⟩, ⟨S64x256, quot (a 10)⟩, ⟨S64x256, quot (a 11)⟩,
     ⟨S64x256, quot (a 12)⟩, ⟨S64x256, quot (a 13)⟩, ⟨S64x256, quot (a 14)⟩, ⟨S64x256, quot (a 15)⟩]
    concatenates_S64x256_S64x256_S64x256_S64x256_S64x256_S64x256_S64x256_S64x256_S64x256_S64x256_S64x256_S64x256_S64x256_S64x256_S64x256_S64x256_S1024x256_d0) transposes_S1024x256_p1_0_S256x1024) bitsLt_bf16_f32

end Cert.KernelIdeal.Head

end
-- ==== Proof.Bridge.lean ====
/- The pieces that one grid point's run stores in its scratch buffers are those of `Ops.lean`, head by head. -/
module

public import proofs.«01_k».proof.Proof.Ops
public import Idealize.ShloMosaic.Lib.LoopRemainder

@[expose] public section

set_option maxRecDepth 65536

noncomputable section

namespace Cert.KernelIdeal.Head

open Cert.KernelIdeal Cert.KernelIdeal.Gen Cert.KernelIdeal.Run
open Idealize.ShloMosaic Idealize.ShloMosaic.TcCoe Idealize.ShloMosaic.Tactic

variable {F : FTy → Type} [FloatOps F] [Named F]

/-- One piece per head, the last head first. -/
def pcs {s : Shape} {e : EltTy} (R : Fin 16 → Rect s) (f : (h : Fin 16) → (R h).shape.Idx → Elt F e) :
    (n : Nat) → n ≤ 16 → List (View.Piece (Elt F) s e)
  | 0, _ => []
  | n + 1, hn => ⟨R ⟨n, hn⟩, f ⟨n, hn⟩⟩ :: pcs R f n (Nat.le_of_succ_le hn)

/-- The rows of head `h` in the buffer of the running maxima. -/
def RM (h : Fin 16) : Rect S16x1x256 := Rect.unit ![h.1, 0, 0] S1x1x256.size (by revert h; decide)
/-- The rows of head `h` in the buffer of the sums. -/
def RA (h : Fin 16) : Rect S16x80x256 := Rect.unit ![h.1, 0, 0] S1x80x256.size (by revert h; decide)
/-- The rows of head `h` in the buffer of the choices. -/
def RS (h : Fin 16) : Rect S16x8x256 := Rect.unit ![h.1, 0, 0] S1x8x256.size (by revert h; decide)
/-- The key means of head `h`. -/
def RK (h : Fin 16) : Rect S1x8x2048 := Rect.unit ![0, 0, 128 * h.1] S1x8x128.size (by revert h; decide)

/-- The whole query block. -/
abbrev RQ : Rect S256x1024 := Rect.unit ![0, 0] S256x1024.size inb_S256x1024_S256x1024_0_0

/-- The stored choices. -/
theorem hs2 (c : Dev nD) (i : grid0.Coords) (arg3 : Memref sig .tc .vmem S256x1024 .bf16) (harg3 : arg3.IsWhole)
    (arg5 : Memref sig .tc .vmem S1x8x2048 .f32) (harg5 : arg5.IsWhole)
    (x0 : Vec F S256x1024 .bf16) (x2 : Vec F S1x8x2048 .f32) :
    kernelRun0_A.sl.HS2_16 c i arg3 harg3 arg5 harg5 x0 x2
      = pcs RS (fun h => shapeCast S1x8x256 (selRow i
          (View.readAt (Elt F) arg5.view (RK h).toLoadRect (harg5.unread x2))
          (qP h (View.readAt (Elt F) arg3.view RQ.toLoadRect (harg3.unread x0)))) shapeCasts_S8x256_S1x8x256) 16 le_rfl := by
  rfl

/-- Where the own block of keys and values of head `h` starts. -/
def offD (i : grid0.Coords) (h : Fin 16) : Fin 2 → Nat :=
  ![(Scalar.indexCast (Scalar.muli (BitVec.ofNat 32 (i 2).val) 256#32)).toNat, 128 * h.1]

/-- Where the past block `k` of keys and values of head `h` starts. -/
def offP (i : grid0.Coords) (k : Fin (k0_t1_loop i).trips) (h : Fin 16) : Fin 2 → Nat :=
  ![(Scalar.indexCast (Scalar.muli (Scf.iv 0#32 1#32 k) 256#32)).toNat, 128 * h.1]

/-- Where the choice of block `k` of head `h` stands. -/
def offR (i : grid0.Coords) (k : Fin (k0_t1_loop i).trips) (h : Fin 16) : Fin 3 → Nat :=
  ![h.1, (Scalar.indexCast (Scf.iv 0#32 1#32 k)).toNat, 0]

theorem offD_inb (i : grid0.Coords) (h : Fin 16) : ∀ a, offD i h a + S256x128.size a ≤ S2048x2048.size a := by
  have h0 := k0_off1_inb i 0
  intro a
  match a with
  | 0 => exact h0
  | 1 => show 128 * h.1 + 128 ≤ 2048; omega

theorem offP_inb (i : grid0.Coords) (k : Fin (k0_t1_loop i).trips) (h : Fin 16) :
    ∀ a, offP i k h a + S256x128.size a ≤ S2048x2048.size a := by
  have h0 := k0_off17_inb i k 0
  intro a
  match a with
  | 0 => exact h0
  | 1 => show 128 * h.1 + 128 ≤ 2048; omega

theorem offR_inb (i : grid0.Coords) (k : Fin (k0_t1_loop i).trips) (h : Fin 16) :
    ∀ a, offR i k h a + S1x1x256.size a ≤ S16x8x256.size a := by
  have h0 := k0_off33_inb i k 1
  intro a
  match a with
  | 0 => show h.1 + 1 ≤ 16; omega
  | 1 => exact h0
  | 2 => exact le_refl 256

/-- The own block of keys and values of head `h`. -/
def RD (i : grid0.Coords) (h : Fin 16) : Rect S2048x2048 := Rect.unit (offD i h) S256x128.size (offD_inb i h)
/-- The past block `k` of keys and values of head `h`. -/
def RP (i : grid0.Coords) (k : Fin (k0_t1_loop i).trips) (h : Fin 16) : Rect S2048x2048 :=
  Rect.unit (offP i k h) S256x128.size (offP_inb i k h)
/-- The choice of block `k` of head `h`. -/
def RR (i : grid0.Coords) (k : Fin (k0_t1_loop i).trips) (h : Fin 16) : Rect S16x8x256 :=
  Rect.unit (offR i k h) S1x1x256.size (offR_inb i k h)

/-- The stored maxima of the own block. -/
theorem hs0 (c : Dev nD) (i : grid0.Coords) (arg3 : Memref sig .tc .vmem S256x1024 .bf16) (harg3 : arg3.IsWhole)
    (arg4 : Memref sig .tc .vmem S2048x2048 .bf16) (harg4 : arg4.IsWhole)
    (x0 : Vec F S256x1024 .bf16) (x1 : Vec F S2048x2048 .bf16) :
    kernelRun0_A.sl.HS0_16 c i arg3 harg3 arg4 harg4 x0 x1
      = pcs RM (fun h => shapeCast S1x1x256 (m0
          (View.readAt (Elt F) arg4.view (RD i h).toLoadRect (harg4.unread x1))
          (qP h (View.readAt (Elt F) arg3.view RQ.toLoadRect (harg3.unread x0)))) shapeCasts_S1x256_S1x1x256) 16 le_rfl := by
  rfl

/-- The stored sums of the own block. -/
theorem hs1 (c : Dev nD) (i : grid0.Coords) (arg3 : Memref sig .tc .vmem S256x1024 .bf16) (harg3 : arg3.IsWhole)
    (arg4 : Memref sig .tc .vmem S2048x2048 .bf16) (harg4 : arg4.IsWhole)
    (x0 : Vec F S256x1024 .bf16) (x1 : Vec F S2048x2048 .bf16) :
    kernelRun0_A.sl.HS1_16 c i arg3 harg3 arg4 harg4 x0 x1
      = pcs RA (fun h => shapeCast S1x80x256 (acc0
          (View.readAt (Elt F) arg4.view (RD i h).toLoadRect (harg4.unread x1))
          (qP h (View.readAt (Elt F) arg3.view RQ.toLoadRect (harg3.unread x0)))) shapeCasts_S80x256_S1x80x256) 16 le_rfl := by
  rfl

section Trip

variable (c : Dev nD) (i : grid0.Coords) (arg3 : Memref sig .tc .vmem S256x1024 .bf16) (harg3 : arg3.IsWhole)
  (arg4 : Memref sig .tc .vmem S2048x2048 .bf16) (harg4 : arg4.IsWhole)
  (arg5 : Memref sig .tc .vmem S1x8x2048 .f32) (harg5 : arg5.IsWhole)
  (arg6 : Memref sig .tc .vmem S256x1024 .bf16) (harg6 : arg6.IsWhole)
  (arg7 : Memref sig .tc .vmem S16x1x256 .f32) (harg7 : arg7.IsWhole)
  (arg8 : Memref sig .tc .vmem S16x80x256 .f32) (harg8 : arg8.IsWhole)
  (arg9 : Memref sig .tc .vmem S16x8x256 .f32) (harg9 : arg9.IsWhole)

/-- What one trip stores in the buffer of the maxima. -/
theorem trip7 (w : BitVec 32) (q : Fin 16 → FVec F S128x256 .bf16)
    (X4 : BufTy.Contents (Elt F) arg4.view.ty) (X9 : BufTy.Contents (Elt F) arg9.view.ty)
    (k : Fin (k0_t1_loop i).trips) (f7 : BufTy.Contents (Elt F) arg7.view.ty) (f8 : BufTy.Contents (Elt F) arg8.view.ty) :
    (tripL_k0_t1 Variants.none c none i arg3 harg3 arg4 harg4 arg5 harg5 arg6 harg6 arg7 harg7 arg8 harg8 arg9 harg9 w
      (q 0) (q 1) (q 2) (q 3) (q 4) (q 5) (q 6) (q 7) (q 8) (q 9) (q 10) (q 11) (q 12) (q 13) (q 14) (q 15)
      0#32 1#32 2#32 3#32 4#32 X4 X9 k f7 f8).1
      = pcs RM (fun h => shapeCast S1x1x256 (mStep
          (View.readAt (Elt F) arg4.view (RP i k h).toLoadRect X4) (q h)
          (View.readAt (Elt F) arg9.view (RR i k h).toLoadRect X9)
          (View.readAt (Elt F) arg7.view (RM h).toLoadRect f7)) shapeCasts_S1x256_S1x1x256) 16 le_rfl := by
  unfold tripL_k0_t1 trip_k0_t1
  rfl

/-- What one trip stores in the buffer of the sums. -/
theorem trip8 (w : BitVec 32) (q : Fin 16 → FVec F S128x256 .bf16)
    (X4 : BufTy.Contents (Elt F) arg4.view.ty) (X9 : BufTy.Contents (Elt F) arg9.view.ty)
    (k : Fin (k0_t1_loop i).trips) (f7 : BufTy.Contents (Elt F) arg7.view.ty) (f8 : BufTy.Contents (Elt F) arg8.view.ty) :
    (tripL_k0_t1 Variants.none c none i arg3 harg3 arg4 harg4 arg5 harg5 arg6 harg6 arg7 harg7 arg8 harg8 arg9 harg9 w
      (q 0) (q 1) (q 2) (q 3) (q 4) (q 5) (q 6) (q 7) (q 8) (q 9) (q 10) (q 11) (q 12) (q 13) (q 14) (q 15)
      0#32 1#32 2#32 3#32 4#32 X4 X9 k f7 f8).2
      = pcs RA (fun h => shapeCast S1x80x256 (accStep
          (View.readAt (Elt F) arg4.view (RP i k h).toLoadRect X4) (q h)
          (View.readAt (Elt F) arg9.view (RR i k h).toLoadRect X9)
          (View.readAt (Elt F) arg7.view (RM h).toLoadRect f7)
          (View.readAt (Elt F) arg8.view (RA h).toLoadRect f8)) shapeCasts_S80x256_S1x80x256) 16 le_rfl := by
  unfold tripL_k0_t1 trip_k0_t1
  rfl

variable (x0 : Vec F S256x1024 .bf16) (x1 : Vec F S2048x2048 .bf16) (x2 : Vec F S1x8x2048 .f32)

/-- The scaled queries of each head, read from the query block. -/
abbrev qR (h : Fin 16) : FVec F S128x256 .bf16 := qP h (View.readAt (Elt F) arg3.view RQ.toLoadRect (harg3.unread x0))

/-- The pieces that the trips before `k` stored. -/
abbrev pb (k : Nat) : List (View.Piece (Elt F) S16x1x256 .f32) × List (View.Piece (Elt F) S16x80x256 .f32) :=
  pb_k0_t1 Variants.none c none i arg3 harg3 arg4 harg4 arg5 harg5 arg6 harg6 arg7 harg7 arg8 harg8 arg9 harg9
    (BitVec.ofNat 32 (i 2).val)
    (qR arg3 harg3 x0 0) (qR arg3 harg3 x0 1) (qR arg3 harg3 x0 2) (qR arg3 harg3 x0 3) (qR arg3 harg3 x0 4)
    (qR arg3 harg3 x0 5) (qR arg3 harg3 x0 6) (qR arg3 harg3 x0 7) (qR arg3 harg3 x0 8) (qR arg3 harg3 x0 9)
    (qR arg3 harg3 x0 10) (qR arg3 harg3 x0 11) (qR arg3 harg3 x0 12) (qR arg3 harg3 x0 13) (qR arg3 harg3 x0 14)
    (qR arg3 harg3 x0 15) 0#32 1#32 2#32 3#32 4#32 (harg4.unread x1)
    (arg9.view.writes (Elt F) arg9.view.junk (kernelRun0_A.sl.HS2_16 c i arg3 harg3 arg5 harg5 x0 x2))
    (arg7.view.writes (Elt F) arg7.view.junk (kernelRun0_A.sl.HS0_16 c i arg3 harg3 arg4 harg4 x0 x1))
    (arg8.view.writes (Elt F) arg8.view.junk (kernelRun0_A.sl.HS1_16 c i arg3 harg3 arg4 harg4 x0 x1)) k

/-- The loop over what is left has no trip. -/
theorem rest_nil : (k0_t2_loop i).trips = 0 := Scf.rem_trips _ _

/-- The pieces that the first `k` trips of the loop over what is left stored. -/
abbrev pb' (w : BitVec 32) (G7 : BufTy.Contents (Elt F) arg7.view.ty) (G8 : BufTy.Contents (Elt F) arg8.view.ty) (k : Nat) :
    List (View.Piece (Elt F) S16x1x256 .f32) × List (View.Piece (Elt F) S16x80x256 .f32) :=
  pb_k0_t2 Variants.none c none i arg3 harg3 arg4 harg4 arg5 harg5 arg6 harg6 arg7 harg7 arg8 harg8 arg9 harg9
    (BitVec.ofNat 32 (i 2).val)
    (qR arg3 harg3 x0 0) (qR arg3 harg3 x0 1) (qR arg3 harg3 x0 2) (qR arg3 harg3 x0 3) (qR arg3 harg3 x0 4)
    (qR arg3 harg3 x0 5) (qR arg3 harg3 x0 6) (qR arg3 harg3 x0 7) (qR arg3 harg3 x0 8) (qR arg3 harg3 x0 9)
    (qR arg3 harg3 x0 10) (qR arg3 harg3 x0 11) (qR arg3 harg3 x0 12) (qR arg3 harg3 x0 13) (qR arg3 harg3 x0 14)
    (qR arg3 harg3 x0 15) 0#32 1#32 2#32 3#32 4#32 w (harg4.unread x1)
    (arg9.view.writes (Elt F) arg9.view.junk (kernelRun0_A.sl.HS2_16 c i arg3 harg3 arg5 harg5 x0 x2)) G7 G8 k

set_option maxHeartbeats 4000000 in
/-- What the run stores in the output block, the loop over what is left still in it. -/
theorem run_out' : ∃ G7 G8,
    (kernelRun0_A c i arg3 harg3 arg4 harg4 arg5 harg5 arg6 harg6 arg7 harg7 arg8 harg8 arg9 harg9 x0 x1 x2).1
      = [⟨RQ, outB fun h => arg8.view.readCov
          ((pb' c i arg3 harg3 arg4 harg4 arg5 harg5 arg6 harg6 arg7 harg7 arg8 harg8 arg9 harg9 x0 x1 x2
              (kernelRun0_A.sl.v2464 i) G7 G8 (k0_t2_loop i).trips).2 ++
          ((pb c i arg3 harg3 arg4 harg4 arg5 harg5 arg6 harg6 arg7 harg7 arg8 harg8 arg9 harg9 x0 x1 x2
              (k0_t1_loop i).trips).2 ++ kernelRun0_A.sl.HS1_16 c i arg3 harg3 arg4 harg4 x0 x1))
          (RA h).toLoadRect⟩] :=
  ⟨arg7.view.writes (Elt F) arg7.view.junk
      ((pb c i arg3 harg3 arg4 harg4 arg5 harg5 arg6 harg6 arg7 harg7 arg8 harg8 arg9 harg9 x0 x1 x2
          (k0_t1_loop i).trips).1 ++ kernelRun0_A.sl.HS0_16 c i arg3 harg3 arg4 harg4 x0 x1),
    arg8.view.writes (Elt F) arg8.view.junk
      ((pb c i arg3 harg3 arg4 harg4 arg5 harg5 arg6 harg6 arg7 harg7 arg8 harg8 arg9 harg9 x0 x1 x2
          (k0_t1_loop i).trips).2 ++ kernelRun0_A.sl.HS1_16 c i arg3 harg3 arg4 harg4 x0 x1), by
    unfold kernelRun0_A; rfl⟩

/-- What the run stores in the output block. -/
theorem run_out :
    (kernelRun0_A c i arg3 harg3 arg4 harg4 arg5 harg5 arg6 harg6 arg7 harg7 arg8 harg8 arg9 harg9 x0 x1 x2).1
      = [⟨RQ, outB fun h => arg8.view.readCov
          ((pb c i arg3 harg3 arg4 harg4 arg5 harg5 arg6 harg6 arg7 harg7 arg8 harg8 arg9 harg9 x0 x1 x2
              (k0_t1_loop i).trips).2 ++ kernelRun0_A.sl.HS1_16 c i arg3 harg3 arg4 harg4 x0 x1)
          (RA h).toLoadRect⟩] := by
  obtain ⟨G7, G8, h⟩ := run_out' c i arg3 harg3 arg4 harg4 arg5 harg5 arg6 harg6 arg7 harg7 arg8 harg8 arg9 harg9 x0 x1 x2
  rw [h, rest_nil i]
  rfl

end Trip

end Cert.KernelIdeal.Head

end
-- ==== Proof.Loop.lean ====
/- The scratch buffers through one grid point's loop: after `k` trips the rows of head `h` hold the `k`-th state of that
   head, a plain recursion over the blocks before the query block. -/
module

public import proofs.«01_k».proof.Proof.Bridge
public import Idealize.ShloMosaic.Lib.WholeRead
public import Idealize.ShloMosaic.Lib.ValueLayout

@[expose] public section

set_option maxRecDepth 65536

noncomputable section

namespace Cert.KernelIdeal.Head

open Cert.KernelIdeal Cert.KernelIdeal.Gen Cert.KernelIdeal.Run
open Idealize.ShloMosaic Idealize.ShloMosaic.TcCoe Idealize.ShloMosaic.Tactic Idealize.ShloMosaic.ValueIdx

variable {F : FTy → Type} [FloatOps F] [Named F]

/-- One piece per head, each on its own rows: what is read on the rows of head `h` is that head's piece. -/
theorem readAt_pcs {s : Shape} {e : EltTy} {κ : Kind} {sp : Space} (v : View sig κ sp s e) (f : v.ty.Contents (Elt F))
    (R : Fin 16 → Rect s) (g : (h : Fin 16) → (R h).shape.Idx → Elt F e) (a : Fin s.rank)
    (ho : ∀ h, (R h).off a = h.1) (hst : ∀ h, (R h).stride a = 1) (hsz : ∀ h, (R h).size a = 1)
    (h : Fin 16) (x : (R h).shape.Idx) :
    ∀ (n : Nat) (hn : n ≤ 16), h.1 < n →
      v.read (Elt F) (v.writes (Elt F) f (pcs R g n hn)) ((R h).emb x) = g h x
  | 0, _, hlt => absurd hlt (Nat.not_lt_zero _)
  | n + 1, hn, hlt => by
    by_cases hc : h.1 = n
    · have hh : (⟨n, hn⟩ : Fin 16) = h := Fin.ext hc.symm
      unfold pcs
      rw [hh]
      exact View.read_writes_cons_emb v f (R h) (g h) _ x
    · have hlt' : h.1 < n := by omega
      have hx : (x a).val = 0 := by
        have h1 : (x a).val < (R h).size a := (x a).isLt
        rw [hsz h] at h1; omega
      unfold pcs
      rw [View.read_writes_cons_miss_of_axis v f _ _ _ a n 1 (ho ⟨n, hn⟩) (hst ⟨n, hn⟩) (hsz ⟨n, hn⟩)
        (Or.inl (by rw [Rect.emb_apply, ho h, hx]; simpa using hlt'))]
      exact readAt_pcs v f R g a ho hst hsz h x n (Nat.le_of_succ_le hn) hlt'

/-- The block of keys and values number `n` of head `h`. -/
def kvB (x1 : Vec F S2048x2048 .bf16) (n : Fin 8) (h : Fin 16) : Vec F S256x128 .bf16 :=
  fun x => x1 (ix2 (⟨256 * n.1 + (x 0).val, by have := (x 0).isLt; have : (x 0).val < 256 := this; omega⟩ : Fin 2048)
    (⟨128 * h.1 + (x 1).val, by have := (x 1).isLt; have : (x 1).val < 128 := this; omega⟩ : Fin 2048))

/-- The key means of head `h`. -/
def kmB (x2 : Vec F S1x8x2048 .f32) (h : Fin 16) : Vec F S1x8x128 .f32 :=
  fun x => x2 (ix3 (x 0 : Fin 1) (x 1 : Fin 8)
    (⟨128 * h.1 + (x 2).val, by have := (x 2).isLt; have : (x 2).val < 128 := this; omega⟩ : Fin 2048))

/-- A block number. -/
def blk (k : Nat) : Fin 8 := ⟨k % 8, Nat.mod_lt _ (by decide)⟩

/-- The choice of block `n` of head `h`. -/
def rowB (i : grid0.Coords) (x0 : Vec F S256x1024 .bf16) (x2 : Vec F S1x8x2048 .f32) (h : Fin 16) (n : Fin 8) :
    Vec F S1x1x256 .f32 :=
  fun x => selRow i (kmB x2 h) (qP h x0) (ix2 n (x 2 : Fin 256))

/-- The running maxima of head `h` after `k` trips. -/
def mS (i : grid0.Coords) (x0 : Vec F S256x1024 .bf16) (x1 : Vec F S2048x2048 .bf16) (x2 : Vec F S1x8x2048 .f32)
    (h : Fin 16) : Nat → Vec F S1x1x256 .f32
  | 0 => shapeCast S1x1x256 (m0 (kvB x1 (i 2) h) (qP h x0)) shapeCasts_S1x256_S1x1x256
  | k + 1 => shapeCast S1x1x256 (mStep (kvB x1 (blk k) h) (qP h x0) (rowB i x0 x2 h (blk k)) (mS i x0 x1 x2 h k))
      shapeCasts_S1x256_S1x1x256

/-- The running sums of head `h` after `k` trips. -/
def aS (i : grid0.Coords) (x0 : Vec F S256x1024 .bf16) (x1 : Vec F S2048x2048 .bf16) (x2 : Vec F S1x8x2048 .f32)
    (h : Fin 16) : Nat → Vec F S1x80x256 .f32
  | 0 => shapeCast S1x80x256 (acc0 (kvB x1 (i 2) h) (qP h x0)) shapeCasts_S80x256_S1x80x256
  | k + 1 => shapeCast S1x80x256 (accStep (kvB x1 (blk k) h) (qP h x0) (rowB i x0 x2 h (blk k)) (mS i x0 x1 x2 h k)
      (aS i x0 x1 x2 h k)) shapeCasts_S80x256_S1x80x256

/-- The loop makes one trip per block before the query block. -/
theorem trips_eq (i : grid0.Coords) : (k0_t1_loop i).trips = (i 2).val := by
  have h : ∀ w : Fin 8, Scf.trips 0#32 (Scalar.addi 0#32 (Scalar.muli (Scalar.divsi (Scalar.subi (BitVec.ofNat 32 w.val) 0#32) 1#32) 1#32)) 1#32
      = w.val := by decide
  exact h (i 2)

section Reads

variable (i : grid0.Coords)

theorem read_RQ (arg3 : Memref sig .tc .vmem S256x1024 .bf16) (harg3 : arg3.IsWhole) (x0 : Vec F S256x1024 .bf16) :
    View.readAt (Elt F) arg3.view RQ.toLoadRect (harg3.unread x0) = x0 := by
  funext x
  rw [Memref.IsWhole.readAt_unread]
  congr 1
  funext a
  apply Fin.ext
  match a with
  | 0 => show 0 + 1 * (x 0).val = _; omega
  | 1 => show 0 + 1 * (x 1).val = _; omega

theorem read_RD (arg4 : Memref sig .tc .vmem S2048x2048 .bf16) (harg4 : arg4.IsWhole) (x1 : Vec F S2048x2048 .bf16)
    (h : Fin 16) : View.readAt (Elt F) arg4.view (RD i h).toLoadRect (harg4.unread x1) = kvB x1 (i 2) h := by
  have hw : ∀ w : Fin 8, (Scalar.indexCast (Scalar.muli (BitVec.ofNat 32 w.val) 256#32)).toNat = 256 * w.val := by decide
  funext x
  rw [Memref.IsWhole.readAt_unread]
  unfold kvB
  congr 1
  funext a
  apply Fin.ext
  match a with
  | 0 =>
    show (Scalar.indexCast (Scalar.muli (BitVec.ofNat 32 (i 2).val) 256#32)).toNat + 1 * (x 0).val = 256 * (i 2).val + (x 0).val
    rw [hw (i 2)]; omega
  | 1 => show 128 * h.1 + 1 * (x 1).val = 128 * h.1 + (x 1).val; omega

theorem iv_val (k : Fin (k0_t1_loop i).trips) : k.val < 8 ∧ (Scalar.indexCast (Scf.iv 0#32 1#32 k)).toNat = k.val
    ∧ (Scalar.indexCast (Scalar.muli (Scf.iv 0#32 1#32 k) 256#32)).toNat = 256 * k.val := by
  have hk : k.val < 8 := by exact lt_of_lt_of_le (lt_of_lt_of_eq k.isLt (trips_eq i)) (le_of_lt (i 2).isLt)
  have hw : ∀ w : Fin 8, (Scalar.indexCast (Scf.iv 0#32 1#32 w.val)).toNat = w.val
    ∧ (Scalar.indexCast (Scalar.muli (Scf.iv 0#32 1#32 w.val) 256#32)).toNat = 256 * w.val := by decide
  exact ⟨hk, hw ⟨k.val, hk⟩⟩

theorem blk_val (k : Fin (k0_t1_loop i).trips) : (blk k.val).val = k.val := Nat.mod_eq_of_lt (iv_val i k).1

theorem read_RP (arg4 : Memref sig .tc .vmem S2048x2048 .bf16) (harg4 : arg4.IsWhole) (x1 : Vec F S2048x2048 .bf16)
    (k : Fin (k0_t1_loop i).trips) (h : Fin 16) :
    View.readAt (Elt F) arg4.view (RP i k h).toLoadRect (harg4.unread x1) = kvB x1 (blk k) h := by
  funext x
  rw [Memref.IsWhole.readAt_unread]
  unfold kvB
  congr 1
  funext a
  apply Fin.ext
  match a with
  | 0 =>
    show (Scalar.indexCast (Scalar.muli (Scf.iv 0#32 1#32 k) 256#32)).toNat + 1 * (x 0).val = 256 * (blk k).val + (x 0).val
    rw [(iv_val i k).2.2, blk_val]; omega
  | 1 => show 128 * h.1 + 1 * (x 1).val = 128 * h.1 + (x 1).val; omega

theorem read_RK (arg5 : Memref sig .tc .vmem S1x8x2048 .f32) (harg5 : arg5.IsWhole) (x2 : Vec F S1x8x2048 .f32) (h : Fin 16) :
    View.readAt (Elt F) arg5.view (RK h).toLoadRect (harg5.unread x2) = kmB x2 h := by
  funext x
  rw [Memref.IsWhole.readAt_unread]
  unfold kmB
  congr 1
  funext a
  apply Fin.ext
  match a with
  | 0 => show 0 + 1 * (x 0).val = (x 0).val; omega
  | 1 => show 0 + 1 * (x 1).val = (x 1).val; omega
  | 2 => show 128 * h.1 + 1 * (x 2).val = 128 * h.1 + (x 2).val; omega

/-- A head's piece of the choices, read back. -/
theorem read_RS (arg9 : Memref sig .tc .vmem S16x8x256 .f32) (f : arg9.view.ty.Contents (Elt F))
    (g : Fin 16 → Vec F S1x8x256 .f32) (h : Fin 16) (x : S1x8x256.Idx) :
    arg9.view.read (Elt F) (arg9.view.writes (Elt F) f (pcs RS g 16 le_rfl)) ((RS h).emb x) = g h x :=
  readAt_pcs arg9.view f RS g 0 (fun _ => rfl) (fun _ => rfl) (fun _ => rfl) h x 16 le_rfl h.2

/-- The choices stored, read back where a trip reads them. -/
theorem read_RR (c : Dev nD) (arg3 : Memref sig .tc .vmem S256x1024 .bf16) (harg3 : arg3.IsWhole)
    (arg5 : Memref sig .tc .vmem S1x8x2048 .f32) (harg5 : arg5.IsWhole)
    (arg9 : Memref sig .tc .vmem S16x8x256 .f32)
    (x0 : Vec F S256x1024 .bf16) (x2 : Vec F S1x8x2048 .f32) (k : Fin (k0_t1_loop i).trips) (h : Fin 16) :
    View.readAt (Elt F) arg9.view (RR i k h).toLoadRect (arg9.view.writes (Elt F) arg9.view.junk
      (kernelRun0_A.sl.HS2_16 c i arg3 harg3 arg5 harg5 x0 x2)) = rowB i x0 x2 h (blk k) := by
  rw [hs2, read_RQ]
  funext x
  rw [View.readAt_eq_ld]
  have hx : (RR i k h).emb x = (RS h).emb (ix3 (0 : Fin 1) (blk k) (x 2 : Fin 256)) := by
    funext a
    apply Fin.ext
    match a with
    | 0 =>
      have h1 : (x 0).val = 0 := by have : (x 0).val < 1 := (x 0).isLt; omega
      show h.1 + 1 * (x 0).val = h.1 + 1 * 0
      omega
    | 1 =>
      have h1 : (x 1).val = 0 := by have : (x 1).val < 1 := (x 1).isLt; omega
      show (Scalar.indexCast (Scf.iv 0#32 1#32 k)).toNat + 1 * (x 1).val = 0 + 1 * (blk k).val
      rw [(iv_val i k).2.1, blk_val]; omega
    | 2 => rfl
  refine (congrArg (arg9.view.read (Elt F) _) hx).trans ?_
  refine (read_RS arg9 _ _ h _).trans ?_
  rw [read_RK]
  exact shapeCast_ab_1ab_apply _ _ _ _ _

end Reads

section State

variable (c : Dev nD) (i : grid0.Coords) (arg3 : Memref sig .tc .vmem S256x1024 .bf16) (harg3 : arg3.IsWhole)
  (arg4 : Memref sig .tc .vmem S2048x2048 .bf16) (harg4 : arg4.IsWhole)
  (arg5 : Memref sig .tc .vmem S1x8x2048 .f32) (harg5 : arg5.IsWhole)
  (arg6 : Memref sig .tc .vmem S256x1024 .bf16) (harg6 : arg6.IsWhole)
  (arg7 : Memref sig .tc .vmem S16x1x256 .f32) (harg7 : arg7.IsWhole)
  (arg8 : Memref sig .tc .vmem S16x80x256 .f32) (harg8 : arg8.IsWhole)
  (arg9 : Memref sig .tc .vmem S16x8x256 .f32) (harg9 : arg9.IsWhole)
  (x0 : Vec F S256x1024 .bf16) (x1 : Vec F S2048x2048 .bf16) (x2 : Vec F S1x8x2048 .f32)

/-- A head's piece of the maxima, read back. -/
theorem read_RM (f : arg7.view.ty.Contents (Elt F)) (g : Fin 16 → Vec F S1x1x256 .f32) (h : Fin 16) :
    View.readAt (Elt F) arg7.view (RM h).toLoadRect (arg7.view.writes (Elt F) f (pcs RM g 16 le_rfl)) = g h :=
  funext fun x => readAt_pcs arg7.view f RM g 0 (fun _ => rfl) (fun _ => rfl) (fun _ => rfl) h x 16 le_rfl h.2

/-- A head's piece of the sums, read back. -/
theorem read_RA (f : arg8.view.ty.Contents (Elt F)) (g : Fin 16 → Vec F S1x80x256 .f32) (h : Fin 16) :
    View.readAt (Elt F) arg8.view (RA h).toLoadRect (arg8.view.writes (Elt F) f (pcs RA g 16 le_rfl)) = g h :=
  funext fun x => readAt_pcs arg8.view f RA g 0 (fun _ => rfl) (fun _ => rfl) (fun _ => rfl) h x 16 le_rfl h.2

/-- The pieces of one more trip. -/
theorem pb_succ (k : Fin (k0_t1_loop i).trips) :
    pb c i arg3 harg3 arg4 harg4 arg5 harg5 arg6 harg6 arg7 harg7 arg8 harg8 arg9 harg9 x0 x1 x2 (k.val + 1)
      = (pcs RM (fun h => shapeCast S1x1x256 (mStep
          (View.readAt (Elt F) arg4.view (RP i k h).toLoadRect (harg4.unread x1)) (qR arg3 harg3 x0 h)
          (View.readAt (Elt F) arg9.view (RR i k h).toLoadRect (arg9.view.writes (Elt F) arg9.view.junk
            (kernelRun0_A.sl.HS2_16 c i arg3 harg3 arg5 harg5 x0 x2)))
          (View.readAt (Elt F) arg7.view (RM h).toLoadRect (arg7.view.writes (Elt F)
            (arg7.view.writes (Elt F) arg7.view.junk (kernelRun0_A.sl.HS0_16 c i arg3 harg3 arg4 harg4 x0 x1))
            (pb c i arg3 harg3 arg4 harg4 arg5 harg5 arg6 harg6 arg7 harg7 arg8 harg8 arg9 harg9 x0 x1 x2 k.val).1)))
          shapeCasts_S1x256_S1x1x256) 16 le_rfl
          ++ (pb c i arg3 harg3 arg4 harg4 arg5 harg5 arg6 harg6 arg7 harg7 arg8 harg8 arg9 harg9 x0 x1 x2 k.val).1,
        pcs RA (fun h => shapeCast S1x80x256 (accStep
          (View.readAt (Elt F) arg4.view (RP i k h).toLoadRect (harg4.unread x1)) (qR arg3 harg3 x0 h)
          (View.readAt (Elt F) arg9.view (RR i k h).toLoadRect (arg9.view.writes (Elt F) arg9.view.junk
            (kernelRun0_A.sl.HS2_16 c i arg3 harg3 arg5 harg5 x0 x2)))
          (View.readAt (Elt F) arg7.view (RM h).toLoadRect (arg7.view.writes (Elt F)
            (arg7.view.writes (Elt F) arg7.view.junk (kernelRun0_A.sl.HS0_16 c i arg3 harg3 arg4 harg4 x0 x1))
            (pb c i arg3 harg3 arg4 harg4 arg5 harg5 arg6 harg6 arg7 harg7 arg8 harg8 arg9 harg9 x0 x1 x2 k.val).1))
          (View.readAt (Elt F) arg8.view (RA h).toLoadRect (arg8.view.writes (Elt F)
            (arg8.view.writes (Elt F) arg8.view.junk (kernelRun0_A.sl.HS1_16 c i arg3 harg3 arg4 harg4 x0 x1))
            (pb c i arg3 harg3 arg4 harg4 arg5 harg5 arg6 harg6 arg7 harg7 arg8 harg8 arg9 harg9 x0 x1 x2 k.val).2)))
          shapeCasts_S80x256_S1x80x256) 16 le_rfl
          ++ (pb c i arg3 harg3 arg4 harg4 arg5 harg5 arg6 harg6 arg7 harg7 arg8 harg8 arg9 harg9 x0 x1 x2 k.val).2) :=
  (pb_k0_t1_succ Variants.none c none i arg3 harg3 arg4 harg4 arg5 harg5 arg6 harg6 arg7 harg7 arg8 harg8
      arg9 harg9 _ _ _ _ _ _ _ _ _ _ _ _ _ _ _ _ _ _ _ _ _ _ _ _ _ _ k).trans
    (congrArg₂ Prod.mk (congrArg (· ++ _) (trip7 c i arg3 harg3 arg4 harg4 arg5 harg5 arg6 harg6 arg7 harg7 arg8 harg8
        arg9 harg9 (BitVec.ofNat 32 (i 2).val) (qR arg3 harg3 x0) _ _ k _ _))
      (congrArg (· ++ _) (trip8 c i arg3 harg3 arg4 harg4 arg5 harg5 arg6 harg6 arg7 harg7 arg8 harg8
        arg9 harg9 (BitVec.ofNat 32 (i 2).val) (qR arg3 harg3 x0) _ _ k _ _)))

/-- After `k` trips the buffers hold the heads' `k`-th states. -/
theorem state (k : Nat) (hk : k ≤ (k0_t1_loop i).trips) :
    (∀ h, View.readAt (Elt F) arg7.view (RM h).toLoadRect (arg7.view.writes (Elt F)
        (arg7.view.writes (Elt F) arg7.view.junk (kernelRun0_A.sl.HS0_16 c i arg3 harg3 arg4 harg4 x0 x1))
        (pb c i arg3 harg3 arg4 harg4 arg5 harg5 arg6 harg6 arg7 harg7 arg8 harg8 arg9 harg9 x0 x1 x2 k).1)
        = mS i x0 x1 x2 h k) ∧
    (∀ h, View.readAt (Elt F) arg8.view (RA h).toLoadRect (arg8.view.writes (Elt F)
        (arg8.view.writes (Elt F) arg8.view.junk (kernelRun0_A.sl.HS1_16 c i arg3 harg3 arg4 harg4 x0 x1))
        (pb c i arg3 harg3 arg4 harg4 arg5 harg5 arg6 harg6 arg7 harg7 arg8 harg8 arg9 harg9 x0 x1 x2 k).2)
        = aS i x0 x1 x2 h k) := by
  induction k with
  | zero =>
    have h0 : pb c i arg3 harg3 arg4 harg4 arg5 harg5 arg6 harg6 arg7 harg7 arg8 harg8 arg9 harg9 x0 x1 x2 0
        = ([], []) := pb_k0_t1.eq_1 ..
    rw [h0]
    constructor
    · intro h
      rw [View.writes_nil, hs0, read_RM, read_RQ, read_RD]
      rfl
    · intro h
      rw [View.writes_nil, hs1, read_RA, read_RQ, read_RD]
      rfl
  | succ k ih =>
    obtain ⟨ih7, ih8⟩ := ih (Nat.le_of_succ_le hk)
    have hs := pb_succ c i arg3 harg3 arg4 harg4 arg5 harg5 arg6 harg6 arg7 harg7 arg8 harg8 arg9 harg9 x0 x1 x2 ⟨k, hk⟩
    have hq : ∀ h, qR arg3 harg3 x0 h = qP h x0 := fun h => congrArg (qP h) (read_RQ arg3 harg3 x0)
    rw [hs]
    constructor
    · intro h
      rw [View.writes_append, read_RM, read_RP, read_RR, ih7, hq]
      rfl
    · intro h
      rw [View.writes_append, read_RA, read_RP, read_RR, ih7, ih8, hq]
      rfl

/-- What one grid point writes: the quotients of the heads' final states. -/
theorem out_eq : out0_A_3 c i arg3 harg3 arg4 harg4 arg5 harg5 arg6 harg6 arg7 harg7 arg8 harg8 arg9 harg9 x0 x1 x2
    = outB fun h => aS i x0 x1 x2 h (i 2).val := by
  have hst := (state c i arg3 harg3 arg4 harg4 arg5 harg5 arg6 harg6 arg7 harg7 arg8 harg8 arg9 harg9 x0 x1 x2 _ le_rfl).2
  unfold out0_A_3
  rw [run_out]
  have hz : ∀ a : Fin S256x1024.rank, (![0, 0] : Fin 2 → Nat) a = 0 := by intro a; fin_cases a <;> rfl
  have ho : (fun h => arg8.view.readCov
      ((pb c i arg3 harg3 arg4 harg4 arg5 harg5 arg6 harg6 arg7 harg7 arg8 harg8 arg9 harg9 x0 x1 x2
          (k0_t1_loop i).trips).2 ++ kernelRun0_A.sl.HS1_16 c i arg3 harg3 arg4 harg4 x0 x1)
      (RA h).toLoadRect) = fun h => aS i x0 x1 x2 h (i 2).val := by
    funext h
    rw [← trips_eq i, ← hst h, View.readCov, View.writes_append]
  rw [ho]
  funext x
  have hx : RQ.emb x = x := by
    funext a
    apply Fin.ext
    match a with
    | 0 => show 0 + 1 * (x 0).val = _; omega
    | 1 => show 0 + 1 * (x 1).val = _; omega
  exact View.read_writes_cons_hit VO0_3 _ RQ _ [] x x hx

end State

end Cert.KernelIdeal.Head

end
-- ==== Proof.Val.lean ====
/- One head of the attention kernel over the extended reals: what each operation of `Ops.lean` holds at an index when
   the queries, keys, values and key means are real numbers. -/
module

public import proofs.«01_k».proof.Proof.Loop
public import Idealize.ShloMosaic.Lib.MatmulPlain
public import Idealize.ShloMosaic.Lib.IdealHost
public import Idealize.ShloMosaic.Lib.WordCmp
public import Idealize.ShloMosaic.Lib.ValueIdx

@[expose] public section

set_option maxRecDepth 16384

noncomputable section

namespace Cert.KernelIdeal.Head

open Cert.KernelIdeal Cert.KernelIdeal.Gen Cert.KernelIdeal.Run
open Idealize.ShloMosaic Idealize.ShloMosaic.TcCoe Idealize.ShloMosaic.ValueIdx Idealize.ShloMosaic.WordCmp

/-- The factor on the queries. -/
def qC : ℝ := 8⁻¹ * (Real.log 2)⁻¹

theorem named_q : Named.named (F := Ideal) (φ := .f32) κ "q_scale" 0x3E38AA3B#32 = ((qC : ℝ) : EReal) := rfl
theorem named_m : Named.named (F := Ideal) (φ := .f32) κ "masked" 0xF149F2CA#32 = (⊥ : EReal) := rfl

/-- The lane of a key's coordinate. -/
def lo (d : Fin 64) : Fin 128 := ⟨d.1, by omega⟩
/-- The lane of a value's coordinate. -/
def hi (d : Fin 64) : Fin 128 := ⟨64 + d.1, by omega⟩

/-- A select on a comparison. -/
theorem sel_dec {α : Type} (P : Prop) [Decidable P] (a b : α) :
    Scalar.select (BitVec.ofBool (decide P)) a b = if P then a else b := by
  by_cases h : P <;> simp [Scalar.select, h]

/-- A finite sum of reals, taken in the extended reals. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A contraction over the 128 lanes whose second factor is zero on the values' lanes. -/
theorem dot128 (A B : Fin 128 → EReal) (a b w : Fin 64 → ℝ) (hA : ∀ d, A (lo d) = (a d : EReal))
    (hA' : ∀ d, A (hi d) = (w d : EReal)) (hB : ∀ d, B (lo d) = (b d : EReal)) (hB' : ∀ d, B (hi d) = 0) :
    ∑ k, A k * B k = ((∑ d, a d * b d : ℝ) : EReal) := by
  have h := Fin.sum_univ_add (a := 64) (b := 64) (fun k => A k * B k)
  have e1 : ∀ d : Fin 64, A (Fin.castAdd 64 d) * B (Fin.castAdd 64 d) = ((a d * b d : ℝ) : EReal) := fun d => by
    rw [EReal.coe_mul, ← hA d, ← hB d]; rfl
  have e2 : ∀ d : Fin 64, A (Fin.natAdd 64 d) * B (Fin.natAdd 64 d) = 0 := fun d =>
    (congrArg (A (hi d) * ·) (hB' d)).trans (mul_zero _)
  refine h.trans ?_
  simp only [e1, e2, Finset.sum_const_zero, add_zero]
  exact coe_sum _ _

/-- The scaled queries at an index. -/
theorem qT_apply (x0 : Vec Ideal S256x1024 .bf16) (c : Fin 1024) (p : Fin 256) :
    qT x0 (ix2 c p) = x0 (ix2 p c) * (qC : EReal) := by
  unfold qT
  rw [transpose_ix2_apply, mulf_apply, extf_apply, shapeCast_self, broadcast_apply, named_q]

/-- The lane of coordinate `d` of head `h` among all heads' queries. -/
def hd (h : Fin 16) (d : Fin 64) : Fin 1024 := ⟨64 * h.1 + d.1, by omega⟩

/-- The padded queries of a head at a key lane. -/
theorem qP_lo (h : Fin 16) (x0 : Vec Ideal S256x1024 .bf16) (d : Fin 64) (p : Fin 256) :
    qP h x0 (ix2 (lo d) p) = x0 (ix2 p (hd h d)) * (qC : EReal) := by
  unfold qP
  rw [truncf_apply, concatenate_pair_apply_left (s₁ := S64x256) (s₂ := S64x256) (t := S128x256) 0 _ _ _ _ rfl (ix2 d p)
    (by intro b; match b with | 0 => rfl | 1 => rfl)]
  rw [slice2_axis0_apply (64 * h.1) (qT x0) _ d p (hd h d) rfl, qT_apply]

/-- The padded queries of a head at a value lane. -/
theorem qP_hi (h : Fin 16) (x0 : Vec Ideal S256x1024 .bf16) (d : Fin 64) (p : Fin 256) :
    qP h x0 (ix2 (hi d) p) = 0 := by
  unfold qP
  rw [truncf_apply, concatenate_pair_apply_right (s₁ := S64x256) (s₂ := S64x256) (t := S128x256) 0 _ _ _ _ rfl rfl (ix2 d p)
    (by intro b hb; match b with | 0 => exact absurd rfl hb | 1 => rfl) (by show d.1 + 64 = 64 + d.1; omega)]
  rw [broadcast_apply]
  exact Ideal.ofBits_zero_f32

/-- Real queries, keys and values of one head. -/
structure Vals (K : Vec Ideal S256x128 .bf16) (Q : FVec Ideal S128x256 .bf16) (kk vv qq : Fin 256 → Fin 64 → ℝ) : Prop where
  k : ∀ r d, K (ix2 r (lo d)) = (kk r d : EReal)
  v : ∀ r d, K (ix2 r (hi d)) = (vv r d : EReal)
  q : ∀ p d, Q (ix2 (lo d) p) = (qq p d : EReal)
  z : ∀ p d, Q (ix2 (hi d) p) = 0

/-- A score. -/
def sc (kk qq : Fin 256 → Fin 64 → ℝ) (r p : Fin 256) : ℝ := ∑ d, kk r d * qq p d

section Read

variable {K : Vec Ideal S256x128 .bf16} {Q : FVec Ideal S128x256 .bf16} {kk vv qq : Fin 256 → Fin 64 → ℝ}
  (H : Vals K Q kk vv qq)

include H

theorem dotH (r p : Fin 256) : ∑ k : Fin 128, K (ix2 r k) * Q (ix2 k p) = (sc kk qq r p : EReal) :=
  dot128 (fun k => K (ix2 r k)) (fun k => Q (ix2 k p)) (kk r) (qq p) (vv r) (H.k r) (H.v r) (H.q p) (H.z p)

/-- The scores against a past block. -/
theorem scoreP_apply (r p : Fin 256) : scoreP K Q (ix2 r p) = (sc kk qq r p : EReal) := by
  unfold scoreP
  refine (Ideal.matmul_plain_apply none _ Q _ r p).trans ?_
  rw [shapeCast_self, constant_apply, Ideal.ofBits_zero_f32, zero_add]
  exact dotH H r p

/-- A row or column of the first half. -/
def fst (r : Fin 128) : Fin 256 := ⟨r.1, by omega⟩
/-- A row or column of the second half. -/
def snd (r : Fin 128) : Fin 256 := ⟨128 + r.1, by omega⟩

omit H in
theorem mask_add (P : Prop) [Decidable P] (x : ℝ) :
    (x : EReal) + (if P then (0 : EReal) else ⊥) = if P then (x : EReal) else ⊥ := by
  by_cases h : P
  · simp [h]
  · simp [h]

/-- The masked scores of the first half of the queries. -/
theorem scoreLo_apply (r p : Fin 128) :
    scoreLo K Q (ix2 r p) = if r.1 ≤ p.1 then (sc kk qq (fst r) (fst p) : EReal) else ⊥ := by
  unfold scoreLo
  rw [addf_apply]
  have h1 := Ideal.matmul_plain_apply (φ₁ := .bf16) (φ₂ := .bf16) none
      (extractStridedSlice S128x128 ![0, 0] (shapeCast S256x128 K shapeCasts_S256x128_S256x128) slices_S256x128_o0_0_S128x128)
      (extractStridedSlice S128x128 ![0, 0] Q slices_S128x256_o0_0_S128x128)
      (constant (F := Ideal) S128x128 .f32 0x00000000#32) r p
  have e1 : ∀ k : Fin 128, extractStridedSlice S128x128 ![0, 0] (shapeCast S256x128 K shapeCasts_S256x128_S256x128)
      slices_S256x128_o0_0_S128x128 (ix2 r k) = K (ix2 (fst r) k) := fun k => by
    rw [shapeCast_self]
    exact extractStridedSlice_apply _ _ _ _ _ (by intro a; match a with | 0 => exact (Nat.zero_add _).symm | 1 => exact (Nat.zero_add _).symm)
  have e2 : ∀ k : Fin 128, extractStridedSlice S128x128 ![0, 0] Q slices_S128x256_o0_0_S128x128 (ix2 k p) = Q (ix2 k (fst p)) := fun k =>
    extractStridedSlice_apply _ _ _ _ _ (by intro a; match a with | 0 => exact (Nat.zero_add _).symm | 1 => exact (Nat.zero_add _).symm)
  have h2 : (select (cmpi .sle (iota .tc S128x128 32 [0] iota_S128x128_d0_w32)
        (addi (broadcast S128x128 0#32) (iota .tc S128x128 32 [1] iota_S128x128_d1_w32)))
      (broadcast S128x128 (Scalar.ofBits (F := Ideal) .f32 0x00000000#32))
      (broadcast S128x128 (Named.named (F := Ideal) κ "masked" 0xF149F2CA#32)) : FVec Ideal S128x128 .f32) (ix2 r p)
        = if r.1 ≤ p.1 then (0 : EReal) else ⊥ := by
    rw [select_apply, broadcast_apply, broadcast_apply, named_m]
    have hc : cmpi .sle (iota .tc S128x128 32 [0] iota_S128x128_d0_w32)
        (addi (broadcast S128x128 0#32) (iota .tc S128x128 32 [1] iota_S128x128_d1_w32)) (ix2 r p)
          = BitVec.ofBool (decide (r.1 ≤ p.1)) := by
      show IntOp.cmpi .sle (BitVec.ofNat 32 (0 * 128 + r.1)) (0#32 + BitVec.ofNat 32 (0 * 128 + p.1)) = _
      rw [BitVec.zero_add, cmpi_sle_ofNat (by omega) (by omega)]
      simp
    rw [hc, sel_dec, Ideal.ofBits_def, Ideal.ofBits_zero_f32]
  refine (congrArg₂ (· + ·) h1 h2).trans ?_
  simp only [e1, e2]
  rw [constant_apply, Ideal.ofBits_zero_f32, zero_add, dotH H, mask_add]

/-- The masked scores of the second half of the queries. -/
theorem scoreHi_apply (r : Fin 256) (p : Fin 128) :
    scoreHi K Q (ix2 r p) = if r.1 ≤ 128 + p.1 then (sc kk qq r (snd p) : EReal) else ⊥ := by
  unfold scoreHi
  rw [addf_apply]
  have h1 := Ideal.matmul_plain_apply (φ₁ := .bf16) (φ₂ := .bf16) none
      (shapeCast S256x128 K shapeCasts_S256x128_S256x128)
      (extractStridedSlice S128x128 ![0, 128] Q slices_S128x256_o0_128_S128x128)
      (constant (F := Ideal) S256x128 .f32 0x00000000#32) r p
  have e2 : ∀ k : Fin 128, extractStridedSlice S128x128 ![0, 128] Q slices_S128x256_o0_128_S128x128 (ix2 k p) = Q (ix2 k (snd p)) := fun k =>
    extractStridedSlice_apply _ _ _ _ _ (by intro a; match a with | 0 => exact (Nat.zero_add _).symm | 1 => rfl)
  have h2 : (select (cmpi .sle (iota .tc S256x128 32 [0] iota_S256x128_d0_w32)
        (addi (broadcast S256x128 128#32) (iota .tc S256x128 32 [1] iota_S256x128_d1_w32)))
      (broadcast S256x128 (Scalar.ofBits (F := Ideal) .f32 0x00000000#32))
      (broadcast S256x128 (Named.named (F := Ideal) κ "masked" 0xF149F2CA#32)) : FVec Ideal S256x128 .f32) (ix2 r p)
        = if r.1 ≤ 128 + p.1 then (0 : EReal) else ⊥ := by
    rw [select_apply, broadcast_apply, broadcast_apply, named_m]
    have hc : cmpi .sle (iota .tc S256x128 32 [0] iota_S256x128_d0_w32)
        (addi (broadcast S256x128 128#32) (iota .tc S256x128 32 [1] iota_S256x128_d1_w32)) (ix2 r p)
          = BitVec.ofBool (decide (r.1 ≤ 128 + p.1)) := by
      show IntOp.cmpi .sle (BitVec.ofNat 32 (0 * 256 + r.1)) (BitVec.ofNat 32 128 + BitVec.ofNat 32 (0 * 128 + p.1)) = _
      rw [← BitVec.ofNat_add, cmpi_sle_ofNat (by omega) (by omega)]
      simp
    rw [hc, sel_dec, Ideal.ofBits_def, Ideal.ofBits_zero_f32]
  refine (congrArg₂ (· + ·) h1 h2).trans ?_
  simp only [e2]
  rw [constant_apply, Ideal.ofBits_zero_f32, zero_add, shapeCast_self, dotH H, mask_add]

end Read

/-! ## Maxima: only that they are real numbers matters -/

/-- A maximum over an axis of values that are not plus infinity is not plus infinity. -/
theorem max_ne_top {s t : Shape} (axes : List (Fin s.rank)) (src : FVec Ideal s .f32) (h : s.Reduces axes t)
    (hs : ∀ x, src x ≠ (⊤ : EReal)) (j : t.Idx) :
    multiReduction .maximumf axes t src 0xFF800000#32 h (.inl rfl) rfl j ≠ (⊤ : EReal) := by
  have hbot : Ideal.ofBits .f32 0xFF800000#32 = ⊥ := by simp [Ideal.ofBits, Ideal.ieee]
  unfold multiReduction reduceFold
  have key : ∀ (l : List (Fin s.numel)) (init : EReal), init ≠ ⊤ →
      l.foldl (fun r n => (FloatOps.maximumf (F := Ideal) (φ := .f32) r (src (s.rowMajor.symm n)) : EReal)) init ≠ ⊤ := by
    intro l
    induction l with
    | nil => intro init hi; exact hi
    | cons a l ih =>
      intro init hi
      refine ih _ ?_
      show max init _ ≠ ⊤
      rcases max_choice init (src (s.rowMajor.symm a)) with h | h <;> rw [h]
      · exact hi
      · exact hs _
  refine key _ _ ?_
  show Ideal.ofBits .f32 0xFF800000#32 ≠ ⊤
  rw [hbot]; exact bot_ne_top

/-- The larger of a real and a value below plus infinity is real. -/
theorem real_max (a : ℝ) (b : EReal) (hb : b ≠ ⊤) : ∃ M : ℝ, max b (a : EReal) = (M : EReal) := by
  have h1 : max b (a : EReal) ≠ ⊤ := by
    rcases max_choice b (a : EReal) with h | h <;> rw [h]
    · exact hb
    · exact EReal.coe_ne_top a
  have h2 : max b (a : EReal) ≠ ⊥ := fun h => by
    have := le_max_right b (a : EReal)
    rw [h] at this
    exact EReal.coe_ne_bot a (le_bot_iff.mp this)
  exact ⟨_, (EReal.coe_toReal h1 h2).symm⟩

/-- The floor of the maxima is a real number. -/
theorem floor_real : ∃ a : ℝ, Ideal.ofBits .f32 0xEFA18F08#32 = (a : EReal) := by
  simp [Ideal.ofBits, Ideal.ieee]
  exact ⟨_, rfl⟩

end Cert.KernelIdeal.Head

end
-- ==== Proof.Acc.lean ====
/- The running maximum and the running sums of one head over the extended reals: through the own block and through one
   past block, the sums are the power of the running maximum times a sum of powers of two of the scores. -/
module

public import proofs.«01_k».proof.Proof.Val

@[expose] public section

set_option maxRecDepth 16384

noncomputable section

namespace Cert.KernelIdeal.Head

open Cert.KernelIdeal Cert.KernelIdeal.Gen Cert.KernelIdeal.Run
open Idealize.ShloMosaic Idealize.ShloMosaic.TcCoe Idealize.ShloMosaic.ValueIdx

/-- A power of two of a score less the maximum. -/
theorem exp_sub (s M : ℝ) : Ideal.exp2 ((s : EReal) - (M : EReal)) = (((2 : ℝ) ^ (-M) * (2 : ℝ) ^ s : ℝ) : EReal) := by
  rw [← EReal.coe_sub, Ideal.exp2_coe]
  congr 1
  show (2 : ℝ) ^ (s - M) = _
  rw [← Real.rpow_add (by norm_num)]
  congr 1
  ring

/-- A masked score has no weight. -/
theorem exp_bot (M : ℝ) : Ideal.exp2 ((⊥ : EReal) - (M : EReal)) = 0 := by
  rw [EReal.bot_sub, Ideal.exp2_bot]

/-- The row of the sums that holds the weights' sum. -/
def rowO : Fin 80 := ⟨0, by decide⟩
/-- The row of the sums that holds coordinate `d` of the weighted values. -/
def rowV (d : Fin 64) : Fin 80 := ⟨16 + d.1, by omega⟩

/-- The sum over the own block: the keys up to the query. -/
def own (S y : Fin 256 → ℝ) (p : Fin 256) : ℝ := ∑ r : Fin 256, if r.1 ≤ p.1 then (2 : ℝ) ^ (S r) * y r else 0
/-- The sum over a whole block. -/
def whole (S y : Fin 256 → ℝ) : ℝ := ∑ r : Fin 256, (2 : ℝ) ^ (S r) * y r

theorem onesV_one (K : Vec Ideal S256x128 .bf16) (r : Fin 256) : onesV K (ix2 rowO r) = ((1 : ℝ) : EReal) := by
  unfold onesV
  rw [concatenate_pair_apply_left (s₁ := S16x256) (s₂ := S64x256) (t := S80x256) 0 _ _ _ _ rfl (ix2 (0 : Fin 16) r)
    (by intro b; match b with | 0 => rfl | 1 => rfl), broadcast_apply]
  exact Ideal.ofBits_one_bf16

theorem onesV_v (K : Vec Ideal S256x128 .bf16) (d : Fin 64) (r : Fin 256) : onesV K (ix2 (rowV d) r) = K (ix2 r (hi d)) := by
  unfold onesV
  rw [concatenate_pair_apply_right (s₁ := S16x256) (s₂ := S64x256) (t := S80x256) 0 _ _ _ _ rfl rfl (ix2 d r)
    (by intro b hb; match b with | 0 => exact absurd rfl hb | 1 => rfl) (by show d.1 + 16 = 16 + d.1; omega)]
  rw [slice2_axis0_apply 64 _ _ d r (hi d) rfl, transpose_ix2_apply, shapeCast_self]

/-- The values of the first half of the own block under sixteen rows of ones. -/
def onesLo (K : Vec Ideal S256x128 .bf16) : FVec Ideal S80x128 .bf16 :=
  concatenate S80x128 0 [⟨S16x128, broadcast S16x128 (Scalar.ofBits .bf16 0x3F80#16)⟩,
      ⟨S64x128, extractStridedSlice S64x128 ![64, 0]
        (transpose S128x128 [1, 0] (extractStridedSlice S128x128 ![0, 0]
          (shapeCast S256x128 K shapeCasts_S256x128_S256x128) slices_S256x128_o0_0_S128x128)
          transposes_S128x128_p1_0_S128x128) slices_S128x128_o64_0_S64x128⟩]
      concatenates_S16x128_S64x128_S80x128_d0

theorem onesLo_one (K : Vec Ideal S256x128 .bf16) (r : Fin 128) : onesLo K (ix2 rowO r) = ((1 : ℝ) : EReal) := by
  unfold onesLo
  rw [concatenate_pair_apply_left (s₁ := S16x128) (s₂ := S64x128) (t := S80x128) 0 _ _ _ _ rfl (ix2 (0 : Fin 16) r)
    (by intro b; match b with | 0 => rfl | 1 => rfl), broadcast_apply]
  exact Ideal.ofBits_one_bf16

theorem onesLo_v (K : Vec Ideal S256x128 .bf16) (d : Fin 64) (r : Fin 128) :
    onesLo K (ix2 (rowV d) r) = K (ix2 (fst r) (hi d)) := by
  unfold onesLo
  rw [concatenate_pair_apply_right (s₁ := S16x128) (s₂ := S64x128) (t := S80x128) 0 _ _ _ _ rfl rfl (ix2 d r)
    (by intro b hb; match b with | 0 => exact absurd rfl hb | 1 => rfl) (by show d.1 + 16 = 16 + d.1; omega)]
  rw [slice2_axis0_apply 64 _ _ d r (hi d) rfl, transpose_ix2_apply, shapeCast_self]
  exact extractStridedSlice_apply _ _ _ _ _ (by intro a; match a with | 0 => exact (Nat.zero_add _).symm | 1 => exact (Nat.zero_add _).symm)

section Own

variable {K : Vec Ideal S256x128 .bf16} {Q : FVec Ideal S128x256 .bf16} {kk vv qq : Fin 256 → Fin 64 → ℝ}
  (H : Vals K Q kk vv qq)

include H

theorem ite_ne_top (P : Prop) [Decidable P] (x : ℝ) : (if P then (x : EReal) else ⊥) ≠ ⊤ := by
  by_cases h : P
  · rw [if_pos h]; exact EReal.coe_ne_top x
  · rw [if_neg h]; exact bot_ne_top

/-- The first half's maxima are real. -/
theorem maxLo_real (p : Fin 128) : ∃ M : ℝ, maxLo (scoreLo K Q) (ix2 (0 : Fin 1) p) = (M : EReal) := by
  obtain ⟨a, ha⟩ := floor_real
  unfold maxLo
  rw [maximumf_apply, broadcast_apply, shapeCast_a_1a_apply, Ideal.ofBits_def, ha]
  refine real_max a _ (max_ne_top _ _ _ (fun x => ?_) _)
  obtain ⟨r, t, rfl⟩ : ∃ (r : Fin 128) (t : Fin 128), x = ix2 r t :=
    ⟨x 0, x 1, by funext a; match a with | 0 => rfl | 1 => rfl⟩
  rw [scoreLo_apply H]
  exact ite_ne_top H _ _

/-- The second half's maxima are real. -/
theorem maxHi_real (p : Fin 128) : ∃ M : ℝ, maxHi (scoreHi K Q) (ix2 (0 : Fin 1) p) = (M : EReal) := by
  obtain ⟨a, ha⟩ := floor_real
  unfold maxHi
  rw [maximumf_apply, broadcast_apply, shapeCast_a_1a_apply, Ideal.ofBits_def, ha]
  refine real_max a _ (max_ne_top _ _ _ (fun x => ?_) _)
  obtain ⟨r, t, rfl⟩ : ∃ (r : Fin 256) (t : Fin 128), x = ix2 r t :=
    ⟨x 0, x 1, by funext a; match a with | 0 => rfl | 1 => rfl⟩
  rw [scoreHi_apply H]
  exact ite_ne_top H _ _

omit H in
/-- One weighted term, masked or not. -/
theorem term (P : Prop) [Decidable P] (s M y : ℝ) :
    ((y : ℝ) : EReal) * Ideal.exp2 ((if P then (s : EReal) else ⊥) - (M : EReal))
      = (((2 : ℝ) ^ (-M) * (if P then (2 : ℝ) ^ s * y else 0) : ℝ) : EReal) := by
  by_cases h : P
  · rw [if_pos h, if_pos h, exp_sub, ← EReal.coe_mul]; congr 1; ring
  · rw [if_neg h, if_neg h, exp_bot, mul_zero, mul_zero]; rfl

/-- The own block's sums, first half of the queries. -/
theorem accLo_apply (e : Fin 80) (y : Fin 256 → ℝ) (hy : ∀ r, onesLo K (ix2 e r) = (y (fst r) : EReal)) (p : Fin 128) (M : ℝ)
    (hM : maxLo (scoreLo K Q) (ix2 (0 : Fin 1) p) = (M : EReal)) :
    accLo K Q (ix2 e p) = (((2 : ℝ) ^ (-M) * own (fun r => sc kk qq r (fst p)) y (fst p) : ℝ) : EReal) := by
  unfold accLo
  refine (Ideal.matmul_plain_apply (φ₁ := .bf16) (φ₂ := .bf16) none (onesLo K) _ _ e p).trans ?_
  rw [constant_apply, Ideal.ofBits_zero_f32, zero_add]
  have ht : ∀ r : Fin 128, onesLo K (ix2 e r) * (truncf .bf16 (exp2 (subf (scoreLo K Q)
      (broadcastTo S128x128 (maxLo (scoreLo K Q)) broadcasts_S1x128_S128x128))) bitsLt_bf16_f32 : FVec Ideal S128x128 .bf16) (ix2 r p)
      = (((2 : ℝ) ^ (-M) * (if r.1 ≤ p.1 then (2 : ℝ) ^ (sc kk qq (fst r) (fst p)) * y (fst r) else 0) : ℝ) : EReal) := fun r => by
    rw [← term, hy, truncf_apply]
    show _ * Ideal.exp2 (scoreLo K Q (ix2 r p) - broadcastTo S128x128 (maxLo (scoreLo K Q)) broadcasts_S1x128_S128x128 (ix2 r p)) = _
    rw [broadcastTo_1b_ab_apply, hM, scoreLo_apply H]
  simp only [ht]
  rw [coe_sum, ← Finset.mul_sum]
  refine congrArg (fun x : ℝ => (((2 : ℝ) ^ (-M) * x : ℝ) : EReal)) ?_
  unfold own
  refine Eq.trans ?_ (Fin.sum_univ_add (a := 128) (b := 128) _).symm
  have hz : ∀ r : Fin 128, (if (Fin.natAdd 128 r).1 ≤ (fst p).1 then
      (2 : ℝ) ^ (sc kk qq (Fin.natAdd 128 r) (fst p)) * y (Fin.natAdd 128 r) else 0) = 0 := fun r =>
    if_neg (by show ¬ 128 + r.1 ≤ p.1; omega)
  rw [Finset.sum_congr rfl fun r _ => hz r, Finset.sum_const_zero, add_zero]
  rfl

/-- The own block's sums, second half of the queries. -/
theorem accHi_apply (e : Fin 80) (y : Fin 256 → ℝ) (hy : ∀ r, onesV K (ix2 e r) = (y r : EReal)) (p : Fin 128) (M : ℝ)
    (hM : maxHi (scoreHi K Q) (ix2 (0 : Fin 1) p) = (M : EReal)) :
    accHi K Q (ix2 e p) = (((2 : ℝ) ^ (-M) * own (fun r => sc kk qq r (snd p)) y (snd p) : ℝ) : EReal) := by
  unfold accHi
  refine (Ideal.matmul_plain_apply (φ₁ := .bf16) (φ₂ := .bf16) none (onesV K) _ _ e p).trans ?_
  rw [constant_apply, Ideal.ofBits_zero_f32, zero_add]
  have ht : ∀ r : Fin 256, onesV K (ix2 e r) * (truncf .bf16 (exp2 (subf (scoreHi K Q)
      (broadcastTo S256x128 (maxHi (scoreHi K Q)) broadcasts_S1x128_S256x128))) bitsLt_bf16_f32 : FVec Ideal S256x128 .bf16) (ix2 r p)
      = (((2 : ℝ) ^ (-M) * (if r.1 ≤ 128 + p.1 then (2 : ℝ) ^ (sc kk qq r (snd p)) * y r else 0) : ℝ) : EReal) := fun r => by
    rw [← term, hy, truncf_apply]
    show _ * Ideal.exp2 (scoreHi K Q (ix2 r p) - broadcastTo S256x128 (maxHi (scoreHi K Q)) broadcasts_S1x128_S256x128 (ix2 r p)) = _
    rw [broadcastTo_1b_ab_apply, hM, scoreHi_apply H]
  simp only [ht]
  rw [coe_sum, ← Finset.mul_sum]
  rfl

/-- After the own block: a real maximum `M` with the sums `2 ^ (-M)` times the powers of two of the scores. -/
theorem start (p : Fin 256) : ∃ M : ℝ, m0 K Q (ix2 (0 : Fin 1) p) = (M : EReal) ∧
    acc0 K Q (ix2 rowO p) = (((2 : ℝ) ^ (-M) * own (fun r => sc kk qq r p) (fun _ => 1) p : ℝ) : EReal) ∧
    ∀ d, acc0 K Q (ix2 (rowV d) p) = (((2 : ℝ) ^ (-M) * own (fun r => sc kk qq r p) (fun r => vv r d) p : ℝ) : EReal) := by
  unfold m0 acc0
  by_cases hp : p.1 < 128
  · obtain ⟨M, hM⟩ := maxLo_real H ⟨p.1, hp⟩
    have hf : fst ⟨p.1, hp⟩ = p := rfl
    refine ⟨M, ?_, ?_, fun d => ?_⟩
    · rw [concatenate_pair_apply_left (s₁ := S1x128) (s₂ := S1x128) (t := S1x256) 1 _ _ _ _ rfl (ix2 (0 : Fin 1) (⟨p.1, hp⟩ : Fin 128))
        (by intro b; match b with | 0 => rfl | 1 => rfl)]
      exact hM
    · rw [concatenate_pair_apply_left (s₁ := S80x128) (s₂ := S80x128) (t := S80x256) 1 _ _ _ _ rfl (ix2 rowO (⟨p.1, hp⟩ : Fin 128))
        (by intro b; match b with | 0 => rfl | 1 => rfl)]
      exact accLo_apply H rowO (fun _ => 1) (onesLo_one K) _ M hM
    · rw [concatenate_pair_apply_left (s₁ := S80x128) (s₂ := S80x128) (t := S80x256) 1 _ _ _ _ rfl (ix2 (rowV d) (⟨p.1, hp⟩ : Fin 128))
        (by intro b; match b with | 0 => rfl | 1 => rfl)]
      exact accLo_apply H (rowV d) (fun r => vv r d) (fun r => (onesLo_v K d r).trans (H.v _ d)) _ M hM
  · have hp2 : p.1 - 128 < 128 := by omega
    obtain ⟨M, hM⟩ := maxHi_real H ⟨p.1 - 128, hp2⟩
    have hf : snd ⟨p.1 - 128, hp2⟩ = p := Fin.ext (by show 128 + (p.1 - 128) = p.1; omega)
    refine ⟨M, ?_, ?_, fun d => ?_⟩
    · rw [concatenate_pair_apply_right (s₁ := S1x128) (s₂ := S1x128) (t := S1x256) 1 _ _ _ _ rfl rfl (ix2 (0 : Fin 1) (⟨p.1 - 128, hp2⟩ : Fin 128))
        (by intro b hb; match b with | 0 => rfl | 1 => exact absurd rfl hb) (by show p.1 - 128 + 128 = p.1; omega)]
      exact hM
    · rw [concatenate_pair_apply_right (s₁ := S80x128) (s₂ := S80x128) (t := S80x256) 1 _ _ _ _ rfl rfl (ix2 rowO (⟨p.1 - 128, hp2⟩ : Fin 128))
        (by intro b hb; match b with | 0 => rfl | 1 => exact absurd rfl hb) (by show p.1 - 128 + 128 = p.1; omega)]
      rw [accHi_apply H rowO (fun _ => 1) (onesV_one K) _ M hM, hf]
    · rw [concatenate_pair_apply_right (s₁ := S80x128) (s₂ := S80x128) (t := S80x256) 1 _ _ _ _ rfl rfl (ix2 (rowV d) (⟨p.1 - 128, hp2⟩ : Fin 128))
        (by intro b hb; match b with | 0 => rfl | 1 => exact absurd rfl hb) (by show p.1 - 128 + 128 = p.1; omega)]
      rw [accHi_apply H (rowV d) (fun r => vv r d) (fun r => (onesV_v K d r).trans (H.v _ d)) _ M hM, hf]

end Own

section Step

variable {K : Vec Ideal S256x128 .bf16} {Q : FVec Ideal S128x256 .bf16} {kk vv qq : Fin 256 → Fin 64 → ℝ}
  (H : Vals K Q kk vv qq) (row m : Vec Ideal S1x1x256 .f32) (a : Vec Ideal S1x80x256 .f32) (sel : Fin 256 → Prop) [DecidablePred sel]
  (hrow : ∀ p, row (ix3 (0 : Fin 1) (0 : Fin 1) p) = if sel p then (0 : EReal) else ⊥)

include H hrow

omit H hrow in
/-- A row over two unit axes read with one of them dropped. -/
theorem cast_row (x : Vec Ideal S1x1x256 .f32) (p : Fin 256) :
    shapeCast S1x256 x shapeCasts_S1x1x256_S1x256 (ix2 (0 : Fin 1) p) = x (ix3 (0 : Fin 1) (0 : Fin 1) p) :=
  shapeCast_1ab_ab_apply _ _ _ _

/-- The maximum stays real. -/
theorem mStep_real (p : Fin 256) (M : ℝ) (hm : m (ix3 (0 : Fin 1) (0 : Fin 1) p) = (M : EReal)) :
    ∃ M' : ℝ, mStep K Q row m (ix2 (0 : Fin 1) p) = (M' : EReal) := by
  unfold mStep
  rw [maximumf_apply, cast_row, hm, max_comm, shapeCast_a_1a_apply]
  refine real_max M _ (max_ne_top _ _ _ (fun x => ?_) _)
  obtain ⟨r, t, rfl⟩ : ∃ (r : Fin 8) (t : Fin 256), x = ix2 r t :=
    ⟨x 0, x 1, by funext a; match a with | 0 => rfl | 1 => rfl⟩
  refine EReal.add_ne_top (max_ne_top _ _ _ (fun z => ?_) _) ?_
  · have hs : ∀ w, scoreP K Q w ≠ (⊤ : EReal) := fun w => by
      obtain ⟨r, t, rfl⟩ : ∃ (r : Fin 256) (t : Fin 256), w = ix2 r t :=
        ⟨w 0, w 1, by funext a; match a with | 0 => rfl | 1 => rfl⟩
      rw [scoreP_apply H]
      exact EReal.coe_ne_top _
    exact hs _
  · rw [broadcastTo_1b_ab_apply, cast_row, hrow]
    by_cases h : sel t
    · rw [if_pos h]; exact EReal.zero_ne_top
    · rw [if_neg h]; exact bot_ne_top

/-- The sums after a past block. -/
theorem accStep_apply (e : Fin 80) (y : Fin 256 → ℝ) (hy : ∀ r, onesV K (ix2 e r) = (y r : EReal)) (p : Fin 256) (M M' T : ℝ)
    (hm : m (ix3 (0 : Fin 1) (0 : Fin 1) p) = (M : EReal))
    (hM' : mStep K Q row m (ix2 (0 : Fin 1) p) = (M' : EReal))
    (ha : a (ix3 (0 : Fin 1) e p) = (((2 : ℝ) ^ (-M) * T : ℝ) : EReal)) :
    accStep K Q row m a (ix2 e p)
      = (((2 : ℝ) ^ (-M') * (T + if sel p then whole (fun r => sc kk qq r p) y else 0) : ℝ) : EReal) := by
  unfold accStep
  rw [addf_apply, mulf_apply, broadcastTo_1b_ab_apply, shapeCast_1ab_ab_apply, ha]
  have h1 : exp2 (subf (shapeCast S1x256 m shapeCasts_S1x1x256_S1x256) (mStep K Q row m)) (ix2 (0 : Fin 1) p)
      = (((2 : ℝ) ^ (-M') * (2 : ℝ) ^ M : ℝ) : EReal) := by
    show Ideal.exp2 (shapeCast S1x256 m shapeCasts_S1x1x256_S1x256 (ix2 (0 : Fin 1) p) - mStep K Q row m (ix2 (0 : Fin 1) p)) = _
    rw [cast_row, hm, hM', exp_sub]
  have h2 := Ideal.matmul_plain_apply (φ₁ := .bf16) (φ₂ := .bf16) none (onesV K)
      (truncf .bf16 (exp2 (subf (scoreP K Q)
        (broadcastTo S256x256 (subf (mStep K Q row m) (shapeCast S1x256 row shapeCasts_S1x1x256_S1x256))
          broadcasts_S1x256_S256x256))) bitsLt_bf16_f32 : FVec Ideal S256x256 .bf16)
      (constant (F := Ideal) S80x256 .f32 0x00000000#32) e p
  have h3 : ∀ r : Fin 256, onesV K (ix2 e r) * (truncf .bf16 (exp2 (subf (scoreP K Q)
        (broadcastTo S256x256 (subf (mStep K Q row m) (shapeCast S1x256 row shapeCasts_S1x1x256_S1x256))
          broadcasts_S1x256_S256x256))) bitsLt_bf16_f32 : FVec Ideal S256x256 .bf16) (ix2 r p)
      = (((2 : ℝ) ^ (-M') * (if sel p then (2 : ℝ) ^ (sc kk qq r p) * y r else 0) : ℝ) : EReal) := fun r => by
    rw [← term, hy, truncf_apply]
    show _ * Ideal.exp2 (scoreP K Q (ix2 r p) - broadcastTo S256x256 (subf (mStep K Q row m)
      (shapeCast S1x256 row shapeCasts_S1x1x256_S1x256)) broadcasts_S1x256_S256x256 (ix2 r p)) = _
    rw [broadcastTo_1b_ab_apply, subf_apply, hM', cast_row, hrow, scoreP_apply H]
    by_cases h : sel p
    · rw [if_pos h, if_pos h, sub_zero]
    · rw [if_neg h, if_neg h, EReal.coe_sub_bot, EReal.sub_top, EReal.bot_sub]
  rw [h1]
  refine (congrArg (_ + ·) h2).trans ?_
  simp only [h3]
  rw [constant_apply, Ideal.ofBits_zero_f32, zero_add, coe_sum, ← Finset.mul_sum, ← EReal.coe_mul, ← EReal.coe_add]
  congr 1
  have hpow : (2 : ℝ) ^ M * (2 : ℝ) ^ (-M) = 1 := by
    rw [← Real.rpow_add (by norm_num), add_neg_cancel, Real.rpow_zero]
  have hs : (∑ r : Fin 256, if sel p then (2 : ℝ) ^ (sc kk qq r p) * y r else 0)
      = if sel p then whole (fun r => sc kk qq r p) y else 0 := by
    by_cases h : sel p
    · simp only [if_pos h]; rfl
    · simp only [if_neg h]; exact Finset.sum_const_zero
  rw [hs]
  linear_combination ((2 : ℝ) ^ (-M') * T) * hpow

end Step

end Cert.KernelIdeal.Head

end
-- ==== Proof.Sel.lean ====
/- The choice of the past blocks over the extended reals: a block is chosen when fewer than three of the blocks stand
   before it in the order of the scores. -/
module

public import proofs.«01_k».proof.Proof.Acc

@[expose] public section

set_option maxRecDepth 16384

noncomputable section

namespace Cert.KernelIdeal.Head

open Cert.KernelIdeal Cert.KernelIdeal.Gen Cert.KernelIdeal.Run
open Idealize.ShloMosaic Idealize.ShloMosaic.TcCoe Idealize.ShloMosaic.ValueIdx Idealize.ShloMosaic.WordCmp

/-- How many of the values stand before the one at `n`: those that are greater, and the equal ones of a lower index. -/
def rk (A : Fin 8 → EReal) (n : Fin 8) : ℕ := ∑ k : Fin 8, if A n < A k ∨ (A k = A n ∧ k.1 < n.1) then 1 else 0

/-- The first `j` terms of that count. -/
def rkTo (A : Fin 8 → EReal) (n : Fin 8) : (j : ℕ) → j ≤ 8 → ℕ
  | 0, _ => 0
  | j + 1, h => rkTo A n j (Nat.le_of_succ_le h)
      + if A n < A ⟨j, h⟩ ∨ (A ⟨j, h⟩ = A n ∧ j < n.1) then 1 else 0

theorem rkTo_le (A : Fin 8 → EReal) (n : Fin 8) : ∀ (j : ℕ) (h : j ≤ 8), rkTo A n j h ≤ j
  | 0, _ => le_rfl
  | j + 1, h => by
    have := rkTo_le A n j (Nat.le_of_succ_le h)
    unfold rkTo
    split <;> omega

theorem rkTo_eight (A : Fin 8 → EReal) (n : Fin 8) : rkTo A n 8 le_rfl = rk A n := by
  unfold rk
  rw [Fin.sum_univ_eight]
  simp only [rkTo, Nat.zero_add]
  rfl

theorem beats_apply (a : FVec Ideal S8x256 .f32) (k n : Fin 8) (p : Fin 256) :
    beats a k (ix2 n p) = BitVec.ofBool (decide (a (ix2 n p) < a (ix2 k p) ∨ (a (ix2 k p) = a (ix2 n p) ∧ k.1 < n.1))) := by
  unfold beats
  have hb : broadcastTo S8x256 (extractStridedSlice S1x256 ![k.1, 0] a (slRow k)) broadcasts_S1x256_S8x256 (ix2 n p) = a (ix2 k p) := by
    rw [broadcastTo_1b_ab_apply]
    exact slice2_axis0_apply k.1 a _ (0 : Fin 1) p k rfl
  have h1 : cmpf .ogt (broadcastTo S8x256 (extractStridedSlice S1x256 ![k.1, 0] a (slRow k)) broadcasts_S1x256_S8x256) a (ix2 n p)
      = BitVec.ofBool (decide (a (ix2 n p) < a (ix2 k p))) := by
    rw [cmpf_apply, hb]; rfl
  have h2 : cmpf .oeq (broadcastTo S8x256 (extractStridedSlice S1x256 ![k.1, 0] a (slRow k)) broadcasts_S1x256_S8x256) a (ix2 n p)
      = BitVec.ofBool (decide (a (ix2 k p) = a (ix2 n p))) := by
    rw [cmpf_apply, hb]; rfl
  have h3 : cmpi .sgt (iota .tc S8x256 32 [0] iota_S8x256_d0_w32) (broadcast S8x256 (BitVec.ofNat 32 k.1)) (ix2 n p)
      = BitVec.ofBool (decide (k.1 < n.1)) := by
    show IntOp.cmpi .sgt (BitVec.ofNat 32 (0 * 8 + n.1)) (BitVec.ofNat 32 k.1) = _
    rw [cmpi_sgt_ofNat (by omega) (by omega)]
    simp
  show IntOp.ori (cmpf .ogt _ a (ix2 n p)) (IntOp.andi (cmpf .oeq _ a (ix2 n p)) (cmpi .sgt _ _ (ix2 n p))) = _
  rw [h1, h2, h3, andi_ofBool, ori_ofBool, ← Bool.decide_and, ← Bool.decide_or]

theorem rankTo_apply (a : FVec Ideal S8x256 .f32) (n : Fin 8) (p : Fin 256) : ∀ (j : ℕ) (h : j ≤ 8),
    rankTo a j h (ix2 n p) = BitVec.ofNat 32 (rkTo (fun k => a (ix2 k p)) n j h)
  | 0, _ => rfl
  | j + 1, h => by
    show rankTo a j (Nat.le_of_succ_le h) (ix2 n p) + (beats a ⟨j, h⟩ (ix2 n p)).setWidth 32
      = BitVec.ofNat 32 (rkTo (fun k => a (ix2 k p)) n j (Nat.le_of_succ_le h)
          + if a (ix2 n p) < a (ix2 ⟨j, h⟩ p) ∨ (a (ix2 ⟨j, h⟩ p) = a (ix2 n p) ∧ j < n.1) then 1 else 0)
    rw [rankTo_apply a n p j (Nat.le_of_succ_le h), beats_apply, BitVec.ofNat_add]
    congr 1
    by_cases hc : a (ix2 n p) < a (ix2 ⟨j, h⟩ p) ∨ (a (ix2 ⟨j, h⟩ p) = a (ix2 n p) ∧ j < n.1)
    · rw [if_pos hc, decide_eq_true hc]; rfl
    · rw [if_neg hc, decide_eq_false hc]; rfl

theorem past_apply (i : grid0.Coords) (n : Fin 8) (p : Fin 256) :
    past i (ix2 n p) = BitVec.ofBool (decide (n.1 < (i 2).val)) := by
  have hi : (i 2).val < 8 := (i 2).isLt
  show IntOp.cmpi .slt (BitVec.ofNat 32 (0 * 8 + n.1)) (BitVec.ofNat 32 (i 2).val) = _
  rw [cmpi_slt_ofNat (by omega) (by omega)]
  simp

/-- What a past block adds to its scores. -/
theorem selRow_apply (i : grid0.Coords) (km : Vec Ideal S1x8x128 .f32) (q : FVec Ideal S128x256 .bf16) (n : Fin 8) (p : Fin 256) :
    selRow i km q (ix2 n p)
      = if n.1 < (i 2).val ∧ rk (fun k => adj i km q (ix2 k p)) n < 3 then (0 : EReal) else ⊥ := by
  unfold selRow
  rw [select_apply, broadcast_apply, broadcast_apply, named_m, Ideal.ofBits_def, Ideal.ofBits_zero_f32]
  have hr : cmpi .slt (rankTo (adj i km q) 8 le_rfl) (broadcast S8x256 3#32) (ix2 n p)
      = BitVec.ofBool (decide (rk (fun k => adj i km q (ix2 k p)) n < 3)) := by
    show IntOp.cmpi .slt (rankTo (adj i km q) 8 le_rfl (ix2 n p)) (BitVec.ofNat 32 3) = _
    have hle := rkTo_le (fun k => adj i km q (ix2 k p)) n 8 le_rfl
    rw [rankTo_apply, ← rkTo_eight, cmpi_slt_ofNat (by omega) (by omega)]
  have hc : andi (past i) (cmpi .slt (rankTo (adj i km q) 8 le_rfl) (broadcast S8x256 3#32)) (ix2 n p)
      = BitVec.ofBool (decide (n.1 < (i 2).val ∧ rk (fun k => adj i km q (ix2 k p)) n < 3)) := by
    show IntOp.andi (past i (ix2 n p)) (cmpi .slt _ _ (ix2 n p)) = _
    rw [hr, past_apply, andi_ofBool, ← Bool.decide_and]
  rw [hc, sel_dec]

/-- The score of a past block. -/
theorem adj_apply (i : grid0.Coords) (km : Vec Ideal S1x8x128 .f32) (q : FVec Ideal S128x256 .bf16) (n : Fin 8) (p : Fin 256)
    (a b w : Fin 64 → ℝ) (hA : ∀ d, km (ix3 (0 : Fin 1) n (lo d)) = (a d : EReal)) (hA' : ∀ d, km (ix3 (0 : Fin 1) n (hi d)) = (w d : EReal))
    (hB : ∀ d, q (ix2 (lo d) p) = (b d : EReal)) (hB' : ∀ d, q (ix2 (hi d) p) = 0) :
    adj i km q (ix2 n p) = if n.1 < (i 2).val then ((∑ d, a d * b d : ℝ) : EReal) else ⊥ := by
  unfold adj
  rw [select_apply, past_apply, sel_dec, broadcast_apply]
  have h1 := Ideal.matmul_plain_apply (φ₁ := .bf16) (φ₂ := .bf16) none
    (truncf .bf16 (shapeCast S8x128 km shapeCasts_S1x8x128_S8x128) bitsLt_bf16_f32 : FVec Ideal S8x128 .bf16) q
    (constant (F := Ideal) S8x256 .f32 0x00000000#32) n p
  have h2 : ∀ k : Fin 128, (truncf .bf16 (shapeCast S8x128 km shapeCasts_S1x8x128_S8x128) bitsLt_bf16_f32 : FVec Ideal S8x128 .bf16) (ix2 n k)
      = km (ix3 (0 : Fin 1) n k) := fun k => by
    rw [truncf_apply]
    exact shapeCast_1ab_ab_apply _ _ _ _
  congr 1
  refine h1.trans ?_
  simp only [h2]
  rw [constant_apply, Ideal.ofBits_zero_f32, zero_add]
  exact dot128 (fun k => km (ix3 (0 : Fin 1) n k)) (fun k => q (ix2 k p)) a b w hA hA' hB hB'

end Cert.KernelIdeal.Head

end
-- ==== Proof.HeadVal.lean ====
/- The block the attention kernel writes, over the extended reals: at each query, head and coordinate the quotient of a
   weighted sum of the values by the sum of the weights, over the query's own block and the chosen past blocks. -/
module

public import proofs.«01_k».proof.Proof.Sel

@[expose] public section

set_option maxRecDepth 16384

noncomputable section

namespace Cert.KernelIdeal.Head

open Cert.KernelIdeal Cert.KernelIdeal.Gen Cert.KernelIdeal.Run
open Idealize.ShloMosaic Idealize.ShloMosaic.TcCoe Idealize.ShloMosaic.ValueIdx Idealize.ShloMosaic.WordCmp

/-- Row `r` of block `n`. -/
def tok (n : Fin 8) (r : Fin 256) : Fin 2048 := ⟨256 * n.1 + r.1, by omega⟩
/-- Lane `d` of head `h`'s keys. -/
def laneK (h : Fin 16) (d : Fin 64) : Fin 2048 := ⟨128 * h.1 + d.1, by omega⟩
/-- Lane `d` of head `h`'s values. -/
def laneV (h : Fin 16) (d : Fin 64) : Fin 2048 := ⟨128 * h.1 + (64 + d.1), by omega⟩

/-- The launch's blocks hold real numbers. -/
structure Blocks (x0 : Vec Ideal S256x1024 .bf16) (x1 : Vec Ideal S2048x2048 .bf16) (x2 : Vec Ideal S1x8x2048 .f32)
    (q : Fin 256 → Fin 16 → Fin 64 → ℝ) (k v : Fin 2048 → Fin 16 → Fin 64 → ℝ) (km w : Fin 8 → Fin 16 → Fin 64 → ℝ) : Prop where
  q : ∀ p h d, x0 (ix2 p (hd h d)) = (q p h d : EReal)
  k : ∀ t h d, x1 (ix2 t (laneK h d)) = (k t h d : EReal)
  v : ∀ t h d, x1 (ix2 t (laneV h d)) = (v t h d : EReal)
  m : ∀ n h d, x2 (ix3 (0 : Fin 1) n (laneK h d)) = (km n h d : EReal)
  w : ∀ n h d, x2 (ix3 (0 : Fin 1) n (laneV h d)) = (w n h d : EReal)

section
variable (q : Fin 256 → Fin 16 → Fin 64 → ℝ) (k v : Fin 2048 → Fin 16 → Fin 64 → ℝ) (km : Fin 8 → Fin 16 → Fin 64 → ℝ)

/-- The score of key `t`. -/
def S (h : Fin 16) (p : Fin 256) (t : Fin 2048) : ℝ := ∑ d, k t h d * (q p h d * qC)
/-- The score of past block `n`, minus infinity at the other blocks. -/
def A (i : Nat) (h : Fin 16) (p : Fin 256) (n : Fin 8) : EReal :=
  if n.1 < i then ((∑ d, km n h d * (q p h d * qC) : ℝ) : EReal) else ⊥
/-- The blocks chosen. -/
def Chosen (i : Nat) (h : Fin 16) (p : Fin 256) (n : Fin 8) : Prop := n.1 < i ∧ rk (A q km i h p) n < 3

instance (i : Nat) (h : Fin 16) (p : Fin 256) (n : Fin 8) : Decidable (Chosen q km i h p n) := by
  unfold Chosen; infer_instance

/-- The sum of `y` weighted by powers of two of the scores, over the own block and the first `j` blocks where chosen. -/
def T (i : Fin 8) (h : Fin 16) (p : Fin 256) (y : Fin 2048 → ℝ) : Nat → ℝ
  | 0 => own (fun r => S q k h p (tok i r)) (fun r => y (tok i r)) p
  | j + 1 => T i h p y j
      + if Chosen q km i.1 h p (blk j) then whole (fun r => S q k h p (tok (blk j) r)) (fun r => y (tok (blk j) r)) else 0

theorem T_pos (i : Fin 8) (h : Fin 16) (p : Fin 256) : ∀ j, 0 < T q k km i h p (fun _ => 1) j
  | 0 => by
    show 0 < own _ _ p
    unfold own
    refine Finset.sum_pos' (fun r _ => ?_) ⟨⟨0, by decide⟩, Finset.mem_univ _, ?_⟩
    · split
      · positivity
      · exact le_rfl
    · rw [if_pos (Nat.zero_le _)]; positivity
  | j + 1 => by
    have h1 := T_pos i h p j
    have h2 : 0 ≤ (if Chosen q km i.1 h p (blk j) then whole (fun r => S q k h p (tok (blk j) r)) (fun r => (1 : ℝ)) else 0) := by
      split
      · unfold whole; positivity
      · exact le_rfl
    exact add_pos_of_pos_of_nonneg h1 h2

end

section State
variable {x0 : Vec Ideal S256x1024 .bf16} {x1 : Vec Ideal S2048x2048 .bf16} {x2 : Vec Ideal S1x8x2048 .f32}
  {q : Fin 256 → Fin 16 → Fin 64 → ℝ} {k v : Fin 2048 → Fin 16 → Fin 64 → ℝ} {km w : Fin 8 → Fin 16 → Fin 64 → ℝ}
  (B : Blocks x0 x1 x2 q k v km w)

include B

theorem vals (h : Fin 16) (n : Fin 8) : Vals (kvB x1 n h) (qP h x0) (fun r d => k (tok n r) h d) (fun r d => v (tok n r) h d)
    (fun p d => q p h d * qC) where
  k r d := B.k (tok n r) h d
  v r d := B.v (tok n r) h d
  q p d := by rw [qP_lo, B.q, ← EReal.coe_mul]
  z p d := qP_hi h x0 d p

theorem rowB_apply (i : grid0.Coords) (h : Fin 16) (n : Fin 8) (p : Fin 256) :
    rowB i x0 x2 h n (ix3 (0 : Fin 1) (0 : Fin 1) p) = if Chosen q km (i 2).val h p n then (0 : EReal) else ⊥ := by
  refine (selRow_apply i (kmB x2 h) (qP h x0) n p).trans ?_
  have hA : (fun k => adj i (kmB x2 h) (qP h x0) (ix2 k p)) = A q km (i 2).val h p := by
    funext n'
    exact adj_apply i _ _ n' p (km n' h) (fun d => q p h d * qC) (w n' h) (fun d => B.m n' h d) (fun d => B.w n' h d)
      (fun d => by rw [qP_lo, B.q, ← EReal.coe_mul]) (fun d => qP_hi h x0 d p)
  rw [hA]
  rfl

/-- The loop's state after `j` trips. -/
theorem stateV (i : grid0.Coords) (h : Fin 16) (p : Fin 256) : ∀ j, ∃ M : ℝ,
    mS i x0 x1 x2 h j (ix3 (0 : Fin 1) (0 : Fin 1) p) = (M : EReal) ∧
    aS i x0 x1 x2 h j (ix3 (0 : Fin 1) rowO p) = (((2 : ℝ) ^ (-M) * T q k km (i 2) h p (fun _ => 1) j : ℝ) : EReal) ∧
    ∀ d, aS i x0 x1 x2 h j (ix3 (0 : Fin 1) (rowV d) p)
      = (((2 : ℝ) ^ (-M) * T q k km (i 2) h p (fun t => v t h d) j : ℝ) : EReal)
  | 0 => by
    obtain ⟨M, h1, h2, h3⟩ := start (vals B h (i 2)) p
    refine ⟨M, ?_, ?_, fun d => ?_⟩
    · exact (shapeCast_ab_1ab_apply _ _ _ _ _).trans h1
    · exact (shapeCast_ab_1ab_apply _ _ _ _ _).trans h2
    · exact (shapeCast_ab_1ab_apply _ _ _ _ _).trans (h3 d)
  | j + 1 => by
    obtain ⟨M, h1, h2, h3⟩ := stateV i h p j
    have hv := vals B h (blk j)
    have hr := rowB_apply B i h (blk j)
    obtain ⟨M', hM'⟩ := mStep_real hv (rowB i x0 x2 h (blk j)) (mS i x0 x1 x2 h j) (fun p => Chosen q km (i 2).val h p (blk j)) hr p M h1
    refine ⟨M', ?_, ?_, fun d => ?_⟩
    · exact (shapeCast_ab_1ab_apply _ _ _ _ _).trans hM'
    · exact (shapeCast_ab_1ab_apply _ _ _ _ _).trans
        (accStep_apply hv _ _ (aS i x0 x1 x2 h j) _ hr rowO (fun _ => 1) (onesV_one _) p M M' _ h1 hM' h2)
    · exact (shapeCast_ab_1ab_apply _ _ _ _ _).trans
        (accStep_apply hv _ _ (aS i x0 x1 x2 h j) _ hr (rowV d) (fun r => v (tok (blk j) r) h d)
          (fun r => (onesV_v _ d r).trans (hv.v r d)) p M M' _ h1 hM' (h3 d))

omit B in
theorem quot_apply (a : Vec Ideal S1x80x256 .f32) (d : Fin 64) (p : Fin 256) (l n : ℝ) (hl : 0 < l)
    (h0 : a (ix3 (0 : Fin 1) rowO p) = (l : EReal)) (h1 : a (ix3 (0 : Fin 1) (rowV d) p) = (n : EReal)) :
    quot a (ix2 d p) = ((n / l : ℝ) : EReal) := by
  unfold quot
  have e1 : extractStridedSlice S64x256 ![16, 0] (shapeCast S80x256 a shapeCasts_S1x80x256_S80x256) slices_S80x256_o16_0_S64x256 (ix2 d p)
      = (n : EReal) := by
    rw [slice2_axis0_apply 16 _ _ d p (rowV d) rfl, shapeCast_1ab_ab_apply, h1]
  have e2 : extractStridedSlice S1x256 ![0, 0] (shapeCast S80x256 a shapeCasts_S1x80x256_S80x256) slices_S80x256_o0_0_S1x256 (ix2 (0 : Fin 1) p)
      = (l : EReal) := by
    rw [slice2_axis0_apply 0 _ _ (0 : Fin 1) p rowO rfl, shapeCast_1ab_ab_apply, h0]
  rw [divf_apply, e1, broadcastTo_1b_ab_apply, select_apply, cmpf_apply, e2, broadcast_apply, Ideal.ofBits_def, Ideal.ofBits_zero_f32]
  have hc : FloatOps.cmpf (F := Ideal) (φ := .f32) .ogt (l : EReal) 0 = BitVec.ofBool (decide ((0 : EReal) < (l : EReal))) := rfl
  rw [hc, sel_dec, if_pos (by exact_mod_cast hl)]
  refine (Ideal.div_coe hl.ne' _).trans ?_
  rw [← EReal.coe_mul]
  congr 1
  ring

/-- What the launch writes at query `p`, head `h`, coordinate `d`. -/
theorem outB_apply (i : grid0.Coords) (h : Fin 16) (d : Fin 64) (p : Fin 256) (j : ℕ) :
    outB (fun h => aS i x0 x1 x2 h j) (ix2 p (hd h d))
      = ((T q k km (i 2) h p (fun t => v t h d) j / T q k km (i 2) h p (fun _ => 1) j : ℝ) : EReal) := by
  unfold outB
  rw [truncf_apply, transpose_ix2_apply]
  refine (concatenate_ofFn_apply (s₁ := S64x256) (t := S1024x256) 0 (fun n : Fin 16 => quot (aS i x0 x1 x2 n j))
    concatenates_S64x256_S64x256_S64x256_S64x256_S64x256_S64x256_S64x256_S64x256_S64x256_S64x256_S64x256_S64x256_S64x256_S64x256_S64x256_S64x256_S1024x256_d0
    rfl 64 rfl (ix2 (hd h d) p) h (by show (64 * h.1 + d.1) / 64 = h.1; omega) (ix2 d p)
    (by show d.1 = (64 * h.1 + d.1) % 64; omega) (by intro b hb; match b with | 0 => exact absurd rfl hb | 1 => rfl)).trans ?_
  obtain ⟨M, _, h2, h3⟩ := stateV B i h p j
  have hpos : (0 : ℝ) < (2 : ℝ) ^ (-M) := Real.rpow_pos_of_pos (by norm_num) _
  refine (quot_apply _ d p _ _ (mul_pos hpos (T_pos q k km (i 2) h p j)) h2 (h3 d)).trans ?_
  rw [mul_div_mul_left _ _ hpos.ne']

end State

end Cert.KernelIdeal.Head

end
-- ==== Proof.Host.lean ====
/- What the launch of the attention kernel reads: the host's rows of queries, its interleaved rows of keys and values
   and its block means, at an index; and the launch's blocks of them. -/
module

public import proofs.«01_k».proof.Proof.HeadVal
public import Idealize.ShloMosaic.Lib.Pointwise

@[expose] public section

set_option maxRecDepth 16384

noncomputable section

namespace Cert.KernelIdeal.Head

open Cert.KernelIdeal Cert.KernelIdeal.Gen Cert.KernelIdeal.Run
open Idealize.ShloMosaic Idealize.ShloMosaic.TcCoe Idealize.ShloMosaic.StableHlo

/-- An argument: its batch, its token and its lane. -/
abbrev A3 := FVec Ideal S8x2048x1024 .f32

/-- The rows of all batches. -/
def rows (x : A3) : FVec Ideal S16384x1024 .f32 := shapeCast S16384x1024 x shapeCasts_S8x2048x1024_S16384x1024
/-- The rows of keys and values, head by head. -/
def pairs (k v : A3) : FVec Ideal S16384x2048 .f32 :=
  shapeCast S16384x2048 (concatenate S16384x16x2x64 2
    [⟨S16384x16x1x64, broadcastInDim S16384x16x1x64 ![0, 1, 3] bcast_S16384x16x64_S16384x16x1x64_0_1_3 (shapeCast S16384x16x64 (rows k) shapeCasts_S16384x1024_S16384x16x64)⟩,
     ⟨S16384x16x1x64, broadcastInDim S16384x16x1x64 ![0, 1, 3] bcast_S16384x16x64_S16384x16x1x64_0_1_3 (shapeCast S16384x16x64 (rows v) shapeCasts_S16384x1024_S16384x16x64)⟩]
    concatenates_S16384x16x1x64_S16384x16x1x64_S16384x16x2x64_d2) shapeCasts_S16384x16x2x64_S16384x2048
/-- The mean of each block of rows. -/
def means (kv : FVec Ideal S16384x2048 .f32) : FVec Ideal S64x2048 .f32 :=
  mulf (Host.reduceAdd (shapeCast S64x256x2048 kv shapeCasts_S16384x2048_S64x256x2048) (constant (F := Ideal) S_ .f32 0x00000000#32) reducesTo_S64x256x2048_S64x2048_d1 h_S_)
    (broadcastInDim S64x2048 ![] bcast_S_S64x2048 (constant (F := Ideal) S_ .f32 0x3B800000#32))

theorem bits_256th : Ideal.ofBits .f32 0x3B800000#32 = ((1 / 256 : ℝ) : EReal) := by
  simp only [Ideal.ofBits, Ideal.ieee]
  simp
  rw [← EReal.coe_mul]; norm_num

theorem means_apply (kv : FVec Ideal S16384x2048 .f32) (n : Fin 64) (l : Fin 2048) :
    means kv (ix2 n l) = (∑ r : Fin 256, kv (ix2 ⟨n.1 * 256 + r.1, by omega⟩ l)) * ((1 / 256 : ℝ) : EReal) := by
  pointwise [means]
  rw [bits_256th]

theorem rows_apply (x : A3) (b : Fin 8) (t : Fin 2048) (l : Fin 1024) :
    rows x (ix2 ⟨2048 * b.1 + t.1, by omega⟩ l) = x (ix3 b t l) := by
  pointwise [rows]

theorem pairs_k (k v : A3) (b : Fin 8) (t : Fin 2048) (h : Fin 16) (d : Fin 64) :
    pairs k v (ix2 ⟨2048 * b.1 + t.1, by omega⟩ (laneK h d)) = k (ix3 b t (hd h d)) := by
  pointwise [pairs, rows, laneK, hd]
  rw [dif_pos (by omega)]
  refine congrArg (fun l => k (ix3 b t l)) (Fin.ext ?_)
  show h.1 * 64 + d.1 = 64 * h.1 + d.1
  omega

theorem pairs_v (k v : A3) (b : Fin 8) (t : Fin 2048) (h : Fin 16) (d : Fin 64) :
    pairs k v (ix2 ⟨2048 * b.1 + t.1, by omega⟩ (laneV h d)) = v (ix3 b t (hd h d)) := by
  pointwise [pairs, rows, laneV, hd]
  rw [dif_neg (by omega)]
  refine congrArg (fun l => v (ix3 b t l)) (Fin.ext ?_)
  show h.1 * 64 + d.1 = 64 * h.1 + d.1
  omega

variable (m : (ℓ : Loc nD τ sig) → Buf (Elt Ideal) ℓ) (c : Dev nD)

/-- The arguments. -/
abbrev argQ : A3 := m ((c.tc : Thread nD τ).loc main_arg0)
abbrev argK : A3 := m ((c.tc : Thread nD τ).loc main_arg1)
abbrev argV : A3 := m ((c.tc : Thread nD τ).loc main_arg2)

set_option maxHeartbeats 4000000 in
theorem V_q : (V m c main_v13 : FVec Ideal S16384x1024 .bf16) = truncf .bf16 (rows (argQ m c)) bitsLt_bf16_f32 := by
  unfold V hostOps0
  after_results_simp <;> rfl

set_option maxHeartbeats 4000000 in
theorem V_kv : (V m c main_v14 : FVec Ideal S16384x2048 .bf16) = truncf .bf16 (pairs (argK m c) (argV m c)) bitsLt_bf16_f32 := by
  unfold V hostOps0
  after_results_simp <;> rfl

set_option maxHeartbeats 4000000 in
theorem V_means : (V m c main_v15 : FVec Ideal S8x8x2048 .f32) =
    shapeCast S8x8x2048 (means (pairs (argK m c) (argV m c))) shapeCasts_S64x2048_S8x8x2048 := by
  unfold V hostOps0
  after_results_simp <;> rfl

/-- A point's batch. -/
abbrev bOf (t : Fin cfg0.N) : Fin 8 := grid0.coords t 0
/-- A point's block of queries. -/
abbrev iOf (t : Fin cfg0.N) : Fin 8 := grid0.coords t 2

theorem index0 : ∀ t : Fin cfg0.N, win0_0.index t 0 = 8 * (bOf t).1 + (iOf t).1 ∧ win0_0.index t 1 = 0 :=
  (by decide +kernel : ∀ t : Fin grid0.N, win0_0.index t 0 = 8 * (grid0.coords t 0).1 + (grid0.coords t 2).1 ∧ win0_0.index t 1 = 0)
theorem index1 : ∀ t : Fin cfg0.N, win0_1.index t 0 = (bOf t).1 ∧ win0_1.index t 1 = 0 :=
  (by decide +kernel : ∀ t : Fin grid0.N, win0_1.index t 0 = (grid0.coords t 0).1 ∧ win0_1.index t 1 = 0)
theorem index2 : ∀ t : Fin cfg0.N, win0_2.index t 0 = (bOf t).1 ∧ win0_2.index t 1 = 0 ∧ win0_2.index t 2 = 0 :=
  (by decide +kernel : ∀ t : Fin grid0.N, win0_2.index t 0 = (grid0.coords t 0).1 ∧ win0_2.index t 1 = 0 ∧ win0_2.index t 2 = 0)
theorem index3 : ∀ t : Fin cfg0.N, win0_3.index t 0 = 8 * (bOf t).1 + (iOf t).1 ∧ win0_3.index t 1 = 0 :=
  (by decide +kernel : ∀ t : Fin grid0.N, win0_3.index t 0 = 8 * (grid0.coords t 0).1 + (grid0.coords t 2).1 ∧ win0_3.index t 1 = 0)

/-- The block of queries of a point. -/
theorem iblk_q (t : Fin cfg0.N) (p : Fin 256) (l : Fin 1024) :
    (iblk m c 0 t : FVec Ideal S256x1024 .bf16) (ix2 p l) = argQ m c (ix3 (bOf t) (tok (iOf t) p) l) := by
  have hi := index0 t
  have hb := (bOf t).isLt
  have hI := (iOf t).isLt
  have key : (iblk m c 0 t : FVec Ideal S256x1024 .bf16) (ix2 p l)
      = (V m c main_v13 : FVec Ideal S16384x1024 .bf16) (ix2 ⟨2048 * (bOf t).1 + (tok (iOf t) p).1, by omega⟩ l) := by
    unfold iblk
    rw [View.read_apply]
    show V m c main_v13 _ = V m c main_v13 _
    congr 1
    funext a
    apply Fin.ext
    match a with
    | ⟨0, _⟩ => show win0_0.index t 0 * 256 + 1 * p.1 = 2048 * (bOf t).1 + (256 * (iOf t).1 + p.1); rw [hi.1]; omega
    | ⟨1, _⟩ => show win0_0.index t 1 * 1024 + 1 * l.1 = l.1; rw [hi.2]; omega
  rw [key, V_q]
  exact rows_apply _ _ _ _

/-- The block of keys and values of a point. -/
theorem iblk_kv (t : Fin cfg0.N) (s : Fin 2048) (l : Fin 2048) :
    (iblk m c 1 t : FVec Ideal S2048x2048 .bf16) (ix2 s l)
      = pairs (argK m c) (argV m c) (ix2 ⟨2048 * (bOf t).1 + s.1, by have := (bOf t).isLt; omega⟩ l) := by
  have hi := index1 t
  have hb := (bOf t).isLt
  have key : (iblk m c 1 t : FVec Ideal S2048x2048 .bf16) (ix2 s l)
      = (V m c main_v14 : FVec Ideal S16384x2048 .bf16) (ix2 ⟨2048 * (bOf t).1 + s.1, by omega⟩ l) := by
    unfold iblk
    rw [View.read_apply]
    show V m c main_v14 _ = V m c main_v14 _
    congr 1
    funext a
    apply Fin.ext
    match a with
    | ⟨0, _⟩ => show win0_1.index t 0 * 2048 + 1 * s.1 = 2048 * (bOf t).1 + s.1; rw [hi.1]; omega
    | ⟨1, _⟩ => show win0_1.index t 1 * 2048 + 1 * l.1 = l.1; rw [hi.2]; omega
  rw [key, V_kv]
  rfl

/-- The block of means of a point. -/
theorem iblk_means (t : Fin cfg0.N) (n : Fin 8) (l : Fin 2048) :
    (iblk m c 2 t : FVec Ideal S1x8x2048 .f32) (ix3 (0 : Fin 1) n l)
      = (∑ r : Fin 256, pairs (argK m c) (argV m c) (ix2 ⟨2048 * (bOf t).1 + (tok n r).1, by have := (bOf t).isLt; omega⟩ l))
        * ((1 / 256 : ℝ) : EReal) := by
  have hi := index2 t
  have hb := (bOf t).isLt
  have key : (iblk m c 2 t : FVec Ideal S1x8x2048 .f32) (ix3 (0 : Fin 1) n l)
      = (V m c main_v15 : FVec Ideal S8x8x2048 .f32) (ix3 (bOf t) n l) := by
    unfold iblk
    rw [View.read_apply]
    show V m c main_v15 _ = V m c main_v15 _
    congr 1
    funext a
    apply Fin.ext
    match a with
    | ⟨0, _⟩ => show win0_2.index t 0 * 1 + 1 * 0 = (bOf t).1; rw [hi.1]; omega
    | ⟨1, _⟩ => show win0_2.index t 1 * 8 + 1 * n.1 = n.1; rw [hi.2.1]; omega
    | ⟨2, _⟩ => show win0_2.index t 2 * 2048 + 1 * l.1 = l.1; rw [hi.2.2]; omega
  rw [key, V_means]
  have h2 : shapeCast S8x8x2048 (means (pairs (argK m c) (argV m c))) shapeCasts_S64x2048_S8x8x2048 (ix3 (bOf t) n l)
      = means (pairs (argK m c) (argV m c)) (ix2 ⟨(bOf t).1 * 8 + n.1, by omega⟩ l) := by
    pointwise
  rw [h2, means_apply]
  refine congrArg (· * _) (Finset.sum_congr rfl fun r _ => congrArg (fun x => pairs (argK m c) (argV m c) (ix2 x l)) (Fin.ext ?_))
  show ((bOf t).1 * 8 + n.1) * 256 + r.1 = 2048 * (bOf t).1 + (256 * n.1 + r.1)
  omega

section Real
variable {m c}
variable {q k v : Fin 8 → Fin 2048 → Fin 16 → Fin 64 → ℝ}
  (hq : ∀ b t h d, argQ m c (ix3 b t (hd h d)) = (q b t h d : EReal))
  (hk : ∀ b t h d, argK m c (ix3 b t (hd h d)) = (k b t h d : EReal))
  (hv : ∀ b t h d, argV m c (ix3 b t (hd h d)) = (v b t h d : EReal))
include hq hk hv

/-- The mean of a block of rows. -/
def mean (k : Fin 2048 → Fin 16 → Fin 64 → ℝ) (n : Fin 8) (h : Fin 16) (d : Fin 64) : ℝ := (∑ r, k (tok n r) h d) * (1 / 256)

/-- At real arguments a point's blocks are real. -/
theorem blocks (t : Fin cfg0.N) : Blocks (iblk m c 0 t) (iblk m c 1 t) (iblk m c 2 t)
    (fun p => q (bOf t) (tok (iOf t) p)) (k (bOf t)) (v (bOf t)) (mean (k (bOf t))) (mean (v (bOf t))) where
  q p h d := (iblk_q m c t p (hd h d)).trans (hq _ _ _ _)
  k s h d := (iblk_kv m c t s (laneK h d)).trans ((pairs_k _ _ _ _ _ _).trans (hk _ _ _ _))
  v s h d := (iblk_kv m c t s (laneV h d)).trans ((pairs_v _ _ _ _ _ _).trans (hv _ _ _ _))
  m n h d := by
    refine (iblk_means m c t n (laneK h d)).trans ?_
    unfold mean
    rw [EReal.coe_mul, ← coe_sum]
    exact congrArg (· * _) (Finset.sum_congr rfl fun r _ => (pairs_k _ _ _ _ _ _).trans (hk _ _ _ _))
  w n h d := by
    refine (iblk_means m c t n (laneV h d)).trans ?_
    unfold mean
    rw [EReal.coe_mul, ← coe_sum]
    exact congrArg (· * _) (Finset.sum_congr rfl fun r _ => (pairs_v _ _ _ _ _ _).trans (hv _ _ _ _))

/-- The result array at a query, a head and a coordinate. -/
theorem result_apply (t : Fin cfg0.N) (p : Fin 256) (h : Fin 16) (d : Fin 64) :
    ((dats m 0 c).arrAt 3 cfg0.N : FVec Ideal S16384x1024 .bf16)
        (ix2 ⟨2048 * (bOf t).1 + (tok (iOf t) p).1, by have := (bOf t).isLt; omega⟩ (hd h d))
      = ((T (fun p => q (bOf t) (tok (iOf t) p)) (k (bOf t)) (mean (k (bOf t))) (iOf t) h p (fun s => v (bOf t) s h d) (iOf t).1
        / T (fun p => q (bOf t) (tok (iOf t) p)) (k (bOf t)) (mean (k (bOf t))) (iOf t) h p (fun _ => 1) (iOf t).1 : ℝ) : EReal) := by
  have hi := index3 t
  have hb := (bOf t).isLt
  have hI := (iOf t).isLt
  have hr := congrFun (blocks3 m c t (flush0_3 t)) (ix2 p (hd h d))
  rw [flushed3_A, out_eq, View.read_apply] at hr
  have h2 := outB_apply (blocks hq hk hv t) (grid0.coords t) h d p (iOf t).1
  refine Eq.trans ?_ (hr.trans ?_)
  · refine congrArg ((dats m 0 c).arrAt 3 cfg0.N : FVec Ideal S16384x1024 .bf16) ?_
    funext a
    apply Fin.ext
    match a with
    | ⟨0, _⟩ => show 2048 * (bOf t).1 + (256 * (iOf t).1 + p.1) = win0_3.index t 0 * 256 + 1 * p.1; rw [hi.1]; omega
    | ⟨1, _⟩ => show (hd h d).1 = win0_3.index t 1 * 1024 + 1 * (hd h d).1; rw [hi.2]; omega
  · exact h2

end Real

end Cert.KernelIdeal.Head

end

end
-- ==== Proof.TopK.lean ====
/- The blocks a stable sort by descending score puts in its first places, by their ranks. -/
module

public import proofs.«01_k».proof.Proof.Sel
public import Idealize.ShloMosaic.Lib.SortPrefix

@[expose] public section

noncomputable section

namespace Cert.KernelIdeal.Head

open Idealize.ShloMosaic

/-- A block is before another when its score is greater. -/
def above (A : Fin 8 → EReal) (a b : Fin 8) : Bool := decide (A b < A a)
/-- A block is before another when its score is greater, or when the scores agree and it comes first. -/
def ahead (A : Fin 8 → EReal) (a b : Fin 8) : Bool := decide (A b < A a ∨ (A a = A b ∧ a.1 < b.1))

theorem ahead_total (A : Fin 8 → EReal) : StrictTotalBefore (ahead A) where
  irrefl a := by simp [ahead]
  trans a b c hab hbc := by
    simp only [ahead, decide_eq_true_eq] at hab hbc ⊢
    rcases hab with hab | ⟨e1, l1⟩ <;> rcases hbc with hbc | ⟨e2, l2⟩
    · exact Or.inl (hbc.trans hab)
    · exact Or.inl (e2 ▸ hab)
    · exact Or.inl (e1 ▸ hbc)
    · exact Or.inr ⟨e1.trans e2, l1.trans l2⟩
  total a b hne := by
    simp only [ahead, decide_eq_true_eq]
    rcases lt_trichotomy (A a) (A b) with h | h | h
    · exact Or.inr (Or.inl h)
    · rcases Nat.lt_or_gt_of_ne (fun e => hne (Fin.ext e)) with l | l
      · exact Or.inl (Or.inr ⟨h, l⟩)
      · exact Or.inr (Or.inr ⟨h.symm, l⟩)
    · exact Or.inl (Or.inl h)

/-- On a list in increasing order the stable sort under the scores alone is the sort under both. -/
theorem stableSort_above (A : Fin 8 → EReal) : ∀ l : List (Fin 8), l.Pairwise (· < ·) →
    stableSort (above A) l = stableSort (ahead A) l
  | [], _ => rfl
  | a :: l, h => by
    rw [List.pairwise_cons] at h
    show insertBefore (above A) a (stableSort (above A) l) = insertBefore (ahead A) a (stableSort (ahead A) l)
    rw [stableSort_above A l h.2]
    refine insertBefore_congr _ _ _ _ fun b hb => ?_
    have hb' : b ∈ l := (perm_stableSort _ l).mem_iff.mp hb
    have hlt : a.1 < b.1 := h.1 b hb'
    unfold above ahead
    refine decide_eq_decide.mpr ⟨Or.inl, fun h => h.resolve_right fun h2 => by omega⟩

theorem sortedFrom_above (A : Fin 8 → EReal) : sortedFrom (above A) = sortedFrom (ahead A) := by
  funext k
  unfold sortedFrom
  rw [List.get_of_eq (show sortPositions 8 (above A) = sortPositions 8 (ahead A) from
    stableSort_above A _ (List.pairwise_lt_finRange 8))]
  rfl

/-- The block in place `j` has rank `j`. -/
theorem rk_sortedFrom (A : Fin 8 → EReal) (j : Fin 8) : rk A (sortedFrom (above A) j) = j.1 := by
  rw [sortedFrom_above]
  have hT := ahead_total A
  have hord : ∀ i k : Fin 8, (A (sortedFrom (ahead A) k) < A (sortedFrom (ahead A) i) ∨
      (A (sortedFrom (ahead A) i) = A (sortedFrom (ahead A) k) ∧ (sortedFrom (ahead A) i).1 < (sortedFrom (ahead A) k).1)) ↔ i < k := by
    intro i k
    have hiff : ∀ a b, ahead A a b = true ↔ (A b < A a ∨ (A a = A b ∧ a.1 < b.1)) := fun a b => by simp [ahead]
    rw [← hiff]
    have hno := sortedFrom_noInversion (ahead A) (ahead A) (fun a b h => hT.asymm a b h) (fun _ _ h => h) hT.negTrans
    constructor
    · intro h
      by_contra hc
      rcases lt_or_eq_of_le (not_lt.mp hc) with l | e
      · rw [hno k i l] at h; exact absurd h (by decide)
      · rw [e, hT.irrefl] at h; exact absurd h (by decide)
    · intro h
      rcases hT.total _ _ (fun e => h.ne (sortedFrom_injective (ahead A) e)) with l | l
      · exact l
      · rw [hno i k h] at l; exact absurd l (by decide)
  have hb : Function.Bijective (sortedFrom (ahead A)) := ⟨sortedFrom_injective _, sortedFrom_surjective _⟩
  unfold rk
  rw [← Equiv.sum_comp (Equiv.ofBijective _ hb)]
  simp only [Equiv.ofBijective_apply, hord]
  revert j
  decide

/-- A block is among the first three places exactly when its rank is under three. -/
theorem exists_sortedFrom (A : Fin 8 → EReal) (n : Fin 8) :
    (∃ j : Fin 3, sortedFrom (above A) ⟨j.1, by omega⟩ = n) ↔ rk A n < 3 := by
  constructor
  · rintro ⟨j, rfl⟩
    rw [rk_sortedFrom]; exact j.2
  · intro h
    obtain ⟨j, rfl⟩ := sortedFrom_surjective (above A) n
    rw [rk_sortedFrom] at h
    exact ⟨⟨j.1, h⟩, rfl⟩

/-- Ranks are the same under scores in the same order. -/
theorem rk_congr (A B : Fin 8 → EReal) (h : ∀ a b, A a < A b ↔ B a < B b) (n : Fin 8) : rk A n = rk B n := by
  have he : ∀ a b, A a = A b ↔ B a = B b := fun a b => by
    constructor
    · intro e
      refine le_antisymm (not_lt.mp fun c => ?_) (not_lt.mp fun c => ?_)
      · exact absurd ((h b a).mpr c) (by rw [e]; exact lt_irrefl _)
      · exact absurd ((h a b).mpr c) (by rw [e]; exact lt_irrefl _)
    · intro e
      refine le_antisymm (not_lt.mp fun c => ?_) (not_lt.mp fun c => ?_)
      · exact absurd ((h b a).mp c) (by rw [e]; exact lt_irrefl _)
      · exact absurd ((h a b).mp c) (by rw [e]; exact lt_irrefl _)
  unfold rk
  exact Finset.sum_congr rfl fun k _ => if_congr (or_congr (h n k) (and_congr (he k n) Iff.rfl)) rfl rfl

end Cert.KernelIdeal.Head

end

end
-- ==== Proof.Soft.lean ====
/- The reference attention over real arguments: its mask, its scores, its softmax, as sums of real numbers; and the
   same sums as the kernel's, block by block. -/
module

public import proofs.«01_k».proof.Proof.Ref
public import proofs.«01_k».proof.Proof.Host
public import proofs.«01_k».proof.Proof.TopK

@[expose] public section

set_option maxRecDepth 16384

noncomputable section

namespace Cert.ReferenceIdeal.Sem

open Cert.ReferenceIdeal Cert.ReferenceIdeal.Gen Cert.ReferenceIdeal.Value
open Idealize.ShloMosaic Idealize.ShloMosaic.TcCoe Idealize.ShloMosaic.StableHlo
open Cert.KernelIdeal.Head (hd tok mean coe_sum S A Chosen own whole blk qC rk rk_congr above exists_sortedFrom)

theorem bits_bot : Ideal.ofBits .f32 0xFF800000#32 = (⊥ : EReal) := by simp [Ideal.ofBits, Ideal.ieee]

theorem select_ofBool {α : Type} (P : Prop) [Decidable P] (a b : α) :
    Scalar.select (BitVec.ofBool (decide P)) a b = if P then a else b := by
  by_cases h : P
  · rw [decide_eq_true h, if_pos h]; rfl
  · rw [decide_eq_false h, if_neg h]; rfl

/-- The greatest of finitely many numbers, some real and the others minus infinity, is real. -/
theorem fold_max_real {n : Nat} (f : Fin n → EReal) (M : Fin n → Prop) [DecidablePred M] (z : Fin n → ℝ)
    (hf : ∀ s, f s = if M s then (z s : EReal) else ⊥) (hM : ∃ s, M s) :
    ∃ r : ℝ, Finset.fold max (⊥ : EReal) f Finset.univ = (r : EReal) := by
  obtain ⟨s, hs⟩ := hM
  have hlt : Finset.fold max (⊥ : EReal) f Finset.univ < ⊤ := by
    rw [Finset.fold_max_lt]
    refine ⟨bot_lt_top, fun x _ => ?_⟩
    rw [hf]
    split
    · exact EReal.coe_lt_top _
    · exact bot_lt_top
  have hgt : (z s : EReal) ≤ Finset.fold max (⊥ : EReal) f Finset.univ := by
    rw [Finset.le_fold_max]
    exact Or.inr ⟨s, Finset.mem_univ _, by rw [hf, if_pos hs]⟩
  refine ⟨(Finset.fold max (⊥ : EReal) f Finset.univ).toReal, (EReal.coe_toReal hlt.ne ?_).symm⟩
  exact (lt_of_lt_of_le (EReal.bot_lt_coe _) hgt).ne'

/-- The softmax of a masked row, weighing real values. -/
theorem soft (c : IVec S8x16x2048x2048 1) (x : FVec Ideal S8x16x2048x2048 .f32) (v : A3) (b : Fin 8) (h : Fin 16)
    (t : Fin 2048) (d : Fin 64) (M : Fin 2048 → Prop) [DecidablePred M] (z y : Fin 2048 → ℝ)
    (hc : ∀ s, c (ix4 b h t s) = BitVec.ofBool (decide (M s))) (hx : ∀ s, x (ix4 b h t s) = (z s : EReal))
    (hy : ∀ s, heads v (ix4 b h s d) = (y s : EReal)) (hM : ∃ s, M s) :
    mix (weights c x) v (ix4 b h t d)
      = (((∑ s, if M s then Real.exp (z s) * y s else 0) / ∑ s, if M s then Real.exp (z s) * 1 else 0 : ℝ) : EReal) := by
  have hmask : ∀ s, masked c x (ix4 b h t s) = if M s then (z s : EReal) else ⊥ := by
    intro s
    rw [masked_apply, hc, hx, bits_bot, select_ofBool]
  obtain ⟨r, hr⟩ := fold_max_real (fun s => masked c x (ix4 b h t s)) M z hmask hM
  have htop : top (masked c x) (ix4 b h t (0 : Fin 1)) = (r : EReal) := by
    refine guarded_apply _ _ _ ?_
    rw [column_apply, rowMax_apply, bits_bot]
    exact hr
  have hw : ∀ s, weights c x (ix4 b h t s) = ((Real.exp (-r) * (if M s then Real.exp (z s) * 1 else 0) : ℝ) : EReal) := by
    intro s
    rw [weights_apply, hc, select_ofBool, htop, hmask]
    by_cases hs : M s
    · rw [if_pos hs, if_pos hs, if_pos hs, ← EReal.coe_sub, Ideal.exp_coe, mul_one, ← Real.exp_add, neg_add_eq_sub]
    · rw [if_neg hs, if_neg hs, mul_zero, EReal.coe_zero]
  set W : ℝ := ∑ s, if M s then Real.exp (z s) * 1 else 0 with hW
  have hWpos : 0 < W := by
    obtain ⟨s, hs⟩ := hM
    refine Finset.sum_pos' (fun r _ => ?_) ⟨s, Finset.mem_univ _, ?_⟩
    · split
      · positivity
      · exact le_rfl
    · rw [if_pos hs]; positivity
  have hsum : ∑ s, weights c x (ix4 b h t s) = ((Real.exp (-r) * W : ℝ) : EReal) := by
    rw [hW, Finset.mul_sum, ← coe_sum]
    exact Finset.sum_congr rfl fun s _ => hw s
  have hepos : 0 < Real.exp (-r) * W := mul_pos (Real.exp_pos _) hWpos
  have htot : total (weights c x) (ix4 b h t (0 : Fin 1)) = ((Real.exp (-r) * W : ℝ) : EReal) := by
    rw [total_apply _ _ _ _ (by rw [hsum]; exact_mod_cast hepos), hsum]
  rw [mix_apply, htot]
  have hterm : ∀ s, Ideal.div (weights c x (ix4 b h t s)) ((Real.exp (-r) * W : ℝ) : EReal) * heads v (ix4 b h s d)
      = (((if M s then Real.exp (z s) * y s else 0) * W⁻¹ : ℝ) : EReal) := by
    intro s
    rw [Ideal.div_coe hepos.ne', hw, hy, ← EReal.coe_mul, ← EReal.coe_mul]
    refine congrArg (fun a : ℝ => (a : EReal)) ?_
    have h1 := Real.exp_ne_zero (-r)
    have h2 := hWpos.ne'
    by_cases hs : M s
    · rw [if_pos hs, if_pos hs]; field_simp
    · rw [if_neg hs, if_neg hs]; ring
  rw [Finset.sum_congr rfl fun s _ => hterm s, coe_sum, ← Finset.sum_mul, div_eq_mul_inv]

section Real
variable {Q K V : A3} {q k v : Fin 8 → Fin 2048 → Fin 16 → Fin 64 → ℝ}
  (hq : ∀ b t h d, Q (ix3 b t (hd h d)) = (q b t h d : EReal))
  (hk : ∀ b t h d, K (ix3 b t (hd h d)) = (k b t h d : EReal))
  (hv : ∀ b t h d, V (ix3 b t (hd h d)) = (v b t h d : EReal))

theorem heads_real {X : A3} {x : Fin 8 → Fin 2048 → Fin 16 → Fin 64 → ℝ}
    (hx : ∀ b t h d, X (ix3 b t (hd h d)) = (x b t h d : EReal)) (b : Fin 8) (h : Fin 16) (t : Fin 2048) (d : Fin 64) :
    heads X (ix4 b h t d) = (x b t h d : EReal) := by
  rw [heads_apply, ← hx]
  refine congrArg (fun l => X (ix3 b t l)) (Fin.ext ?_)
  show h.1 * 64 + d.1 = 64 * h.1 + d.1
  omega

include hq in
theorem qs_real (b : Fin 8) (h : Fin 16) (t : Fin 2048) (d : Fin 64) :
    qs Q (ix4 b h t d) = ((q b t h d * (1 / 8) : ℝ) : EReal) := by
  have h8 : Ideal.ofBits .f32 0x3E000000#32 = ((1 / 8 : ℝ) : EReal) := by
    simp only [Ideal.ofBits, Ideal.ieee]
    simp
    rw [← EReal.coe_mul]; norm_num
  rw [qs_apply, heads_real hq, h8, EReal.coe_mul]

include hk in
theorem kmean_real (b : Fin 8) (h : Fin 16) (n : Fin 8) (d : Fin 64) :
    kmean K (ix4 b h n d) = ((mean (k b) n h d : ℝ) : EReal) := by
  have h256 : Ideal.ofBits .f32 0x43800000#32 = ((256 : ℝ) : EReal) := by
    simp only [Ideal.ofBits, Ideal.ieee]
    simp
    rw [← EReal.coe_mul]; norm_num
  rw [kmean_apply, h256, Ideal.div_coe (by norm_num)]
  unfold mean
  rw [EReal.coe_mul, ← coe_sum]
  refine congrArg (· * _) (Finset.sum_congr rfl fun r _ => ?_)
  rw [heads_real hk]
  refine congrArg (fun l => ((k b l h d : ℝ) : EReal)) (Fin.ext ?_)
  show n.1 * 256 + r.1 = 256 * n.1 + r.1
  omega

/-- The reference's score of a token. -/
def Z (q : Fin 2048 → Fin 16 → Fin 64 → ℝ) (k : Fin 2048 → Fin 16 → Fin 64 → ℝ) (h : Fin 16) (t s : Fin 2048) : ℝ :=
  ∑ d, q t h d * (1 / 8) * k s h d

include hq hk in
theorem att_real (b : Fin 8) (h : Fin 16) (t s : Fin 2048) :
    att Q K (ix4 b h t s) = ((Z (q b) (k b) h t s : ℝ) : EReal) := by
  rw [att_apply]
  unfold Z
  rw [← coe_sum]
  exact Finset.sum_congr rfl fun d _ => by rw [qs_real hq, heads_real hk, ← EReal.coe_mul]

/-- A power of two of the kernel's score is the exponential of the reference's. -/
theorem pow_score (q : Fin 2048 → Fin 16 → Fin 64 → ℝ) (k : Fin 2048 → Fin 16 → Fin 64 → ℝ) (h : Fin 16) (i : Fin 8)
    (p : Fin 256) (s : Fin 2048) :
    (2 : ℝ) ^ (S (fun p => q (tok i p)) k h p s) = Real.exp (Z q k h (tok i p) s) := by
  have hl : Real.log 2 ≠ 0 := (Real.log_pos (by norm_num)).ne'
  rw [Real.rpow_def_of_pos (by norm_num)]
  refine congrArg Real.exp ?_
  unfold S Z qC
  rw [Finset.mul_sum]
  refine Finset.sum_congr rfl fun d _ => ?_
  field_simp

include hq hk in
theorem gated_real (b : Fin 8) (h : Fin 16) (i : Fin 8) (p : Fin 256) (n : Fin 8) :
    gated Q K (ix4 b h (tok i p) n) = if n.1 < i.1 then ((∑ d, q b (tok i p) h d * (1 / 8) * mean (k b) n h d : ℝ) : EReal) else ⊥ := by
  have ht : (tok i p).1 / 256 = i.1 := by show (256 * i.1 + p.1) / 256 = i.1; omega
  rw [gated_apply, past_apply, select_ofBool, bits_bot, ht, gate_apply]
  refine if_congr Iff.rfl ?_ rfl
  rw [← coe_sum]
  exact Finset.sum_congr rfl fun d _ => by rw [qs_real hq, kmean_real hk, ← EReal.coe_mul]

include hq hk in
/-- The reference chooses the blocks the kernel chooses. -/
theorem chosen_real (b : Fin 8) (h : Fin 16) (i : Fin 8) (p : Fin 256) (n : Fin 8) :
    chosen Q K (ix4 b h (tok i p) n) = BitVec.ofBool (decide (Chosen (fun p => q b (tok i p)) (mean (k b)) i.1 h p n)) := by
  have ht : (tok i p).1 / 256 = i.1 := by show (256 * i.1 + p.1) / 256 = i.1; omega
  have hl : 0 < (Real.log 2)⁻¹ := inv_pos.mpr (Real.log_pos (by norm_num))
  rw [chosen_apply, found_apply, past_apply, WordCmp.andi_ofBool, ← Bool.decide_and]
  refine congrArg BitVec.ofBool (decide_eq_decide.mpr ?_)
  unfold Chosen
  rw [ht, and_comm]
  refine and_congr Iff.rfl ?_
  have hrk : rk (A (fun p => q b (tok i p)) (mean (k b)) i.1 h p) n = rk (fun n => gated Q K (ix4 b h (tok i p) n)) n := by
    refine rk_congr _ _ (fun a a' => ?_) n
    have hA : ∀ n, A (fun p => q b (tok i p)) (mean (k b)) i.1 h p n
        = if n.1 < i.1 then (((∑ d, q b (tok i p) h d * (1 / 8) * mean (k b) n h d) * (Real.log 2)⁻¹ : ℝ) : EReal) else ⊥ := by
      intro n
      unfold A
      refine if_congr Iff.rfl (congrArg (fun x : ℝ => (x : EReal)) ?_) rfl
      rw [Finset.sum_mul]
      refine Finset.sum_congr rfl fun d _ => ?_
      unfold qC
      ring
    rw [hA, hA]
    rw [gated_real hq hk, gated_real hq hk]
    by_cases h1 : a.1 < i.1 <;> by_cases h2 : a'.1 < i.1
    · rw [if_pos h1, if_pos h2, if_pos h1, if_pos h2, EReal.coe_lt_coe_iff, EReal.coe_lt_coe_iff]
      exact mul_lt_mul_iff_left₀ hl
    · rw [if_neg h2, if_neg h2]; exact ⟨fun h => absurd h not_lt_bot, fun h => absurd h not_lt_bot⟩
    · rw [if_neg h1, if_pos h2, if_neg h1, if_pos h2]; exact ⟨fun _ => EReal.bot_lt_coe _, fun _ => EReal.bot_lt_coe _⟩
    · rw [if_neg h2, if_neg h2]; exact ⟨fun h => absurd h not_lt_bot, fun h => absurd h not_lt_bot⟩
  rw [hrk, ← exists_sortedFrom]
  refine exists_congr fun j => ?_
  rw [picks_apply, WordCmp.ofNat_eq_ofNat_iff (by omega) (by omega)]
  exact Fin.ext_iff.symm

/-- The tokens attended to. -/
def Seen (q : Fin 2048 → Fin 16 → Fin 64 → ℝ) (k : Fin 2048 → Fin 16 → Fin 64 → ℝ) (h : Fin 16) (i : Fin 8) (p : Fin 256)
    (s : Fin 2048) : Prop :=
  Chosen (fun p => q (tok i p)) (mean k) i.1 h p ⟨s.1 / 256, by omega⟩ ∨ (s.1 / 256 = i.1 ∧ s.1 ≤ (tok i p).1)

instance (q : Fin 2048 → Fin 16 → Fin 64 → ℝ) (k : Fin 2048 → Fin 16 → Fin 64 → ℝ) (h : Fin 16) (i : Fin 8) (p : Fin 256) :
    DecidablePred (Seen q k h i p) := fun s => by unfold Seen; infer_instance

include hq hk in
theorem mask_real (b : Fin 8) (h : Fin 16) (i : Fin 8) (p : Fin 256) (s : Fin 2048) :
    mask Q K (ix4 b h (tok i p) s) = BitVec.ofBool (decide (Seen (q b) (k b) h i p s)) := by
  have ht : (tok i p).1 / 256 = i.1 := by show (256 * i.1 + p.1) / 256 = i.1; omega
  rw [mask_apply, chosen_real hq hk, ownMask_apply, WordCmp.ori_ofBool, ← Bool.decide_or, ht]
  refine congrArg BitVec.ofBool (decide_eq_decide.mpr Iff.rfl)

/-- A sum over the tokens, block by block. -/
theorem sum_blocks (f : Fin 2048 → ℝ) : ∑ s, f s = ∑ n : Fin 8, ∑ r : Fin 256, f (tok n r) := by
  rw [← (finProdFinEquiv (m := 8) (n := 256)).sum_comp f, Fintype.sum_prod_type]
  refine Finset.sum_congr rfl fun n _ => Finset.sum_congr rfl fun r _ => congrArg f (Fin.ext ?_)
  show r.1 + 256 * n.1 = 256 * n.1 + r.1
  omega

theorem T_eq (q : Fin 256 → Fin 16 → Fin 64 → ℝ) (k : Fin 2048 → Fin 16 → Fin 64 → ℝ) (km : Fin 8 → Fin 16 → Fin 64 → ℝ)
    (i : Fin 8) (h : Fin 16) (p : Fin 256) (y : Fin 2048 → ℝ) : ∀ j, Cert.KernelIdeal.Head.T q k km i h p y j
      = own (fun r => S q k h p (tok i r)) (fun r => y (tok i r)) p
        + ∑ n ∈ Finset.range j, if Chosen q km i.1 h p (blk n) then whole (fun r => S q k h p (tok (blk n) r)) (fun r => y (tok (blk n) r)) else 0
  | 0 => by simp [Cert.KernelIdeal.Head.T]
  | j + 1 => by
    show Cert.KernelIdeal.Head.T q k km i h p y j + _ = _
    rw [T_eq q k km i h p y j, Finset.sum_range_succ, add_assoc]

/-- The kernel's sums are the reference's. -/
theorem T_seen (q : Fin 2048 → Fin 16 → Fin 64 → ℝ) (k : Fin 2048 → Fin 16 → Fin 64 → ℝ) (h : Fin 16) (i : Fin 8) (p : Fin 256)
    (y : Fin 2048 → ℝ) :
    Cert.KernelIdeal.Head.T (fun p => q (tok i p)) k (mean k) i h p y i.1
      = ∑ s, if Seen q k h i p s then Real.exp (Z q k h (tok i p) s) * y s else 0 := by
  rw [T_eq, sum_blocks]
  have hdiv : ∀ (n : Fin 8) (r : Fin 256), (tok n r).1 / 256 = n.1 := fun n r => by
    show (256 * n.1 + r.1) / 256 = n.1; omega
  have hn : ∀ n : Fin 8, (∑ r : Fin 256, if Seen q k h i p (tok n r) then Real.exp (Z q k h (tok i p) (tok n r)) * y (tok n r) else 0)
      = (if n = i then own (fun r => S (fun p => q (tok i p)) k h p (tok i r)) (fun r => y (tok i r)) p else 0)
        + if Chosen (fun p => q (tok i p)) (mean k) i.1 h p n then
            whole (fun r => S (fun p => q (tok i p)) k h p (tok n r)) (fun r => y (tok n r)) else 0 := by
    intro n
    have hs : ∀ r, Seen q k h i p (tok n r) ↔ (Chosen (fun p => q (tok i p)) (mean k) i.1 h p n ∨ (n.1 = i.1 ∧ (tok n r).1 ≤ (tok i p).1)) := by
      intro r
      unfold Seen
      have : (⟨(tok n r).1 / 256, by omega⟩ : Fin 8) = n := Fin.ext (hdiv n r)
      rw [this, hdiv]
    by_cases hni : n = i
    · subst hni
      have hnc : ¬ Chosen (fun p => q (tok n p)) (mean k) n.1 h p n := fun hc => absurd hc.1 (lt_irrefl _)
      rw [if_pos rfl, if_neg hnc, add_zero]
      unfold own
      refine Finset.sum_congr rfl fun r _ => ?_
      rw [pow_score]
      refine if_congr ?_ rfl rfl
      rw [hs]
      have : (tok n r).1 ≤ (tok n p).1 ↔ r.1 ≤ p.1 := by
        show 256 * n.1 + r.1 ≤ 256 * n.1 + p.1 ↔ _; omega
      rw [this]
      exact ⟨fun h => (h.resolve_left hnc).2, fun h => Or.inr ⟨rfl, h⟩⟩
    · have hne : n.1 ≠ i.1 := fun e => hni (Fin.ext e)
      rw [if_neg hni, zero_add]
      by_cases hc : Chosen (fun p => q (tok i p)) (mean k) i.1 h p n
      · rw [if_pos hc]
        unfold whole
        refine Finset.sum_congr rfl fun r _ => ?_
        rw [if_pos ((hs r).mpr (Or.inl hc)), pow_score]
      · rw [if_neg hc]
        refine Finset.sum_eq_zero fun r _ => if_neg fun hh => ?_
        rcases (hs r).mp hh with h1 | h1
        · exact hc h1
        · exact hne h1.1
  rw [Finset.sum_congr rfl fun n _ => hn n, Finset.sum_add_distrib, Finset.sum_ite_eq' Finset.univ i, if_pos (Finset.mem_univ _)]
  refine congrArg (_ + ·) ?_
  have hblk : ∀ n : Fin 8, blk n.1 = n := fun n => Fin.ext (Nat.mod_eq_of_lt n.2)
  have h8 : (∑ n : Fin 8, if Chosen (fun p => q (tok i p)) (mean k) i.1 h p n then
        whole (fun r => S (fun p => q (tok i p)) k h p (tok n r)) (fun r => y (tok n r)) else 0)
      = ∑ n ∈ Finset.range 8, if Chosen (fun p => q (tok i p)) (mean k) i.1 h p (blk n) then
        whole (fun r => S (fun p => q (tok i p)) k h p (tok (blk n) r)) (fun r => y (tok (blk n) r)) else 0 := by
    rw [Finset.sum_range]
    exact Finset.sum_congr rfl fun n _ => by rw [hblk]
  rw [h8]
  refine Finset.sum_subset (Finset.range_subset_range.mpr i.2.le) fun n h1 h2 => if_neg fun hc => ?_
  rw [Finset.mem_range] at h1 h2
  have : (blk n).1 = n := Nat.mod_eq_of_lt h1
  exact h2 (this ▸ hc.1)

include hq hk hv in
/-- The reference's result at a query, a head and a coordinate. -/
theorem result_apply (b : Fin 8) (i : Fin 8) (p : Fin 256) (h : Fin 16) (d : Fin 64) :
    out (mix (weights (mask Q K) (att Q K)) V) (ix2 ⟨2048 * b.1 + (tok i p).1, by omega⟩ (hd h d))
      = ((Cert.KernelIdeal.Head.T (fun p => q b (tok i p)) (k b) (mean (k b)) i h p (fun s => v b s h d) i.1
        / Cert.KernelIdeal.Head.T (fun p => q b (tok i p)) (k b) (mean (k b)) i h p (fun _ => 1) i.1 : ℝ) : EReal) := by
  refine (out_apply _ b h (tok i p) d).trans ?_
  rw [soft _ _ _ b h (tok i p) d (Seen (q b) (k b) h i p) (Z (q b) (k b) h (tok i p)) (fun s => v b s h d)
    (mask_real hq hk b h i p) (att_real hq hk b h (tok i p)) (fun s => heads_real hv b h s d)
    ⟨tok i p, Or.inr ⟨by show (256 * i.1 + p.1) / 256 = i.1; omega, le_rfl⟩⟩]
  rw [T_seen, T_seen]

end Real

end Cert.ReferenceIdeal.Sem

end

end
-- ==== Proof.Equal.lean ====
/- The precondition read as finiteness of every entry, and the kernel's result equal to the reference's. -/
module

public import proofs.«01_k».proof.Defs
public import proofs.«01_k».proof.Proof.Soft
public import Idealize.ShloMosaic.Lib.ReduceAll

@[expose] public section

set_option maxRecDepth 16384

noncomputable section

namespace Cert.Equal

open Idealize.ShloMosaic Idealize.ShloMosaic.TcCoe Idealize.ShloMosaic.StableHlo
open Cert.KernelIdeal.Head (hd tok bOf iOf)

/-- The precondition's own side conditions. -/
instance facts : Cert.Pre_finite.Facts where
  bcast_S_S8x2048x1024 := by decide
  reducesTo_S8x2048x1024_S_d0_1_2 := by decide
  h_S_ := by decide

abbrev A3 := FVec Ideal Cert.KernelIdeal.S8x2048x1024 .f32

theorem andi_one {a b : BitVec 1} (h : IntOp.andi a b = 1#1) : a = 1#1 ∧ b = 1#1 := by
  revert a b; decide

instance : Subsingleton Cert.Pre_finite.S_.Idx := ⟨fun a b => funext fun x => x.elim0⟩

/-- An entry whose magnitude is under infinity is real. -/
theorem entry_real (x : A3) (i : Cert.KernelIdeal.S8x2048x1024.Idx)
    (h : cmpf .olt (Host.absf x) (broadcastInDim Cert.Pre_finite.S8x2048x1024 ![] Cert.Pre_finite.Facts.bcast_S_S8x2048x1024
      (constant (F := Ideal) Cert.Pre_finite.S_ .f32 0x7F800000#32)) i = 1#1) : x i = ((x i).toReal : EReal) := by
  have hinf : Ideal.ofBits .f32 0x7F800000#32 = ⊤ := by simp [Ideal.ofBits, Ideal.ieee]
  have h2 : BitVec.ofBool (decide (max (x i) (-(x i)) < Ideal.ofBits .f32 0x7F800000#32)) = 1#1 := h
  rw [hinf] at h2
  have h3 : max (x i) (-(x i)) < ⊤ := by
    by_contra hc
    rw [decide_eq_false hc] at h2
    exact absurd h2 (by decide)
  have h4 := max_lt_iff.mp h3
  refine (EReal.coe_toReal h4.1.ne fun hb => ?_).symm
  rw [hb] at h4
  exact absurd h4.2 (by simp)

/-- Under the precondition every entry of the three arguments is real. -/
theorem finite_real (Q K V : A3) (h : Cert.Pre_finite.fn (F := Ideal) Q K V = fun _ => 1#1) :
    (∀ i, Q i = ((Q i).toReal : EReal)) ∧ (∀ i, K i = ((K i).toReal : EReal)) ∧ ∀ i, V i = ((V i).toReal : EReal) := by
  have h0 := congrFun h (fun a => a.elim0)
  obtain ⟨h12, h3⟩ := andi_one h0
  obtain ⟨h1, h2⟩ := andi_one h12
  exact ⟨fun i => entry_real Q i (Host.reduce_andi_all _ _ _ _ _ h1 i),
    fun i => entry_real K i (Host.reduce_andi_all _ _ _ _ _ h2 i),
    fun i => entry_real V i (Host.reduce_andi_all _ _ _ _ _ h3 i)⟩

/-- Every batch and every block of queries has its grid point. -/
theorem point (b i : Fin 8) : ∃ t : Fin Cert.KernelIdeal.cfg0.N, (bOf t).1 = b.1 ∧ (iOf t).1 = i.1 :=
  (by decide +kernel : ∀ b i : Fin 8, ∃ t : Fin Cert.KernelIdeal.grid0.N, (bOf t).1 = b.1 ∧ (iOf t).1 = i.1) b i

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The reference's result is the kernel's array. -/
theorem result_eq (hpre : Cert.Pre_KernelIdeal_finite m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    (Cert.ReferenceIdeal.Value.res_out0 m' c : FVec Ideal Cert.ReferenceIdeal.S16384x1024 .bf16)
      = ((Cert.KernelIdeal.Run.dats m 0 c).arrAt 3 Cert.KernelIdeal.cfg0.N : FVec Ideal Cert.KernelIdeal.S16384x1024 .bf16) := by
  obtain ⟨hQ, hK, hV⟩ := finite_real _ _ _ (hpre c)
  refine (Cert.ReferenceIdeal.Sem.res_eq m' c).trans ?_
  rw [h0, h1, h2]
  funext x
  obtain ⟨R, L, rfl⟩ : ∃ (R : Fin 16384) (L : Fin 1024), x = ix2 R L :=
    ⟨x 0, x 1, by funext a; match a with | 0 => rfl | 1 => rfl⟩
  obtain ⟨t, hb, hi⟩ := point ⟨R.1 / 2048, by omega⟩ ⟨R.1 % 2048 / 256, by omega⟩
  have hR : R = ⟨2048 * (bOf t).1 + (tok (iOf t) ⟨R.1 % 256, by omega⟩).1, by have := (bOf t).isLt; omega⟩ := by
    refine Fin.ext ?_
    show R.1 = 2048 * (bOf t).1 + (256 * (iOf t).1 + R.1 % 256)
    rw [hb, hi]
    show R.1 = 2048 * (R.1 / 2048) + (256 * (R.1 % 2048 / 256) + R.1 % 256)
    omega
  have hL : L = hd ⟨L.1 / 64, by omega⟩ ⟨L.1 % 64, by omega⟩ := by
    refine Fin.ext ?_
    show L.1 = 64 * (L.1 / 64) + L.1 % 64
    omega
  rw [hR, hL]
  refine (Cert.ReferenceIdeal.Sem.result_apply (fun b t h d => hQ (ix3 b t (hd h d))) (fun b t h d => hK (ix3 b t (hd h d)))
    (fun b t h d => hV (ix3 b t (hd h d))) (bOf t) (iOf t) ⟨R.1 % 256, by omega⟩ _ _).trans ?_
  exact (Cert.KernelIdeal.Head.result_apply (m := m) (c := c) (fun b t h d => hQ (ix3 b t (hd h d))) (fun b t h d => hK (ix3 b t (hd h d)))
    (fun b t h d => hV (ix3 b t (hd h d))) t ⟨R.1 % 256, by omega⟩ _ _).symm

/-- The kernel and the reference compute the same array from arguments that agree and are finite. -/
theorem algebraic : Cert.algebraic_KernelIdeal_ReferenceIdeal_pre_finite := fun m g m' g' hpre hag =>
  ⟨fun c => (Cert.KernelIdeal.Run.dats m 0 c).arrAt 3 Cert.KernelIdeal.cfg0.N, Cert.KernelIdeal.Run.run_blocks m g,
   (θ_run _ _ _).mono (fun _ h c => ⟨(h c).1.trans (result_eq m m' hpre c (hag c).1 (hag c).2.1 (hag c).2.2), (h c).2⟩)
     (Cert.ReferenceIdeal.Value.run m' g')⟩

end Cert.Equal

end

end
-- ==== Proof.FfnBlock.lean ====
/- What a grid point of the feed-forward kernel with the final norm leaves in its block of the result: the stores of the
   accumulator read back, one after the other. -/
module

public import proofs.«01_k».proof.Proof.Gen.Kernel2Ideal.Value
public import Idealize.ShloMosaic.Lib.Pipeline.Value
public import Idealize.ShloMosaic.Lib.Pipeline.ValueKit.Acc
public import Idealize.ShloMosaic.Lib.Pointwise

@[expose] public section

set_option maxRecDepth 16384

noncomputable section

namespace Cert.Kernel2Ideal.Ffn

open Cert.Kernel2Ideal Cert.Kernel2Ideal.Gen
open Idealize.ShloMosaic Idealize.ShloMosaic.TcCoe

theorem hz : (![0, 0] : Fin 2 → Nat) = fun _ => 0 := funext fun a => by fin_cases a <;> rfl

/-- The chunks of the hidden layer's weights that the kernel loads. -/
def in0 (w : FVec Ideal S1024x2816 .bf16) : FVec Ideal S1024x768 .bf16 := View.ld (Val := Elt Ideal) (e' := .bf16) w (Rect.unit (s := S1024x2816) ![0, 0] S1024x768.size inb_S1024x2816_S1024x768_0_0)
def in1 (w : FVec Ideal S1024x2816 .bf16) : FVec Ideal S1024x768 .bf16 := View.ld (Val := Elt Ideal) (e' := .bf16) w (Rect.unit (s := S1024x2816) ![0, 768] S1024x768.size inb_S1024x2816_S1024x768_0_768)
def in2 (w : FVec Ideal S1024x2816 .bf16) : FVec Ideal S1024x768 .bf16 := View.ld (Val := Elt Ideal) (e' := .bf16) w (Rect.unit (s := S1024x2816) ![0, 1536] S1024x768.size inb_S1024x2816_S1024x768_0_1536)
def in3 (w : FVec Ideal S1024x2816 .bf16) : FVec Ideal S1024x512 .bf16 := View.ld (Val := Elt Ideal) (e' := .bf16) w (Rect.unit (s := S1024x2816) ![0, 2304] S1024x512.size inb_S1024x2816_S1024x512_0_2304)
def down0 (w : FVec Ideal S2816x1024 .bf16) : FVec Ideal S768x1024 .bf16 := View.ld (Val := Elt Ideal) (e' := .bf16) w (Rect.unit (s := S2816x1024) ![0, 0] S768x1024.size inb_S2816x1024_S768x1024_0_0)
def down1 (w : FVec Ideal S2816x1024 .bf16) : FVec Ideal S768x1024 .bf16 := View.ld (Val := Elt Ideal) (e' := .bf16) w (Rect.unit (s := S2816x1024) ![768, 0] S768x1024.size inb_S2816x1024_S768x1024_768_0)
def down2 (w : FVec Ideal S2816x1024 .bf16) : FVec Ideal S768x1024 .bf16 := View.ld (Val := Elt Ideal) (e' := .bf16) w (Rect.unit (s := S2816x1024) ![1536, 0] S768x1024.size inb_S2816x1024_S768x1024_1536_0)
def down3 (w : FVec Ideal S2816x1024 .bf16) : FVec Ideal S512x1024 .bf16 := View.ld (Val := Elt Ideal) (e' := .bf16) w (Rect.unit (s := S2816x1024) ![2304, 0] S512x1024.size inb_S2816x1024_S512x1024_2304_0)

/-- The accumulator after the four chunks. -/
def total (h : FVec Ideal S1024x1024 .f32) (o wo : FVec Ideal S1024x1024 .bf16) (g : FVec Ideal S1x1024 .f32)
    (wg wu : FVec Ideal S1024x2816 .bf16) (wd : FVec Ideal S2816x1024 .bf16) : FVec Ideal S1024x1024 .f32 :=
  k0_pay10 (F := Ideal) (k0_pay3 (F := Ideal) h o wo g) (in3 wg) (in3 wu)
    (k0_pay9 (F := Ideal) (k0_pay8 (F := Ideal) (k0_pay3 (F := Ideal) h o wo g) (in2 wg) (in2 wu))
      (k0_pay7 (F := Ideal) (k0_pay3 (F := Ideal) h o wo g) (in1 wg) (in1 wu)
        (k0_pay6 (F := Ideal) (k0_pay4 (F := Ideal) h o wo g (in0 wg) (in0 wu)) (k0_pay5 (F := Ideal) (k0_pay2 (F := Ideal) h o wo)) (down0 wd)) (down1 wd))
      (down2 wd)) (down3 wd)

/-- The accumulator normed. -/
def normed (x : FVec Ideal S1024x1024 .f32) (gf : FVec Ideal S1x1024 .f32) : FVec Ideal S1024x1024 .f32 :=
  k0_pay1 (k0_pay11 x) (k0_pay12 gf) (k0_pay13 x) (FloatOps.ofBits (F := Ideal) .f32 0x358637BD#32)

variable (m : (ℓ : Loc nD τ sig) → Buf (Elt Ideal) ℓ)

/-- What a grid point leaves in its block. -/
theorem out_eq (c : Dev nD) (t : Fin cfg0.N) : outsAt0 m c t =
    normed (total (iblk m c 0 t) (iblk m c 1 t) (iblk m c 2 t) (iblk m c 3 t) (iblk m c 4 t) (iblk m c 5 t) (iblk m c 6 t)) (iblk m c 7 t) := by
  unfold outsAt0 out0_A_8
  rw [View.read_writes_eq_canon _ _ _ (cover0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) (iblk m c 6 t) (iblk m c 7 t))]
  unfold kernelRun0_A
  dsimp only
  sl_unfold_words
  rw [View.canon_cons_unit_zero (S := S1024x1024) hz]
  simp only [View.readCov_cons_unit_lit' (S := S1024x1024) _ _ _ _ _ (congrFun hz) (congrFun hz), View.readCov_unit_zero (S := S1024x1024) _ hz, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1024x1024) hz, View.ld_unit_zero (S := S1x1024) hz]
  unfold normed total
  rfl

end Cert.Kernel2Ideal.Ffn

end

end
-- ==== Proof.FfnMath.lean ====
/- The feed-forward part of one row, on plain functions: the residual with the projection, the norm, the hidden layer, and
   the hidden layer's sum cut into the kernel's four chunks. -/
module

public import Idealize.ShloMosaic.Lib.Pointwise

@[expose] public section

noncomputable section

namespace Cert.FfnMath

open Idealize.ShloMosaic

/-- The residual with the mixer's output projected. -/
def resid (h o : Fin 1024 → EReal) (wo : Fin 1024 → Fin 1024 → EReal) (l : Fin 1024) : EReal := h l + ∑ k, o k * wo k l

/-- A row over its root mean square, times the gain. -/
def norm (x g : Fin 1024 → EReal) (l : Fin 1024) : EReal :=
  x l * Ideal.rsqrt (Ideal.div (∑ j, x j * x j) (Ideal.ofBits .f32 0x44800000#32) + Ideal.ofBits .f32 0x358637BD#32) * g l

/-- One hidden unit, from its columns of the two weights. -/
def hid (a p q : Fin 1024 → EReal) : EReal := (∑ k, a k * p k) * Ideal.logistic (∑ k, a k * p k) * ∑ k, a k * q k

/-- The residual and the hidden layer projected back. -/
def ffn (x g : Fin 1024 → EReal) (wg wu : Fin 1024 → Fin 2816 → EReal) (wd : Fin 2816 → Fin 1024 → EReal) (l : Fin 1024) : EReal :=
  x l + ∑ f, hid (norm x g) (fun k => wg k f) (fun k => wu k f) * wd f l

/-- The sum over the hidden units is the sum of the four chunks' sums, added in order. -/
theorem sum_chunks (x : EReal) (u : Fin 2816 → EReal) :
    x + ∑ f, u f = x + (∑ f : Fin 768, u ⟨f.1, by omega⟩) + (∑ f : Fin 768, u ⟨768 + f.1, by omega⟩)
      + (∑ f : Fin 768, u ⟨1536 + f.1, by omega⟩) + ∑ f : Fin 512, u ⟨2304 + f.1, by omega⟩ := by
  have h : ∑ f, u f = (((∑ f : Fin 768, u ⟨f.1, by omega⟩) + ∑ f : Fin 768, u ⟨768 + f.1, by omega⟩)
      + ∑ f : Fin 768, u ⟨1536 + f.1, by omega⟩) + ∑ f : Fin 512, u ⟨2304 + f.1, by omega⟩ := by
    refine (Fin.sum_univ_add (a := 2304) (b := 512) u).trans (congrArg₂ _ ?_ rfl)
    refine (Fin.sum_univ_add (a := 1536) (b := 768) _).trans (congrArg₂ _ ?_ rfl)
    exact Fin.sum_univ_add (a := 768) (b := 768) _
  rw [h]
  simp only [add_assoc]

end Cert.FfnMath

end

end
-- ==== Proof.FfnRead.lean ====
/- The feed-forward kernel's block read at an index. -/
module

public import proofs.«01_k».proof.Proof.FfnBlock
public import proofs.«01_k».proof.Proof.FfnMath

@[expose] public section

set_option maxRecDepth 16384

noncomputable section

namespace Cert.Kernel2Ideal.Ffn

open Cert.Kernel2Ideal Cert.Kernel2Ideal.Gen Cert.FfnMath
open Idealize.ShloMosaic Idealize.ShloMosaic.TcCoe

/-- A load of a rectangle of a matrix, read at an index. -/
theorem ld_apply {a b p q : Nat} (w : FVec Ideal ⟨2, ![a, b]⟩ .bf16) (i j : Nat) (inb) (x : Fin p) (y : Fin q) (X : Fin a) (Y : Fin b)
    (hx : X.1 = i + x.1) (hy : Y.1 = j + y.1) :
    View.ld (Val := Elt Ideal) (e' := .bf16) w (Rect.unit (s := ⟨2, ![a, b]⟩) ![i, j] ![p, q] inb) (ix2 x y) = w (ix2 X Y) := by
  show w _ = w _
  congr 1
  funext c
  apply Fin.ext
  match c with
  | ⟨0, _⟩ => show i + 1 * x.1 = X.1; omega
  | ⟨1, _⟩ => show j + 1 * y.1 = Y.1; omega

section Chunks

variable (w : FVec Ideal S1024x2816 .bf16) (d : FVec Ideal S2816x1024 .bf16) (k l : Fin 1024)

theorem in0_apply (f : Fin 768) : in0 w (ix2 k f) = w (ix2 k ⟨f.1, by omega⟩) := ld_apply _ _ _ _ _ _ _ _ (by omega) (by simp)
theorem in1_apply (f : Fin 768) : in1 w (ix2 k f) = w (ix2 k ⟨768 + f.1, by omega⟩) := ld_apply _ _ _ _ _ _ _ _ (by omega) rfl
theorem in2_apply (f : Fin 768) : in2 w (ix2 k f) = w (ix2 k ⟨1536 + f.1, by omega⟩) := ld_apply _ _ _ _ _ _ _ _ (by omega) rfl
theorem in3_apply (f : Fin 512) : in3 w (ix2 k f) = w (ix2 k ⟨2304 + f.1, by omega⟩) := ld_apply _ _ _ _ _ _ _ _ (by omega) rfl
theorem down0_apply (f : Fin 768) : down0 d (ix2 f l) = d (ix2 ⟨f.1, by omega⟩ l) := ld_apply _ _ _ _ _ _ _ _ (by simp) (by omega)
theorem down1_apply (f : Fin 768) : down1 d (ix2 f l) = d (ix2 ⟨768 + f.1, by omega⟩ l) := ld_apply _ _ _ _ _ _ _ _ rfl (by omega)
theorem down2_apply (f : Fin 768) : down2 d (ix2 f l) = d (ix2 ⟨1536 + f.1, by omega⟩ l) := ld_apply _ _ _ _ _ _ _ _ rfl (by omega)
theorem down3_apply (f : Fin 512) : down3 d (ix2 f l) = d (ix2 ⟨2304 + f.1, by omega⟩ l) := ld_apply _ _ _ _ _ _ _ _ rfl (by omega)

end Chunks

variable (h : FVec Ideal S1024x1024 .f32) (o wo : FVec Ideal S1024x1024 .bf16) (g : FVec Ideal S1x1024 .f32)

/-- A row of a block. -/
abbrev row {n : Nat} {φ : FTy} (x : FVec Ideal ⟨2, ![1024, n]⟩ φ) (r : Fin 1024) : Fin n → EReal := fun l => x (ix2 r l)

theorem resid_apply (r l : Fin 1024) :
    k0_pay2 (F := Ideal) h o wo (ix2 r l) = resid (row h r) (row o r) (fun k l => wo (ix2 k l)) l := by
  pointwise [k0_pay2]
  rfl

theorem norm_apply (r l : Fin 1024) :
    k0_pay3 (F := Ideal) h o wo g (ix2 r l) = norm (resid (row h r) (row o r) (fun k l => wo (ix2 k l))) (fun l => g (ix2 0 l)) l := by
  pointwise [k0_pay3]
  simp only [resid_apply]
  rfl

theorem hid_apply (a : FVec Ideal S1024x1024 .bf16) (p q : FVec Ideal S1024x768 .bf16) (r : Fin 1024) (f : Fin 768) :
    k0_pay8 (F := Ideal) a p q (ix2 r f) = hid (row a r) (fun k => p (ix2 k f)) (fun k => q (ix2 k f)) := by
  pointwise [k0_pay8]
  rfl

theorem acc_apply (t : FVec Ideal S1024x768 .bf16) (x : FVec Ideal S1024x1024 .f32) (w : FVec Ideal S768x1024 .bf16) (r l : Fin 1024) :
    k0_pay9 (F := Ideal) t x w (ix2 r l) = x (ix2 r l) + ∑ f, t (ix2 r f) * w (ix2 f l) := by
  pointwise [k0_pay9]

theorem last_apply (a : FVec Ideal S1024x1024 .bf16) (p q : FVec Ideal S1024x512 .bf16) (x : FVec Ideal S1024x1024 .f32) (w : FVec Ideal S512x1024 .bf16) (r l : Fin 1024) :
    k0_pay10 (F := Ideal) a p q x w (ix2 r l) = x (ix2 r l) + ∑ f, hid (row a r) (fun k => p (ix2 k f)) (fun k => q (ix2 k f)) * w (ix2 f l) := by
  pointwise [k0_pay10]
  rfl

theorem normed_apply (x : FVec Ideal S1024x1024 .f32) (gf : FVec Ideal S1x1024 .f32) (r l : Fin 1024) :
    normed x gf (ix2 r l) = norm (row x r) (fun l => gf (ix2 0 l)) l := by
  pointwise [normed, k0_pay1, k0_pay11, k0_pay12, k0_pay13]
  rfl

/-- The accumulator is the feed-forward part of the row. -/
theorem total_apply (wg wu : FVec Ideal S1024x2816 .bf16) (wd : FVec Ideal S2816x1024 .bf16) (r l : Fin 1024) :
    total h o wo g wg wu wd (ix2 r l) = ffn (resid (row h r) (row o r) (fun k l => wo (ix2 k l))) (fun l => g (ix2 0 l))
      (fun k f => wg (ix2 k f)) (fun k f => wu (ix2 k f)) (fun f l => wd (ix2 f l)) l := by
  have e7 : ∀ a p q x w, k0_pay7 (F := Ideal) a p q x w = k0_pay9 (F := Ideal) (k0_pay8 (F := Ideal) a p q) x w := fun _ _ _ _ _ => rfl
  have e4 : k0_pay4 (F := Ideal) h o wo g (in0 wg) (in0 wu) = k0_pay8 (F := Ideal) (k0_pay3 (F := Ideal) h o wo g) (in0 wg) (in0 wu) := rfl
  have e6 : ∀ t x w, k0_pay6 (F := Ideal) t (k0_pay5 (F := Ideal) x) w = k0_pay9 (F := Ideal) t x w := fun _ _ _ => rfl
  unfold total
  rw [e4, e7, e6, last_apply, acc_apply, acc_apply, acc_apply, resid_apply]
  unfold ffn
  rw [sum_chunks]
  have ha : row (k0_pay3 (F := Ideal) h o wo g) r = norm (resid (row h r) (row o r) (fun k l => wo (ix2 k l))) (fun l => g (ix2 0 l)) :=
    funext fun l => norm_apply h o wo g r l
  simp only [hid_apply, ha, in0_apply, in1_apply, in2_apply, in3_apply, down0_apply, down1_apply, down2_apply, down3_apply]

end Cert.Kernel2Ideal.Ffn

end

end
-- ==== Proof.FfnHost.lean ====
/- What the launch of the feed-forward kernel reads, and its result array at an index. -/
module

public import proofs.«01_k».proof.Proof.FfnRead

@[expose] public section

set_option maxRecDepth 16384

noncomputable section

namespace Cert.Kernel2Ideal.Ffn

open Cert.Kernel2Ideal Cert.Kernel2Ideal.Gen Cert.FfnMath
open Idealize.ShloMosaic Idealize.ShloMosaic.TcCoe Idealize.ShloMosaic.StableHlo

variable (m : (ℓ : Loc nD τ sig) → Buf (Elt Ideal) ℓ) (c : Dev nD)

/-- The kernel's arguments. -/
abbrev argH : FVec Ideal S8x2048x1024 .f32 := m ((c.tc : Thread nD τ).loc main_arg0)
abbrev argO : FVec Ideal S8x2048x1024 .f32 := m ((c.tc : Thread nD τ).loc main_arg1)
abbrev argWo : FVec Ideal S1024x1024 .f32 := m ((c.tc : Thread nD τ).loc main_arg2)
abbrev argG : FVec Ideal S1024 .f32 := m ((c.tc : Thread nD τ).loc main_arg3)
abbrev argWg : FVec Ideal S1024x2816 .f32 := m ((c.tc : Thread nD τ).loc main_arg4)
abbrev argWu : FVec Ideal S1024x2816 .f32 := m ((c.tc : Thread nD τ).loc main_arg5)
abbrev argWd : FVec Ideal S2816x1024 .f32 := m ((c.tc : Thread nD τ).loc main_arg6)
abbrev argF : FVec Ideal S1024 .f32 := m ((c.tc : Thread nD τ).loc main_arg7)

/-- The rows of all batches. -/
def rows (x : FVec Ideal S8x2048x1024 .f32) : FVec Ideal S16384x1024 .f32 := shapeCast S16384x1024 x shapeCasts_S8x2048x1024_S16384x1024
/-- A gain as a row. -/
def flat (x : FVec Ideal S1024 .f32) : FVec Ideal S1x1024 .f32 := shapeCast S1x1024 x shapeCasts_S1024_S1x1024

theorem rows_apply (x : FVec Ideal S8x2048x1024 .f32) (b : Fin 8) (t : Fin 2048) (l : Fin 1024) :
    rows x (ix2 ⟨b.1 * 2048 + t.1, by omega⟩ l) = x (ix3 b t l) := by
  pointwise [rows]

theorem flat_apply (x : FVec Ideal S1024 .f32) (l : Fin 1024) : flat x (ix2 0 l) = x (ix1 l) := by
  pointwise [flat]

set_option maxHeartbeats 4000000 in
theorem V_h : (V m c main_v0 : FVec Ideal S16384x1024 .f32) = rows (argH m c) := by
  unfold V hostOps0
  after_results_simp <;> rfl
set_option maxHeartbeats 4000000 in
theorem V_o : (V m c main_v2 : FVec Ideal S16384x1024 .bf16) = rows (argO m c) := by
  unfold V hostOps0
  after_results_simp <;> rfl
set_option maxHeartbeats 4000000 in
theorem V_wo : (V m c main_v3 : FVec Ideal S1024x1024 .bf16) = argWo m c := by
  unfold V hostOps0
  after_results_simp <;> rfl
set_option maxHeartbeats 4000000 in
theorem V_g : (V m c main_v7 : FVec Ideal S1x1024 .f32) = flat (argG m c) := by
  unfold V hostOps0
  after_results_simp <;> rfl
set_option maxHeartbeats 4000000 in
theorem V_wg : (V m c main_v4 : FVec Ideal S1024x2816 .bf16) = argWg m c := by
  unfold V hostOps0
  after_results_simp <;> rfl
set_option maxHeartbeats 4000000 in
theorem V_wu : (V m c main_v5 : FVec Ideal S1024x2816 .bf16) = argWu m c := by
  unfold V hostOps0
  after_results_simp <;> rfl
set_option maxHeartbeats 4000000 in
theorem V_wd : (V m c main_v6 : FVec Ideal S2816x1024 .bf16) = argWd m c := by
  unfold V hostOps0
  after_results_simp <;> rfl
set_option maxHeartbeats 4000000 in
theorem V_f : (V m c main_v8 : FVec Ideal S1x1024 .f32) = flat (argF m c) := by
  unfold V hostOps0
  after_results_simp <;> rfl

theorem index_moving : ∀ t : Fin cfg0.N, (win0_0.index t 0 = t.1 ∧ win0_0.index t 1 = 0) ∧ (win0_1.index t 0 = t.1 ∧ win0_1.index t 1 = 0)
    ∧ (win0_8.index t 0 = t.1 ∧ win0_8.index t 1 = 0) :=
  (by decide +kernel : ∀ t : Fin grid0.N, (win0_0.index t 0 = t.1 ∧ win0_0.index t 1 = 0) ∧ (win0_1.index t 0 = t.1 ∧ win0_1.index t 1 = 0)
    ∧ (win0_8.index t 0 = t.1 ∧ win0_8.index t 1 = 0))

/-- A grid point's row of the arrays. -/
abbrev at_ (t : Fin cfg0.N) (r : Fin 1024) : Fin 16384 := ⟨t.1 * 1024 + r.1, by have : t.1 < 16 := t.isLt; omega⟩

theorem iblk_h (t : Fin cfg0.N) (r l : Fin 1024) : (iblk m c 0 t : FVec Ideal S1024x1024 .f32) (ix2 r l) = rows (argH m c) (ix2 (at_ t r) l) := by
  rw [← V_h]
  unfold iblk
  rw [View.read_apply]
  show V m c main_v0 _ = V m c main_v0 _
  congr 1
  funext a
  apply Fin.ext
  match a with
  | ⟨0, _⟩ => show win0_0.index t 0 * 1024 + 1 * r.1 = t.1 * 1024 + r.1; rw [(index_moving t).1.1]; omega
  | ⟨1, _⟩ => show win0_0.index t 1 * 1024 + 1 * l.1 = l.1; rw [(index_moving t).1.2]; omega

theorem iblk_o (t : Fin cfg0.N) (r l : Fin 1024) : (iblk m c 1 t : FVec Ideal S1024x1024 .bf16) (ix2 r l) = rows (argO m c) (ix2 (at_ t r) l) := by
  rw [← V_o]
  unfold iblk
  rw [View.read_apply]
  show V m c main_v2 _ = V m c main_v2 _
  congr 1
  funext a
  apply Fin.ext
  match a with
  | ⟨0, _⟩ => show win0_1.index t 0 * 1024 + 1 * r.1 = t.1 * 1024 + r.1; rw [(index_moving t).2.1.1]; omega
  | ⟨1, _⟩ => show win0_1.index t 1 * 1024 + 1 * l.1 = l.1; rw [(index_moving t).2.1.2]; omega

theorem iblk_wo (t : Fin cfg0.N) : (iblk m c 2 t : FVec Ideal S1024x1024 .bf16) = argWo m c := by
  rw [← V_wo]
  funext x
  unfold iblk
  rw [View.read_apply]
  show V m c main_v3 _ = V m c main_v3 _
  congr 1
  funext a
  apply Fin.ext
  match a with
  | ⟨0, _⟩ => show 0 * 1024 + 1 * (x 0).1 = (x 0).1; omega
  | ⟨1, _⟩ => show 0 * 1024 + 1 * (x 1).1 = (x 1).1; omega

theorem iblk_g (t : Fin cfg0.N) : (iblk m c 3 t : FVec Ideal S1x1024 .f32) = flat (argG m c) := by
  rw [← V_g]
  funext x
  unfold iblk
  rw [View.read_apply]
  show V m c main_v7 _ = V m c main_v7 _
  congr 1
  funext a
  apply Fin.ext
  match a with
  | ⟨0, _⟩ => show 0 * 1 + 1 * (x 0).1 = (x 0).1; omega
  | ⟨1, _⟩ => show 0 * 1024 + 1 * (x 1).1 = (x 1).1; omega

theorem iblk_wg (t : Fin cfg0.N) : (iblk m c 4 t : FVec Ideal S1024x2816 .bf16) = argWg m c := by
  rw [← V_wg]
  funext x
  unfold iblk
  rw [View.read_apply]
  show V m c main_v4 _ = V m c main_v4 _
  congr 1
  funext a
  apply Fin.ext
  match a with
  | ⟨0, _⟩ => show 0 * 1024 + 1 * (x 0).1 = (x 0).1; omega
  | ⟨1, _⟩ => show 0 * 2816 + 1 * (x 1).1 = (x 1).1; omega

theorem iblk_wu (t : Fin cfg0.N) : (iblk m c 5 t : FVec Ideal S1024x2816 .bf16) = argWu m c := by
  rw [← V_wu]
  funext x
  unfold iblk
  rw [View.read_apply]
  show V m c main_v5 _ = V m c main_v5 _
  congr 1
  funext a
  apply Fin.ext
  match a with
  | ⟨0, _⟩ => show 0 * 1024 + 1 * (x 0).1 = (x 0).1; omega
  | ⟨1, _⟩ => show 0 * 2816 + 1 * (x 1).1 = (x 1).1; omega

theorem iblk_wd (t : Fin cfg0.N) : (iblk m c 6 t : FVec Ideal S2816x1024 .bf16) = argWd m c := by
  rw [← V_wd]
  funext x
  unfold iblk
  rw [View.read_apply]
  show V m c main_v6 _ = V m c main_v6 _
  congr 1
  funext a
  apply Fin.ext
  match a with
  | ⟨0, _⟩ => show 0 * 2816 + 1 * (x 0).1 = (x 0).1; omega
  | ⟨1, _⟩ => show 0 * 1024 + 1 * (x 1).1 = (x 1).1; omega

theorem iblk_f (t : Fin cfg0.N) : (iblk m c 7 t : FVec Ideal S1x1024 .f32) = flat (argF m c) := by
  rw [← V_f]
  funext x
  unfold iblk
  rw [View.read_apply]
  show V m c main_v8 _ = V m c main_v8 _
  congr 1
  funext a
  apply Fin.ext
  match a with
  | ⟨0, _⟩ => show 0 * 1 + 1 * (x 0).1 = (x 0).1; omega
  | ⟨1, _⟩ => show 0 * 1024 + 1 * (x 1).1 = (x 1).1; omega

/-- A row of the arguments after the projection and the feed-forward part. -/
def line (R : Fin 16384) : Fin 1024 → EReal :=
  ffn (resid (fun l => rows (argH m c) (ix2 R l)) (fun l => rows (argO m c) (ix2 R l)) (fun k l => argWo m c (ix2 k l))) (fun l => argG m c (ix1 l))
    (fun k f => argWg m c (ix2 k f)) (fun k f => argWu m c (ix2 k f)) (fun f l => argWd m c (ix2 f l))

/-- A point's accumulator, of the arguments. -/
theorem total_line (t : Fin cfg0.N) (r l : Fin 1024) :
    total (iblk m c 0 t) (iblk m c 1 t) (iblk m c 2 t) (iblk m c 3 t) (iblk m c 4 t) (iblk m c 5 t) (iblk m c 6 t) (ix2 r l) = line m c (at_ t r) l := by
  have e0 : row (φ := .f32) (iblk m c 0 t) r = fun l => rows (argH m c) (ix2 (at_ t r) l) := funext fun l => iblk_h m c t r l
  have e1 : row (φ := .bf16) (iblk m c 1 t) r = fun l => rows (argO m c) (ix2 (at_ t r) l) := funext fun l => iblk_o m c t r l
  have e3 : (fun l => flat (argG m c) (ix2 0 l)) = fun l => argG m c (ix1 l) := funext fun l => flat_apply _ l
  rw [iblk_wo, iblk_g, iblk_wg, iblk_wu, iblk_wd]
  refine (total_apply _ _ _ _ _ _ _ r l).trans ?_
  rw [e0, e1, e3]
  rfl

/-- The result array at a point's row. -/
theorem result_apply (t : Fin cfg0.N) (r l : Fin 1024) :
    ((dats m 0 c).arrAt 8 cfg0.N : FVec Ideal S16384x1024 .f32) (ix2 (at_ t r) l) = norm (line m c (at_ t r)) (fun l => argF m c (ix1 l)) l := by
  have hr := congrFun (Value.blocks8 m c t (flush0_8 t)) (ix2 r l)
  rw [Value.flushed8, out_eq, View.read_apply] at hr
  refine Eq.trans ?_ (hr.trans ?_)
  · refine congrArg ((dats m 0 c).arrAt 8 cfg0.N : FVec Ideal S16384x1024 .f32) ?_
    funext a
    apply Fin.ext
    match a with
    | ⟨0, _⟩ => show t.1 * 1024 + r.1 = win0_8.index t 0 * 1024 + 1 * r.1; rw [(index_moving t).2.2.1]; omega
    | ⟨1, _⟩ => show l.1 = win0_8.index t 1 * 1024 + 1 * l.1; rw [(index_moving t).2.2.2]; omega
  · refine (normed_apply _ _ r l).trans ?_
    rw [iblk_f]
    simp only [flat_apply]
    exact congrArg (norm · _ l) (funext fun l => total_line m c t r l)

end Cert.Kernel2Ideal.Ffn

end

end
-- ==== Proof.FfnThird.lean ====
/- The feed-forward kernel without the final norm: it shares its launch and its payloads with the one with it, so each point
   leaves that kernel's accumulator. -/
module

public import proofs.«01_k».proof.Proof.FfnHost
public import proofs.«01_k».proof.Proof.Gen.Kernel3Ideal.Value

@[expose] public section

set_option maxRecDepth 16384

noncomputable section

namespace Cert.Kernel3Ideal.Ffn

open Cert.Kernel3Ideal Cert.Kernel3Ideal.Gen
open Idealize.ShloMosaic Idealize.ShloMosaic.TcCoe

open Cert.Kernel2Ideal.Ffn (hz at_ line)
variable (m : (ℓ : Loc nD τ sig) → Buf (Elt Ideal) ℓ)

theorem index_out : ∀ t : Fin cfg0.N, win0_8.index t 0 = t.1 ∧ win0_8.index t 1 = 0 :=
  (by decide +kernel : ∀ t : Fin grid0.N, win0_8.index t 0 = t.1 ∧ win0_8.index t 1 = 0)

/-- What a grid point leaves in its block. -/
theorem out_eq (c : Dev nD) (t : Fin cfg0.N) : (outsAt0 m c t : FVec Ideal S1024x1024 .f32) =
    Cert.Kernel2Ideal.Ffn.total (Cert.Kernel2Ideal.Gen.iblk m c 0 t) (Cert.Kernel2Ideal.Gen.iblk m c 1 t) (Cert.Kernel2Ideal.Gen.iblk m c 2 t)
      (Cert.Kernel2Ideal.Gen.iblk m c 3 t) (Cert.Kernel2Ideal.Gen.iblk m c 4 t) (Cert.Kernel2Ideal.Gen.iblk m c 5 t) (Cert.Kernel2Ideal.Gen.iblk m c 6 t) := by
  unfold outsAt0 out0_A_8
  rw [View.read_writes_eq_canon _ _ _ (cover0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) (iblk m c 6 t) (iblk m c 7 t))]
  unfold kernelRun0_A
  dsimp only
  sl_unfold_words
  rw [View.canon_cons_unit_zero (S := S1024x1024) hz]
  simp only [View.readCov_cons_unit_lit' (S := S1024x1024) _ _ _ _ _ (congrFun hz) (congrFun hz), View.readCov_unit_zero (S := S1024x1024) _ hz, View.readAt_eq_ld, (hs0_0 t).read_unread, (hs0_1 t).read_unread, (hs0_2 t).read_unread, (hs0_3 t).read_unread, (hs0_4 t).read_unread, (hs0_5 t).read_unread, (hs0_6 t).read_unread, View.ld_unit_zero (S := S1024x1024) hz, View.ld_unit_zero (S := S1x1024) hz]
  unfold Cert.Kernel2Ideal.Ffn.total
  rfl

/-- The result array at a point's row. -/
theorem result_apply (c : Dev nD) (t : Fin cfg0.N) (r l : Fin 1024) :
    ((dats m 0 c).arrAt 8 cfg0.N : FVec Ideal S16384x1024 .f32) (ix2 (at_ t r) l) = line m c (at_ t r) l := by
  have hr := congrFun (Value.blocks8 m c t (flush0_8 t)) (ix2 r l)
  rw [Value.flushed8, View.read_apply] at hr
  refine Eq.trans ?_ (hr.trans ?_)
  · refine congrArg ((dats m 0 c).arrAt 8 cfg0.N : FVec Ideal S16384x1024 .f32) ?_
    funext a
    apply Fin.ext
    match a with
    | ⟨0, _⟩ => show t.1 * 1024 + r.1 = win0_8.index t 0 * 1024 + 1 * r.1; rw [(index_out t).1]; omega
    | ⟨1, _⟩ => show l.1 = win0_8.index t 1 * 1024 + 1 * l.1; rw [(index_out t).2]; omega
  · exact (congrFun (out_eq m c t) (ix2 r l)).trans (Cert.Kernel2Ideal.Ffn.total_line m c t r l)

end Cert.Kernel3Ideal.Ffn

end

end
-- ==== Proof.FfnRef.lean ====
/- The feed-forward references as compositions of named parts, and the parts read at an index. -/
module

public import proofs.«01_k».proof.Proof.Gen.Reference2Ideal.Run
public import proofs.«01_k».proof.Proof.Gen.Reference3Ideal.Run
public import proofs.«01_k».proof.Proof.FfnMath
public import Idealize.ShloMosaic.Lib.Pointwise

@[expose] public section

set_option maxRecDepth 16384

noncomputable section

namespace Cert.Reference2Ideal.Sem

open Cert.Reference2Ideal Cert.Reference2Ideal.Gen Cert.Reference2Ideal.Value Cert.FfnMath
open Idealize.ShloMosaic Idealize.ShloMosaic.TcCoe Idealize.ShloMosaic.StableHlo

/-- The residual stream: its batch, its token and its lane. -/
abbrev A3 := FVec Ideal S8x2048x1024 .f32

/-- The residual with the mixer's output projected. -/
def added (h o : A3) (wo : FVec Ideal S1024x1024 .f32) : A3 :=
  addf h (Host.dotGeneral dot_S8x2048x1024_S1024x1024_S8x2048x1024_2_0_01_1_n_n none o wo)
/-- The norm with its gain. -/
def normed (x : A3) (g : FVec Ideal S1024 .f32) : A3 :=
  mulf (mulf x (broadcastInDim S8x2048x1024 ![0, 1, 2] bcast_S8x2048x1_S8x2048x1024_0_1_2 (Host.rsqrt (addf (Host.divf
      (broadcastInDim S8x2048x1 ![0, 1] bcast_S8x2048_S8x2048x1_0_1 (Host.reduceAdd (mulf x x) (constant (F := Ideal) S_ .f32 0x00000000#32) reducesTo_S8x2048x1024_S8x2048_d2 h_S_))
      (broadcastInDim S8x2048x1 ![] bcast_S_S8x2048x1 (constant (F := Ideal) S_ .f32 0x44800000#32)))
      (broadcastInDim S8x2048x1 ![] bcast_S_S8x2048x1 (constant (F := Ideal) S_ .f32 0x358637BD#32))))))
    (broadcastInDim S8x2048x1024 ![0, 1, 2] bcast_S1x1x1024_S8x2048x1024_0_1_2 (broadcastInDim S1x1x1024 ![2] bcast_S1024_S1x1x1024_2 g))
/-- The rows against the columns of a weight. -/
def wide (a : A3) (w : FVec Ideal S1024x2816 .f32) : FVec Ideal S8x2048x2816 .f32 :=
  Host.dotGeneral dot_S8x2048x1024_S1024x2816_S8x2048x2816_2_0_01_1_n_n none a w
/-- The hidden layer. -/
def hidden (a : A3) (wg wu : FVec Ideal S1024x2816 .f32) : FVec Ideal S8x2048x2816 .f32 :=
  mulf (mulf (wide a wg) (Host.divf (broadcastInDim S8x2048x2816 ![] bcast_S_S8x2048x2816 (constant (F := Ideal) S_ .f32 0x3F800000#32))
    (addf (broadcastInDim S8x2048x2816 ![] bcast_S_S8x2048x2816 (constant (F := Ideal) S_ .f32 0x3F800000#32)) (Host.exp (Host.negf (wide a wg)))))) (wide a wu)
/-- The residual and the feed-forward part. -/
def fed (x : A3) (g : FVec Ideal S1024 .f32) (wg wu : FVec Ideal S1024x2816 .f32) (wd : FVec Ideal S2816x1024 .f32) : A3 :=
  addf x (Host.dotGeneral dot_S8x2048x2816_S2816x1024_S8x2048x1024_2_0_01_1_n_n none (hidden (normed x g) wg wu) wd)
/-- The rows of all batches. -/
def rows (x : A3) : FVec Ideal S16384x1024 .f32 := shapeCast S16384x1024 x shapeCasts_S8x2048x1024_S16384x1024

/-- The reference with the final norm is the composition. -/
theorem res_eq (m : (ℓ : Loc nD τ sig) → Buf (Elt Ideal) ℓ) (c : Dev nD) :
    (res_out0 m c : FVec Ideal S16384x1024 .f32) = rows (normed (fed (added (m ((c.tc : Thread nD τ).loc main_arg0)) (m ((c.tc : Thread nD τ).loc main_arg1)) (m ((c.tc : Thread nD τ).loc main_arg2)))
      (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7))) := by
  unfold res_out0 res_main_v34
  rfl

/-- The reference without it is the same composition less its last part. -/
theorem res_eq' (m : (ℓ : Loc Cert.Reference3Ideal.nD Cert.Reference3Ideal.τ Cert.Reference3Ideal.sig) → Buf (Elt Ideal) ℓ) (c : Dev Cert.Reference3Ideal.nD) :
    (Cert.Reference3Ideal.Value.res_out0 m c : FVec Ideal S16384x1024 .f32)
      = rows (fed (added (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1))
          (m ((c.tc : Thread Cert.Reference3Ideal.nD Cert.Reference3Ideal.τ).loc Cert.Reference3Ideal.main_arg2)))
        (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))
        (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) := by
  unfold Cert.Reference3Ideal.Value.res_out0 Cert.Reference3Ideal.Value.res_main_v21
  rfl

/-- A token's row. -/
abbrev tok (x : A3) (b : Fin 8) (t : Fin 2048) : Fin 1024 → EReal := fun l => x (ix3 b t l)

theorem added_apply (h o : A3) (wo : FVec Ideal S1024x1024 .f32) (b : Fin 8) (t : Fin 2048) (l : Fin 1024) :
    added h o wo (ix3 b t l) = resid (tok h b t) (tok o b t) (fun k l => wo (ix2 k l)) l := by
  pointwise [added]
  rfl

theorem normed_apply (x : A3) (g : FVec Ideal S1024 .f32) (b : Fin 8) (t : Fin 2048) (l : Fin 1024) :
    normed x g (ix3 b t l) = norm (tok x b t) (fun l => g (ix1 l)) l := by
  pointwise [normed]
  rfl

theorem wide_apply (a : A3) (w : FVec Ideal S1024x2816 .f32) (b : Fin 8) (t : Fin 2048) (f : Fin 2816) :
    wide a w (ix3 b t f) = ∑ k, a (ix3 b t k) * w (ix2 k f) := by
  pointwise [wide]

theorem hidden_apply (a : A3) (wg wu : FVec Ideal S1024x2816 .f32) (b : Fin 8) (t : Fin 2048) (f : Fin 2816) :
    hidden a wg wu (ix3 b t f) = hid (tok a b t) (fun k => wg (ix2 k f)) (fun k => wu (ix2 k f)) := by
  pointwise [hidden]
  simp only [wide_apply]
  rfl

theorem fed_apply (x : A3) (g : FVec Ideal S1024 .f32) (wg wu : FVec Ideal S1024x2816 .f32) (wd : FVec Ideal S2816x1024 .f32) (b : Fin 8) (t : Fin 2048) (l : Fin 1024) :
    fed x g wg wu wd (ix3 b t l) = ffn (tok x b t) (fun l => g (ix1 l)) (fun k f => wg (ix2 k f)) (fun k f => wu (ix2 k f)) (fun f l => wd (ix2 f l)) l := by
  have hn : tok (normed x g) b t = norm (tok x b t) (fun l => g (ix1 l)) := funext fun l => normed_apply x g b t l
  pointwise [fed]
  simp only [hidden_apply, hn]
  rfl

theorem rows_apply (x : A3) (b : Fin 8) (t : Fin 2048) (l : Fin 1024) : rows x (ix2 ⟨b.1 * 2048 + t.1, by omega⟩ l) = x (ix3 b t l) := by
  pointwise [rows]

end Cert.Reference2Ideal.Sem

end

end
-- ==== Proof.FfnEqual.lean ====
/- The feed-forward kernels and their references compute the same arrays. -/
module

public import proofs.«01_k».proof.Defs
public import proofs.«01_k».proof.Proof.FfnThird
public import proofs.«01_k».proof.Proof.FfnRef

@[expose] public section

set_option maxRecDepth 16384

noncomputable section

namespace Cert.FfnEqual

open Idealize.ShloMosaic Idealize.ShloMosaic.TcCoe Idealize.ShloMosaic.StableHlo
open Cert.Kernel2Ideal.Ffn (at_ line argH argO argWo argG argWg argWu argWd argF)
open Cert.FfnMath (norm)

variable (m : (ℓ : Loc Cert.Kernel2Ideal.nD Cert.Kernel2Ideal.τ Cert.Kernel2Ideal.sig) → Buf (Elt Ideal) ℓ) (c : Dev Cert.Kernel2Ideal.nD)

/-- Every row of the arrays belongs to a grid point. -/
theorem point (R : Fin 16384) : ∃ (t : Fin Cert.Kernel2Ideal.cfg0.N) (r : Fin 1024), R = at_ t r :=
  ⟨(⟨R.1 / 1024, by omega⟩ : Fin 16), ⟨R.1 % 1024, by omega⟩, Fin.ext (by show R.1 = R.1 / 1024 * 1024 + R.1 % 1024; omega)⟩

/-- The reference's residual stream after the feed-forward part. -/
abbrev stream := Cert.Reference2Ideal.Sem.fed (Cert.Reference2Ideal.Sem.added (argH m c) (argO m c) (argWo m c)) (argG m c) (argWg m c) (argWu m c) (argWd m c)

/-- The stream at a token is the kernel's row. -/
theorem stream_line (b : Fin 8) (t : Fin 2048) (l : Fin 1024) : stream m c (ix3 b t l) = line m c ⟨b.1 * 2048 + t.1, by omega⟩ l := by
  have ha : Cert.Reference2Ideal.Sem.tok (Cert.Reference2Ideal.Sem.added (argH m c) (argO m c) (argWo m c)) b t = _ :=
    funext fun l => Cert.Reference2Ideal.Sem.added_apply (argH m c) (argO m c) (argWo m c) b t l
  refine (Cert.Reference2Ideal.Sem.fed_apply _ _ _ _ _ b t l).trans ?_
  rw [ha]
  unfold line
  simp only [Cert.Kernel2Ideal.Ffn.rows_apply]

/-- The reference's rows are the kernel's. -/
theorem rows_line (R : Fin 16384) (l : Fin 1024) : Cert.Reference2Ideal.Sem.rows (stream m c) (ix2 R l) = line m c R l := by
  obtain ⟨b, t, rfl⟩ : ∃ (b : Fin 8) (t : Fin 2048), R = ⟨b.1 * 2048 + t.1, by omega⟩ :=
    ⟨⟨R.1 / 2048, by omega⟩, ⟨R.1 % 2048, by omega⟩, Fin.ext (by show R.1 = R.1 / 2048 * 2048 + R.1 % 2048; omega)⟩
  exact (Cert.Reference2Ideal.Sem.rows_apply _ b t l).trans (stream_line m c b t l)

/-- The same with the final norm. -/
theorem rows_norm (R : Fin 16384) (l : Fin 1024) : Cert.Reference2Ideal.Sem.rows (Cert.Reference2Ideal.Sem.normed (stream m c) (argF m c)) (ix2 R l)
    = norm (line m c R) (fun l => argF m c (ix1 l)) l := by
  obtain ⟨b, t, rfl⟩ : ∃ (b : Fin 8) (t : Fin 2048), R = ⟨b.1 * 2048 + t.1, by omega⟩ :=
    ⟨⟨R.1 / 2048, by omega⟩, ⟨R.1 % 2048, by omega⟩, Fin.ext (by show R.1 = R.1 / 2048 * 2048 + R.1 % 2048; omega)⟩
  refine (Cert.Reference2Ideal.Sem.rows_apply _ b t l).trans ((Cert.Reference2Ideal.Sem.normed_apply _ _ b t l).trans ?_)
  exact congrArg (norm · _ l) (funext fun l => stream_line m c b t l)

/-- The kernel's array with the final norm is the reference's. -/
theorem array2 : Cert.Reference2Ideal.Sem.rows (Cert.Reference2Ideal.Sem.normed (stream m c) (argF m c))
    = ((Cert.Kernel2Ideal.Gen.dats m 0 c).arrAt 8 Cert.Kernel2Ideal.cfg0.N : FVec Ideal Cert.Kernel2Ideal.S16384x1024 .f32) := by
  funext x
  obtain ⟨R, L, rfl⟩ : ∃ (R : Fin 16384) (L : Fin 1024), x = ix2 R L :=
    ⟨x 0, x 1, by funext a; match a with | 0 => rfl | 1 => rfl⟩
  obtain ⟨t, r, rfl⟩ := point R
  exact (rows_norm m c _ L).trans (Cert.Kernel2Ideal.Ffn.result_apply m c t r L).symm

/-- The kernel's array without it is the reference's. -/
theorem array3 : Cert.Reference2Ideal.Sem.rows (stream m c)
    = ((Cert.Kernel3Ideal.Gen.dats m 0 c).arrAt 8 Cert.Kernel3Ideal.cfg0.N : FVec Ideal Cert.Kernel2Ideal.S16384x1024 .f32) := by
  funext x
  obtain ⟨R, L, rfl⟩ : ∃ (R : Fin 16384) (L : Fin 1024), x = ix2 R L :=
    ⟨x 0, x 1, by funext a; match a with | 0 => rfl | 1 => rfl⟩
  obtain ⟨t, r, rfl⟩ := point R
  exact (rows_line m c _ L).trans (Cert.Kernel3Ideal.Ffn.result_apply m c t r L).symm

/-- The kernel with the final norm and its reference compute the same array from arguments that agree. -/
theorem algebraic2 : Cert.algebraic_Kernel2Ideal_Reference2Ideal := fun m g m' g' _ hag =>
  ⟨fun c => (Cert.Kernel2Ideal.Gen.dats m 0 c).arrAt 8 Cert.Kernel2Ideal.cfg0.N, Cert.Kernel2Ideal.Value.run_blocks m g,
   (θ_run _ _ _).mono (fun _ h c => ⟨(h c).1.trans (by
      obtain ⟨h0, h1, h2, h3, h4, h5, h6, h7⟩ := hag c
      refine (Cert.Reference2Ideal.Sem.res_eq m' c).trans ?_
      rw [h0, h1, h2, h3, h4, h5, h6, h7]
      exact array2 m c), (h c).2⟩)
     (Cert.Reference2Ideal.Value.run m' g')⟩

/-- The kernel without the final norm and its reference compute the same array from arguments that agree. -/
theorem algebraic3 : Cert.algebraic_Kernel3Ideal_Reference3Ideal := fun m g m' g' _ hag =>
  ⟨fun c => (Cert.Kernel3Ideal.Gen.dats m 0 c).arrAt 8 Cert.Kernel3Ideal.cfg0.N, Cert.Kernel3Ideal.Value.run_blocks m g,
   (θ_run _ _ _).mono (fun _ h c => ⟨(h c).1.trans (by
      obtain ⟨h0, h1, h2, h3, h4, h5, h6, h7⟩ := hag c
      refine (Cert.Reference2Ideal.Sem.res_eq' m' c).trans ?_
      rw [h0, h1, h2, h3, h4, h5, h6]
      exact array3 m c), (h c).2⟩)
     (Cert.Reference3Ideal.Value.run m' g')⟩

end Cert.FfnEqual

end

end
-- ==== Proof.ProjRead.lean ====
/- The pieces of the projection kernels' blocks read at an index: a chunk of columns of the normed rows against a weight,
   its means over blocks of rows, and the casts of the weights that ride along. -/
module

public import proofs.«01_k».proof.Proof.Gen.Kernel5Ideal.Value
public import proofs.«01_k».proof.Proof.Gen.Kernel6Ideal.Value
public import proofs.«01_k».proof.Proof.FfnMath
public import Idealize.ShloMosaic.Lib.Pointwise

@[expose] public section

set_option maxRecDepth 16384

noncomputable section

namespace Cert.Proj

open Cert.Kernel5Ideal Cert.Kernel5Ideal.Gen Cert.FfnMath
open Idealize.ShloMosaic Idealize.ShloMosaic.TcCoe

/-- A column of a weight against a normed row. -/
def col (x g w : Fin 1024 → EReal) : EReal := ∑ k, norm x g k * w k

/-- The rows of a block against the columns of a weight. -/
def against {n : Nat} (a : FVec Ideal S1024x1024 .bf16) (w : FVec Ideal ⟨2, ![1024, n]⟩ .bf16) (r : Fin 1024) (j : Fin n) : EReal :=
  ∑ k, a (ix2 r k) * w (ix2 k j)

/-- A chunk of a matrix's columns, read at an index. -/
theorem ld_chunk {p n q : Nat} {e : EltTy} (w : Vec Ideal ⟨2, ![p, n]⟩ e) (o : Nat) (inb) (k : Fin p) (j : Fin q) (J : Fin n) (h : J.1 = o + j.1) :
    View.ld (Val := Elt Ideal) (e' := e) w (Rect.unit (s := ⟨2, ![p, n]⟩) ![0, o] ![p, q] inb) (ix2 k j) = w (ix2 k J) := by
  show w _ = w _
  congr 1
  funext c
  apply Fin.ext
  match c with
  | ⟨0, _⟩ => show 0 + 1 * k.1 = k.1; omega
  | ⟨1, _⟩ => show o + 1 * j.1 = J.1; omega

/-- The normed rows. -/
theorem norm_apply (x : FVec Ideal S1024x1024 .f32) (g : FVec Ideal S1x1024 .f32) (r l : Fin 1024) :
    k0_pay5 (F := Ideal) x g (ix2 r l) = norm (fun l => x (ix2 r l)) (fun l => g (ix2 0 l)) l := by
  pointwise [k0_pay5]
  rfl

/-- A chunk of columns. -/
theorem plain_apply (a : FVec Ideal S1024x1024 .bf16) (w : FVec Ideal S1024x512 .bf16) (r : Fin 1024) (j : Fin 512) :
    k0_pay9 (F := Ideal) a w (ix2 r j) = ∑ k, a (ix2 r k) * w (ix2 k j) := by
  pointwise [k0_pay9]

/-- A chunk of columns with its scale. -/
theorem scaled_apply (a : FVec Ideal S1024x1024 .bf16) (w : FVec Ideal S1024x512 .bf16) (s : FVec Ideal S1x512 .f32) (r : Fin 1024) (j : Fin 512) :
    k0_pay8 (F := Ideal) a w s (ix2 r j) = (∑ k, a (ix2 r k) * w (ix2 k j)) * s (ix2 0 j) := by
  pointwise [k0_pay8]

/-- The gates' columns. -/
theorem gates_apply (a : FVec Ideal S1024x1024 .bf16) (w : FVec Ideal Cert.Kernel6Ideal.S1024x128 .bf16) (r : Fin 1024) (j : Fin 128) :
    Cert.Kernel6Ideal.Gen.k0_pay1 (F := Ideal) a w (ix2 r j) = ∑ k, a (ix2 r k) * w (ix2 k j) := by
  pointwise [Cert.Kernel6Ideal.Gen.k0_pay1]

/-- The means of a chunk over blocks of rows. -/
theorem mean_apply (y : FVec Ideal S1024x512 .f32) (b : Fin 4) (j : Fin 512) :
    k0_pay14 (F := Ideal) y (ix3 0 b j) = (∑ i : Fin 256, y (ix2 ⟨b.1 * 256 + i.1, by omega⟩ j)) * Ideal.ofBits .f32 0x3B800000#32 := by
  pointwise [k0_pay14]

/-- A cast of a weight of 1024 rows. -/
theorem wide_apply (w : FVec Ideal S1x64x2816 .f32) (r : Fin 64) (j : Fin 2816) : k0_pay2 (F := Ideal) w (ix2 r j) = w (ix3 0 r j) := by
  pointwise [k0_pay2]

/-- A cast of a weight of 2816 rows. -/
theorem tall_apply (w : FVec Ideal S1x176x1024 .f32) (r : Fin 176) (j : Fin 1024) : k0_pay4 (F := Ideal) w (ix2 r j) = w (ix3 0 r j) := by
  pointwise [k0_pay4]

/-- A pair of coordinates as an index, whatever the index. -/
theorem pair {a b : Nat} (x : (⟨2, ![a, b]⟩ : Shape).Idx) : ∃ (r : Fin a) (j : Fin b), x = ix2 r j :=
  ⟨x 0, x 1, by funext c; match c with | 0 => rfl | 1 => rfl⟩

/-- The whole number zero as a float is zero. -/
theorem sitofp_zero : (FloatOps.sitofp FTy.f32 (0#32) : Ideal .f32) = (0 : EReal) := by
  simp [FloatOps.sitofp]

/-- An array at an index, by the index's two coordinates. -/
theorem at2 {α : Type} {a b : Nat} (A : (⟨2, ![a, b]⟩ : Shape).Idx → α) (z : (⟨2, ![a, b]⟩ : Shape).Idx) (R : Fin a) (L : Fin b)
    (h0 : (z 0).1 = R.1) (h1 : (z 1).1 = L.1) : A z = A (ix2 R L) := by
  refine congrArg A (funext fun c => Fin.ext ?_)
  match c with
  | 0 => exact h0
  | 1 => exact h1

/-- An array at an index, by the index's three coordinates. -/
theorem at3 {α : Type} {a b d : Nat} (A : (⟨3, ![a, b, d]⟩ : Shape).Idx → α) (z : (⟨3, ![a, b, d]⟩ : Shape).Idx) (Q : Fin a) (R : Fin b) (L : Fin d)
    (h0 : (z 0).1 = Q.1) (h1 : (z 1).1 = R.1) (h2 : (z 2).1 = L.1) : A z = A (ix3 Q R L) := by
  refine congrArg A (funext fun c => Fin.ext ?_)
  match c with
  | 0 => exact h0
  | 1 => exact h1
  | 2 => exact h2

/-- A row's number within the arrays: the point times the rows of its block, plus the row. -/
abbrev at_ {N : Nat} (B : Nat) (t : Fin N) (r : Fin B) : Fin (N * B) := ⟨t.1 * B + r.1, by
  have h := t.isLt; have h' := r.isLt
  calc t.1 * B + r.1 < t.1 * B + B := by omega
    _ = (t.1 + 1) * B := by rw [Nat.add_mul, Nat.one_mul]
    _ ≤ N * B := Nat.mul_le_mul_right _ h⟩

/-- Every row belongs to a point. -/
theorem point {N B : Nat} (hB : 0 < B) (R : Fin (N * B)) : ∃ (t : Fin N) (r : Fin B), R = at_ B t r :=
  ⟨⟨R.1 / B, Nat.div_lt_of_lt_mul (lt_of_lt_of_eq R.isLt (Nat.mul_comm N B))⟩, ⟨R.1 % B, Nat.mod_lt _ hB⟩, Fin.ext (Nat.div_add_mod' R.1 B).symm⟩

/-- A chunk with its scale is a piece of the whole product. -/
theorem scaled_piece {n : Nat} (a : FVec Ideal S1024x1024 .bf16) (w : FVec Ideal ⟨2, ![1024, n]⟩ .bf16) (s : FVec Ideal ⟨2, ![1, n]⟩ .f32) (o : Nat) (inb inb')
    (x : S1024x512.Idx) :
    k0_pay8 (F := Ideal) a (View.ld (Val := Elt Ideal) (e' := .bf16) w (Rect.unit (s := ⟨2, ![1024, n]⟩) ![0, o] ![1024, 512] inb))
        (View.ld (Val := Elt Ideal) (e' := .f32) s (Rect.unit (s := ⟨2, ![1, n]⟩) ![0, o] ![1, 512] inb')) x
      = (fun y : (⟨2, ![1024, n]⟩ : Shape).Idx => against a w (y 0) (y 1) * s (ix2 0 (y 1)))
          ((Rect.unit (s := ⟨2, ![1024, n]⟩) ![0, o] ![1024, 512] inb).emb x) := by
  obtain ⟨r, j, rfl⟩ := pair x
  rw [scaled_apply]
  have hJ : ∀ X, ((Rect.unit (s := ⟨2, ![1024, n]⟩) ![0, o] ![1024, 512] inb).emb X 1).1 = o + (X 1).1 := fun X => by
    show o + 1 * (X 1).1 = _; omega
  have hR : (Rect.unit (s := ⟨2, ![1024, n]⟩) ![0, o] ![1024, 512] inb).emb (ix2 r j) 0 = r := Fin.ext (by
    show 0 + 1 * r.1 = _; omega)
  refine congrArg₂ (· * ·) (Finset.sum_congr rfl fun k _ => congrArg₂ (· * ·) ?_ (ld_chunk (e := .bf16) w o inb k j _ (hJ _))) (ld_chunk (e := .f32) s o inb' 0 j _ (hJ _))
  exact congrArg (fun R => a (ix2 R k)) hR.symm

/-- A chunk without a scale is a piece of the whole product. -/
theorem plain_piece {n : Nat} (a : FVec Ideal S1024x1024 .bf16) (w : FVec Ideal ⟨2, ![1024, n]⟩ .bf16) (o : Nat) (inb) (x : S1024x512.Idx) :
    k0_pay9 (F := Ideal) a (View.ld (Val := Elt Ideal) (e' := .bf16) w (Rect.unit (s := ⟨2, ![1024, n]⟩) ![0, o] ![1024, 512] inb)) x
      = (fun y : (⟨2, ![1024, n]⟩ : Shape).Idx => against a w (y 0) (y 1)) ((Rect.unit (s := ⟨2, ![1024, n]⟩) ![0, o] ![1024, 512] inb).emb x) := by
  obtain ⟨r, j, rfl⟩ := pair x
  rw [plain_apply]
  have hJ : ∀ X, ((Rect.unit (s := ⟨2, ![1024, n]⟩) ![0, o] ![1024, 512] inb).emb X 1).1 = o + (X 1).1 := fun X => by
    show o + 1 * (X 1).1 = _; omega
  have hR : (Rect.unit (s := ⟨2, ![1024, n]⟩) ![0, o] ![1024, 512] inb).emb (ix2 r j) 0 = r := Fin.ext (by
    show 0 + 1 * r.1 = _; omega)
  refine Finset.sum_congr rfl fun k _ => congrArg₂ (· * ·) ?_ (ld_chunk (e := .bf16) w o inb k j _ (hJ _))
  exact congrArg (fun R => a (ix2 R k)) hR.symm

/-- The means of a chunk are a piece of the means. -/
theorem mean_piece (a : FVec Ideal S1024x1024 .bf16) (w : FVec Ideal S1024x2048 .bf16) (o : Nat) (inb inb') (x : S1x4x512.Idx) :
    k0_pay14 (F := Ideal) (k0_pay9 (F := Ideal) a (View.ld (Val := Elt Ideal) (e' := .bf16) w (Rect.unit (s := S1024x2048) ![0, o] ![1024, 512] inb))) x
      = (fun y : S1x4x2048.Idx => (∑ i : Fin 256, against a w ⟨(y 1).1 * 256 + i.1, by have : (y 1).1 < 4 := (y 1).isLt; omega⟩ (y 2)) * Ideal.ofBits .f32 0x3B800000#32)
          ((Rect.unit (s := S1x4x2048) ![0, 0, o] ![1, 4, 512] inb').emb x) := by
  obtain ⟨b, j, rfl⟩ : ∃ (b : Fin 4) (j : Fin 512), x = ix3 0 b j := ⟨x 1, x 2, by
    funext c; match c with | 0 => exact Fin.ext (by have : (x 0).1 < 1 := (x 0).isLt; show (x 0).1 = 0; omega) | 1 => rfl | 2 => rfl⟩
  rw [mean_apply]
  have hJ : ((Rect.unit (s := S1x4x2048) ![0, 0, o] ![1, 4, 512] inb').emb (ix3 0 b j) 2).1 = o + j.1 := by
    show o + 1 * j.1 = _; omega
  have hR : ((Rect.unit (s := S1x4x2048) ![0, 0, o] ![1, 4, 512] inb').emb (ix3 0 b j) 1).1 = b.1 := by
    show 0 + 1 * b.1 = _; omega
  dsimp only
  refine congrArg (· * _) (Finset.sum_congr rfl fun i _ => ?_)
  rw [plain_apply]
  dsimp only [against]
  refine Finset.sum_congr rfl fun k _ => congrArg₂ (· * ·) ?_ (ld_chunk (e := .bf16) w o inb k j _ hJ)
  refine congrArg (fun R => a (ix2 R k)) (Fin.ext ?_)
  show b.1 * 256 + i.1 = _ * 256 + i.1
  rw [hR]

end Cert.Proj

end

end
-- ==== Proof.ProjBlock.lean ====
/- What a grid point of the projection kernels leaves in its blocks of the results. -/
module

public import proofs.«01_k».proof.Proof.ProjRead

@[expose] public section

set_option maxRecDepth 16384

noncomputable section

namespace Cert.Proj

open Cert.FfnMath
open Idealize.ShloMosaic Idealize.ShloMosaic.TcCoe

theorem hz2 : (![0, 0] : Fin 2 → Nat) = fun _ => 0 := funext fun a => by fin_cases a <;> rfl
theorem hz3 : (![0, 0, 0] : Fin 3 → Nat) = fun _ => 0 := funext fun a => by fin_cases a <;> rfl

/-- The normed rows of a block. -/
abbrev rms (x : FVec Ideal Cert.Kernel5Ideal.S1024x1024 .f32) (g : FVec Ideal Cert.Kernel5Ideal.S1x1024 .f32) : FVec Ideal Cert.Kernel5Ideal.S1024x1024 .bf16 := Cert.Kernel5Ideal.Gen.k0_pay5 (F := Ideal) x g

/-- The rows of a normed block against a column of a weight. -/
theorem against_rms {n : Nat} (x : FVec Ideal Cert.Kernel5Ideal.S1024x1024 .f32) (g : FVec Ideal Cert.Kernel5Ideal.S1x1024 .f32) (w : FVec Ideal ⟨2, ![1024, n]⟩ .bf16) (r : Fin 1024) (j : Fin n) :
    against (rms x g) w r j = col (fun l => x (ix2 r l)) (fun l => g (ix2 0 l)) (fun k => w (ix2 k j)) := by
  unfold against col
  simp only [rms, norm_apply]

section Nsa

open Cert.Kernel6Ideal Cert.Kernel6Ideal.Gen

variable (x0 : FVec Ideal S1024x1024 .f32) (x1 : FVec Ideal S1x1024 .f32) (x2 : FVec Ideal S1x2048 .f32) (x3 : FVec Ideal S1024x2048 .bf16)
  (x4 : FVec Ideal S1024x128 .bf16) (x5 : FVec Ideal S1024x512 .bf16) (x6 x7 : FVec Ideal S1x64x2816 .f32) (x8 : FVec Ideal S1x176x1024 .f32)

theorem normed6 : k0_pay12 (F := Ideal) x0 x1 x2 x3 x4 x5 x6 x7 x8 = rms x0 x1 := by
  unfold k0_pay12
  rw [View.ld_unit_zero (S := S1024x1024) hz2, View.ld_unit_zero (S := S1x1024) hz2]
  rfl

/-- The queries, keys and values. -/
theorem main6 (r : Fin 1024) (j : Fin 2048) : out0_9 (F := Ideal) x0 x1 x2 x3 x4 x5 x6 x7 x8 (ix2 r j)
    = col (fun l => x0 (ix2 r l)) (fun l => x1 (ix2 0 l)) (fun k => x3 (ix2 k j)) * x2 (ix2 0 j) := by
  unfold out0_9
  rw [normed6, ← against_rms]
  refine View.canon_apply_of_pieces (Val := Elt Ideal) (e := .bf16) (fun y : S1024x2048.Idx => against (rms x0 x1) x3 (y 0) (y 1) * x2 (ix2 0 (y 1))) _ ?_ _ (cover0_9 _ _ _ _ _)
  intro pc hpc
  simp only [List.mem_cons, List.not_mem_nil, or_false] at hpc
  rcases hpc with rfl | rfl | rfl | rfl
  · exact fun x => scaled_piece (rms x0 x1) x3 x2 1536 _ _ x
  · exact fun x => scaled_piece (rms x0 x1) x3 x2 1024 _ _ x
  · exact fun x => scaled_piece (rms x0 x1) x3 x2 512 _ _ x
  · exact fun x => scaled_piece (rms x0 x1) x3 x2 0 _ _ x

/-- The gates' inputs. -/
theorem gates6 (r : Fin 1024) (j : Fin 128) : out0_10 (F := Ideal) x0 x1 x2 x3 x4 x5 x6 x7 x8 (ix2 r j)
    = col (fun l => x0 (ix2 r l)) (fun l => x1 (ix2 0 l)) (fun k => x4 (ix2 k j)) := by
  unfold out0_10
  rw [normed6, View.canon_unit_zero (S := S1024x128) hz2, View.ld_unit_zero (S := S1024x128) hz2, ← against_rms]
  exact gates_apply _ _ r j

/-- The keys and values that are compressed. -/
theorem cmp6 (r : Fin 1024) (j : Fin 512) : out0_11 (F := Ideal) x0 x1 x2 x3 x4 x5 x6 x7 x8 (ix2 r j)
    = col (fun l => x0 (ix2 r l)) (fun l => x1 (ix2 0 l)) (fun k => x5 (ix2 k j)) := by
  unfold out0_11
  rw [normed6, View.canon_unit_zero (S := S1024x512) hz2, View.ld_unit_zero (S := S1024x512) hz2, ← against_rms]
  exact plain_apply _ _ r j

theorem wide6 (r : Fin 64) (j : Fin 2816) : out0_12 (F := Ideal) x0 x1 x2 x3 x4 x5 x6 x7 x8 (ix2 r j) = x6 (ix3 0 r j) := by
  unfold out0_12
  rw [View.canon_unit_zero (S := S64x2816) hz2, View.ld_unit_zero (S := S1x64x2816) hz3]
  exact wide_apply _ r j

theorem wide6' (r : Fin 64) (j : Fin 2816) : out0_13 (F := Ideal) x0 x1 x2 x3 x4 x5 x6 x7 x8 (ix2 r j) = x7 (ix3 0 r j) := by
  unfold out0_13
  rw [View.canon_unit_zero (S := S64x2816) hz2, View.ld_unit_zero (S := S1x64x2816) hz3]
  exact wide_apply _ r j

theorem tall6 (r : Fin 176) (j : Fin 1024) : out0_14 (F := Ideal) x0 x1 x2 x3 x4 x5 x6 x7 x8 (ix2 r j) = x8 (ix3 0 r j) := by
  unfold out0_14
  rw [View.canon_unit_zero (S := S176x1024) hz2, View.ld_unit_zero (S := S1x176x1024) hz3]
  exact tall_apply _ r j

end Nsa

section Moba

open Cert.Kernel5Ideal Cert.Kernel5Ideal.Gen

variable (x0 : FVec Ideal S1024x1024 .f32) (x1 x2 : FVec Ideal S1x1024 .f32) (x3 : FVec Ideal S1024x1024 .bf16)
  (x4 : FVec Ideal S1024x2048 .bf16) (x5 x6 : FVec Ideal S1x64x2816 .f32) (x7 : FVec Ideal S1x176x1024 .f32)

theorem normed5 : k0_pay21 (F := Ideal) x0 x1 x2 x3 x4 x5 x6 x7 = rms x0 x1 := by
  unfold k0_pay21
  rw [View.ld_unit_zero (S := S1024x1024) hz2, View.ld_unit_zero (S := S1x1024) hz2]

/-- The queries. -/
theorem query5 (r j : Fin 1024) : out0_8 (F := Ideal) x0 x1 x2 x3 x4 x5 x6 x7 (ix2 r j)
    = col (fun l => x0 (ix2 r l)) (fun l => x1 (ix2 0 l)) (fun k => x3 (ix2 k j)) * x2 (ix2 0 j) := by
  unfold out0_8
  rw [normed5, ← against_rms]
  refine View.canon_apply_of_pieces (Val := Elt Ideal) (e := .bf16) (fun y : S1024x1024.Idx => against (rms x0 x1) x3 (y 0) (y 1) * x2 (ix2 0 (y 1))) _ ?_ _ (cover0_8 _ _ _)
  intro pc hpc
  simp only [List.mem_cons, List.not_mem_nil, or_false] at hpc
  rcases hpc with rfl | rfl
  · exact fun x => scaled_piece (rms x0 x1) x3 x2 512 _ _ x
  · exact fun x => scaled_piece (rms x0 x1) x3 x2 0 _ _ x

/-- The keys and values. -/
theorem pairs5 (r : Fin 1024) (j : Fin 2048) : out0_9 (F := Ideal) x0 x1 x2 x3 x4 x5 x6 x7 (ix2 r j)
    = col (fun l => x0 (ix2 r l)) (fun l => x1 (ix2 0 l)) (fun k => x4 (ix2 k j)) := by
  unfold out0_9
  rw [normed5, ← against_rms]
  refine View.canon_apply_of_pieces (Val := Elt Ideal) (e := .bf16) (fun y : S1024x2048.Idx => against (rms x0 x1) x4 (y 0) (y 1)) _ ?_ _ (cover0_9 _ _ _ _ _)
  intro pc hpc
  simp only [List.mem_cons, List.not_mem_nil, or_false] at hpc
  rcases hpc with rfl | rfl | rfl | rfl
  · exact fun x => plain_piece (rms x0 x1) x4 1536 _ x
  · exact fun x => plain_piece (rms x0 x1) x4 1024 _ x
  · exact fun x => plain_piece (rms x0 x1) x4 512 _ x
  · exact fun x => plain_piece (rms x0 x1) x4 0 _ x

/-- The means of the keys and values over blocks of rows. -/
theorem means5 (b : Fin 4) (j : Fin 2048) : out0_13 (F := Ideal) x0 x1 x2 x3 x4 x5 x6 x7 (ix3 0 b j)
    = (∑ i : Fin 256, col (fun l => x0 (ix2 ⟨b.1 * 256 + i.1, by omega⟩ l)) (fun l => x1 (ix2 0 l)) (fun k => x4 (ix2 k j))) * Ideal.ofBits .f32 0x3B800000#32 := by
  unfold out0_13
  rw [normed5]
  simp only [← against_rms]
  refine View.canon_apply_of_pieces (Val := Elt Ideal) (e := .f32) (fun y : S1x4x2048.Idx => (∑ i : Fin 256, against (rms x0 x1) x4 ⟨(y 1).1 * 256 + i.1, by have : (y 1).1 < 4 := (y 1).isLt; omega⟩ (y 2)) * Ideal.ofBits .f32 0x3B800000#32) _ ?_ _ (cover0_13 _ _ _ _ _)
  intro pc hpc
  simp only [List.mem_cons, List.not_mem_nil, or_false] at hpc
  rcases hpc with rfl | rfl | rfl | rfl
  · exact fun x => mean_piece (rms x0 x1) x4 1536 _ inb_S1x4x2048_S1x4x512_0_0_1536 x
  · exact fun x => mean_piece (rms x0 x1) x4 1024 _ inb_S1x4x2048_S1x4x512_0_0_1024 x
  · exact fun x => mean_piece (rms x0 x1) x4 512 _ inb_S1x4x2048_S1x4x512_0_0_512 x
  · exact fun x => mean_piece (rms x0 x1) x4 0 _ inb_S1x4x2048_S1x4x512_0_0_0 x

theorem wide5 (r : Fin 64) (j : Fin 2816) : out0_10 (F := Ideal) x0 x1 x2 x3 x4 x5 x6 x7 (ix2 r j) = x5 (ix3 0 r j) := by
  unfold out0_10
  rw [View.canon_unit_zero (S := S64x2816) hz2, View.ld_unit_zero (S := S1x64x2816) hz3]
  exact wide_apply _ r j

theorem wide5' (r : Fin 64) (j : Fin 2816) : out0_11 (F := Ideal) x0 x1 x2 x3 x4 x5 x6 x7 (ix2 r j) = x6 (ix3 0 r j) := by
  unfold out0_11
  rw [View.canon_unit_zero (S := S64x2816) hz2, View.ld_unit_zero (S := S1x64x2816) hz3]
  exact wide_apply _ r j

theorem tall5 (r : Fin 176) (j : Fin 1024) : out0_12 (F := Ideal) x0 x1 x2 x3 x4 x5 x6 x7 (ix2 r j) = x7 (ix3 0 r j) := by
  unfold out0_12
  rw [View.canon_unit_zero (S := S176x1024) hz2, View.ld_unit_zero (S := S1x176x1024) hz3]
  exact tall_apply _ r j

end Moba

end Cert.Proj

end

end
-- ==== Proof.ProjNsa.lean ====
/- What the launch of the NSA projection reads, and its result arrays at an index. -/
module

public import proofs.«01_k».proof.Proof.ProjBlock

@[expose] public section

set_option maxRecDepth 16384

noncomputable section

namespace Cert.Kernel6Ideal.Qkv

open Cert.Kernel6Ideal Cert.Kernel6Ideal.Gen Cert.FfnMath Cert.Proj
open Idealize.ShloMosaic Idealize.ShloMosaic.TcCoe Idealize.ShloMosaic.StableHlo

variable (m : (ℓ : Loc nD τ sig) → Buf (Elt Ideal) ℓ) (c : Dev nD)

/-- The kernel's arguments. -/
abbrev argX : FVec Ideal S8x2048x1024 .f32 := m ((c.tc : Thread nD τ).loc main_arg0)
abbrev argG : FVec Ideal S1024 .f32 := m ((c.tc : Thread nD τ).loc main_arg1)
abbrev argW : FVec Ideal S1024x2608 .f32 := m ((c.tc : Thread nD τ).loc main_arg2)
abbrev argWg : FVec Ideal S4x1024x2816 .f32 := m ((c.tc : Thread nD τ).loc main_arg3)
abbrev argWu : FVec Ideal S4x1024x2816 .f32 := m ((c.tc : Thread nD τ).loc main_arg4)
abbrev argWd : FVec Ideal S4x2816x1024 .f32 := m ((c.tc : Thread nD τ).loc main_arg5)

/-- The rows of all batches. -/
def rows (x : FVec Ideal S8x2048x1024 .f32) : FVec Ideal S16384x1024 .f32 := shapeCast S16384x1024 x shapeCasts_S8x2048x1024_S16384x1024
/-- A gain as a row. -/
def flat (x : FVec Ideal S1024 .f32) : FVec Ideal S1x1024 .f32 := shapeCast S1x1024 x shapeCasts_S1024_S1x1024
/-- A row of ones. -/
def ones : FVec Ideal S1x2048 .f32 := broadcastInDim S1x2048 ![] bcast_S_S1x2048 (constant (F := Ideal) S_ .f32 0x3F800000#32)
/-- The columns of two weights side by side, head by head. -/
def pairW (a b : FVec Ideal S1024x256 .f32) : FVec Ideal S1024x512 .f32 :=
  shapeCast S1024x512 (concatenate S1024x4x2x64 2 [⟨S1024x4x1x64, broadcastInDim S1024x4x1x64 ![0, 1, 3] bcast_S1024x4x64_S1024x4x1x64_0_1_3 (shapeCast S1024x4x64 a shapeCasts_S1024x256_S1024x4x64)⟩,
    ⟨S1024x4x1x64, broadcastInDim S1024x4x1x64 ![0, 1, 3] bcast_S1024x4x64_S1024x4x1x64_0_1_3 (shapeCast S1024x4x64 b shapeCasts_S1024x256_S1024x4x64)⟩] concatenates_S1024x4x1x64_S1024x4x1x64_S1024x4x2x64_d2) shapeCasts_S1024x4x2x64_S1024x512
/-- The weight of the queries, keys and values. -/
def mainW (w : FVec Ideal S1024x2608 .f32) : FVec Ideal S1024x2048 .f32 :=
  concatenate S1024x2048 1 [⟨S1024x1024, extractStridedSlice S1024x1024 ![0, 0] w slices_S1024x2608_S1024x1024_0_0⟩,
    ⟨S1024x512, pairW (extractStridedSlice S1024x256 ![0, 1536] w slices_S1024x2608_S1024x256_0_1536) (extractStridedSlice S1024x256 ![0, 1792] w slices_S1024x2608_S1024x256_0_1792)⟩,
    ⟨S1024x512, pairW (extractStridedSlice S1024x256 ![0, 2048] w slices_S1024x2608_S1024x256_0_2048) (extractStridedSlice S1024x256 ![0, 2304] w slices_S1024x2608_S1024x256_0_2304)⟩]
    concatenates_S1024x1024_S1024x512_S1024x512_S1024x2048_d1
/-- The weight of the gates, widened with zeros. -/
def gateW (w : FVec Ideal S1024x2608 .f32) : FVec Ideal S1024x128 .f32 :=
  pad S1024x128 ![0, 0] ![0, 80] ![0, 0] (extractStridedSlice S1024x48 ![0, 2560] w slices_S1024x2608_S1024x48_0_2560) (sitofp .f32 (constantI S_ 32 0#32)) pads_S1024x48_S1024x128_000_0800 h_S_
/-- The weight of the compressed keys and values. -/
def cmpW (w : FVec Ideal S1024x2608 .f32) : FVec Ideal S1024x512 .f32 :=
  concatenate S1024x512 1 [⟨S1024x256, extractStridedSlice S1024x256 ![0, 1024] w slices_S1024x2608_S1024x256_0_1024⟩,
    ⟨S1024x256, extractStridedSlice S1024x256 ![0, 1280] w slices_S1024x2608_S1024x256_0_1280⟩] concatenates_S1024x256_S1024x256_S1024x512_d1

set_option maxHeartbeats 4000000 in
theorem V_x : (V m c main_v26 : FVec Ideal S16384x1024 .f32) = rows (argX m c) := by
  unfold V hostOps0
  after_results_simp <;> rfl
set_option maxHeartbeats 4000000 in
theorem V_g : (V m c main_v28 : FVec Ideal S1x1024 .f32) = flat (argG m c) := by
  unfold V hostOps0
  after_results_simp <;> rfl
set_option maxHeartbeats 4000000 in
theorem V_s : (V m c main_v27 : FVec Ideal S1x2048 .f32) = ones := by
  unfold V hostOps0
  after_results_simp <;> rfl
set_option maxHeartbeats 4000000 in
theorem V_main : (V m c main_v21 : FVec Ideal S1024x2048 .bf16) = mainW (argW m c) := by
  unfold V hostOps0
  after_results_simp <;> rfl
set_option maxHeartbeats 4000000 in
theorem V_gate : (V m c main_v25 : FVec Ideal S1024x128 .bf16) = gateW (argW m c) := by
  unfold V hostOps0
  after_results_simp <;> rfl
set_option maxHeartbeats 4000000 in
theorem V_cmp : (V m c main_v23 : FVec Ideal S1024x512 .bf16) = cmpW (argW m c) := by
  unfold V hostOps0
  after_results_simp <;> rfl
set_option maxHeartbeats 4000000 in
theorem V_riders : (V m c main_arg3 : FVec Ideal S4x1024x2816 .f32) = argWg m c ∧ (V m c main_arg4 : FVec Ideal S4x1024x2816 .f32) = argWu m c
    ∧ (V m c main_arg5 : FVec Ideal S4x2816x1024 .f32) = argWd m c := by
  refine ⟨?_, ?_, ?_⟩
  all_goals
    unfold V hostOps0
    after_results_simp <;> rfl

/-- Where each moving window stands at a grid point. -/
theorem moving : ∀ t : Fin cfg0.N, (win0_0.index t 0 = t.1 ∧ win0_0.index t 1 = 0) ∧ (win0_6.index t 0 = 0 ∧ win0_6.index t 1 = t.1 ∧ win0_6.index t 2 = 0)
    ∧ (win0_7.index t 0 = 0 ∧ win0_7.index t 1 = t.1 ∧ win0_7.index t 2 = 0) ∧ (win0_8.index t 0 = 0 ∧ win0_8.index t 1 = t.1 ∧ win0_8.index t 2 = 0)
    ∧ (win0_9.index t 0 = t.1 ∧ win0_9.index t 1 = 0) ∧ (win0_10.index t 0 = t.1 ∧ win0_10.index t 1 = 0) ∧ (win0_11.index t 0 = t.1 ∧ win0_11.index t 1 = 0)
    ∧ (win0_12.index t 0 = t.1 ∧ win0_12.index t 1 = 0) ∧ (win0_13.index t 0 = t.1 ∧ win0_13.index t 1 = 0) ∧ (win0_14.index t 0 = t.1 ∧ win0_14.index t 1 = 0) :=
  (by decide +kernel : ∀ t : Fin grid0.N, (win0_0.index t 0 = t.1 ∧ win0_0.index t 1 = 0) ∧ (win0_6.index t 0 = 0 ∧ win0_6.index t 1 = t.1 ∧ win0_6.index t 2 = 0)
    ∧ (win0_7.index t 0 = 0 ∧ win0_7.index t 1 = t.1 ∧ win0_7.index t 2 = 0) ∧ (win0_8.index t 0 = 0 ∧ win0_8.index t 1 = t.1 ∧ win0_8.index t 2 = 0)
    ∧ (win0_9.index t 0 = t.1 ∧ win0_9.index t 1 = 0) ∧ (win0_10.index t 0 = t.1 ∧ win0_10.index t 1 = 0) ∧ (win0_11.index t 0 = t.1 ∧ win0_11.index t 1 = 0)
    ∧ (win0_12.index t 0 = t.1 ∧ win0_12.index t 1 = 0) ∧ (win0_13.index t 0 = t.1 ∧ win0_13.index t 1 = 0) ∧ (win0_14.index t 0 = t.1 ∧ win0_14.index t 1 = 0))

variable (t : Fin 16)

theorem blk_x (r l : Fin 1024) : (iblk m c 0 t : FVec Ideal S1024x1024 .f32) (ix2 r l) = rows (argX m c) (ix2 (at_ 1024 t r) l) := by
  have h := moving t
  rw [← V_x]
  unfold iblk
  rw [View.read_apply]
  exact at2 (V m c main_v26) _ (at_ 1024 t r) l (by show win0_0.index t 0 * 1024 + 1 * r.1 = t.1 * 1024 + r.1; omega) (by show win0_0.index t 1 * 1024 + 1 * l.1 = l.1; omega)

theorem blk_g (l : Fin 1024) : (iblk m c 1 t : FVec Ideal S1x1024 .f32) (ix2 0 l) = flat (argG m c) (ix2 0 l) := by
  rw [← V_g]
  unfold iblk
  rw [View.read_apply]
  exact at2 (V m c main_v28) _ 0 l rfl (by show 0 * 1024 + 1 * l.1 = l.1; omega)

theorem blk_s (l : Fin 2048) : (iblk m c 2 t : FVec Ideal S1x2048 .f32) (ix2 0 l) = ones (ix2 0 l) := by
  rw [← V_s m c]
  unfold iblk
  rw [View.read_apply]
  exact at2 (V m c main_v27) _ 0 l rfl (by show 0 * 2048 + 1 * l.1 = l.1; omega)

theorem blk_main (k : Fin 1024) (l : Fin 2048) : (iblk m c 3 t : FVec Ideal S1024x2048 .bf16) (ix2 k l) = mainW (argW m c) (ix2 k l) := by
  rw [← V_main]
  unfold iblk
  rw [View.read_apply]
  exact at2 (V m c main_v21) _ k l (by show 0 * 1024 + 1 * k.1 = k.1; omega) (by show 0 * 2048 + 1 * l.1 = l.1; omega)

theorem blk_gate (k : Fin 1024) (l : Fin 128) : (iblk m c 4 t : FVec Ideal S1024x128 .bf16) (ix2 k l) = gateW (argW m c) (ix2 k l) := by
  rw [← V_gate]
  unfold iblk
  rw [View.read_apply]
  exact at2 (V m c main_v25) _ k l (by show 0 * 1024 + 1 * k.1 = k.1; omega) (by show 0 * 128 + 1 * l.1 = l.1; omega)

theorem blk_cmp (k : Fin 1024) (l : Fin 512) : (iblk m c 5 t : FVec Ideal S1024x512 .bf16) (ix2 k l) = cmpW (argW m c) (ix2 k l) := by
  rw [← V_cmp]
  unfold iblk
  rw [View.read_apply]
  exact at2 (V m c main_v23) _ k l (by show 0 * 1024 + 1 * k.1 = k.1; omega) (by show 0 * 512 + 1 * l.1 = l.1; omega)

theorem blk_wg (r : Fin 64) (l : Fin 2816) : (iblk m c 6 t : FVec Ideal S1x64x2816 .f32) (ix3 0 r l) = argWg m c (ix3 0 (at_ 64 t r) l) := by
  have h := moving t
  rw [← (V_riders m c).1]
  unfold iblk
  rw [View.read_apply]
  exact at3 (V m c main_arg3) _ 0 (at_ 64 t r) l (by show win0_6.index t 0 * 1 + 1 * 0 = 0; omega) (by show win0_6.index t 1 * 64 + 1 * r.1 = t.1 * 64 + r.1; omega)
    (by show win0_6.index t 2 * 2816 + 1 * l.1 = l.1; omega)

theorem blk_wu (r : Fin 64) (l : Fin 2816) : (iblk m c 7 t : FVec Ideal S1x64x2816 .f32) (ix3 0 r l) = argWu m c (ix3 0 (at_ 64 t r) l) := by
  have h := moving t
  rw [← (V_riders m c).2.1]
  unfold iblk
  rw [View.read_apply]
  exact at3 (V m c main_arg4) _ 0 (at_ 64 t r) l (by show win0_7.index t 0 * 1 + 1 * 0 = 0; omega) (by show win0_7.index t 1 * 64 + 1 * r.1 = t.1 * 64 + r.1; omega)
    (by show win0_7.index t 2 * 2816 + 1 * l.1 = l.1; omega)

theorem blk_wd (r : Fin 176) (l : Fin 1024) : (iblk m c 8 t : FVec Ideal S1x176x1024 .f32) (ix3 0 r l) = argWd m c (ix3 0 (at_ 176 t r) l) := by
  have h := moving t
  rw [← (V_riders m c).2.2]
  unfold iblk
  rw [View.read_apply]
  exact at3 (V m c main_arg5) _ 0 (at_ 176 t r) l (by show win0_8.index t 0 * 1 + 1 * 0 = 0; omega) (by show win0_8.index t 1 * 176 + 1 * r.1 = t.1 * 176 + r.1; omega)
    (by show win0_8.index t 2 * 1024 + 1 * l.1 = l.1; omega)

/-- A row of the normed stream against a column. -/
abbrev line (R : Fin 16384) (w : Fin 1024 → EReal) : EReal := col (fun l => rows (argX m c) (ix2 R l)) (fun l => argG m c (ix1 l)) w

theorem flat_apply (x : FVec Ideal S1024 .f32) (l : Fin 1024) : flat x (ix2 0 l) = x (ix1 l) := by
  pointwise [flat]

theorem ones_apply (l : Fin 2048) : ones (ix2 0 l) = 1 := by
  pointwise [ones]

/-- The queries, keys and values at a point's row. -/
theorem main_result (r : Fin 1024) (j : Fin 2048) :
    ((dats m 0 c).arrAt 9 cfg0.N : FVec Ideal S16384x2048 .bf16) (ix2 (at_ 1024 t r) j) = line m c (at_ 1024 t r) fun k => mainW (argW m c) (ix2 k j) := by
  have h := moving t
  have hr := congrFun ((Value.blocks9 m c t (flush0_9 t)).trans (Value.flushed9 m c t)) (ix2 r j)
  rw [View.read_apply] at hr
  refine ((at2 ((dats m 0 c).arrAt 9 cfg0.N : FVec Ideal S16384x2048 .bf16) _ (at_ 1024 t r) j (by show win0_9.index t 0 * 1024 + 1 * r.1 = t.1 * 1024 + r.1; omega)
    (by show win0_9.index t 1 * 2048 + 1 * j.1 = j.1; omega)).symm.trans hr).trans ((main6 _ _ _ _ _ _ _ _ _ r j).trans ?_)
  simp only [blk_x, blk_g, blk_s, blk_main, flat_apply, ones_apply, mul_one]

/-- The gates' inputs at a point's row. -/
theorem gate_result (r : Fin 1024) (j : Fin 128) :
    ((dats m 0 c).arrAt 10 cfg0.N : FVec Ideal S16384x128 .f32) (ix2 (at_ 1024 t r) j) = line m c (at_ 1024 t r) fun k => gateW (argW m c) (ix2 k j) := by
  have h := moving t
  have hr := congrFun ((Value.blocks10 m c t (flush0_10 t)).trans (Value.flushed10 m c t)) (ix2 r j)
  rw [View.read_apply] at hr
  refine ((at2 ((dats m 0 c).arrAt 10 cfg0.N : FVec Ideal S16384x128 .f32) _ (at_ 1024 t r) j (by show win0_10.index t 0 * 1024 + 1 * r.1 = t.1 * 1024 + r.1; omega)
    (by show win0_10.index t 1 * 128 + 1 * j.1 = j.1; omega)).symm.trans hr).trans ((gates6 _ _ _ _ _ _ _ _ _ r j).trans ?_)
  simp only [blk_x, blk_g, blk_gate, flat_apply]

/-- The compressed keys' and values' inputs at a point's row. -/
theorem cmp_result (r : Fin 1024) (j : Fin 512) :
    ((dats m 0 c).arrAt 11 cfg0.N : FVec Ideal S16384x512 .f32) (ix2 (at_ 1024 t r) j) = line m c (at_ 1024 t r) fun k => cmpW (argW m c) (ix2 k j) := by
  have h := moving t
  have hr := congrFun ((Value.blocks11 m c t (flush0_11 t)).trans (Value.flushed11 m c t)) (ix2 r j)
  rw [View.read_apply] at hr
  refine ((at2 ((dats m 0 c).arrAt 11 cfg0.N : FVec Ideal S16384x512 .f32) _ (at_ 1024 t r) j (by show win0_11.index t 0 * 1024 + 1 * r.1 = t.1 * 1024 + r.1; omega)
    (by show win0_11.index t 1 * 512 + 1 * j.1 = j.1; omega)).symm.trans hr).trans ((cmp6 _ _ _ _ _ _ _ _ _ r j).trans ?_)
  simp only [blk_x, blk_g, blk_cmp, flat_apply]

/-- The gate weight's cast at a point's row. -/
theorem wg_result (r : Fin 64) (j : Fin 2816) :
    ((dats m 0 c).arrAt 12 cfg0.N : FVec Ideal S1024x2816 .bf16) (ix2 (at_ 64 t r) j) = argWg m c (ix3 0 (at_ 64 t r) j) := by
  have h := moving t
  have hr := congrFun ((Value.blocks12 m c t (flush0_12 t)).trans (Value.flushed12 m c t)) (ix2 r j)
  rw [View.read_apply] at hr
  exact ((at2 ((dats m 0 c).arrAt 12 cfg0.N : FVec Ideal S1024x2816 .bf16) _ (at_ 64 t r) j (by show win0_12.index t 0 * 64 + 1 * r.1 = t.1 * 64 + r.1; omega)
    (by show win0_12.index t 1 * 2816 + 1 * j.1 = j.1; omega)).symm.trans hr).trans ((wide6 _ _ _ _ _ _ _ _ _ r j).trans (blk_wg m c t r j))

/-- The up weight's cast at a point's row. -/
theorem wu_result (r : Fin 64) (j : Fin 2816) :
    ((dats m 0 c).arrAt 13 cfg0.N : FVec Ideal S1024x2816 .bf16) (ix2 (at_ 64 t r) j) = argWu m c (ix3 0 (at_ 64 t r) j) := by
  have h := moving t
  have hr := congrFun ((Value.blocks13 m c t (flush0_13 t)).trans (Value.flushed13 m c t)) (ix2 r j)
  rw [View.read_apply] at hr
  exact ((at2 ((dats m 0 c).arrAt 13 cfg0.N : FVec Ideal S1024x2816 .bf16) _ (at_ 64 t r) j (by show win0_13.index t 0 * 64 + 1 * r.1 = t.1 * 64 + r.1; omega)
    (by show win0_13.index t 1 * 2816 + 1 * j.1 = j.1; omega)).symm.trans hr).trans ((wide6' _ _ _ _ _ _ _ _ _ r j).trans (blk_wu m c t r j))

/-- The down weight's cast at a point's row. -/
theorem wd_result (r : Fin 176) (j : Fin 1024) :
    ((dats m 0 c).arrAt 14 cfg0.N : FVec Ideal S2816x1024 .bf16) (ix2 (at_ 176 t r) j) = argWd m c (ix3 0 (at_ 176 t r) j) := by
  have h := moving t
  have hr := congrFun ((Value.blocks14 m c t (flush0_14 t)).trans (Value.flushed14 m c t)) (ix2 r j)
  rw [View.read_apply] at hr
  exact ((at2 ((dats m 0 c).arrAt 14 cfg0.N : FVec Ideal S2816x1024 .bf16) _ (at_ 176 t r) j (by show win0_14.index t 0 * 176 + 1 * r.1 = t.1 * 176 + r.1; omega)
    (by show win0_14.index t 1 * 1024 + 1 * j.1 = j.1; omega)).symm.trans hr).trans ((tall6 _ _ _ _ _ _ _ _ _ r j).trans (blk_wd m c t r j))

theorem rows_apply (x : FVec Ideal S8x2048x1024 .f32) (b : Fin 8) (t : Fin 2048) (l : Fin 1024) : rows x (ix2 ⟨b.1 * 2048 + t.1, by omega⟩ l) = x (ix3 b t l) := by
  pointwise [rows]

theorem pairW_k (x y : FVec Ideal S1024x256 .f32) (k : Fin 1024) (h : Fin 4) (d : Fin 64) :
    pairW x y (ix2 k ⟨h.1 * 128 + d.1, by omega⟩) = x (ix2 k ⟨h.1 * 64 + d.1, by omega⟩) := by
  pointwise [pairW]
  rw [dif_pos (by omega)]

theorem pairW_v (x y : FVec Ideal S1024x256 .f32) (k : Fin 1024) (h : Fin 4) (d : Fin 64) :
    pairW x y (ix2 k ⟨h.1 * 128 + 64 + d.1, by omega⟩) = y (ix2 k ⟨h.1 * 64 + d.1, by omega⟩) := by
  pointwise [pairW]
  rw [dif_neg (by omega)]

theorem mainW_q (w : FVec Ideal S1024x2608 .f32) (k j : Fin 1024) : mainW w (ix2 k ⟨j.1, by omega⟩) = w (ix2 k ⟨j.1, by omega⟩) := by
  pointwise [mainW]

theorem mainW_s (w : FVec Ideal S1024x2608 .f32) (k : Fin 1024) (j : Fin 512) :
    mainW w (ix2 k ⟨1024 + j.1, by omega⟩) = pairW (extractStridedSlice S1024x256 ![0, 1536] w slices_S1024x2608_S1024x256_0_1536)
      (extractStridedSlice S1024x256 ![0, 1792] w slices_S1024x2608_S1024x256_0_1792) (ix2 k j) := by
  pointwise [mainW]

theorem mainW_w (w : FVec Ideal S1024x2608 .f32) (k : Fin 1024) (j : Fin 512) :
    mainW w (ix2 k ⟨1536 + j.1, by omega⟩) = pairW (extractStridedSlice S1024x256 ![0, 2048] w slices_S1024x2608_S1024x256_0_2048)
      (extractStridedSlice S1024x256 ![0, 2304] w slices_S1024x2608_S1024x256_0_2304) (ix2 k j) := by
  pointwise [mainW]
  rw [dif_neg (by omega), dif_neg (by omega)]
  exact congrArg (fun n => pairW _ _ (ix2 k n)) (Fin.ext (by show 1536 + j.1 - 1024 - 512 = j.1; omega))

theorem gateW_apply (w : FVec Ideal S1024x2608 .f32) (k : Fin 1024) (j : Fin 48) :
    gateW w (ix2 k ⟨j.1, by omega⟩) = w (ix2 k ⟨2560 + j.1, by omega⟩) := by
  pointwise [gateW]

theorem gateW_zero (w : FVec Ideal S1024x2608 .f32) (k : Fin 1024) (j : Fin 80) : gateW w (ix2 k ⟨48 + j.1, by omega⟩) = 0 := by
  pointwise [gateW]
  exact sitofp_zero

theorem cmpW_k (w : FVec Ideal S1024x2608 .f32) (k : Fin 1024) (j : Fin 256) :
    cmpW w (ix2 k ⟨j.1, by omega⟩) = w (ix2 k ⟨1024 + j.1, by omega⟩) := by
  pointwise [cmpW]

theorem cmpW_v (w : FVec Ideal S1024x2608 .f32) (k : Fin 1024) (j : Fin 256) :
    cmpW w (ix2 k ⟨256 + j.1, by omega⟩) = w (ix2 k ⟨1280 + j.1, by omega⟩) := by
  pointwise [cmpW]

end Cert.Kernel6Ideal.Qkv

end

end
-- ==== Proof.ProjMoba.lean ====
/- What the launch of the MoBA projection reads, and its result arrays at an index. -/
module

public import proofs.«01_k».proof.Proof.ProjBlock

@[expose] public section

set_option maxRecDepth 16384

noncomputable section

namespace Cert.Kernel5Ideal.Qkv

open Cert.Kernel5Ideal Cert.Kernel5Ideal.Gen Cert.FfnMath Cert.Proj
open Idealize.ShloMosaic Idealize.ShloMosaic.TcCoe Idealize.ShloMosaic.StableHlo

variable (m : (ℓ : Loc nD τ sig) → Buf (Elt Ideal) ℓ) (c : Dev nD)

/-- The kernel's arguments. -/
abbrev argX : FVec Ideal S8x2048x1024 .f32 := m ((c.tc : Thread nD τ).loc main_arg0)
abbrev argG : FVec Ideal S1024 .f32 := m ((c.tc : Thread nD τ).loc main_arg1)
abbrev argW : FVec Ideal S1024x3072 .f32 := m ((c.tc : Thread nD τ).loc main_arg2)
abbrev argWg : FVec Ideal S4x1024x2816 .f32 := m ((c.tc : Thread nD τ).loc main_arg3)
abbrev argWu : FVec Ideal S4x1024x2816 .f32 := m ((c.tc : Thread nD τ).loc main_arg4)
abbrev argWd : FVec Ideal S4x2816x1024 .f32 := m ((c.tc : Thread nD τ).loc main_arg5)

/-- The rows of all batches. -/
def rows (x : FVec Ideal S8x2048x1024 .f32) : FVec Ideal S16384x1024 .f32 := shapeCast S16384x1024 x shapeCasts_S8x2048x1024_S16384x1024
/-- A gain as a row. -/
def flat (x : FVec Ideal S1024 .f32) : FVec Ideal S1x1024 .f32 := shapeCast S1x1024 x shapeCasts_S1024_S1x1024
/-- A row of ones. -/
def ones : FVec Ideal S1x1024 .f32 := broadcastInDim S1x1024 ![] bcast_S_S1x1024 (constant (F := Ideal) S_ .f32 0x3F800000#32)
/-- The weight of the queries. -/
def queryW (w : FVec Ideal S1024x3072 .f32) : FVec Ideal S1024x1024 .f32 := extractStridedSlice S1024x1024 ![0, 0] w slices_S1024x3072_S1024x1024_0_0
/-- The weight of the keys and values, side by side, head by head. -/
def pairW (w : FVec Ideal S1024x3072 .f32) : FVec Ideal S1024x2048 .f32 :=
  shapeCast S1024x2048 (concatenate S1024x16x2x64 2 [⟨S1024x16x1x64, broadcastInDim S1024x16x1x64 ![0, 1, 3] bcast_S1024x16x64_S1024x16x1x64_0_1_3 (shapeCast S1024x16x64 (extractStridedSlice S1024x1024 ![0, 1024] w slices_S1024x3072_S1024x1024_0_1024) shapeCasts_S1024x1024_S1024x16x64)⟩,
    ⟨S1024x16x1x64, broadcastInDim S1024x16x1x64 ![0, 1, 3] bcast_S1024x16x64_S1024x16x1x64_0_1_3 (shapeCast S1024x16x64 (extractStridedSlice S1024x1024 ![0, 2048] w slices_S1024x3072_S1024x1024_0_2048) shapeCasts_S1024x1024_S1024x16x64)⟩]
    concatenates_S1024x16x1x64_S1024x16x1x64_S1024x16x2x64_d2) shapeCasts_S1024x16x2x64_S1024x2048

set_option maxHeartbeats 4000000 in
theorem V_x : (V m c main_v10 : FVec Ideal S16384x1024 .f32) = rows (argX m c) := by
  unfold V hostOps0
  after_results_simp <;> rfl
set_option maxHeartbeats 4000000 in
theorem V_g : (V m c main_v13 : FVec Ideal S1x1024 .f32) = flat (argG m c) := by
  unfold V hostOps0
  after_results_simp <;> rfl
set_option maxHeartbeats 4000000 in
theorem V_s : (V m c main_v11 : FVec Ideal S1x1024 .f32) = ones := by
  unfold V hostOps0
  after_results_simp <;> rfl
set_option maxHeartbeats 4000000 in
theorem V_query : (V m c main_v12 : FVec Ideal S1024x1024 .bf16) = queryW (argW m c) := by
  unfold V hostOps0
  after_results_simp <;> rfl
set_option maxHeartbeats 4000000 in
theorem V_pair : (V m c main_v9 : FVec Ideal S1024x2048 .bf16) = pairW (argW m c) := by
  unfold V hostOps0
  after_results_simp <;> rfl
set_option maxHeartbeats 4000000 in
theorem V_riders : (V m c main_arg3 : FVec Ideal S4x1024x2816 .f32) = argWg m c ∧ (V m c main_arg4 : FVec Ideal S4x1024x2816 .f32) = argWu m c
    ∧ (V m c main_arg5 : FVec Ideal S4x2816x1024 .f32) = argWd m c := by
  refine ⟨?_, ?_, ?_⟩
  all_goals
    unfold V hostOps0
    after_results_simp <;> rfl

/-- Where each moving window stands at a grid point. -/
theorem moving : ∀ t : Fin cfg0.N, (win0_0.index t 0 = t.1 ∧ win0_0.index t 1 = 0) ∧ (win0_5.index t 0 = 1 ∧ win0_5.index t 1 = t.1 ∧ win0_5.index t 2 = 0)
    ∧ (win0_6.index t 0 = 1 ∧ win0_6.index t 1 = t.1 ∧ win0_6.index t 2 = 0) ∧ (win0_7.index t 0 = 1 ∧ win0_7.index t 1 = t.1 ∧ win0_7.index t 2 = 0)
    ∧ (win0_8.index t 0 = t.1 ∧ win0_8.index t 1 = 0) ∧ (win0_9.index t 0 = t.1 ∧ win0_9.index t 1 = 0)
    ∧ (win0_10.index t 0 = t.1 ∧ win0_10.index t 1 = 0) ∧ (win0_11.index t 0 = t.1 ∧ win0_11.index t 1 = 0) ∧ (win0_12.index t 0 = t.1 ∧ win0_12.index t 1 = 0)
    ∧ (win0_13.index t 0 = t.1 ∧ win0_13.index t 1 = 0 ∧ win0_13.index t 2 = 0) :=
  (by decide +kernel : ∀ t : Fin grid0.N, (win0_0.index t 0 = t.1 ∧ win0_0.index t 1 = 0) ∧ (win0_5.index t 0 = 1 ∧ win0_5.index t 1 = t.1 ∧ win0_5.index t 2 = 0)
    ∧ (win0_6.index t 0 = 1 ∧ win0_6.index t 1 = t.1 ∧ win0_6.index t 2 = 0) ∧ (win0_7.index t 0 = 1 ∧ win0_7.index t 1 = t.1 ∧ win0_7.index t 2 = 0)
    ∧ (win0_8.index t 0 = t.1 ∧ win0_8.index t 1 = 0) ∧ (win0_9.index t 0 = t.1 ∧ win0_9.index t 1 = 0)
    ∧ (win0_10.index t 0 = t.1 ∧ win0_10.index t 1 = 0) ∧ (win0_11.index t 0 = t.1 ∧ win0_11.index t 1 = 0) ∧ (win0_12.index t 0 = t.1 ∧ win0_12.index t 1 = 0)
    ∧ (win0_13.index t 0 = t.1 ∧ win0_13.index t 1 = 0 ∧ win0_13.index t 2 = 0))

variable (t : Fin 16)

theorem blk_x (r l : Fin 1024) : (iblk m c 0 t : FVec Ideal S1024x1024 .f32) (ix2 r l) = rows (argX m c) (ix2 (at_ 1024 t r) l) := by
  have h := moving t
  rw [← V_x]
  unfold iblk
  rw [View.read_apply]
  exact at2 (V m c main_v10) _ (at_ 1024 t r) l (by show win0_0.index t 0 * 1024 + 1 * r.1 = t.1 * 1024 + r.1; omega) (by show win0_0.index t 1 * 1024 + 1 * l.1 = l.1; omega)

theorem blk_g (l : Fin 1024) : (iblk m c 1 t : FVec Ideal S1x1024 .f32) (ix2 0 l) = flat (argG m c) (ix2 0 l) := by
  rw [← V_g]
  unfold iblk
  rw [View.read_apply]
  exact at2 (V m c main_v13) _ 0 l rfl (by show 0 * 1024 + 1 * l.1 = l.1; omega)

theorem blk_s (l : Fin 1024) : (iblk m c 2 t : FVec Ideal S1x1024 .f32) (ix2 0 l) = ones (ix2 0 l) := by
  rw [← V_s m c]
  unfold iblk
  rw [View.read_apply]
  exact at2 (V m c main_v11) _ 0 l rfl (by show 0 * 1024 + 1 * l.1 = l.1; omega)

theorem blk_query (k l : Fin 1024) : (iblk m c 3 t : FVec Ideal S1024x1024 .bf16) (ix2 k l) = queryW (argW m c) (ix2 k l) := by
  rw [← V_query]
  unfold iblk
  rw [View.read_apply]
  exact at2 (V m c main_v12) _ k l (by show 0 * 1024 + 1 * k.1 = k.1; omega) (by show 0 * 1024 + 1 * l.1 = l.1; omega)

theorem blk_pair (k : Fin 1024) (l : Fin 2048) : (iblk m c 4 t : FVec Ideal S1024x2048 .bf16) (ix2 k l) = pairW (argW m c) (ix2 k l) := by
  rw [← V_pair]
  unfold iblk
  rw [View.read_apply]
  exact at2 (V m c main_v9) _ k l (by show 0 * 1024 + 1 * k.1 = k.1; omega) (by show 0 * 2048 + 1 * l.1 = l.1; omega)

theorem blk_wg (r : Fin 64) (l : Fin 2816) : (iblk m c 5 t : FVec Ideal S1x64x2816 .f32) (ix3 0 r l) = argWg m c (ix3 1 (at_ 64 t r) l) := by
  have h := moving t
  rw [← (V_riders m c).1]
  unfold iblk
  rw [View.read_apply]
  exact at3 (V m c main_arg3) _ 1 (at_ 64 t r) l (by show win0_5.index t 0 * 1 + 1 * 0 = 1; omega) (by show win0_5.index t 1 * 64 + 1 * r.1 = t.1 * 64 + r.1; omega)
    (by show win0_5.index t 2 * 2816 + 1 * l.1 = l.1; omega)

theorem blk_wu (r : Fin 64) (l : Fin 2816) : (iblk m c 6 t : FVec Ideal S1x64x2816 .f32) (ix3 0 r l) = argWu m c (ix3 1 (at_ 64 t r) l) := by
  have h := moving t
  rw [← (V_riders m c).2.1]
  unfold iblk
  rw [View.read_apply]
  exact at3 (V m c main_arg4) _ 1 (at_ 64 t r) l (by show win0_6.index t 0 * 1 + 1 * 0 = 1; omega) (by show win0_6.index t 1 * 64 + 1 * r.1 = t.1 * 64 + r.1; omega)
    (by show win0_6.index t 2 * 2816 + 1 * l.1 = l.1; omega)

theorem blk_wd (r : Fin 176) (l : Fin 1024) : (iblk m c 7 t : FVec Ideal S1x176x1024 .f32) (ix3 0 r l) = argWd m c (ix3 1 (at_ 176 t r) l) := by
  have h := moving t
  rw [← (V_riders m c).2.2]
  unfold iblk
  rw [View.read_apply]
  exact at3 (V m c main_arg5) _ 1 (at_ 176 t r) l (by show win0_7.index t 0 * 1 + 1 * 0 = 1; omega) (by show win0_7.index t 1 * 176 + 1 * r.1 = t.1 * 176 + r.1; omega)
    (by show win0_7.index t 2 * 1024 + 1 * l.1 = l.1; omega)

/-- A row of the normed stream against a column. -/
abbrev line (R : Fin 16384) (w : Fin 1024 → EReal) : EReal := col (fun l => rows (argX m c) (ix2 R l)) (fun l => argG m c (ix1 l)) w

theorem flat_apply (x : FVec Ideal S1024 .f32) (l : Fin 1024) : flat x (ix2 0 l) = x (ix1 l) := by
  pointwise [flat]

theorem ones_apply (l : Fin 1024) : ones (ix2 0 l) = 1 := by
  pointwise [ones]

/-- The queries at a point's row. -/
theorem query_result (r j : Fin 1024) :
    ((dats m 0 c).arrAt 8 cfg0.N : FVec Ideal S16384x1024 .bf16) (ix2 (at_ 1024 t r) j) = line m c (at_ 1024 t r) fun k => queryW (argW m c) (ix2 k j) := by
  have h := moving t
  have hr := congrFun ((Value.blocks8 m c t (flush0_8 t)).trans (Value.flushed8 m c t)) (ix2 r j)
  rw [View.read_apply] at hr
  refine ((at2 ((dats m 0 c).arrAt 8 cfg0.N : FVec Ideal S16384x1024 .bf16) _ (at_ 1024 t r) j (by show win0_8.index t 0 * 1024 + 1 * r.1 = t.1 * 1024 + r.1; omega)
    (by show win0_8.index t 1 * 1024 + 1 * j.1 = j.1; omega)).symm.trans hr).trans ((query5 _ _ _ _ _ _ _ _ r j).trans ?_)
  simp only [blk_x, blk_g, blk_s, blk_query, flat_apply, ones_apply, mul_one]

/-- The keys and values at a point's row. -/
theorem pair_result (r : Fin 1024) (j : Fin 2048) :
    ((dats m 0 c).arrAt 9 cfg0.N : FVec Ideal S16384x2048 .bf16) (ix2 (at_ 1024 t r) j) = line m c (at_ 1024 t r) fun k => pairW (argW m c) (ix2 k j) := by
  have h := moving t
  have hr := congrFun ((Value.blocks9 m c t (flush0_9 t)).trans (Value.flushed9 m c t)) (ix2 r j)
  rw [View.read_apply] at hr
  refine ((at2 ((dats m 0 c).arrAt 9 cfg0.N : FVec Ideal S16384x2048 .bf16) _ (at_ 1024 t r) j (by show win0_9.index t 0 * 1024 + 1 * r.1 = t.1 * 1024 + r.1; omega)
    (by show win0_9.index t 1 * 2048 + 1 * j.1 = j.1; omega)).symm.trans hr).trans ((pairs5 _ _ _ _ _ _ _ _ r j).trans ?_)
  simp only [blk_x, blk_g, blk_pair, flat_apply]

/-- The means of a point's four blocks of rows. -/
theorem means_result (b : Fin 4) (j : Fin 2048) :
    ((dats m 0 c).arrAt 13 cfg0.N : FVec Ideal S16x4x2048 .f32) (ix3 t b j)
      = (∑ i : Fin 256, line m c (at_ 1024 t ⟨b.1 * 256 + i.1, by omega⟩) fun k => pairW (argW m c) (ix2 k j)) * Ideal.ofBits .f32 0x3B800000#32 := by
  have h := moving t
  have hr := congrFun ((Value.blocks13 m c t (flush0_13 t)).trans (Value.flushed13 m c t)) (ix3 0 b j)
  rw [View.read_apply] at hr
  refine ((at3 ((dats m 0 c).arrAt 13 cfg0.N : FVec Ideal S16x4x2048 .f32) _ t b j (by show win0_13.index t 0 * 1 + 1 * 0 = t.1; omega)
    (by show win0_13.index t 1 * 4 + 1 * b.1 = b.1; omega) (by show win0_13.index t 2 * 2048 + 1 * j.1 = j.1; omega)).symm.trans hr).trans ((means5 _ _ _ _ _ _ _ _ b j).trans ?_)
  simp only [blk_x, blk_g, blk_pair, flat_apply]

/-- The gate weight's cast at a point's row. -/
theorem wg_result (r : Fin 64) (j : Fin 2816) :
    ((dats m 0 c).arrAt 10 cfg0.N : FVec Ideal S1024x2816 .bf16) (ix2 (at_ 64 t r) j) = argWg m c (ix3 1 (at_ 64 t r) j) := by
  have h := moving t
  have hr := congrFun ((Value.blocks10 m c t (flush0_10 t)).trans (Value.flushed10 m c t)) (ix2 r j)
  rw [View.read_apply] at hr
  exact ((at2 ((dats m 0 c).arrAt 10 cfg0.N : FVec Ideal S1024x2816 .bf16) _ (at_ 64 t r) j (by show win0_10.index t 0 * 64 + 1 * r.1 = t.1 * 64 + r.1; omega)
    (by show win0_10.index t 1 * 2816 + 1 * j.1 = j.1; omega)).symm.trans hr).trans ((wide5 _ _ _ _ _ _ _ _ r j).trans (blk_wg m c t r j))

/-- The up weight's cast at a point's row. -/
theorem wu_result (r : Fin 64) (j : Fin 2816) :
    ((dats m 0 c).arrAt 11 cfg0.N : FVec Ideal S1024x2816 .bf16) (ix2 (at_ 64 t r) j) = argWu m c (ix3 1 (at_ 64 t r) j) := by
  have h := moving t
  have hr := congrFun ((Value.blocks11 m c t (flush0_11 t)).trans (Value.flushed11 m c t)) (ix2 r j)
  rw [View.read_apply] at hr
  exact ((at2 ((dats m 0 c).arrAt 11 cfg0.N : FVec Ideal S1024x2816 .bf16) _ (at_ 64 t r) j (by show win0_11.index t 0 * 64 + 1 * r.1 = t.1 * 64 + r.1; omega)
    (by show win0_11.index t 1 * 2816 + 1 * j.1 = j.1; omega)).symm.trans hr).trans ((wide5' _ _ _ _ _ _ _ _ r j).trans (blk_wu m c t r j))

/-- The down weight's cast at a point's row. -/
theorem wd_result (r : Fin 176) (j : Fin 1024) :
    ((dats m 0 c).arrAt 12 cfg0.N : FVec Ideal S2816x1024 .bf16) (ix2 (at_ 176 t r) j) = argWd m c (ix3 1 (at_ 176 t r) j) := by
  have h := moving t
  have hr := congrFun ((Value.blocks12 m c t (flush0_12 t)).trans (Value.flushed12 m c t)) (ix2 r j)
  rw [View.read_apply] at hr
  exact ((at2 ((dats m 0 c).arrAt 12 cfg0.N : FVec Ideal S2816x1024 .bf16) _ (at_ 176 t r) j (by show win0_12.index t 0 * 176 + 1 * r.1 = t.1 * 176 + r.1; omega)
    (by show win0_12.index t 1 * 1024 + 1 * j.1 = j.1; omega)).symm.trans hr).trans ((tall5 _ _ _ _ _ _ _ _ r j).trans (blk_wd m c t r j))

theorem rows_apply (x : FVec Ideal S8x2048x1024 .f32) (b : Fin 8) (t : Fin 2048) (l : Fin 1024) : rows x (ix2 ⟨b.1 * 2048 + t.1, by omega⟩ l) = x (ix3 b t l) := by
  pointwise [rows]

theorem pairW_k (w : FVec Ideal S1024x3072 .f32) (k : Fin 1024) (h : Fin 16) (d : Fin 64) :
    pairW w (ix2 k ⟨h.1 * 128 + d.1, by omega⟩) = w (ix2 k ⟨1024 + (h.1 * 64 + d.1), by omega⟩) := by
  pointwise [pairW]
  rw [dif_pos (by omega)]

theorem pairW_v (w : FVec Ideal S1024x3072 .f32) (k : Fin 1024) (h : Fin 16) (d : Fin 64) :
    pairW w (ix2 k ⟨h.1 * 128 + 64 + d.1, by omega⟩) = w (ix2 k ⟨2048 + (h.1 * 64 + d.1), by omega⟩) := by
  pointwise [pairW]
  rw [dif_neg (by omega)]

theorem queryW_apply (w : FVec Ideal S1024x3072 .f32) (k j : Fin 1024) : queryW w (ix2 k j) = w (ix2 k ⟨j.1, by omega⟩) := by
  pointwise [queryW]

end Cert.Kernel5Ideal.Qkv

end

end
-- ==== Proof.ProjRef.lean ====
/- The references of the two attention projections as compositions of named parts, and their product read at an index. -/
module

public import proofs.«01_k».proof.Proof.Gen.Reference5Ideal.Run
public import proofs.«01_k».proof.Proof.Gen.Reference6Ideal.Run
public import proofs.«01_k».proof.Proof.FfnRef
public import proofs.«01_k».proof.Proof.ProjRead

@[expose] public section

set_option maxRecDepth 16384

noncomputable section

namespace Cert.Reference6Ideal.Sem

open Cert.Reference6Ideal Cert.Reference6Ideal.Gen Cert.Reference6Ideal.Value Cert.Proj
open Cert.Reference2Ideal.Sem (normed normed_apply tok A3)
open Idealize.ShloMosaic Idealize.ShloMosaic.TcCoe Idealize.ShloMosaic.StableHlo

/-- The reference's arguments. -/
abbrev argX (m : (ℓ : Loc nD τ sig) → Buf (Elt Ideal) ℓ) (c : Dev nD) : A3 := m ((c.tc : Thread nD τ).loc main_arg0)
abbrev argG (m : (ℓ : Loc nD τ sig) → Buf (Elt Ideal) ℓ) (c : Dev nD) : FVec Ideal S1024 .f32 := m ((c.tc : Thread nD τ).loc main_arg1)
abbrev argW (m : (ℓ : Loc nD τ sig) → Buf (Elt Ideal) ℓ) (c : Dev nD) : FVec Ideal S1024x2608 .f32 := m ((c.tc : Thread nD τ).loc main_arg2)
abbrev argWg (m : (ℓ : Loc nD τ sig) → Buf (Elt Ideal) ℓ) (c : Dev nD) : FVec Ideal S4x1024x2816 .f32 := m ((c.tc : Thread nD τ).loc main_arg3)
abbrev argWu (m : (ℓ : Loc nD τ sig) → Buf (Elt Ideal) ℓ) (c : Dev nD) : FVec Ideal S4x1024x2816 .f32 := m ((c.tc : Thread nD τ).loc main_arg4)
abbrev argWd (m : (ℓ : Loc nD τ sig) → Buf (Elt Ideal) ℓ) (c : Dev nD) : FVec Ideal S4x2816x1024 .f32 := m ((c.tc : Thread nD τ).loc main_arg5)

/-- The normed stream against the whole weight. -/
def proj (x : A3) (g : FVec Ideal S1024 .f32) (w : FVec Ideal S1024x2608 .f32) : FVec Ideal S8x2048x2608 .f32 :=
  Host.dotGeneral dot_S8x2048x1024_S1024x2608_S8x2048x2608_2_0_01_1_n_n none (normed x g) w
/-- Keys and values side by side, head by head. -/
def by_head (k v : FVec Ideal S8x2048x256 .f32) : FVec Ideal S16384x512 .f32 :=
  shapeCast S16384x512 (concatenate S16384x4x2x64 2 [⟨S16384x4x1x64, shapeCast S16384x4x1x64 k shapeCasts_S8x2048x256_S16384x4x1x64⟩,
    ⟨S16384x4x1x64, shapeCast S16384x4x1x64 v shapeCasts_S8x2048x256_S16384x4x1x64⟩] concatenates_S16384x4x1x64_S16384x4x1x64_S16384x4x2x64_d2) shapeCasts_S16384x4x2x64_S16384x512
/-- The queries, and the keys and values of the selected and the window branch. -/
def qkv (y : FVec Ideal S8x2048x2608 .f32) : FVec Ideal S16384x2048 .f32 :=
  concatenate S16384x2048 1 [⟨S16384x1024, shapeCast S16384x1024 (extractStridedSlice S8x2048x1024 ![0, 0, 0] y slices_S8x2048x2608_S8x2048x1024_0_0_0) shapeCasts_S8x2048x1024_S16384x1024⟩,
    ⟨S16384x512, by_head (extractStridedSlice S8x2048x256 ![0, 0, 1536] y slices_S8x2048x2608_S8x2048x256_0_0_1536) (extractStridedSlice S8x2048x256 ![0, 0, 1792] y slices_S8x2048x2608_S8x2048x256_0_0_1792)⟩,
    ⟨S16384x512, by_head (extractStridedSlice S8x2048x256 ![0, 0, 2048] y slices_S8x2048x2608_S8x2048x256_0_0_2048) (extractStridedSlice S8x2048x256 ![0, 0, 2304] y slices_S8x2048x2608_S8x2048x256_0_0_2304)⟩]
    concatenates_S16384x1024_S16384x512_S16384x512_S16384x2048_d1
/-- The gates' inputs, widened with zeros. -/
def gates (y : FVec Ideal S8x2048x2608 .f32) : FVec Ideal S16384x128 .f32 :=
  pad S16384x128 ![0, 0] ![0, 80] ![0, 0] (shapeCast S16384x48 (extractStridedSlice S8x2048x48 ![0, 0, 2560] y slices_S8x2048x2608_S8x2048x48_0_0_2560) shapeCasts_S8x2048x48_S16384x48)
    (sitofp .f32 (constantI S_ 32 0#32)) pads_S16384x48_S16384x128_000_0800 h_S_
/-- The compressed branch's keys and values. -/
def cmp (y : FVec Ideal S8x2048x2608 .f32) : FVec Ideal S16384x512 .f32 :=
  shapeCast S16384x512 (concatenate S8x2048x512 2 [⟨S8x2048x256, extractStridedSlice S8x2048x256 ![0, 0, 1024] y slices_S8x2048x2608_S8x2048x256_0_0_1024⟩,
    ⟨S8x2048x256, extractStridedSlice S8x2048x256 ![0, 0, 1280] y slices_S8x2048x2608_S8x2048x256_0_0_1280⟩] concatenates_S8x2048x256_S8x2048x256_S8x2048x512_d2) shapeCasts_S8x2048x512_S16384x512
/-- The layer's feed-forward weights. -/
def wide (w : FVec Ideal S4x1024x2816 .f32) : FVec Ideal S1024x2816 .f32 :=
  shapeCast S1024x2816 (extractStridedSlice S1x1024x2816 ![0, 0, 0] w slices_S4x1024x2816_S1x1024x2816_0_0_0) shapeCasts_S1x1024x2816_S1024x2816
def tall (w : FVec Ideal S4x2816x1024 .f32) : FVec Ideal S2816x1024 .f32 :=
  shapeCast S2816x1024 (extractStridedSlice S1x2816x1024 ![0, 0, 0] w slices_S4x2816x1024_S1x2816x1024_0_0_0) shapeCasts_S1x2816x1024_S2816x1024

/-- The reference's first result is the composition. -/
theorem res_eq (m : (ℓ : Loc nD τ sig) → Buf (Elt Ideal) ℓ) (c : Dev nD) :
    (res_out0 m c : FVec Ideal S16384x2048 .bf16) = qkv (proj (argX m c) (argG m c) (argW m c)) := by
  unfold res_out0 res_main_v32
  rfl

theorem proj_apply (x : A3) (g : FVec Ideal S1024 .f32) (w : FVec Ideal S1024x2608 .f32) (b : Fin 8) (t : Fin 2048) (n : Fin 2608) :
    proj x g w (ix3 b t n) = col (tok x b t) (fun l => g (ix1 l)) (fun k => w (ix2 k n)) := by
  pointwise [proj]
  simp only [normed_apply]
  rfl

theorem wide_apply (w : FVec Ideal S4x1024x2816 .f32) (k : Fin 1024) (l : Fin 2816) : wide w (ix2 k l) = w (ix3 0 k l) := by
  pointwise [wide]

theorem tall_apply (w : FVec Ideal S4x2816x1024 .f32) (k : Fin 2816) (l : Fin 1024) : tall w (ix2 k l) = w (ix3 0 k l) := by
  pointwise [tall]

theorem qkv_q (y : FVec Ideal S8x2048x2608 .f32) (b : Fin 8) (t : Fin 2048) (j : Fin 1024) :
    qkv y (ix2 ⟨b.1 * 2048 + t.1, by omega⟩ ⟨j.1, by omega⟩) = y (ix3 b t ⟨j.1, by omega⟩) := by
  pointwise [qkv]

theorem qkv_s (y : FVec Ideal S8x2048x2608 .f32) (R : Fin 16384) (j : Fin 512) :
    qkv y (ix2 R ⟨1024 + j.1, by omega⟩) = by_head (extractStridedSlice S8x2048x256 ![0, 0, 1536] y slices_S8x2048x2608_S8x2048x256_0_0_1536)
      (extractStridedSlice S8x2048x256 ![0, 0, 1792] y slices_S8x2048x2608_S8x2048x256_0_0_1792) (ix2 R j) := by
  pointwise [qkv]

theorem qkv_w (y : FVec Ideal S8x2048x2608 .f32) (R : Fin 16384) (j : Fin 512) :
    qkv y (ix2 R ⟨1536 + j.1, by omega⟩) = by_head (extractStridedSlice S8x2048x256 ![0, 0, 2048] y slices_S8x2048x2608_S8x2048x256_0_0_2048)
      (extractStridedSlice S8x2048x256 ![0, 0, 2304] y slices_S8x2048x2608_S8x2048x256_0_0_2304) (ix2 R j) := by
  pointwise [qkv]
  rw [dif_neg (by omega), dif_neg (by omega)]
  exact congrArg (fun n => by_head _ _ (ix2 R n)) (Fin.ext (by show 1536 + j.1 - 1024 - 512 = j.1; omega))

theorem by_head_k (k v : FVec Ideal S8x2048x256 .f32) (b : Fin 8) (t : Fin 2048) (h : Fin 4) (d : Fin 64) :
    by_head k v (ix2 ⟨b.1 * 2048 + t.1, by omega⟩ ⟨h.1 * 128 + d.1, by omega⟩) = k (ix3 b t ⟨h.1 * 64 + d.1, by omega⟩) := by
  pointwise [by_head]
  rw [dif_pos (by omega)]

theorem by_head_v (k v : FVec Ideal S8x2048x256 .f32) (b : Fin 8) (t : Fin 2048) (h : Fin 4) (d : Fin 64) :
    by_head k v (ix2 ⟨b.1 * 2048 + t.1, by omega⟩ ⟨h.1 * 128 + 64 + d.1, by omega⟩) = v (ix3 b t ⟨h.1 * 64 + d.1, by omega⟩) := by
  pointwise [by_head]
  rw [dif_neg (by omega)]

theorem gates_apply (y : FVec Ideal S8x2048x2608 .f32) (b : Fin 8) (t : Fin 2048) (j : Fin 48) :
    gates y (ix2 ⟨b.1 * 2048 + t.1, by omega⟩ ⟨j.1, by omega⟩) = y (ix3 b t ⟨2560 + j.1, by omega⟩) := by
  pointwise [gates]
  rw [dif_pos (by omega)]

theorem gates_zero (y : FVec Ideal S8x2048x2608 .f32) (R : Fin 16384) (j : Fin 80) : gates y (ix2 R ⟨48 + j.1, by omega⟩) = 0 := by
  pointwise [gates]
  exact sitofp_zero

theorem cmp_k (y : FVec Ideal S8x2048x2608 .f32) (b : Fin 8) (t : Fin 2048) (j : Fin 256) :
    cmp y (ix2 ⟨b.1 * 2048 + t.1, by omega⟩ ⟨j.1, by omega⟩) = y (ix3 b t ⟨1024 + j.1, by omega⟩) := by
  pointwise [cmp]

theorem cmp_v (y : FVec Ideal S8x2048x2608 .f32) (b : Fin 8) (t : Fin 2048) (j : Fin 256) :
    cmp y (ix2 ⟨b.1 * 2048 + t.1, by omega⟩ ⟨256 + j.1, by omega⟩) = y (ix3 b t ⟨1280 + j.1, by omega⟩) := by
  pointwise [cmp]

end Cert.Reference6Ideal.Sem

namespace Cert.Reference5Ideal.Sem

open Cert.Reference5Ideal Cert.Reference5Ideal.Gen Cert.Reference5Ideal.Value Cert.Proj
open Cert.Reference2Ideal.Sem (normed normed_apply tok A3)
open Idealize.ShloMosaic Idealize.ShloMosaic.TcCoe Idealize.ShloMosaic.StableHlo

/-- The reference's arguments. -/
abbrev argX (m : (ℓ : Loc nD τ sig) → Buf (Elt Ideal) ℓ) (c : Dev nD) : A3 := m ((c.tc : Thread nD τ).loc main_arg0)
abbrev argG (m : (ℓ : Loc nD τ sig) → Buf (Elt Ideal) ℓ) (c : Dev nD) : FVec Ideal S1024 .f32 := m ((c.tc : Thread nD τ).loc main_arg1)
abbrev argW (m : (ℓ : Loc nD τ sig) → Buf (Elt Ideal) ℓ) (c : Dev nD) : FVec Ideal S1024x3072 .f32 := m ((c.tc : Thread nD τ).loc main_arg2)
abbrev argWg (m : (ℓ : Loc nD τ sig) → Buf (Elt Ideal) ℓ) (c : Dev nD) : FVec Ideal S4x1024x2816 .f32 := m ((c.tc : Thread nD τ).loc main_arg3)
abbrev argWu (m : (ℓ : Loc nD τ sig) → Buf (Elt Ideal) ℓ) (c : Dev nD) : FVec Ideal S4x1024x2816 .f32 := m ((c.tc : Thread nD τ).loc main_arg4)
abbrev argWd (m : (ℓ : Loc nD τ sig) → Buf (Elt Ideal) ℓ) (c : Dev nD) : FVec Ideal S4x2816x1024 .f32 := m ((c.tc : Thread nD τ).loc main_arg5)

/-- The normed stream against the whole weight. -/
def proj (x : A3) (g : FVec Ideal S1024 .f32) (w : FVec Ideal S1024x3072 .f32) : FVec Ideal S8x2048x3072 .f32 :=
  Host.dotGeneral dot_S8x2048x1024_S1024x3072_S8x2048x3072_2_0_01_1_n_n none (normed x g) w
/-- The queries. -/
def query (y : FVec Ideal S8x2048x3072 .f32) : FVec Ideal S16384x1024 .f32 :=
  shapeCast S16384x1024 (extractStridedSlice S8x2048x1024 ![0, 0, 0] y slices_S8x2048x3072_S8x2048x1024_0_0_0) shapeCasts_S8x2048x1024_S16384x1024
/-- Keys and values side by side, head by head. -/
def pairs (y : FVec Ideal S8x2048x3072 .f32) : FVec Ideal S16384x2048 .f32 :=
  shapeCast S16384x2048 (concatenate S16384x16x2x64 2 [⟨S16384x16x1x64, shapeCast S16384x16x1x64 (extractStridedSlice S8x2048x1024 ![0, 0, 1024] y slices_S8x2048x3072_S8x2048x1024_0_0_1024) shapeCasts_S8x2048x1024_S16384x16x1x64⟩,
    ⟨S16384x16x1x64, shapeCast S16384x16x1x64 (extractStridedSlice S8x2048x1024 ![0, 0, 2048] y slices_S8x2048x3072_S8x2048x1024_0_0_2048) shapeCasts_S8x2048x1024_S16384x16x1x64⟩]
    concatenates_S16384x16x1x64_S16384x16x1x64_S16384x16x2x64_d2) shapeCasts_S16384x16x2x64_S16384x2048
/-- The means of the keys and values over the blocks of 256 tokens. -/
def means (z : FVec Ideal S16384x2048 .f32) : FVec Ideal S16x4x2048 .f32 :=
  Host.divf (Host.reduceAdd (shapeCast S16x4x256x2048 z shapeCasts_S16384x2048_S16x4x256x2048) (constant (F := Ideal) S_ .f32 0x00000000#32) reducesTo_S16x4x256x2048_S16x4x2048_d2 h_S_)
    (broadcastInDim S16x4x2048 ![] bcast_S_S16x4x2048 (constant (F := Ideal) S_ .f32 0x43800000#32))
/-- The layer's feed-forward weights. -/
def wide (w : FVec Ideal S4x1024x2816 .f32) : FVec Ideal S1024x2816 .f32 :=
  shapeCast S1024x2816 (extractStridedSlice S1x1024x2816 ![1, 0, 0] w slices_S4x1024x2816_S1x1024x2816_1_0_0) shapeCasts_S1x1024x2816_S1024x2816
def tall (w : FVec Ideal S4x2816x1024 .f32) : FVec Ideal S2816x1024 .f32 :=
  shapeCast S2816x1024 (extractStridedSlice S1x2816x1024 ![1, 0, 0] w slices_S4x2816x1024_S1x2816x1024_1_0_0) shapeCasts_S1x2816x1024_S2816x1024

theorem proj_apply (x : A3) (g : FVec Ideal S1024 .f32) (w : FVec Ideal S1024x3072 .f32) (b : Fin 8) (t : Fin 2048) (n : Fin 3072) :
    proj x g w (ix3 b t n) = col (tok x b t) (fun l => g (ix1 l)) (fun k => w (ix2 k n)) := by
  pointwise [proj]
  simp only [normed_apply]
  rfl

theorem wide_apply (w : FVec Ideal S4x1024x2816 .f32) (k : Fin 1024) (l : Fin 2816) : wide w (ix2 k l) = w (ix3 1 k l) := by
  pointwise [wide]

theorem tall_apply (w : FVec Ideal S4x2816x1024 .f32) (k : Fin 2816) (l : Fin 1024) : tall w (ix2 k l) = w (ix3 1 k l) := by
  pointwise [tall]

theorem query_apply (y : FVec Ideal S8x2048x3072 .f32) (b : Fin 8) (t : Fin 2048) (j : Fin 1024) :
    query y (ix2 ⟨b.1 * 2048 + t.1, by omega⟩ j) = y (ix3 b t ⟨j.1, by omega⟩) := by
  pointwise [query]

theorem pairs_k (y : FVec Ideal S8x2048x3072 .f32) (b : Fin 8) (t : Fin 2048) (h : Fin 16) (d : Fin 64) :
    pairs y (ix2 ⟨b.1 * 2048 + t.1, by omega⟩ ⟨h.1 * 128 + d.1, by omega⟩) = y (ix3 b t ⟨1024 + (h.1 * 64 + d.1), by omega⟩) := by
  pointwise [pairs]
  rw [dif_pos (by omega)]

theorem pairs_v (y : FVec Ideal S8x2048x3072 .f32) (b : Fin 8) (t : Fin 2048) (h : Fin 16) (d : Fin 64) :
    pairs y (ix2 ⟨b.1 * 2048 + t.1, by omega⟩ ⟨h.1 * 128 + 64 + d.1, by omega⟩) = y (ix3 b t ⟨2048 + (h.1 * 64 + d.1), by omega⟩) := by
  pointwise [pairs]
  rw [dif_neg (by omega)]

theorem means_apply (z : FVec Ideal S16384x2048 .f32) (t : Fin 16) (b : Fin 4) (j : Fin 2048) :
    means z (ix3 t b j) = Ideal.div (∑ i : Fin 256, z (ix2 ⟨t.1 * 1024 + (b.1 * 256 + i.1), by omega⟩ j)) (Ideal.ofBits .f32 0x43800000#32) := by
  pointwise [means]
  simp only [Nat.add_assoc]

end Cert.Reference5Ideal.Sem

end

end
-- ==== Proof.ProjEqual.lean ====
/- The two attention projections and their references compute the same arrays. -/
module

public import proofs.«01_k».proof.Defs
public import proofs.«01_k».proof.Proof.ProjNsa
public import proofs.«01_k».proof.Proof.ProjMoba
public import proofs.«01_k».proof.Proof.ProjRef
public import proofs.«01_k».proof.Proof.Host

@[expose] public section

set_option maxRecDepth 16384

noncomputable section

namespace Cert.ProjEqual

open Idealize.ShloMosaic Idealize.ShloMosaic.TcCoe Idealize.ShloMosaic.StableHlo
open Cert.Proj hiding wide_apply tall_apply

/-- Every row of the arrays is a token of a batch. -/
theorem token (R : Fin 16384) : ∃ (b : Fin 8) (s : Fin 2048), R = ⟨b.1 * 2048 + s.1, by omega⟩ :=
  ⟨⟨R.1 / 2048, by omega⟩, ⟨R.1 % 2048, by omega⟩, Fin.ext (by show R.1 = R.1 / 2048 * 2048 + R.1 % 2048; omega)⟩

/-- A lane of interleaved heads is a key's or a value's. -/
theorem lane {n : Nat} (j : Fin (n * 128)) : ∃ (h : Fin n) (d : Fin 64), j = ⟨h.1 * 128 + d.1, by omega⟩ ∨ j = ⟨h.1 * 128 + 64 + d.1, by omega⟩ := by
  have hj := j.isLt
  refine ⟨⟨j.1 / 128, by omega⟩, ⟨j.1 % 64, by omega⟩, ?_⟩
  simp only [Fin.ext_iff]
  omega

/-- A lane from the `a`th on is one of those that follow. -/
theorem part {n : Nat} (a b : Nat) (j : Fin n) (h : a ≤ j.1) (h' : j.1 < a + b) (hab : a + b ≤ n) :
    ∃ i : Fin b, j = ⟨a + i.1, lt_of_lt_of_le (Nat.add_lt_add_left i.isLt a) hab⟩ :=
  ⟨⟨j.1 - a, by omega⟩, Fin.ext (by show j.1 = a + (j.1 - a); omega)⟩

/-- A row of zeros against any row is zero. -/
theorem col_zero (x g : Fin 1024 → EReal) : col x g (fun _ => 0) = 0 := by
  unfold col
  simp only [mul_zero, Finset.sum_const_zero]

namespace Nsa

open Cert.Kernel6Ideal Cert.Kernel6Ideal.Gen Cert.Kernel6Ideal.Qkv
open Cert.Reference6Ideal.Sem (proj proj_apply by_head by_head_k by_head_v qkv qkv_q qkv_s qkv_w gates gates_apply gates_zero cmp cmp_k cmp_v wide tall wide_apply tall_apply)

/-- The kernel's paired weight and the reference's paired result take a lane from the same place. -/
theorem head_source (j : Fin 512) : ∃ n : Fin 256,
    ((∀ x y k, pairW x y (ix2 k j) = x (ix2 k n)) ∧ ∀ u v (b : Fin 8) (s : Fin 2048), by_head u v (ix2 ⟨b.1 * 2048 + s.1, by omega⟩ j) = u (ix3 b s n))
    ∨ ((∀ x y k, pairW x y (ix2 k j) = y (ix2 k n)) ∧ ∀ u v (b : Fin 8) (s : Fin 2048), by_head u v (ix2 ⟨b.1 * 2048 + s.1, by omega⟩ j) = v (ix3 b s n)) := by
  obtain ⟨h, d, rfl | rfl⟩ := lane (n := 4) j
  · exact ⟨⟨h.1 * 64 + d.1, by omega⟩, .inl ⟨fun x y k => pairW_k x y k h d, fun u v b s => by_head_k u v b s h d⟩⟩
  · exact ⟨⟨h.1 * 64 + d.1, by omega⟩, .inr ⟨fun x y k => pairW_v x y k h d, fun u v b s => by_head_v u v b s h d⟩⟩

/-- The kernel's main weight and the reference's first result take a column from the same place. -/
theorem main_source (j : Fin 2048) : ∃ p : Fin 2608,
    (∀ w k, mainW w (ix2 k j) = w (ix2 k p)) ∧ ∀ y (b : Fin 8) (s : Fin 2048), qkv y (ix2 ⟨b.1 * 2048 + s.1, by omega⟩ j) = y (ix3 b s p) := by
  by_cases h1 : j.1 < 1024
  · exact ⟨⟨j.1, by omega⟩, fun w k => mainW_q w k ⟨j.1, h1⟩, fun y b s => qkv_q y b s ⟨j.1, h1⟩⟩
  by_cases h2 : j.1 < 1536
  · obtain ⟨i, rfl⟩ := part 1024 512 j (by omega) (by omega) (by decide)
    obtain ⟨n, ⟨hw, hy⟩ | ⟨hw, hy⟩⟩ := head_source i
    · exact ⟨⟨1536 + n.1, by omega⟩, fun w k => (mainW_s w k i).trans ((hw _ _ k).trans (by pointwise [])), fun y b s => (qkv_s y _ i).trans ((hy _ _ b s).trans (by pointwise []))⟩
    · exact ⟨⟨1792 + n.1, by omega⟩, fun w k => (mainW_s w k i).trans ((hw _ _ k).trans (by pointwise [])), fun y b s => (qkv_s y _ i).trans ((hy _ _ b s).trans (by pointwise []))⟩
  · obtain ⟨i, rfl⟩ := part 1536 512 j (by omega) (by omega) (by decide)
    obtain ⟨n, ⟨hw, hy⟩ | ⟨hw, hy⟩⟩ := head_source i
    · exact ⟨⟨2048 + n.1, by omega⟩, fun w k => (mainW_w w k i).trans ((hw _ _ k).trans (by pointwise [])), fun y b s => (qkv_w y _ i).trans ((hy _ _ b s).trans (by pointwise []))⟩
    · exact ⟨⟨2304 + n.1, by omega⟩, fun w k => (mainW_w w k i).trans ((hw _ _ k).trans (by pointwise [])), fun y b s => (qkv_w y _ i).trans ((hy _ _ b s).trans (by pointwise []))⟩

/-- The compressed branch likewise. -/
theorem cmp_source (j : Fin 512) : ∃ p : Fin 2608,
    (∀ w k, cmpW w (ix2 k j) = w (ix2 k p)) ∧ ∀ y (b : Fin 8) (s : Fin 2048), cmp y (ix2 ⟨b.1 * 2048 + s.1, by omega⟩ j) = y (ix3 b s p) := by
  by_cases h1 : j.1 < 256
  · exact ⟨⟨1024 + j.1, by omega⟩, fun w k => cmpW_k w k ⟨j.1, h1⟩, fun y b s => cmp_k y b s ⟨j.1, h1⟩⟩
  · obtain ⟨i, rfl⟩ := part 256 256 j (by omega) (by omega) (by decide)
    exact ⟨⟨1280 + i.1, by omega⟩, fun w k => cmpW_v w k i, fun y b s => cmp_v y b s i⟩

variable (m : (ℓ : Loc nD τ sig) → Buf (Elt Ideal) ℓ) (c : Dev nD)

/-- The reference's product, of the kernel's arguments. -/
abbrev prod := proj (argX m c) (argG m c) (argW m c)

/-- The product at a token is the kernel's row against the column. -/
theorem prod_line (b : Fin 8) (s : Fin 2048) (p : Fin 2608) : prod m c (ix3 b s p) = line m c ⟨b.1 * 2048 + s.1, by omega⟩ fun k => argW m c (ix2 k p) := by
  refine (proj_apply _ _ _ b s p).trans ?_
  unfold line
  simp only [rows_apply]

theorem main_line (R : Fin 16384) (j : Fin 2048) : qkv (prod m c) (ix2 R j) = line m c R fun k => mainW (argW m c) (ix2 k j) := by
  obtain ⟨b, s, rfl⟩ := token R
  obtain ⟨p, hw, hy⟩ := main_source j
  simp only [hw]
  exact (hy _ b s).trans (prod_line m c b s p)

theorem cmp_line (R : Fin 16384) (j : Fin 512) : cmp (prod m c) (ix2 R j) = line m c R fun k => cmpW (argW m c) (ix2 k j) := by
  obtain ⟨b, s, rfl⟩ := token R
  obtain ⟨p, hw, hy⟩ := cmp_source j
  simp only [hw]
  exact (hy _ b s).trans (prod_line m c b s p)

theorem gates_line (R : Fin 16384) (j : Fin 128) : gates (prod m c) (ix2 R j) = line m c R fun k => gateW (argW m c) (ix2 k j) := by
  by_cases h1 : j.1 < 48
  · obtain ⟨b, s, rfl⟩ := token R
    obtain ⟨i, rfl⟩ : ∃ i : Fin 48, j = ⟨i.1, lt_of_lt_of_le i.isLt (by decide)⟩ := ⟨⟨j.1, h1⟩, rfl⟩
    simp only [gateW_apply]
    exact (gates_apply _ b s i).trans (prod_line m c b s _)
  · obtain ⟨i, rfl⟩ := part 48 80 j (by omega) (by omega) (by decide)
    simp only [gateW_zero]
    exact (gates_zero _ R i).trans (col_zero _ _).symm

/-- The queries, keys and values are the reference's. -/
theorem main_array : qkv (prod m c) = ((dats m 0 c).arrAt 9 cfg0.N : FVec Ideal S16384x2048 .bf16) := by
  funext x
  obtain ⟨R, j, rfl⟩ := pair x
  obtain ⟨t, r, rfl⟩ := point (N := 16) (B := 1024) (by omega) R
  exact (main_line m c _ j).trans (main_result m c t r j).symm

/-- The gates' inputs are the reference's. -/
theorem gates_array : gates (prod m c) = ((dats m 0 c).arrAt 10 cfg0.N : FVec Ideal S16384x128 .f32) := by
  funext x
  obtain ⟨R, j, rfl⟩ := pair x
  obtain ⟨t, r, rfl⟩ := point (N := 16) (B := 1024) (by omega) R
  exact (gates_line m c _ j).trans (gate_result m c t r j).symm

/-- The compressed branch's inputs are the reference's. -/
theorem cmp_array : cmp (prod m c) = ((dats m 0 c).arrAt 11 cfg0.N : FVec Ideal S16384x512 .f32) := by
  funext x
  obtain ⟨R, j, rfl⟩ := pair x
  obtain ⟨t, r, rfl⟩ := point (N := 16) (B := 1024) (by omega) R
  exact (cmp_line m c _ j).trans (cmp_result m c t r j).symm

/-- The feed-forward weights' casts are the reference's. -/
theorem wg_array : wide (argWg m c) = ((dats m 0 c).arrAt 12 cfg0.N : FVec Ideal S1024x2816 .bf16) := by
  funext x
  obtain ⟨R, j, rfl⟩ := pair x
  obtain ⟨t, r, rfl⟩ := point (N := 16) (B := 64) (by omega) R
  exact (wide_apply _ _ j).trans (wg_result m c t r j).symm
theorem wu_array : wide (argWu m c) = ((dats m 0 c).arrAt 13 cfg0.N : FVec Ideal S1024x2816 .bf16) := by
  funext x
  obtain ⟨R, j, rfl⟩ := pair x
  obtain ⟨t, r, rfl⟩ := point (N := 16) (B := 64) (by omega) R
  exact (wide_apply _ _ j).trans (wu_result m c t r j).symm
theorem wd_array : tall (argWd m c) = ((dats m 0 c).arrAt 14 cfg0.N : FVec Ideal S2816x1024 .bf16) := by
  funext x
  obtain ⟨R, j, rfl⟩ := pair x
  obtain ⟨t, r, rfl⟩ := point (N := 16) (B := 176) (by omega) R
  exact (tall_apply _ _ j).trans (wd_result m c t r j).symm

end Nsa

namespace Moba

open Cert.Kernel5Ideal Cert.Kernel5Ideal.Gen Cert.Kernel5Ideal.Qkv
open Cert.Reference5Ideal.Sem (proj proj_apply query query_apply pairs pairs_k pairs_v means means_apply wide tall wide_apply tall_apply)

/-- The kernel's paired weight and the reference's paired result take a column from the same place. -/
theorem pair_source (j : Fin 2048) : ∃ p : Fin 3072,
    (∀ w k, pairW w (ix2 k j) = w (ix2 k p)) ∧ ∀ y (b : Fin 8) (s : Fin 2048), pairs y (ix2 ⟨b.1 * 2048 + s.1, by omega⟩ j) = y (ix3 b s p) := by
  obtain ⟨h, d, rfl | rfl⟩ := lane (n := 16) j
  · exact ⟨⟨1024 + (h.1 * 64 + d.1), by omega⟩, fun w k => pairW_k w k h d, fun y b s => pairs_k y b s h d⟩
  · exact ⟨⟨2048 + (h.1 * 64 + d.1), by omega⟩, fun w k => pairW_v w k h d, fun y b s => pairs_v y b s h d⟩

variable (m : (ℓ : Loc nD τ sig) → Buf (Elt Ideal) ℓ) (c : Dev nD)

/-- The reference's product, of the kernel's arguments. -/
abbrev prod := proj (argX m c) (argG m c) (argW m c)

/-- The product at a token is the kernel's row against the column. -/
theorem prod_line (b : Fin 8) (s : Fin 2048) (p : Fin 3072) : prod m c (ix3 b s p) = line m c ⟨b.1 * 2048 + s.1, by omega⟩ fun k => argW m c (ix2 k p) := by
  refine (proj_apply _ _ _ b s p).trans ?_
  unfold line
  simp only [rows_apply]

theorem query_line (R : Fin 16384) (j : Fin 1024) : query (prod m c) (ix2 R j) = line m c R fun k => queryW (argW m c) (ix2 k j) := by
  obtain ⟨b, s, rfl⟩ := token R
  simp only [queryW_apply]
  exact (query_apply _ b s j).trans (prod_line m c b s _)

theorem pair_line (R : Fin 16384) (j : Fin 2048) : pairs (prod m c) (ix2 R j) = line m c R fun k => pairW (argW m c) (ix2 k j) := by
  obtain ⟨b, s, rfl⟩ := token R
  obtain ⟨p, hw, hy⟩ := pair_source j
  simp only [hw]
  exact (hy _ b s).trans (prod_line m c b s p)

theorem bits_256 : Ideal.ofBits .f32 0x43800000#32 = ((256 : ℝ) : EReal) := by
  simp only [Ideal.ofBits, Ideal.ieee]
  simp
  rw [← EReal.coe_mul]; norm_num

/-- A division by 256 is a product with its inverse. -/
theorem div_256 (x : EReal) : Ideal.div x (Ideal.ofBits .f32 0x43800000#32) = x * Ideal.ofBits .f32 0x3B800000#32 := by
  rw [bits_256, Ideal.div_coe (by norm_num), Cert.KernelIdeal.Head.bits_256th]

/-- The queries are the reference's. -/
theorem query_array : query (prod m c) = ((dats m 0 c).arrAt 8 cfg0.N : FVec Ideal S16384x1024 .bf16) := by
  funext x
  obtain ⟨R, j, rfl⟩ := pair x
  obtain ⟨t, r, rfl⟩ := point (N := 16) (B := 1024) (by omega) R
  exact (query_line m c _ j).trans (query_result m c t r j).symm

/-- The keys and values are the reference's. -/
theorem pair_array : pairs (prod m c) = ((dats m 0 c).arrAt 9 cfg0.N : FVec Ideal S16384x2048 .bf16) := by
  funext x
  obtain ⟨R, j, rfl⟩ := pair x
  obtain ⟨t, r, rfl⟩ := point (N := 16) (B := 1024) (by omega) R
  exact (pair_line m c _ j).trans (pair_result m c t r j).symm

/-- The means over the blocks of tokens are the reference's. -/
theorem means_array : means (pairs (prod m c)) = ((dats m 0 c).arrAt 13 cfg0.N : FVec Ideal S16x4x2048 .f32) := by
  funext x
  obtain ⟨t, b, j, rfl⟩ : ∃ (t : Fin 16) (b : Fin 4) (j : Fin 2048), x = ix3 t b j := ⟨x 0, x 1, x 2, by funext a; match a with | 0 => rfl | 1 => rfl | 2 => rfl⟩
  refine ((means_apply _ t b j).trans ((div_256 _).trans ?_)).trans (means_result m c t b j).symm
  simp only [pair_line]

/-- The feed-forward weights' casts are the reference's. -/
theorem wg_array : wide (argWg m c) = ((dats m 0 c).arrAt 10 cfg0.N : FVec Ideal S1024x2816 .bf16) := by
  funext x
  obtain ⟨R, j, rfl⟩ := pair x
  obtain ⟨t, r, rfl⟩ := point (N := 16) (B := 64) (by omega) R
  exact (wide_apply _ _ j).trans (wg_result m c t r j).symm
theorem wu_array : wide (argWu m c) = ((dats m 0 c).arrAt 11 cfg0.N : FVec Ideal S1024x2816 .bf16) := by
  funext x
  obtain ⟨R, j, rfl⟩ := pair x
  obtain ⟨t, r, rfl⟩ := point (N := 16) (B := 64) (by omega) R
  exact (wide_apply _ _ j).trans (wu_result m c t r j).symm
theorem wd_array : tall (argWd m c) = ((dats m 0 c).arrAt 12 cfg0.N : FVec Ideal S2816x1024 .bf16) := by
  funext x
  obtain ⟨R, j, rfl⟩ := pair x
  obtain ⟨t, r, rfl⟩ := point (N := 16) (B := 176) (by omega) R
  exact (tall_apply _ _ j).trans (wd_result m c t r j).symm

end Moba

open Cert.Reference6Ideal.Sem in
/-- The NSA projection and its reference compute the same arrays from arguments that agree. -/
theorem algebraic6 : Cert.algebraic_Kernel6Ideal_Reference6Ideal := fun m g m' g' _ hag =>
  ⟨_, _, _, _, _, _, Cert.Kernel6Ideal.Value.run_blocks m g,
   (θ_run _ _ _).mono (fun _ h c => by
      have h0 : argX m' c = Cert.Kernel6Ideal.Qkv.argX m c := (hag c).1
      have h1 : argG m' c = Cert.Kernel6Ideal.Qkv.argG m c := (hag c).2.1
      have h2 : argW m' c = Cert.Kernel6Ideal.Qkv.argW m c := (hag c).2.2.1
      have h3 : argWg m' c = Cert.Kernel6Ideal.Qkv.argWg m c := (hag c).2.2.2.1
      have h4 : argWu m' c = Cert.Kernel6Ideal.Qkv.argWu m c := (hag c).2.2.2.2.1
      have h5 : argWd m' c = Cert.Kernel6Ideal.Qkv.argWd m c := (hag c).2.2.2.2.2
      obtain ⟨r0, r1, r2, r3, r4, r5, hk⟩ := h c
      refine ⟨(r0.trans (res_eq m' c)).trans ?_, (r1.trans (rfl : _ = gates (proj (argX m' c) (argG m' c) (argW m' c)))).trans ?_, (r2.trans (rfl : _ = cmp (proj (argX m' c) (argG m' c) (argW m' c)))).trans ?_,
        (r3.trans (rfl : _ = wide (argWg m' c))).trans ?_, (r4.trans (rfl : _ = wide (argWu m' c))).trans ?_, (r5.trans (rfl : _ = tall (argWd m' c))).trans ?_, hk⟩
      · rw [h0, h1, h2]; exact Nsa.main_array m c
      · rw [h0, h1, h2]; exact Nsa.gates_array m c
      · rw [h0, h1, h2]; exact Nsa.cmp_array m c
      · rw [h3]; exact Nsa.wg_array m c
      · rw [h4]; exact Nsa.wu_array m c
      · rw [h5]; exact Nsa.wd_array m c)
     (Cert.Reference6Ideal.Value.run m' g')⟩

open Cert.Reference5Ideal.Sem in
/-- The MoBA projection and its reference compute the same arrays from arguments that agree. -/
theorem algebraic5 : Cert.algebraic_Kernel5Ideal_Reference5Ideal := fun m g m' g' _ hag =>
  ⟨_, _, _, _, _, _, Cert.Kernel5Ideal.Value.run_blocks m g,
   (θ_run _ _ _).mono (fun _ h c => by
      have h0 : argX m' c = Cert.Kernel5Ideal.Qkv.argX m c := (hag c).1
      have h1 : argG m' c = Cert.Kernel5Ideal.Qkv.argG m c := (hag c).2.1
      have h2 : argW m' c = Cert.Kernel5Ideal.Qkv.argW m c := (hag c).2.2.1
      have h3 : argWg m' c = Cert.Kernel5Ideal.Qkv.argWg m c := (hag c).2.2.2.1
      have h4 : argWu m' c = Cert.Kernel5Ideal.Qkv.argWu m c := (hag c).2.2.2.2.1
      have h5 : argWd m' c = Cert.Kernel5Ideal.Qkv.argWd m c := (hag c).2.2.2.2.2
      obtain ⟨r0, r1, r2, r3, r4, r5, hk⟩ := h c
      refine ⟨(r0.trans (rfl : _ = query (proj (argX m' c) (argG m' c) (argW m' c)))).trans ?_, (r1.trans (rfl : _ = pairs (proj (argX m' c) (argG m' c) (argW m' c)))).trans ?_,
        (r2.trans (rfl : _ = wide (argWg m' c))).trans ?_, (r3.trans (rfl : _ = wide (argWu m' c))).trans ?_, (r4.trans (rfl : _ = tall (argWd m' c))).trans ?_,
        (r5.trans (rfl : _ = means (pairs (proj (argX m' c) (argG m' c) (argW m' c))))).trans ?_, hk⟩
      · rw [h0, h1, h2]; exact Moba.query_array m c
      · rw [h0, h1, h2]; exact Moba.pair_array m c
      · rw [h3]; exact Moba.wg_array m c
      · rw [h4]; exact Moba.wu_array m c
      · rw [h5]; exact Moba.wd_array m c
      · rw [h0, h1, h2]; exact Moba.means_array m c)
     (Cert.Reference5Ideal.Value.run m' g')⟩

end Cert.ProjEqual

end

end
-- ==== Proof.ConvBlock.lean ====
/- What a grid point of the short convolution's kernel leaves in its blocks of the results. -/
module

public import proofs.«01_k».proof.Proof.ProjBlock
public import proofs.«01_k».proof.Proof.Gen.Kernel4Ideal.Frame
public import Idealize.ShloMosaic.Lib.Pipeline.Value
public import Idealize.ShloMosaic.Lib.Pipeline.ReadBack
public import Idealize.ShloMosaic.Lib.Pipeline.CanonAppend

@[expose] public section

set_option maxRecDepth 16384

noncomputable section

namespace Cert.Kernel4Ideal.Conv

open Cert.Kernel4Ideal Cert.Kernel4Ideal.Gen Cert.FfnMath Cert.Proj
open Idealize.ShloMosaic Idealize.ShloMosaic.TcCoe Idealize.SL.Sem

/-- A chunk of the result's columns: from the normed rows, the three chunks of the weight, the rows before the block and the taps. -/
def chunk (a : FVec Ideal S1024x1024 .bf16) (wb wc wu : FVec Ideal S1024x256 .bf16) (p : FVec Ideal S8x256 .f32) (t0 t1 t2 : FVec Ideal S1x256 .f32) : FVec Ideal S1024x256 .bf16 :=
  k0_pay12 (F := Ideal) (k0_pay7 a wb) (k0_pay8 a wc wu) (k0_pay10 a wc wu p) (k0_pay11 a wc wu p) t0 t1 t2

/-- What a row of a chunk reads `d` rows back: a row of the block, or one of the eight before it. -/
def backOf (d : Nat) (z : Fin 1024 → EReal) (p : Fin 8 → EReal) (r : Fin 1024) : EReal :=
  if h : r.1 < d ∧ d ≤ 8 then p ⟨8 - d + r.1, by omega⟩ else z ⟨r.1 - d, by omega⟩

theorem gated_apply (a : FVec Ideal S1024x1024 .bf16) (wc wu : FVec Ideal S1024x256 .bf16) (r : Fin 1024) (j : Fin 256) :
    k0_pay8 (F := Ideal) a wc wu (ix2 r j) = (∑ k, a (ix2 r k) * wc (ix2 k j)) * (∑ k, a (ix2 r k) * wu (ix2 k j)) := by
  pointwise [k0_pay8]

theorem gate_apply (a : FVec Ideal S1024x1024 .bf16) (wb : FVec Ideal S1024x256 .bf16) (r : Fin 1024) (j : Fin 256) :
    k0_pay7 (F := Ideal) a wb (ix2 r j) = ∑ k, a (ix2 r k) * wb (ix2 k j) := by
  pointwise [k0_pay7]

/-- A choice by a row's number. -/
theorem choose_row {α : Type} (r : Fin 1024) (n : Nat) (hn : n < 1024) (x y : α) :
    Scalar.select (IntOp.cmpi CmpIPredicate.eq (BitVec.ofNat 32 r.1) (BitVec.ofNat 32 n)) x y = if r.1 = n then x else y := by
  have hr := r.isLt
  have h : (BitVec.ofNat 32 r.1 = BitVec.ofNat 32 n) ↔ r.1 = n := by
    constructor
    · intro h
      have := congrArg BitVec.toNat h
      simp only [BitVec.toNat_ofNat] at this
      omega
    · rintro h; rw [h]
  show Scalar.select (BitVec.ofBool (BitVec.ofNat 32 r.1 == BitVec.ofNat 32 n)) x y = _
  by_cases e : r.1 = n
  · rw [beq_iff_eq.2 (h.2 e), if_pos e]
    rfl
  · rw [beq_eq_false_iff_ne.2 (mt h.1 e), if_neg e]
    rfl

theorem back1_apply (a : FVec Ideal S1024x1024 .bf16) (wc wu : FVec Ideal S1024x256 .bf16) (p : FVec Ideal S8x256 .f32) (r : Fin 1024) (j : Fin 256) :
    k0_pay10 (F := Ideal) a wc wu p (ix2 r j) = backOf 1 (fun r => k0_pay8 (F := Ideal) a wc wu (ix2 r j)) (fun k => p (ix2 k j)) r := by
  pointwise [k0_pay10]
  unfold backOf
  rw [choose_row r 0 (by decide)]
  by_cases h : r.1 = 0
  · rw [if_pos h, dif_pos ⟨by omega, by decide⟩]
    exact congrArg (fun k => p (ix2 k j)) (Fin.ext (by show 7 = 8 - 1 + r.1; omega))
  · rw [if_neg h, dif_neg (by omega)]
    exact congrArg (fun k => k0_pay8 (F := Ideal) a wc wu (ix2 k j)) (Fin.ext (by show (r.1 + 1024 - 1) % 1024 = r.1 - 1; omega))

theorem back2_apply (a : FVec Ideal S1024x1024 .bf16) (wc wu : FVec Ideal S1024x256 .bf16) (p : FVec Ideal S8x256 .f32) (r : Fin 1024) (j : Fin 256) :
    k0_pay11 (F := Ideal) a wc wu p (ix2 r j) = backOf 2 (fun r => k0_pay8 (F := Ideal) a wc wu (ix2 r j)) (fun k => p (ix2 k j)) r := by
  pointwise [k0_pay11]
  unfold backOf
  rw [choose_row r 0 (by decide), choose_row r 1 (by decide)]
  by_cases h : r.1 = 0
  · rw [if_pos h, dif_pos ⟨by omega, by decide⟩]
    exact congrArg (fun k => p (ix2 k j)) (Fin.ext (by show 6 = 8 - 2 + r.1; omega))
  by_cases h' : r.1 = 1
  · rw [if_neg h, if_pos h', dif_pos ⟨by omega, by decide⟩]
    exact congrArg (fun k => p (ix2 k j)) (Fin.ext (by show 7 = 8 - 2 + r.1; omega))
  · rw [if_neg h, if_neg h', dif_neg (by omega)]
    exact congrArg (fun k => k0_pay8 (F := Ideal) a wc wu (ix2 k j)) (Fin.ext (by show (r.1 + 1024 - 2) % 1024 = r.1 - 2; omega))

theorem taps_apply (b z z1 z2 : FVec Ideal S1024x256 .f32) (t0 t1 t2 : FVec Ideal S1x256 .f32) (r : Fin 1024) (j : Fin 256) :
    k0_pay12 (F := Ideal) b z z1 z2 t0 t1 t2 (ix2 r j)
      = b (ix2 r j) * (t0 (ix2 0 j) * z2 (ix2 r j) + t1 (ix2 0 j) * z1 (ix2 r j) + t2 (ix2 0 j) * z (ix2 r j)) := by
  pointwise [k0_pay12]

theorem tail_apply (a : FVec Ideal S1024x1024 .bf16) (wc wu : FVec Ideal S1024x256 .bf16) (k : Fin 8) (j : Fin 256) :
    k0_pay9 (F := Ideal) a wc wu (ix2 k j) = k0_pay8 (F := Ideal) a wc wu (ix2 ⟨1016 + k.1, by omega⟩ j) := by
  pointwise [k0_pay9]

theorem zero_apply (k : Fin 8) (j : Fin 1024) : k0_pay6 (F := Ideal) (ix2 k j) = (0 : EReal) := by
  pointwise [k0_pay6]

/-- The product that the convolution runs over, at a row and a column of a block. -/
def gated (a : FVec Ideal S1024x1024 .bf16) (w : FVec Ideal S1024x3072 .bf16) (r j : Fin 1024) : EReal :=
  against a w r ⟨1024 + j.1, by omega⟩ * against a w r ⟨2048 + j.1, by omega⟩

/-- The block of the result, at a row and a column. -/
def mixed (a : FVec Ideal S1024x1024 .bf16) (w : FVec Ideal S1024x3072 .bf16) (t p : FVec Ideal S8x1024 .f32) (r j : Fin 1024) : EReal :=
  against a w r ⟨j.1, by omega⟩
    * (t (ix2 0 j) * backOf 2 (fun r => gated a w r j) (fun k => p (ix2 k j)) r + t (ix2 1 j) * backOf 1 (fun r => gated a w r j) (fun k => p (ix2 k j)) r
      + t (ix2 2 j) * gated a w r j)

section Pieces

variable (a : FVec Ideal S1024x1024 .bf16) (w : FVec Ideal S1024x3072 .bf16) (t p : FVec Ideal S8x1024 .f32) (o oc ou : Nat) (hc : oc = 1024 + o) (hu : ou = 2048 + o)

/-- A row of the taps, cut to a chunk of columns. -/
theorem tap_row (n : Nat) (N : Fin 8) (hn : N.1 = n) (inb) (j : Fin 256) (J : Fin 1024) (h : J.1 = o + j.1) :
    View.ld (Val := Elt Ideal) (e' := .f32) t (Rect.unit (s := S8x1024) ![n, o] ![1, 256] inb) (ix2 0 j) = t (ix2 N J) := by
  show t _ = t _
  congr 1
  funext c
  apply Fin.ext
  match c with
  | ⟨0, _⟩ => show n + 1 * 0 = N.1; omega
  | ⟨1, _⟩ => show o + 1 * j.1 = J.1; omega

include hc hu in
/-- A chunk's product is the block's. -/
theorem gated_chunk (ic iu) (r : Fin 1024) (j : Fin 256) (J : Fin 1024) (h : J.1 = o + j.1) :
    k0_pay8 (F := Ideal) a (View.ld (Val := Elt Ideal) (e' := .bf16) w (Rect.unit (s := S1024x3072) ![0, oc] ![1024, 256] ic))
        (View.ld (Val := Elt Ideal) (e' := .bf16) w (Rect.unit (s := S1024x3072) ![0, ou] ![1024, 256] iu)) (ix2 r j) = gated a w r J := by
  rw [gated_apply]
  unfold gated against
  refine congrArg₂ (· * ·) (Finset.sum_congr rfl fun k _ => congrArg (_ * ·) ?_) (Finset.sum_congr rfl fun k _ => congrArg (_ * ·) ?_)
  · exact ld_chunk (e := .bf16) w oc ic k j ⟨1024 + J.1, by omega⟩ (by show 1024 + J.1 = oc + j.1; omega)
  · exact ld_chunk (e := .bf16) w ou iu k j ⟨2048 + J.1, by omega⟩ (by show 2048 + J.1 = ou + j.1; omega)

include hc hu in
/-- A chunk of the result is a piece of the block. -/
theorem mixed_piece (ib ic iu ip i0 i1 i2 io) (x : S1024x256.Idx) :
    chunk a (View.ld (Val := Elt Ideal) (e' := .bf16) w (Rect.unit (s := S1024x3072) ![0, o] ![1024, 256] ib))
        (View.ld (Val := Elt Ideal) (e' := .bf16) w (Rect.unit (s := S1024x3072) ![0, oc] ![1024, 256] ic))
        (View.ld (Val := Elt Ideal) (e' := .bf16) w (Rect.unit (s := S1024x3072) ![0, ou] ![1024, 256] iu))
        (View.ld (Val := Elt Ideal) (e' := .f32) p (Rect.unit (s := S8x1024) ![0, o] ![8, 256] ip))
        (View.ld (Val := Elt Ideal) (e' := .f32) t (Rect.unit (s := S8x1024) ![0, o] ![1, 256] i0))
        (View.ld (Val := Elt Ideal) (e' := .f32) t (Rect.unit (s := S8x1024) ![1, o] ![1, 256] i1))
        (View.ld (Val := Elt Ideal) (e' := .f32) t (Rect.unit (s := S8x1024) ![2, o] ![1, 256] i2)) x
      = (fun y : S1024x1024.Idx => mixed a w t p (y 0) (y 1)) ((Rect.unit (s := S1024x1024) ![0, o] ![1024, 256] io).emb x) := by
  obtain ⟨r, j, rfl⟩ := pair x
  have hlt : o + j.1 < 1024 := by
    have : o + 256 ≤ 1024 := io 1
    omega
  have hy : (Rect.unit (s := S1024x1024) ![0, o] ![1024, 256] io).emb (ix2 r j) = ix2 r ⟨o + j.1, hlt⟩ := by
    funext c
    apply Fin.ext
    match c with
    | ⟨0, _⟩ => show 0 + 1 * r.1 = r.1; omega
    | ⟨1, _⟩ => show o + 1 * j.1 = o + j.1; omega
  rw [hy]
  show _ = mixed a w t p r ⟨o + j.1, hlt⟩
  unfold chunk mixed
  rw [taps_apply, back1_apply, back2_apply, gate_apply, tap_row t o 0 0 rfl i0 j ⟨o + j.1, hlt⟩ rfl, tap_row t o 1 1 rfl i1 j ⟨o + j.1, hlt⟩ rfl, tap_row t o 2 2 rfl i2 j ⟨o + j.1, hlt⟩ rfl]
  simp only [gated_chunk a w o oc ou hc hu ic iu _ j ⟨o + j.1, hlt⟩ rfl, ld_chunk (e := .f32) p o ip _ j ⟨o + j.1, hlt⟩ rfl]
  refine congrArg (· * _) (Finset.sum_congr rfl fun k _ => congrArg (_ * ·) ?_)
  exact ld_chunk (e := .bf16) w o ib k j _ rfl

include hc hu in
/-- A chunk's last eight rows are a piece of the block's. -/
theorem tail_piece (ic iu io) (x : S8x256.Idx) :
    k0_pay9 (F := Ideal) a (View.ld (Val := Elt Ideal) (e' := .bf16) w (Rect.unit (s := S1024x3072) ![0, oc] ![1024, 256] ic))
        (View.ld (Val := Elt Ideal) (e' := .bf16) w (Rect.unit (s := S1024x3072) ![0, ou] ![1024, 256] iu)) x
      = (fun y : S8x1024.Idx => gated a w ⟨1016 + (y 0).1, by have : (y 0).1 < 8 := (y 0).isLt; omega⟩ (y 1)) ((Rect.unit (s := S8x1024) ![0, o] ![8, 256] io).emb x) := by
  obtain ⟨r, j, rfl⟩ := pair x
  have hlt : o + j.1 < 1024 := by
    have : o + 256 ≤ 1024 := io 1
    omega
  have hy : (Rect.unit (s := S8x1024) ![0, o] ![8, 256] io).emb (ix2 r j) = ix2 r ⟨o + j.1, hlt⟩ := by
    funext c
    apply Fin.ext
    match c with
    | ⟨0, _⟩ => show 0 + 1 * r.1 = r.1; omega
    | ⟨1, _⟩ => show o + 1 * j.1 = o + j.1; omega
  rw [hy, tail_apply]
  exact gated_chunk a w o oc ou hc hu ic iu _ j ⟨o + j.1, hlt⟩ rfl

end Pieces

/-- The normed rows of a block. -/
theorem normed4 (x : FVec Ideal S1024x1024 .f32) (g : FVec Ideal S1x1024 .f32) : k0_pay5 (F := Ideal) x g = rms x g := rfl

variable (c : Dev nD) (i : grid0.Coords)
  (a0 : Memref sig .tc .vmem S1024x1024 .f32) (h0 : a0.IsWhole)
  (a1 : Memref sig .tc .vmem S1x1024 .f32) (h1 : a1.IsWhole)
  (a2 : Memref sig .tc .vmem S1024x3072 .bf16) (h2 : a2.IsWhole)
  (a3 : Memref sig .tc .vmem S8x1024 .f32) (h3 : a3.IsWhole)
  (a4 : Memref sig .tc .vmem S1x64x2816 .f32) (h4 : a4.IsWhole)
  (a5 : Memref sig .tc .vmem S1x64x2816 .f32) (h5 : a5.IsWhole)
  (a6 : Memref sig .tc .vmem S1x176x1024 .f32) (h6 : a6.IsWhole)
  (a7 : Memref sig .tc .vmem S1024x1024 .bf16) (h7 : a7.IsWhole)
  (a8 : Memref sig .tc .vmem S64x2816 .bf16) (h8 : a8.IsWhole)
  (a9 : Memref sig .tc .vmem S64x2816 .bf16) (h9 : a9.IsWhole)
  (a10 : Memref sig .tc .vmem S176x1024 .bf16) (h10 : a10.IsWhole)
  (a11 : Memref sig .tc .vmem S8x1024 .f32) (h11 : a11.IsWhole)
  (x0 : FVec Ideal S1024x1024 .f32)  (x1 : FVec Ideal S1x1024 .f32)  (x2 : FVec Ideal S1024x3072 .bf16)  (x3 : FVec Ideal S8x1024 .f32)  (x4 : FVec Ideal S1x64x2816 .f32)  (x5 : FVec Ideal S1x64x2816 .f32)  (x6 : FVec Ideal S1x176x1024 .f32)

/-- What a grid point leaves in its block of the result where a sequence begins. -/
theorem outA (hc : cond0_0 i) (r j : Fin 1024) : out0_A_7 (F := Ideal) c i a0 h0 a1 h1 a2 h2 a3 h3 a4 h4 a5 h5 a6 h6 a7 h7 a8 h8 a9 h9 a10 h10 a11 h11 hc x0 x1 x2 x3 x4 x5 x6 (ix2 r j)
    = mixed (rms x0 x1) x2 x3 (k0_pay6 (F := Ideal)) r j := by
  unfold out0_A_7
  rw [View.read_writes_junk_eq_canon]
  refine View.canon_apply_of_pieces (Val := Elt Ideal) (e := .bf16) (fun y : S1024x1024.Idx => mixed (rms x0 x1) x2 x3 (k0_pay6 (F := Ideal)) (y 0) (y 1)) _ ?_ _
    (cover0_A_7 (y := ix2 r j) ..)
  unfold kernelRun0_A
  dsimp only
  sl_unfold_words
  simp only [View.readAt_eq_ld, h0.read_unread, h1.read_unread, h2.read_unread, h3.read_unread, h4.read_unread, h5.read_unread, h6.read_unread, h7.read_unread, h8.read_unread, h9.read_unread, h10.read_unread, h11.read_unread, View.ld_unit_zero (S := S1024x1024) hz2, View.ld_unit_zero (S := S1x1024) hz2, normed4]
  simp (disch := decide) only [View.readCov_skip, View.readCov_fill]
  intro pc hpc
  simp only [List.mem_cons, List.not_mem_nil, or_false] at hpc
  rcases hpc with rfl | rfl | rfl | rfl
  · exact fun x => mixed_piece (rms x0 x1) x2 x3 (k0_pay6 (F := Ideal)) 768 _ _ rfl rfl _ _ _ _ _ _ _ inb_S1024x1024_S1024x256_0_768 x
  · exact fun x => mixed_piece (rms x0 x1) x2 x3 (k0_pay6 (F := Ideal)) 512 _ _ rfl rfl _ _ _ _ _ _ _ inb_S1024x1024_S1024x256_0_512 x
  · exact fun x => mixed_piece (rms x0 x1) x2 x3 (k0_pay6 (F := Ideal)) 256 _ _ rfl rfl _ _ _ _ _ _ _ inb_S1024x1024_S1024x256_0_256 x
  · exact fun x => mixed_piece (rms x0 x1) x2 x3 (k0_pay6 (F := Ideal)) 0 _ _ rfl rfl _ _ _ _ _ _ _ inb_S1024x1024_S1024x256_0_0 x

/-- What a grid point leaves in its block of the result where it goes on from the rows before. -/
theorem outB (xs : FVec Ideal S8x1024 .f32) (hc : ¬ cond0_0 i) (r j : Fin 1024) : out0_B_7 (F := Ideal) c i a0 h0 a1 h1 a2 h2 a3 h3 a4 h4 a5 h5 a6 h6 a7 h7 a8 h8 a9 h9 a10 h10 a11 h11 hc x0 x1 x2 x3 x4 x5 x6 xs (ix2 r j)
    = mixed (rms x0 x1) x2 x3 xs r j := by
  unfold out0_B_7
  rw [View.read_writes_junk_eq_canon]
  refine View.canon_apply_of_pieces (Val := Elt Ideal) (e := .bf16) (fun y : S1024x1024.Idx => mixed (rms x0 x1) x2 x3 xs (y 0) (y 1)) _ ?_ _
    (cover0_B_7 (y := ix2 r j) ..)
  unfold kernelRun0_B
  dsimp only
  sl_unfold_words
  simp only [View.readAt_eq_ld, h0.read_unread, h1.read_unread, h2.read_unread, h3.read_unread, h4.read_unread, h5.read_unread, h6.read_unread, h7.read_unread, h8.read_unread, h9.read_unread, h10.read_unread, h11.read_unread, View.ld_unit_zero (S := S1024x1024) hz2, View.ld_unit_zero (S := S1x1024) hz2, normed4]
  intro pc hpc
  simp only [List.mem_cons, List.not_mem_nil, or_false] at hpc
  rcases hpc with rfl | rfl | rfl | rfl
  · exact fun x => mixed_piece (rms x0 x1) x2 x3 xs 768 _ _ rfl rfl _ _ _ _ _ _ _ inb_S1024x1024_S1024x256_0_768 x
  · exact fun x => mixed_piece (rms x0 x1) x2 x3 xs 512 _ _ rfl rfl _ _ _ _ _ _ _ inb_S1024x1024_S1024x256_0_512 x
  · exact fun x => mixed_piece (rms x0 x1) x2 x3 xs 256 _ _ rfl rfl _ _ _ _ _ _ _ inb_S1024x1024_S1024x256_0_256 x
  · exact fun x => mixed_piece (rms x0 x1) x2 x3 xs 0 _ _ rfl rfl _ _ _ _ _ _ _ inb_S1024x1024_S1024x256_0_0 x

/-- What a grid point leaves for the next: the last rows of its product. -/
theorem left (hc : cond0_0 i) (r : Fin 8) (j : Fin 1024) : sout0_A_0 (F := Ideal) c i a0 h0 a1 h1 a2 h2 a3 h3 a4 h4 a5 h5 a6 h6 a7 h7 a8 h8 a9 h9 a10 h10 a11 h11 hc x0 x1 x2 x3 x4 x5 x6 (ix2 r j) = gated (rms x0 x1) x2 ⟨1016 + r.1, by omega⟩ j := by
  unfold sout0_A_0
  rw [View.read_writes_junk_eq_canon]
  unfold kernelRun0_A
  dsimp only
  sl_unfold_words
  simp only [View.readAt_eq_ld, h0.read_unread, h1.read_unread, h2.read_unread, h3.read_unread, h4.read_unread, h5.read_unread, h6.read_unread, h7.read_unread, h8.read_unread, h9.read_unread, h10.read_unread, h11.read_unread, View.ld_unit_zero (S := S1024x1024) hz2, View.ld_unit_zero (S := S1x1024) hz2, normed4]
  refine View.canon_append_of_pieces (Val := Elt Ideal) (e := .f32) (fun y : S8x1024.Idx => gated (rms x0 x1) x2 ⟨1016 + (y 0).1, by have : (y 0).1 < 8 := (y 0).isLt; omega⟩ (y 1))
    [_] [_, _, _, _] ?_ (ix2 r j) ?_
  swap
  · refine View.cover_of_tiledL _ ![8, 256] ?_ _
    sl_kernel_rfl
  intro pc hpc
  simp only [List.mem_cons, List.not_mem_nil, or_false] at hpc
  rcases hpc with rfl | rfl | rfl | rfl
  · exact fun x => tail_piece (rms x0 x1) x2 768 _ _ rfl rfl _ _ inb_S8x1024_S8x256_0_768 x
  · exact fun x => tail_piece (rms x0 x1) x2 512 _ _ rfl rfl _ _ inb_S8x1024_S8x256_0_512 x
  · exact fun x => tail_piece (rms x0 x1) x2 256 _ _ rfl rfl _ _ inb_S8x1024_S8x256_0_256 x
  · exact fun x => tail_piece (rms x0 x1) x2 0 _ _ rfl rfl _ _ inb_S8x1024_S8x256_0_0 x

/-- A share of a feed-forward weight, cast. -/
theorem wideA (hc : cond0_0 i) (r : Fin 64) (j : Fin 2816) : out0_A_8 (F := Ideal) c i a0 h0 a1 h1 a2 h2 a3 h3 a4 h4 a5 h5 a6 h6 a7 h7 a8 h8 a9 h9 a10 h10 a11 h11 hc x0 x1 x2 x3 x4 x5 x6 (ix2 r j) = x4 (ix3 0 r j) := by
  unfold out0_A_8
  rw [View.read_writes_junk_eq_canon]
  unfold kernelRun0_A
  dsimp only
  sl_unfold_words
  rw [View.canon_unit_zero (S := S64x2816) hz2]
  simp only [View.readAt_eq_ld, h4.read_unread, View.ld_unit_zero (S := S1x64x2816) hz3]
  exact wide_apply _ r j

/-- A share of a feed-forward weight, cast. -/
theorem wideB (xs : FVec Ideal S8x1024 .f32) (hc : ¬ cond0_0 i) (r : Fin 64) (j : Fin 2816) : out0_B_8 (F := Ideal) c i a0 h0 a1 h1 a2 h2 a3 h3 a4 h4 a5 h5 a6 h6 a7 h7 a8 h8 a9 h9 a10 h10 a11 h11 hc x0 x1 x2 x3 x4 x5 x6 xs (ix2 r j) = x4 (ix3 0 r j) := by
  unfold out0_B_8
  rw [View.read_writes_junk_eq_canon]
  unfold kernelRun0_B
  dsimp only
  sl_unfold_words
  rw [View.canon_unit_zero (S := S64x2816) hz2]
  simp only [View.readAt_eq_ld, h4.read_unread, View.ld_unit_zero (S := S1x64x2816) hz3]
  exact wide_apply _ r j

/-- A share of a feed-forward weight, cast. -/
theorem wide'A (hc : cond0_0 i) (r : Fin 64) (j : Fin 2816) : out0_A_9 (F := Ideal) c i a0 h0 a1 h1 a2 h2 a3 h3 a4 h4 a5 h5 a6 h6 a7 h7 a8 h8 a9 h9 a10 h10 a11 h11 hc x0 x1 x2 x3 x4 x5 x6 (ix2 r j) = x5 (ix3 0 r j) := by
  unfold out0_A_9
  rw [View.read_writes_junk_eq_canon]
  unfold kernelRun0_A
  dsimp only
  sl_unfold_words
  rw [View.canon_unit_zero (S := S64x2816) hz2]
  simp only [View.readAt_eq_ld, h5.read_unread, View.ld_unit_zero (S := S1x64x2816) hz3]
  exact wide_apply _ r j

/-- A share of a feed-forward weight, cast. -/
theorem wide'B (xs : FVec Ideal S8x1024 .f32) (hc : ¬ cond0_0 i) (r : Fin 64) (j : Fin 2816) : out0_B_9 (F := Ideal) c i a0 h0 a1 h1 a2 h2 a3 h3 a4 h4 a5 h5 a6 h6 a7 h7 a8 h8 a9 h9 a10 h10 a11 h11 hc x0 x1 x2 x3 x4 x5 x6 xs (ix2 r j) = x5 (ix3 0 r j) := by
  unfold out0_B_9
  rw [View.read_writes_junk_eq_canon]
  unfold kernelRun0_B
  dsimp only
  sl_unfold_words
  rw [View.canon_unit_zero (S := S64x2816) hz2]
  simp only [View.readAt_eq_ld, h5.read_unread, View.ld_unit_zero (S := S1x64x2816) hz3]
  exact wide_apply _ r j

/-- A share of a feed-forward weight, cast. -/
theorem tallA (hc : cond0_0 i) (r : Fin 176) (j : Fin 1024) : out0_A_10 (F := Ideal) c i a0 h0 a1 h1 a2 h2 a3 h3 a4 h4 a5 h5 a6 h6 a7 h7 a8 h8 a9 h9 a10 h10 a11 h11 hc x0 x1 x2 x3 x4 x5 x6 (ix2 r j) = x6 (ix3 0 r j) := by
  unfold out0_A_10
  rw [View.read_writes_junk_eq_canon]
  unfold kernelRun0_A
  dsimp only
  sl_unfold_words
  rw [View.canon_unit_zero (S := S176x1024) hz2]
  simp only [View.readAt_eq_ld, h6.read_unread, View.ld_unit_zero (S := S1x176x1024) hz3]
  exact tall_apply _ r j

/-- A share of a feed-forward weight, cast. -/
theorem tallB (xs : FVec Ideal S8x1024 .f32) (hc : ¬ cond0_0 i) (r : Fin 176) (j : Fin 1024) : out0_B_10 (F := Ideal) c i a0 h0 a1 h1 a2 h2 a3 h3 a4 h4 a5 h5 a6 h6 a7 h7 a8 h8 a9 h9 a10 h10 a11 h11 hc x0 x1 x2 x3 x4 x5 x6 xs (ix2 r j) = x6 (ix3 0 r j) := by
  unfold out0_B_10
  rw [View.read_writes_junk_eq_canon]
  unfold kernelRun0_B
  dsimp only
  sl_unfold_words
  rw [View.canon_unit_zero (S := S176x1024) hz2]
  simp only [View.readAt_eq_ld, h6.read_unread, View.ld_unit_zero (S := S1x176x1024) hz3]
  exact tall_apply _ r j

end Cert.Kernel4Ideal.Conv

end

end
-- ==== Proof.ConvHost.lean ====
/- What the launch of the short convolution reads, and its result arrays at an index. -/
module

public import proofs.«01_k».proof.Proof.ConvBlock

@[expose] public section

set_option maxRecDepth 16384

noncomputable section

namespace Cert.Kernel4Ideal.Conv

open Cert.Kernel4Ideal Cert.Kernel4Ideal.Gen Cert.FfnMath Cert.Proj
open Idealize.ShloMosaic Idealize.ShloMosaic.TcCoe Idealize.ShloMosaic.StableHlo
open Idealize.SL.Sem

variable (m : (ℓ : Loc nD τ sig) → Buf (Elt Ideal) ℓ) (ρ : Dev nD → PrngReg) (c : Dev nD)

/-- The kernel's arguments. -/
abbrev argX : FVec Ideal S8x2048x1024 .f32 := m ((c.tc : Thread nD τ).loc main_arg0)
abbrev argG : FVec Ideal S1024 .f32 := m ((c.tc : Thread nD τ).loc main_arg1)
abbrev argW : FVec Ideal S1024x3072 .f32 := m ((c.tc : Thread nD τ).loc main_arg2)
abbrev argC : FVec Ideal S3x1024 .f32 := m ((c.tc : Thread nD τ).loc main_arg3)
abbrev argWg : FVec Ideal S4x1024x2816 .f32 := m ((c.tc : Thread nD τ).loc main_arg4)
abbrev argWu : FVec Ideal S4x1024x2816 .f32 := m ((c.tc : Thread nD τ).loc main_arg5)
abbrev argWd : FVec Ideal S4x2816x1024 .f32 := m ((c.tc : Thread nD τ).loc main_arg6)

/-- The rows of all batches. -/
def rows (x : FVec Ideal S8x2048x1024 .f32) : FVec Ideal S16384x1024 .f32 := shapeCast S16384x1024 x shapeCasts_S8x2048x1024_S16384x1024
/-- A gain as a row. -/
def flat (x : FVec Ideal S1024 .f32) : FVec Ideal S1x1024 .f32 := shapeCast S1x1024 x shapeCasts_S1024_S1x1024
/-- The taps, widened to eight rows. -/
def taps (x : FVec Ideal S3x1024 .f32) : FVec Ideal S8x1024 .f32 :=
  pad S8x1024 ![0, 0] ![5, 0] ![0, 0] x (sitofp .f32 (constantI S_ 32 0#32)) pads_S3x1024_S8x1024_050_000 h_S_

set_option maxHeartbeats 4000000 in
theorem V_x : (V m c main_v0 : FVec Ideal S16384x1024 .f32) = rows (argX m c) := by
  unfold V hostOps0 hostOps0_1 hostOps0_2
  after_results_simp <;> rfl
set_option maxHeartbeats 4000000 in
theorem V_g : (V m c main_v2 : FVec Ideal S1x1024 .f32) = flat (argG m c) := by
  unfold V hostOps0 hostOps0_1 hostOps0_2
  after_results_simp <;> rfl
set_option maxHeartbeats 4000000 in
theorem V_w : (V m c main_v3 : FVec Ideal S1024x3072 .bf16) = argW m c := by
  unfold V hostOps0 hostOps0_1 hostOps0_2
  after_results_simp <;> rfl
set_option maxHeartbeats 4000000 in
theorem V_c : (V m c main_v1 : FVec Ideal S8x1024 .f32) = taps (argC m c) := by
  unfold V hostOps0 hostOps0_1 hostOps0_2
  after_results_simp <;> rfl

/-- Where each moving window stands at a grid point. -/
theorem moving : ∀ t : Fin cfg0.N, (win0_0.index t 0 = t.1 ∧ win0_0.index t 1 = 0) ∧ (win0_4.index t 0 = 2 ∧ win0_4.index t 1 = t.1 ∧ win0_4.index t 2 = 0) ∧ (win0_5.index t 0 = 2 ∧ win0_5.index t 1 = t.1 ∧ win0_5.index t 2 = 0)
    ∧ (win0_6.index t 0 = 2 ∧ win0_6.index t 1 = t.1 ∧ win0_6.index t 2 = 0) ∧ (win0_7.index t 0 = t.1 ∧ win0_7.index t 1 = 0) ∧ (win0_8.index t 0 = t.1 ∧ win0_8.index t 1 = 0)
    ∧ (win0_9.index t 0 = t.1 ∧ win0_9.index t 1 = 0) ∧ (win0_10.index t 0 = t.1 ∧ win0_10.index t 1 = 0) :=
  (by decide +kernel : ∀ t : Fin grid0.N, (win0_0.index t 0 = t.1 ∧ win0_0.index t 1 = 0) ∧ (win0_4.index t 0 = 2 ∧ win0_4.index t 1 = t.1 ∧ win0_4.index t 2 = 0) ∧ (win0_5.index t 0 = 2 ∧ win0_5.index t 1 = t.1 ∧ win0_5.index t 2 = 0)
    ∧ (win0_6.index t 0 = 2 ∧ win0_6.index t 1 = t.1 ∧ win0_6.index t 2 = 0) ∧ (win0_7.index t 0 = t.1 ∧ win0_7.index t 1 = 0) ∧ (win0_8.index t 0 = t.1 ∧ win0_8.index t 1 = 0)
    ∧ (win0_9.index t 0 = t.1 ∧ win0_9.index t 1 = 0) ∧ (win0_10.index t 0 = t.1 ∧ win0_10.index t 1 = 0))

/-- A point's block of result 0 holds what the point left there. -/
theorem block7 (t : Fin cfg0.N) : ((cfg0.win 7).blk t).view.read (Elt Ideal) ((dats m 0 c).arrAt 7 cfg0.N) = (cfg0.win 7).cut (grid0.coords t) (outsAt0 m c t.val t.isLt).1 := by
  refine ((dats m 0 c).read_blk_arrAt_eq_flushed 7 (fun t t' _ _ hne => (cfg0.win 7).disjoint_blk fun h => hne ?_) cfg0.N t t.isLt (flush0_7 t)).trans ?_
  · have h0 := congrFun h 0
    have a := moving t
    have b := moving t'
    have h1 : win0_7.index t 0 = win0_7.index t' 0 := h0
    exact Fin.ext (by omega)
  · show (cfg0.win 7).cut _ ((dats m 0 c).after 7 t) = _
    rw [after0_7]

/-- A point's block of result 1 holds what the point left there. -/
theorem block8 (t : Fin cfg0.N) : ((cfg0.win 8).blk t).view.read (Elt Ideal) ((dats m 0 c).arrAt 8 cfg0.N) = (cfg0.win 8).cut (grid0.coords t) (outsAt0 m c t.val t.isLt).2.1 := by
  refine ((dats m 0 c).read_blk_arrAt_eq_flushed 8 (fun t t' _ _ hne => (cfg0.win 8).disjoint_blk fun h => hne ?_) cfg0.N t t.isLt (flush0_8 t)).trans ?_
  · have h0 := congrFun h 0
    have a := moving t
    have b := moving t'
    have h1 : win0_8.index t 0 = win0_8.index t' 0 := h0
    exact Fin.ext (by omega)
  · show (cfg0.win 8).cut _ ((dats m 0 c).after 8 t) = _
    rw [after0_8]

/-- A point's block of result 2 holds what the point left there. -/
theorem block9 (t : Fin cfg0.N) : ((cfg0.win 9).blk t).view.read (Elt Ideal) ((dats m 0 c).arrAt 9 cfg0.N) = (cfg0.win 9).cut (grid0.coords t) (outsAt0 m c t.val t.isLt).2.2.1 := by
  refine ((dats m 0 c).read_blk_arrAt_eq_flushed 9 (fun t t' _ _ hne => (cfg0.win 9).disjoint_blk fun h => hne ?_) cfg0.N t t.isLt (flush0_9 t)).trans ?_
  · have h0 := congrFun h 0
    have a := moving t
    have b := moving t'
    have h1 : win0_9.index t 0 = win0_9.index t' 0 := h0
    exact Fin.ext (by omega)
  · show (cfg0.win 9).cut _ ((dats m 0 c).after 9 t) = _
    rw [after0_9]

/-- A point's block of result 3 holds what the point left there. -/
theorem block10 (t : Fin cfg0.N) : ((cfg0.win 10).blk t).view.read (Elt Ideal) ((dats m 0 c).arrAt 10 cfg0.N) = (cfg0.win 10).cut (grid0.coords t) (outsAt0 m c t.val t.isLt).2.2.2.1 := by
  refine ((dats m 0 c).read_blk_arrAt_eq_flushed 10 (fun t t' _ _ hne => (cfg0.win 10).disjoint_blk fun h => hne ?_) cfg0.N t t.isLt (flush0_10 t)).trans ?_
  · have h0 := congrFun h 0
    have a := moving t
    have b := moving t'
    have h1 : win0_10.index t 0 = win0_10.index t' 0 := h0
    exact Fin.ext (by omega)
  · show (cfg0.win 10).cut _ ((dats m 0 c).after 10 t) = _
    rw [after0_10]

/-- The run leaves the arrays of the four results, and the arguments as they were. -/
theorem run_arrays : θ_run defs (onTc (τ := τ) (main (F := Ideal))) ⟨m, fun _ => 0, ρ⟩ fun r => ∀ c : Dev nD,
    r.2.mem ((c : Thread nD τ).loc main_v4_0) = (dats m 0 c).arrAt 7 cfg0.N
    ∧ r.2.mem ((c : Thread nD τ).loc main_v4_1) = (dats m 0 c).arrAt 8 cfg0.N
    ∧ r.2.mem ((c : Thread nD τ).loc main_v4_2) = (dats m 0 c).arrAt 9 cfg0.N
    ∧ r.2.mem ((c : Thread nD τ).loc main_v4_3) = (dats m 0 c).arrAt 10 cfg0.N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6) := by
  refine (θ_run defs _ _).mono (fun r h c => ?_) (run_main m ρ)
  have kept : ∀ b : Ref sig .tc, b ∈ Pipeline.restRefs sig cfg0.spec → r.2.mem ((c.tc : Thread nD τ).loc b) = V m c b := fun b hb => (h c).2 b hb
  have input : ∀ w : Fin cfg0.W, (cfg0.win w).isOut = false → (dats m 0 c).arrAt w cfg0.N = V m c (Pipeline.arrRef spec0 w) :=
    fun w hw => ((dats m 0 c).arrAt_in w hw _).trans (A_eq m c w)
  refine ⟨(h c).1 7, (h c).1 8, (h c).1 9, (h c).1 10, ?_, ?_, ?_, ?_, ?_, ?_, ?_⟩
  · exact (kept main_arg0 (Pipeline.mem_restRefs_of main_arg0 (by decide) (by decide))).trans (V_main_arg0 m c)
  · exact (kept main_arg1 (Pipeline.mem_restRefs_of main_arg1 (by decide) (by decide))).trans (V_main_arg1 m c)
  · exact (kept main_arg2 (Pipeline.mem_restRefs_of main_arg2 (by decide) (by decide))).trans (V_main_arg2 m c)
  · exact (kept main_arg3 (Pipeline.mem_restRefs_of main_arg3 (by decide) (by decide))).trans (V_main_arg3 m c)
  · exact ((h c).1 4).trans ((input 4 rfl).trans (V_main_arg4 m c))
  · exact ((h c).1 5).trans ((input 5 rfl).trans (V_main_arg5 m c))
  · exact ((h c).1 6).trans ((input 6 rfl).trans (V_main_arg6 m c))

variable (t : Fin 16)

theorem blk_x (r l : Fin 1024) : (iblk m c 0 t : FVec Ideal S1024x1024 .f32) (ix2 r l) = rows (argX m c) (ix2 (at_ 1024 t r) l) := by
  have h := moving t
  rw [← V_x]
  unfold iblk
  rw [View.read_apply]
  exact at2 (V m c main_v0) _ (at_ 1024 t r) l (by show win0_0.index t 0 * 1024 + 1 * r.1 = t.1 * 1024 + r.1; omega) (by show win0_0.index t 1 * 1024 + 1 * l.1 = l.1; omega)

theorem blk_g (l : Fin 1024) : (iblk m c 1 t : FVec Ideal S1x1024 .f32) (ix2 0 l) = flat (argG m c) (ix2 0 l) := by
  rw [← V_g]
  unfold iblk
  rw [View.read_apply]
  exact at2 (V m c main_v2) _ 0 l rfl (by show 0 * 1024 + 1 * l.1 = l.1; omega)

theorem blk_w (k : Fin 1024) (l : Fin 3072) : (iblk m c 2 t : FVec Ideal S1024x3072 .bf16) (ix2 k l) = argW m c (ix2 k l) := by
  rw [← V_w]
  unfold iblk
  rw [View.read_apply]
  exact at2 (V m c main_v3) _ k l (by show 0 * 1024 + 1 * k.1 = k.1; omega) (by show 0 * 3072 + 1 * l.1 = l.1; omega)

theorem blk_c (k : Fin 8) (l : Fin 1024) : (iblk m c 3 t : FVec Ideal S8x1024 .f32) (ix2 k l) = taps (argC m c) (ix2 k l) := by
  rw [← V_c]
  unfold iblk
  rw [View.read_apply]
  exact at2 (V m c main_v1) _ k l (by show 0 * 8 + 1 * k.1 = k.1; omega) (by show 0 * 1024 + 1 * l.1 = l.1; omega)

theorem blk_wg (r : Fin 64) (l : Fin 2816) : (iblk m c 4 t : FVec Ideal S1x64x2816 .f32) (ix3 0 r l) = argWg m c (ix3 2 (at_ 64 t r) l) := by
  have h := moving t
  rw [← show V m c main_arg4 = argWg m c from V_main_arg4 m c]
  unfold iblk
  rw [View.read_apply]
  exact at3 (V m c main_arg4) _ 2 (at_ 64 t r) l (by show win0_4.index t 0 * 1 + 1 * 0 = 2; omega) (by show win0_4.index t 1 * 64 + 1 * r.1 = t.1 * 64 + r.1; omega)
    (by show win0_4.index t 2 * 2816 + 1 * l.1 = l.1; omega)

theorem blk_wu (r : Fin 64) (l : Fin 2816) : (iblk m c 5 t : FVec Ideal S1x64x2816 .f32) (ix3 0 r l) = argWu m c (ix3 2 (at_ 64 t r) l) := by
  have h := moving t
  rw [← show V m c main_arg5 = argWu m c from V_main_arg5 m c]
  unfold iblk
  rw [View.read_apply]
  exact at3 (V m c main_arg5) _ 2 (at_ 64 t r) l (by show win0_5.index t 0 * 1 + 1 * 0 = 2; omega) (by show win0_5.index t 1 * 64 + 1 * r.1 = t.1 * 64 + r.1; omega)
    (by show win0_5.index t 2 * 2816 + 1 * l.1 = l.1; omega)

theorem blk_wd (r : Fin 176) (l : Fin 1024) : (iblk m c 6 t : FVec Ideal S1x176x1024 .f32) (ix3 0 r l) = argWd m c (ix3 2 (at_ 176 t r) l) := by
  have h := moving t
  rw [← show V m c main_arg6 = argWd m c from V_main_arg6 m c]
  unfold iblk
  rw [View.read_apply]
  exact at3 (V m c main_arg6) _ 2 (at_ 176 t r) l (by show win0_6.index t 0 * 1 + 1 * 0 = 2; omega) (by show win0_6.index t 1 * 176 + 1 * r.1 = t.1 * 176 + r.1; omega)
    (by show win0_6.index t 2 * 1024 + 1 * l.1 = l.1; omega)

/-- A row of the normed stream against a column of the weight. -/
abbrev line (R : Fin 16384) (n : Fin 3072) : EReal := col (fun l => rows (argX m c) (ix2 R l)) (fun l => argG m c (ix1 l)) fun k => argW m c (ix2 k n)

/-- The product that the convolution runs over, at a row and a column. -/
def zed (R : Fin 16384) (j : Fin 1024) : EReal := line m c R ⟨1024 + j.1, by omega⟩ * line m c R ⟨2048 + j.1, by omega⟩

/-- The product `d` tokens back, zero before the sequence begins. -/
def behind (d : Nat) (R : Fin 16384) (j : Fin 1024) : EReal := if R.1 % 2048 < d then 0 else zed m c ⟨R.1 - d, by omega⟩ j

/-- The mixer's output, at a row and a column. -/
def conv (R : Fin 16384) (j : Fin 1024) : EReal :=
  line m c R ⟨j.1, by omega⟩ * (argC m c (ix2 0 j) * behind m c 2 R j + argC m c (ix2 1 j) * behind m c 1 R j + argC m c (ix2 2 j) * zed m c R j)

theorem flat_apply (x : FVec Ideal S1024 .f32) (l : Fin 1024) : flat x (ix2 0 l) = x (ix1 l) := by
  pointwise [flat]

theorem taps_row (x : FVec Ideal S3x1024 .f32) (k : Fin 3) (l : Fin 1024) : taps x (ix2 ⟨k.1, by omega⟩ l) = x (ix2 k l) := by
  pointwise [taps]

theorem rows_apply (x : FVec Ideal S8x2048x1024 .f32) (b : Fin 8) (t : Fin 2048) (l : Fin 1024) : rows x (ix2 ⟨b.1 * 2048 + t.1, by omega⟩ l) = x (ix3 b t l) := by
  pointwise [rows]

/-- A point's normed rows. -/
abbrev stream : FVec Ideal S1024x1024 .bf16 := rms (iblk m c 0 t : FVec Ideal S1024x1024 .f32) (iblk m c 1 t : FVec Ideal S1x1024 .f32)

theorem against_line (r : Fin 1024) (n : Fin 3072) : against (stream m c t) (iblk m c 2 t : FVec Ideal S1024x3072 .bf16) r n = line m c (at_ 1024 t r) n := by
  rw [against_rms]
  simp only [blk_x, blk_g, blk_w, flat_apply]

theorem gated_line (r j : Fin 1024) : gated (stream m c t) (iblk m c 2 t : FVec Ideal S1024x3072 .bf16) r j = zed m c (at_ 1024 t r) j := by
  unfold gated zed
  rw [against_line, against_line]

/-- What a row reads some rows back is the product that many tokens back. -/
theorem back_line (p : FVec Ideal S8x1024 .f32) (j : Fin 1024) (hz : t.1 % 2 = 0 → ∀ k, p (ix2 k j) = 0)
    (hn : (h : t.1 % 2 = 1) → ∀ k : Fin 8, p (ix2 k j) = zed m c (at_ (N := 16) 1024 ⟨t.1 - 1, by omega⟩ ⟨1016 + k.1, by omega⟩) j) (d : Nat) (hd : d ≤ 8) (r : Fin 1024) :
    backOf d (fun r => zed m c (at_ 1024 t r) j) (fun k => p (ix2 k j)) r = behind m c d (at_ 1024 t r) j := by
  have hr := r.isLt
  have ht := t.isLt
  unfold backOf behind
  by_cases h : r.1 < d
  · rw [dif_pos ⟨h, hd⟩]
    rcases Nat.mod_two_eq_zero_or_one t.1 with h2 | h2
    · rw [if_pos (by show (t.1 * 1024 + r.1) % 2048 < d; omega)]
      exact hz h2 _
    · rw [if_neg (by show ¬(t.1 * 1024 + r.1) % 2048 < d; omega)]
      refine (hn h2 _).trans ?_
      exact congrArg (zed m c · j) (Fin.ext (by show (t.1 - 1) * 1024 + (1016 + (8 - d + r.1)) = t.1 * 1024 + r.1 - d; omega))
  · rw [dif_neg (fun q => h q.1), if_neg (by show ¬(t.1 * 1024 + r.1) % 2048 < d; omega)]
    exact congrArg (zed m c · j) (Fin.ext (by show t.1 * 1024 + (r.1 - d) = t.1 * 1024 + r.1 - d; omega))

theorem mixed_line (p : FVec Ideal S8x1024 .f32) (r j : Fin 1024) (hz : t.1 % 2 = 0 → ∀ k, p (ix2 k j) = 0)
    (hn : (h : t.1 % 2 = 1) → ∀ k : Fin 8, p (ix2 k j) = zed m c (at_ (N := 16) 1024 ⟨t.1 - 1, by omega⟩ ⟨1016 + k.1, by omega⟩) j) :
    mixed (stream m c t) (iblk m c 2 t : FVec Ideal S1024x3072 .bf16) (iblk m c 3 t : FVec Ideal S8x1024 .f32) p r j = conv m c (at_ 1024 t r) j := by
  unfold mixed conv
  simp only [gated_line, against_line, blk_c, back_line m c t p j hz hn 2 (by decide) r, back_line m c t p j hz hn 1 (by decide) r]
  rw [← taps_row (argC m c) 0 j, ← taps_row (argC m c) 1 j, ← taps_row (argC m c) 2 j]
  rfl

/-- What a point where a sequence begins leaves for the next. -/
theorem left_value (h0 : t.val % 2 = 0) (k : Fin 8) (j : Fin 1024) :
    ((outsAt0 m c t.val t.isLt).2.2.2.2 : FVec Ideal S8x1024 .f32) (ix2 k j) = zed m c (at_ 1024 t ⟨1016 + k.1, by omega⟩) j := by
  rw [outsAt0_A m c t h0]
  dsimp only
  rw [left]
  exact gated_line m c t _ j

/-- What a point leaves in its block of the mixer's output. -/
theorem mixer_value (r j : Fin 1024) : ((outsAt0 m c t.val t.isLt).1 : FVec Ideal S1024x1024 .bf16) (ix2 r j) = conv m c (at_ 1024 t r) j := by
  by_cases h0 : t.val % 2 = 0
  · rw [outsAt0_A m c t h0]
    dsimp only
    rw [outA]
    exact  (mixed_line m c t _ r j (fun _ k => zero_apply k j) fun h => absurd h (by omega))
  · rw [outsAt0_B m c t h0]
    dsimp only
    rw [outB]
    refine  (mixed_line m c t _ r j (fun h => absurd h h0) fun h k => ?_)
    exact (left_value m c ⟨t.1 - 1, by omega⟩ (by show (t.1 - 1) % 2 = 0; omega) k j)

theorem wg_value (r : Fin 64) (j : Fin 2816) : ((outsAt0 m c t.val t.isLt).2.1 : FVec Ideal S64x2816 .bf16) (ix2 r j) = argWg m c (ix3 2 (at_ 64 t r) j) := by
  by_cases h0 : t.val % 2 = 0
  · rw [outsAt0_A m c t h0]
    dsimp only
    rw [wideA]
    exact  (blk_wg m c t r j)
  · rw [outsAt0_B m c t h0]
    dsimp only
    rw [wideB]
    exact  (blk_wg m c t r j)

theorem wu_value (r : Fin 64) (j : Fin 2816) : ((outsAt0 m c t.val t.isLt).2.2.1 : FVec Ideal S64x2816 .bf16) (ix2 r j) = argWu m c (ix3 2 (at_ 64 t r) j) := by
  by_cases h0 : t.val % 2 = 0
  · rw [outsAt0_A m c t h0]
    dsimp only
    rw [wide'A]
    exact  (blk_wu m c t r j)
  · rw [outsAt0_B m c t h0]
    dsimp only
    rw [wide'B]
    exact  (blk_wu m c t r j)

theorem wd_value (r : Fin 176) (j : Fin 1024) : ((outsAt0 m c t.val t.isLt).2.2.2.1 : FVec Ideal S176x1024 .bf16) (ix2 r j) = argWd m c (ix3 2 (at_ 176 t r) j) := by
  by_cases h0 : t.val % 2 = 0
  · rw [outsAt0_A m c t h0]
    dsimp only
    rw [tallA]
    exact  (blk_wd m c t r j)
  · rw [outsAt0_B m c t h0]
    dsimp only
    rw [tallB]
    exact  (blk_wd m c t r j)

/-- The mixer's output at a point's row. -/
theorem mixer_result (r : Fin 1024) (j : Fin 1024) : ((dats m 0 c).arrAt 7 cfg0.N : FVec Ideal S16384x1024 .bf16) (ix2 (at_ 1024 t r) j) = conv m c (at_ 1024 t r) j := by
  have h := moving t
  have hr := congrFun (block7 m c t) (ix2 r j)
  rw [View.read_apply] at hr
  exact ((at2 ((dats m 0 c).arrAt 7 cfg0.N : FVec Ideal S16384x1024 .bf16) _ (at_ 1024 t r) j (by show win0_7.index t 0 * 1024 + 1 * r.1 = t.1 * 1024 + r.1; omega)
    (by show win0_7.index t 1 * 1024 + 1 * j.1 = j.1; omega)).symm.trans hr).trans (mixer_value m c t r j)

/-- A feed-forward weight's cast at a point's row. -/
theorem wg_result (r : Fin 64) (j : Fin 2816) : ((dats m 0 c).arrAt 8 cfg0.N : FVec Ideal S1024x2816 .bf16) (ix2 (at_ 64 t r) j) = argWg m c (ix3 2 (at_ 64 t r) j) := by
  have h := moving t
  have hr := congrFun (block8 m c t) (ix2 r j)
  rw [View.read_apply] at hr
  exact ((at2 ((dats m 0 c).arrAt 8 cfg0.N : FVec Ideal S1024x2816 .bf16) _ (at_ 64 t r) j (by show win0_8.index t 0 * 64 + 1 * r.1 = t.1 * 64 + r.1; omega)
    (by show win0_8.index t 1 * 2816 + 1 * j.1 = j.1; omega)).symm.trans hr).trans (wg_value m c t r j)

/-- A feed-forward weight's cast at a point's row. -/
theorem wu_result (r : Fin 64) (j : Fin 2816) : ((dats m 0 c).arrAt 9 cfg0.N : FVec Ideal S1024x2816 .bf16) (ix2 (at_ 64 t r) j) = argWu m c (ix3 2 (at_ 64 t r) j) := by
  have h := moving t
  have hr := congrFun (block9 m c t) (ix2 r j)
  rw [View.read_apply] at hr
  exact ((at2 ((dats m 0 c).arrAt 9 cfg0.N : FVec Ideal S1024x2816 .bf16) _ (at_ 64 t r) j (by show win0_9.index t 0 * 64 + 1 * r.1 = t.1 * 64 + r.1; omega)
    (by show win0_9.index t 1 * 2816 + 1 * j.1 = j.1; omega)).symm.trans hr).trans (wu_value m c t r j)

/-- A feed-forward weight's cast at a point's row. -/
theorem wd_result (r : Fin 176) (j : Fin 1024) : ((dats m 0 c).arrAt 10 cfg0.N : FVec Ideal S2816x1024 .bf16) (ix2 (at_ 176 t r) j) = argWd m c (ix3 2 (at_ 176 t r) j) := by
  have h := moving t
  have hr := congrFun (block10 m c t) (ix2 r j)
  rw [View.read_apply] at hr
  exact ((at2 ((dats m 0 c).arrAt 10 cfg0.N : FVec Ideal S2816x1024 .bf16) _ (at_ 176 t r) j (by show win0_10.index t 0 * 176 + 1 * r.1 = t.1 * 176 + r.1; omega)
    (by show win0_10.index t 1 * 1024 + 1 * j.1 = j.1; omega)).symm.trans hr).trans (wd_value m c t r j)

end Cert.Kernel4Ideal.Conv

end

end
-- ==== Proof.ConvRef.lean ====
/- The reference of the short convolution as a composition of named parts, read at an index. -/
module

public import proofs.«01_k».proof.Proof.Gen.Reference4Ideal.Run
public import proofs.«01_k».proof.Proof.FfnRef
public import proofs.«01_k».proof.Proof.ProjRead

@[expose] public section

set_option maxRecDepth 16384

noncomputable section

namespace Cert.Reference4Ideal.Sem

open Cert.Reference4Ideal Cert.Reference4Ideal.Gen Cert.Reference4Ideal.Value Cert.Proj
open Cert.Reference2Ideal.Sem (normed normed_apply tok A3)
open Idealize.ShloMosaic Idealize.ShloMosaic.TcCoe Idealize.ShloMosaic.StableHlo

/-- The reference's arguments. -/
abbrev argX (m : (ℓ : Loc nD τ sig) → Buf (Elt Ideal) ℓ) (c : Dev nD) : A3 := m ((c.tc : Thread nD τ).loc main_arg0)
abbrev argG (m : (ℓ : Loc nD τ sig) → Buf (Elt Ideal) ℓ) (c : Dev nD) : FVec Ideal S1024 .f32 := m ((c.tc : Thread nD τ).loc main_arg1)
abbrev argW (m : (ℓ : Loc nD τ sig) → Buf (Elt Ideal) ℓ) (c : Dev nD) : FVec Ideal S1024x3072 .f32 := m ((c.tc : Thread nD τ).loc main_arg2)
abbrev argC (m : (ℓ : Loc nD τ sig) → Buf (Elt Ideal) ℓ) (c : Dev nD) : FVec Ideal S3x1024 .f32 := m ((c.tc : Thread nD τ).loc main_arg3)
abbrev argWg (m : (ℓ : Loc nD τ sig) → Buf (Elt Ideal) ℓ) (c : Dev nD) : FVec Ideal S4x1024x2816 .f32 := m ((c.tc : Thread nD τ).loc main_arg4)
abbrev argWu (m : (ℓ : Loc nD τ sig) → Buf (Elt Ideal) ℓ) (c : Dev nD) : FVec Ideal S4x1024x2816 .f32 := m ((c.tc : Thread nD τ).loc main_arg5)
abbrev argWd (m : (ℓ : Loc nD τ sig) → Buf (Elt Ideal) ℓ) (c : Dev nD) : FVec Ideal S4x2816x1024 .f32 := m ((c.tc : Thread nD τ).loc main_arg6)

/-- The normed stream against the whole weight. -/
def proj (x : A3) (g : FVec Ideal S1024 .f32) (w : FVec Ideal S1024x3072 .f32) : FVec Ideal S8x2048x3072 .f32 :=
  Host.dotGeneral dot_S8x2048x1024_S1024x3072_S8x2048x3072_2_0_01_1_n_n none (normed x g) w
/-- The gated input of the convolution, with two tokens of zeros before it. -/
def padded (y : FVec Ideal S8x2048x3072 .f32) : FVec Ideal S8x2050x1024 .f32 :=
  pad S8x2050x1024 ![0, 2, 0] ![0, 0, 0] ![0, 0, 0] (mulf (extractStridedSlice S8x2048x1024 ![0, 0, 1024] y slices_S8x2048x3072_S8x2048x1024_0_0_1024)
    (extractStridedSlice S8x2048x1024 ![0, 0, 2048] y slices_S8x2048x3072_S8x2048x1024_0_0_2048)) (sitofp .f32 (constantI S_ 32 0#32)) pads_S8x2048x1024_S8x2050x1024_000_200_000 h_S_
/-- A tap, for every token. -/
def spread (t : FVec Ideal S1x1024 .f32) : A3 :=
  broadcastInDim S8x2048x1024 ![0, 1, 2] bcast_S1x1x1024_S8x2048x1024_0_1_2 (broadcastInDim S1x1x1024 ![2] bcast_S1024_S1x1x1024_2 (shapeCast S1024 t shapeCasts_S1x1024_S1024))
/-- The gated convolution. -/
def mixer (y : FVec Ideal S8x2048x3072 .f32) (t : FVec Ideal S3x1024 .f32) : FVec Ideal S16384x1024 .f32 :=
  shapeCast S16384x1024 (mulf (extractStridedSlice S8x2048x1024 ![0, 0, 0] y slices_S8x2048x3072_S8x2048x1024_0_0_0) (addf (addf
    (mulf (spread (extractStridedSlice S1x1024 ![0, 0] t slices_S3x1024_S1x1024_0_0)) (extractStridedSlice S8x2048x1024 ![0, 0, 0] (padded y) slices_S8x2050x1024_S8x2048x1024_0_0_0))
    (mulf (spread (extractStridedSlice S1x1024 ![1, 0] t slices_S3x1024_S1x1024_1_0)) (extractStridedSlice S8x2048x1024 ![0, 1, 0] (padded y) slices_S8x2050x1024_S8x2048x1024_0_1_0)))
    (mulf (spread (extractStridedSlice S1x1024 ![2, 0] t slices_S3x1024_S1x1024_2_0)) (extractStridedSlice S8x2048x1024 ![0, 2, 0] (padded y) slices_S8x2050x1024_S8x2048x1024_0_2_0))))
    shapeCasts_S8x2048x1024_S16384x1024
/-- The layer's feed-forward weights. -/
def wide (w : FVec Ideal S4x1024x2816 .f32) : FVec Ideal S1024x2816 .f32 :=
  shapeCast S1024x2816 (extractStridedSlice S1x1024x2816 ![2, 0, 0] w slices_S4x1024x2816_S1x1024x2816_2_0_0) shapeCasts_S1x1024x2816_S1024x2816
def tall (w : FVec Ideal S4x2816x1024 .f32) : FVec Ideal S2816x1024 .f32 :=
  shapeCast S2816x1024 (extractStridedSlice S1x2816x1024 ![2, 0, 0] w slices_S4x2816x1024_S1x2816x1024_2_0_0) shapeCasts_S1x2816x1024_S2816x1024

/-- The reference's first result is the composition. -/
theorem res_eq (m : (ℓ : Loc nD τ sig) → Buf (Elt Ideal) ℓ) (c : Dev nD) :
    (res_out0 m c : FVec Ideal S16384x1024 .bf16) = mixer (proj (argX m c) (argG m c) (argW m c)) (argC m c) := by
  unfold res_out0 res_main_v41
  rfl

theorem proj_apply (x : A3) (g : FVec Ideal S1024 .f32) (w : FVec Ideal S1024x3072 .f32) (b : Fin 8) (t : Fin 2048) (n : Fin 3072) :
    proj x g w (ix3 b t n) = col (tok x b t) (fun l => g (ix1 l)) (fun k => w (ix2 k n)) := by
  pointwise [proj]
  simp only [normed_apply]
  rfl

theorem wide_apply (w : FVec Ideal S4x1024x2816 .f32) (k : Fin 1024) (l : Fin 2816) : wide w (ix2 k l) = w (ix3 2 k l) := by
  pointwise [wide]

theorem tall_apply (w : FVec Ideal S4x2816x1024 .f32) (k : Fin 2816) (l : Fin 1024) : tall w (ix2 k l) = w (ix3 2 k l) := by
  pointwise [tall]

/-- The padded input holds zeros before the sequence. -/
theorem padded_zero (y : FVec Ideal S8x2048x3072 .f32) (b : Fin 8) (t : Fin 2050) (j : Fin 1024) (h : t.1 < 2) : padded y (ix3 b t j) = 0 := by
  pointwise [padded]
  rw [dif_neg (by omega)]
  exact sitofp_zero

/-- After them it holds the product of two of the projection's parts. -/
theorem padded_apply (y : FVec Ideal S8x2048x3072 .f32) (b : Fin 8) (t : Fin 2050) (j : Fin 1024) (h : 2 ≤ t.1) :
    padded y (ix3 b t j) = y (ix3 b ⟨t.1 - 2, by omega⟩ ⟨1024 + j.1, by omega⟩) * y (ix3 b ⟨t.1 - 2, by omega⟩ ⟨2048 + j.1, by omega⟩) := by
  pointwise [padded]
  rw [dif_pos (by omega)]

theorem mixer_apply (y : FVec Ideal S8x2048x3072 .f32) (t : FVec Ideal S3x1024 .f32) (b : Fin 8) (s : Fin 2048) (j : Fin 1024) :
    mixer y t (ix2 ⟨b.1 * 2048 + s.1, by omega⟩ j) = y (ix3 b s ⟨j.1, by omega⟩)
      * (t (ix2 0 j) * padded y (ix3 b ⟨s.1, by omega⟩ j) + t (ix2 1 j) * padded y (ix3 b ⟨1 + s.1, by omega⟩ j) + t (ix2 2 j) * padded y (ix3 b ⟨2 + s.1, by omega⟩ j)) := by
  pointwise [mixer, spread]

end Cert.Reference4Ideal.Sem

end

end
-- ==== Proof.ConvEqual.lean ====
/- The short convolution and its reference compute the same arrays. -/
module

public import proofs.«01_k».proof.Defs
public import proofs.«01_k».proof.Proof.ConvHost
public import proofs.«01_k».proof.Proof.ConvRef
public import proofs.«01_k».proof.Proof.ProjEqual

@[expose] public section

set_option maxRecDepth 16384

noncomputable section

namespace Cert.ConvEqual

open Idealize.ShloMosaic Idealize.ShloMosaic.TcCoe Idealize.ShloMosaic.StableHlo
open Cert.Kernel4Ideal Cert.Kernel4Ideal.Gen Cert.Kernel4Ideal.Conv Cert.FfnMath
open Cert.Proj (col pair point)
open Cert.ProjEqual (token)
open Cert.Reference4Ideal.Sem (proj proj_apply padded padded_zero padded_apply mixer mixer_apply wide tall wide_apply tall_apply)

variable (m : (ℓ : Loc nD τ sig) → Buf (Elt Ideal) ℓ) (c : Dev nD)

/-- The reference's product, of the kernel's arguments. -/
abbrev prod := proj (argX m c) (argG m c) (argW m c)

/-- The product at a token is the kernel's row against the column. -/
theorem prod_line (b : Fin 8) (s : Fin 2048) (p : Fin 3072) : prod m c (ix3 b s p) = line m c ⟨b.1 * 2048 + s.1, by omega⟩ p := by
  refine (proj_apply _ _ _ b s p).trans ?_
  unfold line
  simp only [rows_apply]

/-- The padded input, read `2 - d` places on, is the kernel's product `d` tokens back. -/
theorem padded_behind (b : Fin 8) (s : Fin 2048) (j : Fin 1024) (d : Nat) (hd : d ≤ 2) :
    padded (prod m c) (ix3 b ⟨2 - d + s.1, by omega⟩ j) = behind m c d ⟨b.1 * 2048 + s.1, by omega⟩ j := by
  have hs := s.isLt
  unfold behind
  by_cases h : s.1 < d
  · rw [if_pos (by show (b.1 * 2048 + s.1) % 2048 < d; omega)]
    exact padded_zero _ b _ j (by show 2 - d + s.1 < 2; omega)
  · rw [if_neg (by show ¬(b.1 * 2048 + s.1) % 2048 < d; omega)]
    refine (padded_apply _ b _ j (by show 2 ≤ 2 - d + s.1; omega)).trans ?_
    rw [prod_line, prod_line]
    unfold zed
    have e : b.1 * 2048 + (2 - d + s.1 - 2) = b.1 * 2048 + s.1 - d := by omega
    simp only [e]

/-- The product at the token itself. -/
theorem behind_none (R : Fin 16384) (j : Fin 1024) : behind m c 0 R j = zed m c R j := rfl

/-- The mixer's output is the reference's. -/
theorem mixer_array : mixer (prod m c) (argC m c) = ((dats m 0 c).arrAt 7 cfg0.N : FVec Ideal S16384x1024 .bf16) := by
  funext x
  obtain ⟨R, j, rfl⟩ := pair x
  refine Eq.trans (b := conv m c R j) ?_ ?_
  · obtain ⟨b, s, rfl⟩ := token R
    refine (mixer_apply _ _ b s j).trans ?_
    have h2 := padded_behind m c b s j 2 (by decide)
    have h1 := padded_behind m c b s j 1 (by decide)
    have h0 := (padded_behind m c b s j 0 (by decide)).trans (behind_none m c _ j)
    simp only [Nat.sub_self, Nat.zero_add, Nat.reduceSub] at h2 h1 h0
    rw [h2, h1, h0, prod_line]
    rfl
  · obtain ⟨t, r, rfl⟩ := point (N := 16) (B := 1024) (by omega) R
    exact (mixer_result m c t r j).symm

/-- The feed-forward weights' casts are the reference's. -/
theorem wg_array : wide (argWg m c) = ((dats m 0 c).arrAt 8 cfg0.N : FVec Ideal S1024x2816 .bf16) := by
  funext x
  obtain ⟨R, j, rfl⟩ := pair x
  obtain ⟨t, r, rfl⟩ := point (N := 16) (B := 64) (by omega) R
  exact (wide_apply _ _ j).trans (wg_result m c t r j).symm
theorem wu_array : wide (argWu m c) = ((dats m 0 c).arrAt 9 cfg0.N : FVec Ideal S1024x2816 .bf16) := by
  funext x
  obtain ⟨R, j, rfl⟩ := pair x
  obtain ⟨t, r, rfl⟩ := point (N := 16) (B := 64) (by omega) R
  exact (wide_apply _ _ j).trans (wu_result m c t r j).symm
theorem wd_array : tall (argWd m c) = ((dats m 0 c).arrAt 10 cfg0.N : FVec Ideal S2816x1024 .bf16) := by
  funext x
  obtain ⟨R, j, rfl⟩ := pair x
  obtain ⟨t, r, rfl⟩ := point (N := 16) (B := 176) (by omega) R
  exact (tall_apply _ _ j).trans (wd_result m c t r j).symm

open Cert.Reference4Ideal.Sem in
/-- The short convolution and its reference compute the same arrays from arguments that agree. -/
theorem algebraic4 : Cert.algebraic_Kernel4Ideal_Reference4Ideal := fun m g m' g' _ hag =>
  ⟨_, _, _, _, run_arrays m g,
   (θ_run _ _ _).mono (fun _ h c => by
      have h0 : Cert.Reference4Ideal.Sem.argX m' c = Cert.Kernel4Ideal.Conv.argX m c := (hag c).1
      have h1 : Cert.Reference4Ideal.Sem.argG m' c = Cert.Kernel4Ideal.Conv.argG m c := (hag c).2.1
      have h2 : Cert.Reference4Ideal.Sem.argW m' c = Cert.Kernel4Ideal.Conv.argW m c := (hag c).2.2.1
      have h3 : Cert.Reference4Ideal.Sem.argC m' c = Cert.Kernel4Ideal.Conv.argC m c := (hag c).2.2.2.1
      have h4 : Cert.Reference4Ideal.Sem.argWg m' c = Cert.Kernel4Ideal.Conv.argWg m c := (hag c).2.2.2.2.1
      have h5 : Cert.Reference4Ideal.Sem.argWu m' c = Cert.Kernel4Ideal.Conv.argWu m c := (hag c).2.2.2.2.2.1
      have h6 : Cert.Reference4Ideal.Sem.argWd m' c = Cert.Kernel4Ideal.Conv.argWd m c := (hag c).2.2.2.2.2.2
      obtain ⟨r0, r1, r2, r3, hk⟩ := h c
      refine ⟨(r0.trans (res_eq m' c)).trans ?_, (r1.trans (rfl : _ = wide (Cert.Reference4Ideal.Sem.argWg m' c))).trans ?_,
        (r2.trans (rfl : _ = wide (Cert.Reference4Ideal.Sem.argWu m' c))).trans ?_, (r3.trans (rfl : _ = tall (Cert.Reference4Ideal.Sem.argWd m' c))).trans ?_, hk⟩
      · rw [h0, h1, h2, h3]; exact mixer_array m c
      · rw [h4]; exact wg_array m c
      · rw [h5]; exact wu_array m c
      · rw [h6]; exact wd_array m c)
     (Cert.Reference4Ideal.Value.run m' g')⟩

end Cert.ConvEqual

end

end
-- ==== Proof.CmpBlock.lean ====
/- What a grid point of the compression kernel leaves in its block of the result. -/
module

public import proofs.«01_k».proof.Proof.ProjBlock
public import proofs.«01_k».proof.Proof.Gen.Kernel7Ideal.Frame
public import Idealize.ShloMosaic.Lib.Pipeline.Value
public import Idealize.ShloMosaic.Lib.Pipeline.ReadBack
public import Idealize.ShloMosaic.Lib.Pipeline.CanonAppend

@[expose] public section

set_option maxRecDepth 16384

noncomputable section

namespace Cert.Kernel7Ideal.Cmp

open Cert.Kernel7Ideal Cert.Kernel7Ideal.Gen Cert.FfnMath Cert.Proj
open Idealize.ShloMosaic Idealize.ShloMosaic.TcCoe Idealize.SL.Sem

/-- The approximate Gaussian unit, in the kernel's order. -/
def gelu (h : EReal) : EReal :=
  h * (Ideal.ofBits .f32 0x3F000000#32 * (1 + Ideal.tanh (Ideal.ofBits .f32 0x3F4C422A#32 * (h + Ideal.ofBits .f32 0x3D372713#32 * (h * (h * h))))))

/-- Every sixteenth row of a block, 128 of them from row `o` on. -/
def rowsFrom (X : FVec Ideal S8192x128 .f32) (o : Nat) (ho : o + 16 * 127 < 8192) : FVec Ideal S128x128 .f32 :=
  fun j => X (ix2 ⟨o + 16 * (j 0).1, by have h : (j 0).1 < 128 := (j 0).isLt; omega⟩ (j 1))

/-- Token `l` of the segments of one sequence. -/
abbrev rowAt (X : FVec Ideal S8192x128 .f32) (b : Fin 4) (l : Fin 16) : FVec Ideal S128x128 .f32 := rowsFrom X (2048 * b.1 + l.1) (by omega)

/-- Every sixteenth row from four rows on, one run after the other. -/
def tok4 {X : FVec Ideal S8192x128 .f32} {o0 o1 o2 o3 : Nat} {p0 : o0 + 16 * 127 < 8192} {p1 : o1 + 16 * 127 < 8192} {p2 : o2 + 16 * 127 < 8192} {p3 : o3 + 16 * 127 < 8192} : FVec Ideal S512x128 .f32 :=
  concatenate S512x128 0 [⟨S128x128, shapeCast S128x128 (rowsFrom X o0 p0) Facts₀.shapeCasts_S128x128_S128x128⟩,
    ⟨S128x128, shapeCast S128x128 (rowsFrom X o1 p1) Facts₀.shapeCasts_S128x128_S128x128⟩,
    ⟨S128x128, shapeCast S128x128 (rowsFrom X o2 p2) Facts₀.shapeCasts_S128x128_S128x128⟩,
    ⟨S128x128, shapeCast S128x128 (rowsFrom X o3 p3) Facts₀.shapeCasts_S128x128_S128x128⟩]
    Facts₀.concatenates_S128x128_S128x128_S128x128_S128x128_S512x128_d0

/-- Token `l` of every segment of the four sequences, one sequence after the other. -/
def tok (X : FVec Ideal S8192x128 .f32) (l : Fin 16) : FVec Ideal S512x128 .f32 :=
  @tok4 X (2048 * 0 + l.1) (2048 * 1 + l.1) (2048 * 2 + l.1) (2048 * 3 + l.1) (by omega) (by omega) (by omega) (by omega)

theorem hslice (e : Fin 2) : S512x128.Slices ![0, 64 * e.1] S512x64 := by
  match e with
  | 0 => exact Facts₀.slices_S512x128_o0_0_S512x64
  | 1 => exact Facts₀.slices_S512x128_o0_64_S512x64

/-- The sixteen tokens of every segment side by side, for the first or the second head of the block. -/
def seg (X : FVec Ideal S8192x128 .f32) (e : Fin 2) : FVec Ideal S512x1024 .f32 :=
  concatenate S512x1024 1 (List.ofFn fun l : Fin 16 => (⟨S512x64, extractStridedSlice S512x64 ![0, 64 * e.1] (tok X l) (hslice e)⟩ : (s : Shape) × (s.Idx → EReal)))
    Facts₀.concatenates_S512x64_S512x64_S512x64_S512x64_S512x64_S512x64_S512x64_S512x64_S512x64_S512x64_S512x64_S512x64_S512x64_S512x64_S512x64_S512x64_S512x1024_d1

/-- The hidden layer before its unit. -/
def lin (A : FVec Ideal S512x1024 .f32) (w1 : FVec Ideal S1024x512 .bf16) (p : FVec Ideal S1x256 .f32) : FVec Ideal S512x256 .f32 :=
  have y := matmul dot_S512x1024_S1024x512_S512x512_1_0_0_1_n_n none (truncf .bf16 A Facts₀.bitsLt_bf16_f32)
    (shapeCast S1024x512 w1 Facts₀.shapeCasts_S1024x512_S1024x512) (constant S512x512 .f32 0x00000000#32)
  addf (addf (extractStridedSlice S512x256 ![0, 0] y Facts₀.slices_S512x512_o0_0_S512x256)
      (dynamicRotate 0 511#32 none (extractStridedSlice S512x256 ![0, 256] y Facts₀.slices_S512x512_o0_256_S512x256) Facts₀.rotates_S512x256_d0))
    (broadcastTo S512x256 p Facts₀.broadcasts_S1x256_S512x256)

/-- The hidden layer's unit and the second map. -/
abbrev up (h : FVec Ideal S512x256 .f32) (w2 : FVec Ideal S256x64 .bf16) : FVec Ideal S512x64 .f32 :=
  k0_pay46 (F := Ideal) h (addf h (mulf (broadcast S512x256 (Scalar.ofBits .f32 0x3D372713#32)) (mulf h (mulf h h)))) (k0_pay45 (F := Ideal)) w2

/-- The rows of one sequence. -/
def cut (y : FVec Ideal S512x64 .f32) (o : Nat) (ho : S512x64.Slices ![o, 0] S128x64) : FVec Ideal S1x1x128x64 .bf16 :=
  shapeCast S1x1x128x64 (truncf .bf16 (extractStridedSlice S128x64 ![o, 0] y ho) Facts₀.bitsLt_bf16_f32) Facts₀.shapeCasts_S128x64_S1x1x128x64

theorem rows_eq (X : FVec Ideal S8192x128 .f32) {sp : Space} (a : Memref sig .tc sp S8192x128 .f32) (ha : a.IsWhole) (o : Nat)
    (inb : ∀ c : Fin 2, (![128, 128] : Fin 2 → Nat) c = 0 ∨ (![o, 0] : Fin 2 → Nat) c + (![16, 1] : Fin 2 → Nat) c * ((![128, 128] : Fin 2 → Nat) c - 1) < S8192x128.size c) :
    View.readAt (Elt Ideal) a.view ⟨![o, 0], ![128, 128], ![16, 1], inb⟩ (ha.unread X) = rowsFrom X o (by simpa using inb 0) := by
  funext j
  rw [View.readAt_apply, ha.read_unread]
  refine congrArg X (funext fun c => Fin.ext ?_)
  match c with
  | 0 => rfl
  | 1 => show 0 + 1 * (j 1).1 = (j 1).1; omega

theorem tok_apply (X : FVec Ideal S8192x128 .f32) (l : Fin 16) (b : Fin 4) (s : Fin 128) (d : Fin 128) :
    tok X l (ix2 ⟨128 * b.1 + s.1, by omega⟩ d) = X (ix2 ⟨2048 * b.1 + l.1 + 16 * s.1, by omega⟩ d) := by
  have key : ∀ b : Fin 4, tok X l (ix2 ⟨128 * b.1 + s.1, by omega⟩ d) = shapeCast S128x128 (rowAt X b l) Facts₀.shapeCasts_S128x128_S128x128 (ix2 s d) := by
    intro b
    unfold tok tok4
    refine concatenate_apply_piece (t := S512x128) 0 _ _ _ b.1 (by simp) S128x128 _ ?_ rfl (128 * b.1) ?_ (ix2 s d) ?_ rfl
    · match b with | 0 => rfl | 1 => rfl | 2 => rfl | 3 => rfl
    · match b with | 0 => rfl | 1 => rfl | 2 => rfl | 3 => rfl
    · intro c hc
      match c with
      | 0 => exact absurd rfl hc
      | 1 => rfl
  rw [key b]
  pointwise
  rfl

theorem seg_apply (X : FVec Ideal S8192x128 .f32) (e : Fin 2) (r : Fin 512) (k : Fin 1024) :
    seg X e (ix2 r k) = tok X ⟨k.1 / 64, by omega⟩ (ix2 r ⟨64 * e.1 + k.1 % 64, by omega⟩) := by
  unfold seg
  refine (concatenate_ofFn_apply (t := S512x1024) (s₁ := S512x64) 1 (fun l : Fin 16 => extractStridedSlice S512x64 ![0, 64 * e.1] (tok X l) (hslice e)) _ rfl 64 rfl (ix2 r k)
    ⟨k.1 / 64, by omega⟩ rfl (ix2 r ⟨k.1 % 64, by omega⟩) rfl ?_).trans ?_
  · intro c hc
    match c with
    | 0 => rfl
    | 1 => exact absurd rfl hc
  · pointwise

theorem lin_apply (A : FVec Ideal S512x1024 .f32) (w1 : FVec Ideal S1024x512 .bf16) (p : FVec Ideal S1x256 .f32) (r : Fin 512) (h : Fin 256) :
    lin A w1 p (ix2 r h) = (∑ k, A (ix2 r k) * w1 (ix2 k ⟨h.1, by omega⟩)) + (∑ k, A (ix2 ⟨(r.1 + 1) % 512, by omega⟩ k) * w1 (ix2 k ⟨256 + h.1, by omega⟩))
      + p (ix2 0 h) := by
  pointwise [lin]
  have h : (r.1 + 512 - 511) % 512 = (r.1 + 1) % 512 := by omega
  simp only [h]

theorem up_apply (H : FVec Ideal S512x256 .f32) (w2 : FVec Ideal S256x64 .bf16) (r : Fin 512) (d : Fin 64) :
    up H w2 (ix2 r d) = ∑ h, gelu (H (ix2 r h)) * w2 (ix2 h d) := by
  pointwise [k0_pay46, k0_pay45]
  rfl

theorem pos_apply (p : FVec Ideal S8x1024 .bf16) (w1 : FVec Ideal S1024x512 .bf16) (h : Fin 256) :
    k0_pay23 (F := Ideal) p w1 (ix2 0 h) = (∑ k, p (ix2 0 k) * w1 (ix2 k ⟨h.1, by omega⟩)) + ∑ k, p (ix2 1 k) * w1 (ix2 k ⟨256 + h.1, by omega⟩) := by
  pointwise [k0_pay23]

theorem cut_apply (y : FVec Ideal S512x64 .f32) (b : Fin 4) (ho : S512x64.Slices ![128 * b.1, 0] S128x64) (s : Fin 128) (d : Fin 64) :
    cut y (128 * b.1) ho (ix4 0 0 s d) = y (ix2 ⟨128 * b.1 + s.1, by omega⟩ d) := by
  pointwise [cut]

/-- A head's compressed rows of the four sequences of a block. -/
def slab (X : FVec Ideal S8192x128 .f32) (e : Fin 2) (w1 : FVec Ideal S1024x512 .bf16) (w2 : FVec Ideal S256x64 .bf16) (p : FVec Ideal S8x1024 .bf16) :
    FVec Ideal S512x64 .f32 :=
  up (lin (seg X e) w1 (k0_pay23 (F := Ideal) p w1)) w2

theorem hcut (b : Fin 4) : S512x64.Slices ![128 * b.1, 0] S128x64 := by
  match b with
  | 0 => exact Facts₀.slices_S512x64_o0_0_S128x64
  | 1 => exact Facts₀.slices_S512x64_o128_0_S128x64
  | 2 => exact Facts₀.slices_S512x64_o256_0_S128x64
  | 3 => exact Facts₀.slices_S512x64_o384_0_S128x64

/-- The rows of one sequence and one head are a piece of the block they agree with. -/
theorem piece (G : S4x4x128x128.Idx → EReal) (X : FVec Ideal S8192x128 .f32) (w1 : FVec Ideal S1024x512 .bf16) (w2 : FVec Ideal S256x64 .bf16)
    (p : FVec Ideal S8x1024 .bf16) (b g : Fin 4) (e : Fin 2) (o : Nat) (ho : o + 64 ≤ 128) (inb)
    (hG : ∀ (s : Fin 128) (d : Fin 64), G (ix4 b g s ⟨o + d.1, by omega⟩) = slab X e w1 w2 p (ix2 ⟨128 * b.1 + s.1, by omega⟩ d)) (x : S1x1x128x64.Idx) :
    cut (slab X e w1 w2 p) (128 * b.1) (hcut b) x = G ((Rect.unit (s := S4x4x128x128) ![b.1, g.1, 0, o] ![1, 1, 128, 64] inb).emb x) := by
  obtain ⟨s, d, rfl⟩ : ∃ (s : Fin 128) (d : Fin 64), x = ix4 0 0 s d := ⟨x 2, x 3, by
    funext c
    match c with
    | 0 => exact Fin.ext (by have h : (x 0).1 < 1 := (x 0).isLt; show (x 0).1 = 0; omega)
    | 1 => exact Fin.ext (by have h : (x 1).1 < 1 := (x 1).isLt; show (x 1).1 = 0; omega)
    | 2 => rfl
    | 3 => rfl⟩
  rw [cut_apply, ← hG]
  refine congrArg G (funext fun c => Fin.ext ?_)
  match c with
  | 0 => show b.1 = b.1 + 1 * 0; omega
  | 1 => show g.1 = g.1 + 1 * 0; omega
  | 2 => show s.1 = 0 + 1 * s.1; omega
  | 3 => show o + d.1 = o + 1 * d.1; omega

theorem fold_tok (X : FVec Ideal S8192x128 .f32) (o0 o1 o2 o3 : Nat) (p0 : o0 + 16 * 127 < 8192) (p1 : o1 + 16 * 127 < 8192) (p2 : o2 + 16 * 127 < 8192) (p3 : o3 + 16 * 127 < 8192) :
  concatenate (α := Ideal .f32) S512x128 0 [⟨S128x128, shapeCast (α := Ideal .f32) (s := S128x128) S128x128 (rowsFrom X o0 p0) Facts₀.shapeCasts_S128x128_S128x128⟩,
    ⟨S128x128, shapeCast (α := Ideal .f32) (s := S128x128) S128x128 (rowsFrom X o1 p1) Facts₀.shapeCasts_S128x128_S128x128⟩,
    ⟨S128x128, shapeCast (α := Ideal .f32) (s := S128x128) S128x128 (rowsFrom X o2 p2) Facts₀.shapeCasts_S128x128_S128x128⟩,
    ⟨S128x128, shapeCast (α := Ideal .f32) (s := S128x128) S128x128 (rowsFrom X o3 p3) Facts₀.shapeCasts_S128x128_S128x128⟩]
    Facts₀.concatenates_S128x128_S128x128_S128x128_S128x128_S512x128_d0 = @tok4 X o0 o1 o2 o3 p0 p1 p2 p3 := rfl

theorem fold_read (X : FVec Ideal S8192x128 .f32) {sp : Space} (a : Memref sig .tc sp S8192x128 .f32) (ha : a.IsWhole) (o0 o1 o2 o3 : Nat)
    (i0 : ∀ c : Fin 2, (![128, 128] : Fin 2 → Nat) c = 0 ∨ (![o0, 0] : Fin 2 → Nat) c + (![16, 1] : Fin 2 → Nat) c * ((![128, 128] : Fin 2 → Nat) c - 1) < S8192x128.size c) (i1 : ∀ c : Fin 2, (![128, 128] : Fin 2 → Nat) c = 0 ∨ (![o1, 0] : Fin 2 → Nat) c + (![16, 1] : Fin 2 → Nat) c * ((![128, 128] : Fin 2 → Nat) c - 1) < S8192x128.size c) (i2 : ∀ c : Fin 2, (![128, 128] : Fin 2 → Nat) c = 0 ∨ (![o2, 0] : Fin 2 → Nat) c + (![16, 1] : Fin 2 → Nat) c * ((![128, 128] : Fin 2 → Nat) c - 1) < S8192x128.size c) (i3 : ∀ c : Fin 2, (![128, 128] : Fin 2 → Nat) c = 0 ∨ (![o3, 0] : Fin 2 → Nat) c + (![16, 1] : Fin 2 → Nat) c * ((![128, 128] : Fin 2 → Nat) c - 1) < S8192x128.size c) :
    concatenate (α := Ideal .f32) S512x128 0 [⟨S128x128, shapeCast (α := Ideal .f32) (s := S128x128) S128x128 (View.readAt (Elt Ideal) a.view ⟨![o0, 0], ![128, 128], ![16, 1], i0⟩ (ha.unread X)) Facts₀.shapeCasts_S128x128_S128x128⟩,
    ⟨S128x128, shapeCast (α := Ideal .f32) (s := S128x128) S128x128 (View.readAt (Elt Ideal) a.view ⟨![o1, 0], ![128, 128], ![16, 1], i1⟩ (ha.unread X)) Facts₀.shapeCasts_S128x128_S128x128⟩,
    ⟨S128x128, shapeCast (α := Ideal .f32) (s := S128x128) S128x128 (View.readAt (Elt Ideal) a.view ⟨![o2, 0], ![128, 128], ![16, 1], i2⟩ (ha.unread X)) Facts₀.shapeCasts_S128x128_S128x128⟩,
    ⟨S128x128, shapeCast (α := Ideal .f32) (s := S128x128) S128x128 (View.readAt (Elt Ideal) a.view ⟨![o3, 0], ![128, 128], ![16, 1], i3⟩ (ha.unread X)) Facts₀.shapeCasts_S128x128_S128x128⟩]
    Facts₀.concatenates_S128x128_S128x128_S128x128_S128x128_S512x128_d0
      = @tok4 X o0 o1 o2 o3 (by simpa using i0 0) (by simpa using i1 0) (by simpa using i2 0) (by simpa using i3 0) := by
  rw [rows_eq X a ha o0 i0, rows_eq X a ha o1 i1, rows_eq X a ha o2 i2, rows_eq X a ha o3 i3]
  rfl

section Block

/-- The block of the result: keys in the first 64 columns, values in the last. -/
def whole (x0 : FVec Ideal S8192x128 .f32) (x1 : FVec Ideal S8192x128 .f32) (x2 : FVec Ideal S8192x128 .f32) (x3 : FVec Ideal S8192x128 .f32) (x4 : FVec Ideal S1024x512 .bf16) (x5 : FVec Ideal S256x64 .bf16) (x6 : FVec Ideal S8x1024 .bf16) (x7 : FVec Ideal S1024x512 .bf16) (x8 : FVec Ideal S256x64 .bf16) (x9 : FVec Ideal S8x1024 .bf16) (y : S4x4x128x128.Idx) : EReal :=
  if h : (y 3).1 < 64 then slab (if (y 1).1 < 2 then x0 else x1) ⟨(y 1).1 % 2, by omega⟩ x4 x5 x6
      (ix2 ⟨128 * (y 0).1 + (y 2).1, by have h : (y 0).1 < 4 := (y 0).isLt; have h' : (y 2).1 < 128 := (y 2).isLt; omega⟩ ⟨(y 3).1, h⟩)
  else slab (if (y 1).1 < 2 then x2 else x3) ⟨(y 1).1 % 2, by omega⟩ x7 x8 x9
      (ix2 ⟨128 * (y 0).1 + (y 2).1, by have h : (y 0).1 < 4 := (y 0).isLt; have h' : (y 2).1 < 128 := (y 2).isLt; omega⟩ ⟨(y 3).1 - 64, by have h' : (y 3).1 < 128 := (y 3).isLt; omega⟩)

theorem whole_k (x0 : FVec Ideal S8192x128 .f32) (x1 : FVec Ideal S8192x128 .f32) (x2 : FVec Ideal S8192x128 .f32) (x3 : FVec Ideal S8192x128 .f32) (x4 : FVec Ideal S1024x512 .bf16) (x5 : FVec Ideal S256x64 .bf16) (x6 : FVec Ideal S8x1024 .bf16) (x7 : FVec Ideal S1024x512 .bf16) (x8 : FVec Ideal S256x64 .bf16) (x9 : FVec Ideal S8x1024 .bf16) (b g : Fin 4) (e : Fin 2) (X : FVec Ideal S8192x128 .f32) (hX : (if g.1 < 2 then x0 else x1) = X) (he : (⟨g.1 % 2, by omega⟩ : Fin 2) = e)
    (s : Fin 128) (d : Fin 64) :
    whole x0 x1 x2 x3 x4 x5 x6 x7 x8 x9 (ix4 b g s ⟨0 + d.1, by omega⟩) = slab X e x4 x5 x6 (ix2 ⟨128 * b.1 + s.1, by omega⟩ d) := by
  subst hX he
  refine (dif_pos (show 0 + d.1 < 64 by omega)).trans (congrArg (slab _ _ x4 x5 x6) (congrArg (ix2 _) (Fin.ext ?_)))
  show 0 + d.1 = d.1
  omega

theorem whole_v (x0 : FVec Ideal S8192x128 .f32) (x1 : FVec Ideal S8192x128 .f32) (x2 : FVec Ideal S8192x128 .f32) (x3 : FVec Ideal S8192x128 .f32) (x4 : FVec Ideal S1024x512 .bf16) (x5 : FVec Ideal S256x64 .bf16) (x6 : FVec Ideal S8x1024 .bf16) (x7 : FVec Ideal S1024x512 .bf16) (x8 : FVec Ideal S256x64 .bf16) (x9 : FVec Ideal S8x1024 .bf16) (b g : Fin 4) (e : Fin 2) (X : FVec Ideal S8192x128 .f32) (hX : (if g.1 < 2 then x2 else x3) = X) (he : (⟨g.1 % 2, by omega⟩ : Fin 2) = e)
    (s : Fin 128) (d : Fin 64) :
    whole x0 x1 x2 x3 x4 x5 x6 x7 x8 x9 (ix4 b g s ⟨64 + d.1, by omega⟩) = slab X e x7 x8 x9 (ix2 ⟨128 * b.1 + s.1, by omega⟩ d) := by
  subst hX he
  refine (dif_neg (show ¬ 64 + d.1 < 64 by omega)).trans (congrArg (slab _ _ x7 x8 x9) (congrArg (ix2 _) (Fin.ext ?_)))
  show 64 + d.1 - 64 = d.1
  omega

set_option maxHeartbeats 1000000 in
/-- What the grid point leaves in its block. -/
theorem outA (c : Dev nD) (i : grid0.Coords)
  (a0 : Memref sig .tc .vmem S8192x128 .f32) (h0 : a0.IsWhole)
  (a1 : Memref sig .tc .vmem S8192x128 .f32) (h1 : a1.IsWhole)
  (a2 : Memref sig .tc .vmem S8192x128 .f32) (h2 : a2.IsWhole)
  (a3 : Memref sig .tc .vmem S8192x128 .f32) (h3 : a3.IsWhole)
  (a4 : Memref sig .tc .vmem S1024x512 .bf16) (h4 : a4.IsWhole)
  (a5 : Memref sig .tc .vmem S256x64 .bf16) (h5 : a5.IsWhole)
  (a6 : Memref sig .tc .vmem S8x1024 .bf16) (h6 : a6.IsWhole)
  (a7 : Memref sig .tc .vmem S1024x512 .bf16) (h7 : a7.IsWhole)
  (a8 : Memref sig .tc .vmem S256x64 .bf16) (h8 : a8.IsWhole)
  (a9 : Memref sig .tc .vmem S8x1024 .bf16) (h9 : a9.IsWhole)
  (a10 : Memref sig .tc .vmem S4x4x128x128 .bf16) (h10 : a10.IsWhole)
    (x0 : FVec Ideal S8192x128 .f32) (x1 : FVec Ideal S8192x128 .f32) (x2 : FVec Ideal S8192x128 .f32) (x3 : FVec Ideal S8192x128 .f32) (x4 : FVec Ideal S1024x512 .bf16) (x5 : FVec Ideal S256x64 .bf16) (x6 : FVec Ideal S8x1024 .bf16) (x7 : FVec Ideal S1024x512 .bf16) (x8 : FVec Ideal S256x64 .bf16) (x9 : FVec Ideal S8x1024 .bf16) (y : S4x4x128x128.Idx) :
    out0_A_10 (F := Ideal) c i a0 h0 a1 h1 a2 h2 a3 h3 a4 h4 a5 h5 a6 h6 a7 h7 a8 h8 a9 h9 a10 h10 x0 x1 x2 x3 x4 x5 x6 x7 x8 x9 y = whole x0 x1 x2 x3 x4 x5 x6 x7 x8 x9 y := by
  unfold out0_A_10
  rw [View.read_writes_junk_eq_canon]
  refine View.canon_apply_of_pieces (Val := Elt Ideal) (e := .bf16) (whole x0 x1 x2 x3 x4 x5 x6 x7 x8 x9) _ ?_ _
    (cover0_A_10 (y := y) ..)
  unfold kernelRun0_A
  dsimp only
  sl_unfold_words
  simp only [rows_eq, fold_tok, fold_read, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, View.readAt_eq_ld, h4.read_unread, h5.read_unread, h6.read_unread, h7.read_unread, h8.read_unread, h9.read_unread, View.ld_unit_zero (S := S1024x512) hz2, View.ld_unit_zero (S := S256x64) hz2,
    View.ld_unit_zero (S := S8x1024) hz2]
  intro pc hpc
  simp only [List.mem_cons, List.not_mem_nil, or_false] at hpc
  rcases hpc with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact fun x => piece (whole x0 x1 x2 x3 x4 x5 x6 x7 x8 x9) x3 x7 x8 x9 3 3 1 64 (by decide) (by decide) (fun _ _ => whole_v x0 x1 x2 x3 x4 x5 x6 x7 x8 x9 3 3 1 x3 rfl rfl ..) x
  · exact fun x => piece (whole x0 x1 x2 x3 x4 x5 x6 x7 x8 x9) x3 x7 x8 x9 2 3 1 64 (by decide) (by decide) (fun _ _ => whole_v x0 x1 x2 x3 x4 x5 x6 x7 x8 x9 2 3 1 x3 rfl rfl ..) x
  · exact fun x => piece (whole x0 x1 x2 x3 x4 x5 x6 x7 x8 x9) x3 x7 x8 x9 1 3 1 64 (by decide) (by decide) (fun _ _ => whole_v x0 x1 x2 x3 x4 x5 x6 x7 x8 x9 1 3 1 x3 rfl rfl ..) x
  · exact fun x => piece (whole x0 x1 x2 x3 x4 x5 x6 x7 x8 x9) x3 x7 x8 x9 0 3 1 64 (by decide) (by decide) (fun _ _ => whole_v x0 x1 x2 x3 x4 x5 x6 x7 x8 x9 0 3 1 x3 rfl rfl ..) x
  · exact fun x => piece (whole x0 x1 x2 x3 x4 x5 x6 x7 x8 x9) x3 x7 x8 x9 3 2 0 64 (by decide) (by decide) (fun _ _ => whole_v x0 x1 x2 x3 x4 x5 x6 x7 x8 x9 3 2 0 x3 rfl rfl ..) x
  · exact fun x => piece (whole x0 x1 x2 x3 x4 x5 x6 x7 x8 x9) x3 x7 x8 x9 2 2 0 64 (by decide) (by decide) (fun _ _ => whole_v x0 x1 x2 x3 x4 x5 x6 x7 x8 x9 2 2 0 x3 rfl rfl ..) x
  · exact fun x => piece (whole x0 x1 x2 x3 x4 x5 x6 x7 x8 x9) x3 x7 x8 x9 1 2 0 64 (by decide) (by decide) (fun _ _ => whole_v x0 x1 x2 x3 x4 x5 x6 x7 x8 x9 1 2 0 x3 rfl rfl ..) x
  · exact fun x => piece (whole x0 x1 x2 x3 x4 x5 x6 x7 x8 x9) x3 x7 x8 x9 0 2 0 64 (by decide) (by decide) (fun _ _ => whole_v x0 x1 x2 x3 x4 x5 x6 x7 x8 x9 0 2 0 x3 rfl rfl ..) x
  · exact fun x => piece (whole x0 x1 x2 x3 x4 x5 x6 x7 x8 x9) x2 x7 x8 x9 3 1 1 64 (by decide) (by decide) (fun _ _ => whole_v x0 x1 x2 x3 x4 x5 x6 x7 x8 x9 3 1 1 x2 rfl rfl ..) x
  · exact fun x => piece (whole x0 x1 x2 x3 x4 x5 x6 x7 x8 x9) x2 x7 x8 x9 2 1 1 64 (by decide) (by decide) (fun _ _ => whole_v x0 x1 x2 x3 x4 x5 x6 x7 x8 x9 2 1 1 x2 rfl rfl ..) x
  · exact fun x => piece (whole x0 x1 x2 x3 x4 x5 x6 x7 x8 x9) x2 x7 x8 x9 1 1 1 64 (by decide) (by decide) (fun _ _ => whole_v x0 x1 x2 x3 x4 x5 x6 x7 x8 x9 1 1 1 x2 rfl rfl ..) x
  · exact fun x => piece (whole x0 x1 x2 x3 x4 x5 x6 x7 x8 x9) x2 x7 x8 x9 0 1 1 64 (by decide) (by decide) (fun _ _ => whole_v x0 x1 x2 x3 x4 x5 x6 x7 x8 x9 0 1 1 x2 rfl rfl ..) x
  · exact fun x => piece (whole x0 x1 x2 x3 x4 x5 x6 x7 x8 x9) x2 x7 x8 x9 3 0 0 64 (by decide) (by decide) (fun _ _ => whole_v x0 x1 x2 x3 x4 x5 x6 x7 x8 x9 3 0 0 x2 rfl rfl ..) x
  · exact fun x => piece (whole x0 x1 x2 x3 x4 x5 x6 x7 x8 x9) x2 x7 x8 x9 2 0 0 64 (by decide) (by decide) (fun _ _ => whole_v x0 x1 x2 x3 x4 x5 x6 x7 x8 x9 2 0 0 x2 rfl rfl ..) x
  · exact fun x => piece (whole x0 x1 x2 x3 x4 x5 x6 x7 x8 x9) x2 x7 x8 x9 1 0 0 64 (by decide) (by decide) (fun _ _ => whole_v x0 x1 x2 x3 x4 x5 x6 x7 x8 x9 1 0 0 x2 rfl rfl ..) x
  · exact fun x => piece (whole x0 x1 x2 x3 x4 x5 x6 x7 x8 x9) x2 x7 x8 x9 0 0 0 64 (by decide) (by decide) (fun _ _ => whole_v x0 x1 x2 x3 x4 x5 x6 x7 x8 x9 0 0 0 x2 rfl rfl ..) x
  · exact fun x => piece (whole x0 x1 x2 x3 x4 x5 x6 x7 x8 x9) x1 x4 x5 x6 3 3 1 0 (by decide) (by decide) (fun _ _ => whole_k x0 x1 x2 x3 x4 x5 x6 x7 x8 x9 3 3 1 x1 rfl rfl ..) x
  · exact fun x => piece (whole x0 x1 x2 x3 x4 x5 x6 x7 x8 x9) x1 x4 x5 x6 2 3 1 0 (by decide) (by decide) (fun _ _ => whole_k x0 x1 x2 x3 x4 x5 x6 x7 x8 x9 2 3 1 x1 rfl rfl ..) x
  · exact fun x => piece (whole x0 x1 x2 x3 x4 x5 x6 x7 x8 x9) x1 x4 x5 x6 1 3 1 0 (by decide) (by decide) (fun _ _ => whole_k x0 x1 x2 x3 x4 x5 x6 x7 x8 x9 1 3 1 x1 rfl rfl ..) x
  · exact fun x => piece (whole x0 x1 x2 x3 x4 x5 x6 x7 x8 x9) x1 x4 x5 x6 0 3 1 0 (by decide) (by decide) (fun _ _ => whole_k x0 x1 x2 x3 x4 x5 x6 x7 x8 x9 0 3 1 x1 rfl rfl ..) x
  · exact fun x => piece (whole x0 x1 x2 x3 x4 x5 x6 x7 x8 x9) x1 x4 x5 x6 3 2 0 0 (by decide) (by decide) (fun _ _ => whole_k x0 x1 x2 x3 x4 x5 x6 x7 x8 x9 3 2 0 x1 rfl rfl ..) x
  · exact fun x => piece (whole x0 x1 x2 x3 x4 x5 x6 x7 x8 x9) x1 x4 x5 x6 2 2 0 0 (by decide) (by decide) (fun _ _ => whole_k x0 x1 x2 x3 x4 x5 x6 x7 x8 x9 2 2 0 x1 rfl rfl ..) x
  · exact fun x => piece (whole x0 x1 x2 x3 x4 x5 x6 x7 x8 x9) x1 x4 x5 x6 1 2 0 0 (by decide) (by decide) (fun _ _ => whole_k x0 x1 x2 x3 x4 x5 x6 x7 x8 x9 1 2 0 x1 rfl rfl ..) x
  · exact fun x => piece (whole x0 x1 x2 x3 x4 x5 x6 x7 x8 x9) x1 x4 x5 x6 0 2 0 0 (by decide) (by decide) (fun _ _ => whole_k x0 x1 x2 x3 x4 x5 x6 x7 x8 x9 0 2 0 x1 rfl rfl ..) x
  · exact fun x => piece (whole x0 x1 x2 x3 x4 x5 x6 x7 x8 x9) x0 x4 x5 x6 3 1 1 0 (by decide) (by decide) (fun _ _ => whole_k x0 x1 x2 x3 x4 x5 x6 x7 x8 x9 3 1 1 x0 rfl rfl ..) x
  · exact fun x => piece (whole x0 x1 x2 x3 x4 x5 x6 x7 x8 x9) x0 x4 x5 x6 2 1 1 0 (by decide) (by decide) (fun _ _ => whole_k x0 x1 x2 x3 x4 x5 x6 x7 x8 x9 2 1 1 x0 rfl rfl ..) x
  · exact fun x => piece (whole x0 x1 x2 x3 x4 x5 x6 x7 x8 x9) x0 x4 x5 x6 1 1 1 0 (by decide) (by decide) (fun _ _ => whole_k x0 x1 x2 x3 x4 x5 x6 x7 x8 x9 1 1 1 x0 rfl rfl ..) x
  · exact fun x => piece (whole x0 x1 x2 x3 x4 x5 x6 x7 x8 x9) x0 x4 x5 x6 0 1 1 0 (by decide) (by decide) (fun _ _ => whole_k x0 x1 x2 x3 x4 x5 x6 x7 x8 x9 0 1 1 x0 rfl rfl ..) x
  · exact fun x => piece (whole x0 x1 x2 x3 x4 x5 x6 x7 x8 x9) x0 x4 x5 x6 3 0 0 0 (by decide) (by decide) (fun _ _ => whole_k x0 x1 x2 x3 x4 x5 x6 x7 x8 x9 3 0 0 x0 rfl rfl ..) x
  · exact fun x => piece (whole x0 x1 x2 x3 x4 x5 x6 x7 x8 x9) x0 x4 x5 x6 2 0 0 0 (by decide) (by decide) (fun _ _ => whole_k x0 x1 x2 x3 x4 x5 x6 x7 x8 x9 2 0 0 x0 rfl rfl ..) x
  · exact fun x => piece (whole x0 x1 x2 x3 x4 x5 x6 x7 x8 x9) x0 x4 x5 x6 1 0 0 0 (by decide) (by decide) (fun _ _ => whole_k x0 x1 x2 x3 x4 x5 x6 x7 x8 x9 1 0 0 x0 rfl rfl ..) x
  · exact fun x => piece (whole x0 x1 x2 x3 x4 x5 x6 x7 x8 x9) x0 x4 x5 x6 0 0 0 0 (by decide) (by decide) (fun _ _ => whole_k x0 x1 x2 x3 x4 x5 x6 x7 x8 x9 0 0 0 x0 rfl rfl ..) x

end Block

end Cert.Kernel7Ideal.Cmp

end

end
-- ==== Proof.CmpHost.lean ====
/- What the launch of the NSA compression reads, and its result at an index. -/
module

public import proofs.«01_k».proof.Proof.CmpBlock
public import proofs.«01_k».proof.Proof.ProjRead

@[expose] public section

set_option maxRecDepth 16384

noncomputable section

namespace Cert.Kernel7Ideal.Cmp

open Cert.Kernel7Ideal Cert.Kernel7Ideal.Gen Cert.FfnMath Cert.Proj
open Idealize.ShloMosaic Idealize.ShloMosaic.TcCoe Idealize.ShloMosaic.StableHlo
open Idealize.SL.Sem

variable (m : (ℓ : Loc nD τ sig) → Buf (Elt Ideal) ℓ) (ρ : Dev nD → PrngReg) (c : Dev nD)

/-- The kernel's arguments. -/
abbrev argK : FVec Ideal S8x2048x256 .f32 := m ((c.tc : Thread nD τ).loc main_arg0)
abbrev argV : FVec Ideal S8x2048x256 .f32 := m ((c.tc : Thread nD τ).loc main_arg1)
abbrev argPk : FVec Ideal S32x64 .f32 := m ((c.tc : Thread nD τ).loc main_arg2)
abbrev argPv : FVec Ideal S32x64 .f32 := m ((c.tc : Thread nD τ).loc main_arg3)
abbrev argK1 : FVec Ideal S2048x256 .f32 := m ((c.tc : Thread nD τ).loc main_arg4)
abbrev argK2 : FVec Ideal S256x64 .f32 := m ((c.tc : Thread nD τ).loc main_arg5)
abbrev argV1 : FVec Ideal S2048x256 .f32 := m ((c.tc : Thread nD τ).loc main_arg6)
abbrev argV2 : FVec Ideal S256x64 .f32 := m ((c.tc : Thread nD τ).loc main_arg7)

/-- Keys and values side by side, the rows of all batches. -/
def joined (k v : FVec Ideal S8x2048x256 .f32) : FVec Ideal S16384x512 .f32 :=
  shapeCast S16384x512 (concatenate S8x2048x512 2 [⟨S8x2048x256, k⟩, ⟨S8x2048x256, v⟩] concatenates_S8x2048x256_S8x2048x256_S8x2048x512_d2) shapeCasts_S8x2048x512_S16384x512
/-- A first weight, its two halves side by side. -/
def halves (w : FVec Ideal S2048x256 .f32) : FVec Ideal S1024x512 .f32 :=
  concatenate S1024x512 1 [⟨S1024x256, extractStridedSlice S1024x256 ![0, 0] w slices_S2048x256_S1024x256_0_0⟩, ⟨S1024x256, extractStridedSlice S1024x256 ![1024, 0] w slices_S2048x256_S1024x256_1024_0⟩]
    concatenates_S1024x256_S1024x256_S1024x512_d1
/-- The positions as two rows, widened to eight. -/
def places (p : FVec Ideal S32x64 .f32) : FVec Ideal S8x1024 .f32 :=
  pad S8x1024 ![0, 0] ![6, 0] ![0, 0] (shapeCast S2x1024 p shapeCasts_S32x64_S2x1024) (sitofp .f32 (constantI S_ 32 0#32)) pads_S2x1024_S8x1024_060_000 h_S_

set_option maxHeartbeats 4000000 in
theorem V_x : (V m c main_v1 : FVec Ideal S16384x512 .f32) = joined (argK m c) (argV m c) := by
  unfold V V0 hostOps0 hostOps0_1 hostOps0_2 hostOps0_3 hostOps0_4
  after_results_simp <;> rfl
set_option maxHeartbeats 4000000 in
theorem V_k1 : (V m c main_v5 : FVec Ideal S1024x512 .bf16) = halves (argK1 m c) := by
  unfold V V0 hostOps0 hostOps0_1 hostOps0_2 hostOps0_3 hostOps0_4
  after_results_simp <;> rfl
set_option maxHeartbeats 4000000 in
theorem V_k2 : (V m c main_v6 : FVec Ideal S256x64 .bf16) = argK2 m c := by
  unfold V V0 hostOps0 hostOps0_1 hostOps0_2 hostOps0_3 hostOps0_4
  after_results_simp <;> rfl
set_option maxHeartbeats 4000000 in
theorem V_pk : (V m c main_v9 : FVec Ideal S8x1024 .bf16) = places (argPk m c) := by
  unfold V V0 hostOps0 hostOps0_1 hostOps0_2 hostOps0_3 hostOps0_4
  after_results_simp <;> rfl
set_option maxHeartbeats 4000000 in
theorem V_v1 : (V m c main_v13 : FVec Ideal S1024x512 .bf16) = halves (argV1 m c) := by
  unfold V V0 hostOps0 hostOps0_1 hostOps0_2 hostOps0_3 hostOps0_4
  after_results_simp <;> rfl
set_option maxHeartbeats 4000000 in
theorem V_v2 : (V m c main_v14 : FVec Ideal S256x64 .bf16) = argV2 m c := by
  unfold V V0 hostOps0 hostOps0_1 hostOps0_2 hostOps0_3 hostOps0_4
  after_results_simp <;> rfl
set_option maxHeartbeats 4000000 in
theorem V_pv : (V m c main_v17 : FVec Ideal S8x1024 .bf16) = places (argPv m c) := by
  unfold V V0 hostOps0 hostOps0_1 hostOps0_2 hostOps0_3 hostOps0_4
  after_results_simp <;> rfl

/-- Where each moving window stands at a grid point. -/
theorem moving : ∀ t : Fin cfg0.N, (win0_0.index t 0 = t.1 ∧ win0_0.index t 1 = 0) ∧ (win0_1.index t 0 = t.1 ∧ win0_1.index t 1 = 1) ∧ (win0_2.index t 0 = t.1 ∧ win0_2.index t 1 = 2) ∧ (win0_3.index t 0 = t.1 ∧ win0_3.index t 1 = 3) ∧ (win0_10.index t 0 = t.1 ∧ win0_10.index t 1 = 0 ∧ win0_10.index t 2 = 0 ∧ win0_10.index t 3 = 0) :=
  (by decide +kernel : ∀ t : Fin grid0.N, (win0_0.index t 0 = t.1 ∧ win0_0.index t 1 = 0) ∧ (win0_1.index t 0 = t.1 ∧ win0_1.index t 1 = 1) ∧ (win0_2.index t 0 = t.1 ∧ win0_2.index t 1 = 2) ∧ (win0_3.index t 0 = t.1 ∧ win0_3.index t 1 = 3) ∧ (win0_10.index t 0 = t.1 ∧ win0_10.index t 1 = 0 ∧ win0_10.index t 2 = 0 ∧ win0_10.index t 3 = 0))

/-- A point's block of the result holds what the point left there. -/
theorem block10 (t : Fin cfg0.N) : ((cfg0.win 10).blk t).view.read (Elt Ideal) ((dats m 0 c).arrAt 10 cfg0.N) = (cfg0.win 10).cut (grid0.coords t) (outsAt0 m c t) := by
  refine ((dats m 0 c).read_blk_arrAt_eq_flushed 10 (fun t t' _ _ hne => (cfg0.win 10).disjoint_blk fun h => hne ?_) cfg0.N t t.isLt (flush0_10 t)).trans ?_
  · have h0 := congrFun h 0
    have a := moving t
    have b := moving t'
    have h1 : win0_10.index t 0 = win0_10.index t' 0 := h0
    exact Fin.ext (by omega)
  · show (cfg0.win 10).cut _ ((dats m 0 c).after 10 t) = _
    rw [after0_10]

/-- The kernel's result: its array without the row that no block of tokens fills. -/
def result : FVec Ideal S8x4x127x128 .bf16 :=
  extractStridedSlice S8x4x127x128 ![0, 0, 0, 0] ((dats m 0 c).arrAt 10 cfg0.N : FVec Ideal S8x4x128x128 .bf16) slices_S8x4x128x128_S8x4x127x128_0_0_0_0

theorem tail_value : (Pipeline.afterTail₀ cfgs (dats m) 0 (V0 m) [hostOps1] c main_v19 : FVec Ideal S8x4x127x128 .bf16) = result m c := by
  unfold Pipeline.afterTail₀
  rw [List.flatten_cons, List.flatten_nil, List.append_nil]
  unfold hostOps1
  after_results_simp
  unfold result
  have e := Pipeline.withArrays_arr_shared spec0 c (V0 m c) (fun w => (dats m 0 c).arrAt w cfg0.N)
    ((dats m 0 c).arrAt_sharedIn sharedIn0 (V0 m c) (A_eq m c) cfg0.N) 10
  exact congrArg (fun z : FVec Ideal S8x4x128x128 .bf16 => extractStridedSlice S8x4x127x128 ![0, 0, 0, 0] z slices_S8x4x128x128_S8x4x127x128_0_0_0_0) e

/-- The run leaves the result, and the arguments as they were. -/
theorem run_result : θ_run defs (onTc (τ := τ) (main (F := Ideal))) ⟨m, fun _ => 0, ρ⟩ fun r => ∀ c : Dev nD,
    r.2.mem ((c : Thread nD τ).loc main_v19) = result m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7) := by
  refine (θ_run defs _ _).mono (fun r h c => ⟨?_, h.2 c⟩) (θ_run_and (run_main m ρ) (unchanged m ρ))
  exact ((h.1 c).2 main_v19 (Pipeline.mem_restRefs_of main_v19 (by decide) (by decide))).trans (tail_value m c)

theorem joined_k (k v : FVec Ideal S8x2048x256 .f32) (b : Fin 8) (s : Fin 2048) (j : Fin 256) : joined k v (ix2 ⟨b.1 * 2048 + s.1, by omega⟩ ⟨j.1, by omega⟩) = k (ix3 b s j) := by
  pointwise [joined]
theorem joined_v (k v : FVec Ideal S8x2048x256 .f32) (b : Fin 8) (s : Fin 2048) (j : Fin 256) : joined k v (ix2 ⟨b.1 * 2048 + s.1, by omega⟩ ⟨256 + j.1, by omega⟩) = v (ix3 b s j) := by
  pointwise [joined]
theorem halves_lo (w : FVec Ideal S2048x256 .f32) (k : Fin 1024) (n : Fin 256) : halves w (ix2 k ⟨n.1, by omega⟩) = w (ix2 ⟨k.1, by omega⟩ n) := by
  pointwise [halves]
theorem halves_hi (w : FVec Ideal S2048x256 .f32) (k : Fin 1024) (n : Fin 256) : halves w (ix2 k ⟨256 + n.1, by omega⟩) = w (ix2 ⟨1024 + k.1, by omega⟩ n) := by
  pointwise [halves]
theorem places_lo (p : FVec Ideal S32x64 .f32) (k : Fin 1024) : places p (ix2 0 k) = p (ix2 ⟨k.1 / 64, by omega⟩ ⟨k.1 % 64, by omega⟩) := by
  pointwise [places]
theorem places_hi (p : FVec Ideal S32x64 .f32) (k : Fin 1024) : places p (ix2 1 k) = p (ix2 ⟨16 + k.1 / 64, by omega⟩ ⟨k.1 % 64, by omega⟩) := by
  pointwise [places]

variable (t : Fin 2)

theorem blk_x0 (r : Fin 8192) (l : Fin 128) : (iblk m c 0 t : FVec Ideal S8192x128 .f32) (ix2 r l) = joined (argK m c) (argV m c) (ix2 (at_ 8192 t r) ⟨0 + l.1, by omega⟩) := by
  have h := moving t
  rw [← V_x]
  unfold iblk
  rw [View.read_apply]
  exact at2 (V m c main_v1) _ (at_ 8192 t r) ⟨0 + l.1, by omega⟩ (by show win0_0.index t 0 * 8192 + 1 * r.1 = t.1 * 8192 + r.1; omega) (by show win0_0.index t 1 * 128 + 1 * l.1 = 0 + l.1; omega)
theorem blk_x1 (r : Fin 8192) (l : Fin 128) : (iblk m c 1 t : FVec Ideal S8192x128 .f32) (ix2 r l) = joined (argK m c) (argV m c) (ix2 (at_ 8192 t r) ⟨128 + l.1, by omega⟩) := by
  have h := moving t
  rw [← V_x]
  unfold iblk
  rw [View.read_apply]
  exact at2 (V m c main_v1) _ (at_ 8192 t r) ⟨128 + l.1, by omega⟩ (by show win0_1.index t 0 * 8192 + 1 * r.1 = t.1 * 8192 + r.1; omega) (by show win0_1.index t 1 * 128 + 1 * l.1 = 128 + l.1; omega)
theorem blk_x2 (r : Fin 8192) (l : Fin 128) : (iblk m c 2 t : FVec Ideal S8192x128 .f32) (ix2 r l) = joined (argK m c) (argV m c) (ix2 (at_ 8192 t r) ⟨256 + l.1, by omega⟩) := by
  have h := moving t
  rw [← V_x]
  unfold iblk
  rw [View.read_apply]
  exact at2 (V m c main_v1) _ (at_ 8192 t r) ⟨256 + l.1, by omega⟩ (by show win0_2.index t 0 * 8192 + 1 * r.1 = t.1 * 8192 + r.1; omega) (by show win0_2.index t 1 * 128 + 1 * l.1 = 256 + l.1; omega)
theorem blk_x3 (r : Fin 8192) (l : Fin 128) : (iblk m c 3 t : FVec Ideal S8192x128 .f32) (ix2 r l) = joined (argK m c) (argV m c) (ix2 (at_ 8192 t r) ⟨384 + l.1, by omega⟩) := by
  have h := moving t
  rw [← V_x]
  unfold iblk
  rw [View.read_apply]
  exact at2 (V m c main_v1) _ (at_ 8192 t r) ⟨384 + l.1, by omega⟩ (by show win0_3.index t 0 * 8192 + 1 * r.1 = t.1 * 8192 + r.1; omega) (by show win0_3.index t 1 * 128 + 1 * l.1 = 384 + l.1; omega)
theorem blk_k1 : (iblk m c 4 t : FVec Ideal S1024x512 .bf16) = halves (argK1 m c) := by
  funext z
  obtain ⟨k, l, rfl⟩ := pair z
  rw [← V_k1]
  unfold iblk
  rw [View.read_apply]
  exact at2 (V m c main_v5) _ k l (by show 0 * 1024 + 1 * k.1 = k.1; omega) (by show 0 * 512 + 1 * l.1 = l.1; omega)
theorem blk_k2 : (iblk m c 5 t : FVec Ideal S256x64 .bf16) = argK2 m c := by
  funext z
  obtain ⟨k, l, rfl⟩ := pair z
  rw [← V_k2]
  unfold iblk
  rw [View.read_apply]
  exact at2 (V m c main_v6) _ k l (by show 0 * 256 + 1 * k.1 = k.1; omega) (by show 0 * 64 + 1 * l.1 = l.1; omega)
theorem blk_pk : (iblk m c 6 t : FVec Ideal S8x1024 .bf16) = places (argPk m c) := by
  funext z
  obtain ⟨k, l, rfl⟩ := pair z
  rw [← V_pk]
  unfold iblk
  rw [View.read_apply]
  exact at2 (V m c main_v9) _ k l (by show 0 * 8 + 1 * k.1 = k.1; omega) (by show 0 * 1024 + 1 * l.1 = l.1; omega)
theorem blk_v1 : (iblk m c 7 t : FVec Ideal S1024x512 .bf16) = halves (argV1 m c) := by
  funext z
  obtain ⟨k, l, rfl⟩ := pair z
  rw [← V_v1]
  unfold iblk
  rw [View.read_apply]
  exact at2 (V m c main_v13) _ k l (by show 0 * 1024 + 1 * k.1 = k.1; omega) (by show 0 * 512 + 1 * l.1 = l.1; omega)
theorem blk_v2 : (iblk m c 8 t : FVec Ideal S256x64 .bf16) = argV2 m c := by
  funext z
  obtain ⟨k, l, rfl⟩ := pair z
  rw [← V_v2]
  unfold iblk
  rw [View.read_apply]
  exact at2 (V m c main_v14) _ k l (by show 0 * 256 + 1 * k.1 = k.1; omega) (by show 0 * 64 + 1 * l.1 = l.1; omega)
theorem blk_pv : (iblk m c 9 t : FVec Ideal S8x1024 .bf16) = places (argPv m c) := by
  funext z
  obtain ⟨k, l, rfl⟩ := pair z
  rw [← V_pv]
  unfold iblk
  rw [View.read_apply]
  exact at2 (V m c main_v17) _ k l (by show 0 * 8 + 1 * k.1 = k.1; omega) (by show 0 * 1024 + 1 * l.1 = l.1; omega)

/-- The hidden layer before its unit, as the kernel sums it: a segment, the segment after it, and the positions of both. -/
def hid (x : FVec Ideal S8x2048x256 .f32) (p : FVec Ideal S32x64 .f32) (w : FVec Ideal S2048x256 .f32) (b : Fin 8) (s : Fin 127) (g : Fin 4) (n : Fin 256) : EReal :=
  (∑ k : Fin 1024, x (ix3 b ⟨16 * s.1 + k.1 / 64, by omega⟩ ⟨64 * g.1 + k.1 % 64, by omega⟩) * w (ix2 ⟨k.1, by omega⟩ n))
    + (∑ k : Fin 1024, x (ix3 b ⟨16 * (s.1 + 1) + k.1 / 64, by omega⟩ ⟨64 * g.1 + k.1 % 64, by omega⟩) * w (ix2 ⟨1024 + k.1, by omega⟩ n))
    + ((∑ k : Fin 1024, p (ix2 ⟨k.1 / 64, by omega⟩ ⟨k.1 % 64, by omega⟩) * w (ix2 ⟨k.1, by omega⟩ n))
      + ∑ k : Fin 1024, p (ix2 ⟨16 + k.1 / 64, by omega⟩ ⟨k.1 % 64, by omega⟩) * w (ix2 ⟨1024 + k.1, by omega⟩ n))

/-- A head's rows, of a block that holds the head's columns. -/
theorem slab_apply (X : FVec Ideal S8192x128 .f32) (e : Fin 2) (x : FVec Ideal S8x2048x256 .f32) (p : FVec Ideal S32x64 .f32) (w : FVec Ideal S2048x256 .f32) (w' : FVec Ideal S256x64 .f32)
    (g : Fin 4) (b : Fin 4) (s : Fin 127) (d : Fin 64)
    (hX : ∀ (q : Fin 2048) (j : Fin 64), X (ix2 ⟨2048 * b.1 + q.1, by omega⟩ ⟨64 * e.1 + j.1, by omega⟩) = x (ix3 (at_ 4 t b) q ⟨64 * g.1 + j.1, by omega⟩)) :
    slab X e (halves w) w' (places p) (ix2 ⟨128 * b.1 + s.1, by omega⟩ d) = ∑ n, gelu (hid x p w (at_ 4 t b) s g n) * w' (ix2 n d) := by
  have hs := s.isLt
  have hb := b.isLt
  have row : ∀ (u : Fin 128) (k : Fin 1024) (hq : 16 * u.1 + k.1 / 64 < 2048), seg X e (ix2 ⟨128 * b.1 + u.1, by omega⟩ k)
      = x (ix3 (at_ 4 t b) ⟨16 * u.1 + k.1 / 64, hq⟩ ⟨64 * g.1 + k.1 % 64, by omega⟩) := fun u k hq => by
    rw [seg_apply, tok_apply]
    refine Eq.trans ?_ (hX ⟨16 * u.1 + k.1 / 64, hq⟩ ⟨k.1 % 64, by omega⟩)
    exact congrArg X (congrArg (ix2 · _) (Fin.ext (by show 2048 * b.1 + k.1 / 64 + 16 * u.1 = 2048 * b.1 + (16 * u.1 + k.1 / 64); omega)))
  unfold slab
  rw [up_apply]
  refine Finset.sum_congr rfl fun n _ => congrArg (gelu · * w' (ix2 n d)) ?_
  rw [lin_apply, pos_apply]
  unfold hid
  have next : (⟨(128 * b.1 + s.1 + 1) % 512, by omega⟩ : Fin 512) = ⟨128 * b.1 + (s.1 + 1), by omega⟩ := Fin.ext (Nat.mod_eq_of_lt (by omega))
  simp only [next]
  refine congrArg₂ (· + ·) (congrArg₂ (· + ·) ?_ ?_) (congrArg₂ (· + ·) ?_ ?_)
  · exact Finset.sum_congr rfl fun k _ => congrArg₂ (· * ·) (row ⟨s.1, by omega⟩ k (by show 16 * s.1 + _ < _; omega)) (halves_lo w k n)
  · exact Finset.sum_congr rfl fun k _ => congrArg₂ (· * ·) (row ⟨s.1 + 1, by omega⟩ k (by show 16 * (s.1 + 1) + _ < _; omega)) (halves_hi w k n)
  · exact Finset.sum_congr rfl fun k _ => congrArg₂ (· * ·) (places_lo p k) (halves_lo w k n)
  · exact Finset.sum_congr rfl fun k _ => congrArg₂ (· * ·) (places_hi p k) (halves_hi w k n)

theorem result_at (b : Fin 4) (g : Fin 4) (s : Fin 127) (d : Fin 128) :
    result m c (ix4 (at_ 4 t b) g s d) = (outsAt0 m c t : FVec Ideal S4x4x128x128 .bf16) (ix4 b g ⟨s.1, by omega⟩ d) := by
  have h := moving t
  have hr := congrFun (block10 m c t) (ix4 b g ⟨s.1, by omega⟩ d)
  rw [View.read_apply] at hr
  refine Eq.trans ?_ hr
  unfold result
  refine congrArg ((dats m 0 c).arrAt 10 cfg0.N : FVec Ideal S8x4x128x128 .bf16) (funext fun y => Fin.ext ?_)
  match y with
  | 0 => show 0 + (t.1 * 4 + b.1) = win0_10.index t 0 * 4 + 1 * b.1; omega
  | 1 => show 0 + g.1 = win0_10.index t 1 * 4 + 1 * g.1; omega
  | 2 => show 0 + s.1 = win0_10.index t 2 * 128 + 1 * s.1; omega
  | 3 => show 0 + d.1 = win0_10.index t 3 * 128 + 1 * d.1; omega

/-- The result's keys. -/
theorem result_k (b : Fin 4) (g : Fin 4) (s : Fin 127) (d : Fin 64) :
    result m c (ix4 (at_ 4 t b) g s ⟨0 + d.1, by omega⟩) = ∑ n, gelu (hid (argK m c) (argPk m c) (argK1 m c) (at_ 4 t b) s g n) * argK2 m c (ix2 n d) := by
  rw [result_at]
  unfold outsAt0
  rw [outA, blk_k1, blk_k2, blk_pk, blk_v1, blk_v2, blk_pv]
  have hb := b.isLt
  have ht := t.isLt
  match g with
  | 0 =>
    refine (whole_k _ _ _ _ _ _ _ _ _ _ b 0 0 _ rfl rfl ⟨s.1, by omega⟩ d).trans (slab_apply t _ 0 _ _ _ _ 0 b s d fun q j => ?_)
    refine (blk_x0 m c t _ _).trans ?_
    refine Eq.trans ?_ (joined_k (argK m c) (argV m c) (at_ 4 t b) q ⟨64 * 0 + j.1, by omega⟩)
    refine congrArg (joined _ _) (congrArg₂ ix2 (Fin.ext ?_) (Fin.ext ?_))
    · show t.1 * 8192 + (2048 * b.1 + q.1) = (t.1 * 4 + b.1) * 2048 + q.1; omega
    · show 0 + (64 * 0 + j.1) = (64 * 0 + j.1); omega
  | 1 =>
    refine (whole_k _ _ _ _ _ _ _ _ _ _ b 1 1 _ rfl rfl ⟨s.1, by omega⟩ d).trans (slab_apply t _ 1 _ _ _ _ 1 b s d fun q j => ?_)
    refine (blk_x0 m c t _ _).trans ?_
    refine Eq.trans ?_ (joined_k (argK m c) (argV m c) (at_ 4 t b) q ⟨64 * 1 + j.1, by omega⟩)
    refine congrArg (joined _ _) (congrArg₂ ix2 (Fin.ext ?_) (Fin.ext ?_))
    · show t.1 * 8192 + (2048 * b.1 + q.1) = (t.1 * 4 + b.1) * 2048 + q.1; omega
    · show 0 + (64 * 1 + j.1) = (64 * 1 + j.1); omega
  | 2 =>
    refine (whole_k _ _ _ _ _ _ _ _ _ _ b 2 0 _ rfl rfl ⟨s.1, by omega⟩ d).trans (slab_apply t _ 0 _ _ _ _ 2 b s d fun q j => ?_)
    refine (blk_x1 m c t _ _).trans ?_
    refine Eq.trans ?_ (joined_k (argK m c) (argV m c) (at_ 4 t b) q ⟨64 * 2 + j.1, by omega⟩)
    refine congrArg (joined _ _) (congrArg₂ ix2 (Fin.ext ?_) (Fin.ext ?_))
    · show t.1 * 8192 + (2048 * b.1 + q.1) = (t.1 * 4 + b.1) * 2048 + q.1; omega
    · show 128 + (64 * 0 + j.1) = (64 * 2 + j.1); omega
  | 3 =>
    refine (whole_k _ _ _ _ _ _ _ _ _ _ b 3 1 _ rfl rfl ⟨s.1, by omega⟩ d).trans (slab_apply t _ 1 _ _ _ _ 3 b s d fun q j => ?_)
    refine (blk_x1 m c t _ _).trans ?_
    refine Eq.trans ?_ (joined_k (argK m c) (argV m c) (at_ 4 t b) q ⟨64 * 3 + j.1, by omega⟩)
    refine congrArg (joined _ _) (congrArg₂ ix2 (Fin.ext ?_) (Fin.ext ?_))
    · show t.1 * 8192 + (2048 * b.1 + q.1) = (t.1 * 4 + b.1) * 2048 + q.1; omega
    · show 128 + (64 * 1 + j.1) = (64 * 3 + j.1); omega

/-- The result's values. -/
theorem result_v (b : Fin 4) (g : Fin 4) (s : Fin 127) (d : Fin 64) :
    result m c (ix4 (at_ 4 t b) g s ⟨64 + d.1, by omega⟩) = ∑ n, gelu (hid (argV m c) (argPv m c) (argV1 m c) (at_ 4 t b) s g n) * argV2 m c (ix2 n d) := by
  rw [result_at]
  unfold outsAt0
  rw [outA, blk_k1, blk_k2, blk_pk, blk_v1, blk_v2, blk_pv]
  have hb := b.isLt
  have ht := t.isLt
  match g with
  | 0 =>
    refine (whole_v _ _ _ _ _ _ _ _ _ _ b 0 0 _ rfl rfl ⟨s.1, by omega⟩ d).trans (slab_apply t _ 0 _ _ _ _ 0 b s d fun q j => ?_)
    refine (blk_x2 m c t _ _).trans ?_
    refine Eq.trans ?_ (joined_v (argK m c) (argV m c) (at_ 4 t b) q ⟨64 * 0 + j.1, by omega⟩)
    refine congrArg (joined _ _) (congrArg₂ ix2 (Fin.ext ?_) (Fin.ext ?_))
    · show t.1 * 8192 + (2048 * b.1 + q.1) = (t.1 * 4 + b.1) * 2048 + q.1; omega
    · show 256 + (64 * 0 + j.1) = 256 + (64 * 0 + j.1); omega
  | 1 =>
    refine (whole_v _ _ _ _ _ _ _ _ _ _ b 1 1 _ rfl rfl ⟨s.1, by omega⟩ d).trans (slab_apply t _ 1 _ _ _ _ 1 b s d fun q j => ?_)
    refine (blk_x2 m c t _ _).trans ?_
    refine Eq.trans ?_ (joined_v (argK m c) (argV m c) (at_ 4 t b) q ⟨64 * 1 + j.1, by omega⟩)
    refine congrArg (joined _ _) (congrArg₂ ix2 (Fin.ext ?_) (Fin.ext ?_))
    · show t.1 * 8192 + (2048 * b.1 + q.1) = (t.1 * 4 + b.1) * 2048 + q.1; omega
    · show 256 + (64 * 1 + j.1) = 256 + (64 * 1 + j.1); omega
  | 2 =>
    refine (whole_v _ _ _ _ _ _ _ _ _ _ b 2 0 _ rfl rfl ⟨s.1, by omega⟩ d).trans (slab_apply t _ 0 _ _ _ _ 2 b s d fun q j => ?_)
    refine (blk_x3 m c t _ _).trans ?_
    refine Eq.trans ?_ (joined_v (argK m c) (argV m c) (at_ 4 t b) q ⟨64 * 2 + j.1, by omega⟩)
    refine congrArg (joined _ _) (congrArg₂ ix2 (Fin.ext ?_) (Fin.ext ?_))
    · show t.1 * 8192 + (2048 * b.1 + q.1) = (t.1 * 4 + b.1) * 2048 + q.1; omega
    · show 384 + (64 * 0 + j.1) = 256 + (64 * 2 + j.1); omega
  | 3 =>
    refine (whole_v _ _ _ _ _ _ _ _ _ _ b 3 1 _ rfl rfl ⟨s.1, by omega⟩ d).trans (slab_apply t _ 1 _ _ _ _ 3 b s d fun q j => ?_)
    refine (blk_x3 m c t _ _).trans ?_
    refine Eq.trans ?_ (joined_v (argK m c) (argV m c) (at_ 4 t b) q ⟨64 * 3 + j.1, by omega⟩)
    refine congrArg (joined _ _) (congrArg₂ ix2 (Fin.ext ?_) (Fin.ext ?_))
    · show t.1 * 8192 + (2048 * b.1 + q.1) = (t.1 * 4 + b.1) * 2048 + q.1; omega
    · show 384 + (64 * 1 + j.1) = 256 + (64 * 3 + j.1); omega

end Cert.Kernel7Ideal.Cmp

end

end
-- ==== Proof.CmpRef.lean ====
/- The reference of the NSA compression as a composition of named parts, read at an index. -/
module

public import proofs.«01_k».proof.Proof.Gen.Reference7Ideal.Run
public import proofs.«01_k».proof.Proof.ProjRead
public import Idealize.ShloMosaic.Lib.StableHlo.Predicate

@[expose] public section

set_option maxRecDepth 16384

noncomputable section

namespace Cert.Reference7Ideal.Sem

open Cert.Reference7Ideal Cert.Reference7Ideal.Gen Cert.Reference7Ideal.Value Cert.Proj
open Idealize.ShloMosaic Idealize.ShloMosaic.TcCoe Idealize.ShloMosaic.StableHlo

/-- The reference's arguments. -/
abbrev argK (m : (ℓ : Loc nD τ sig) → Buf (Elt Ideal) ℓ) (c : Dev nD) : FVec Ideal S8x2048x256 .f32 := m ((c.tc : Thread nD τ).loc main_arg0)
abbrev argV (m : (ℓ : Loc nD τ sig) → Buf (Elt Ideal) ℓ) (c : Dev nD) : FVec Ideal S8x2048x256 .f32 := m ((c.tc : Thread nD τ).loc main_arg1)
abbrev argPk (m : (ℓ : Loc nD τ sig) → Buf (Elt Ideal) ℓ) (c : Dev nD) : FVec Ideal S32x64 .f32 := m ((c.tc : Thread nD τ).loc main_arg2)
abbrev argPv (m : (ℓ : Loc nD τ sig) → Buf (Elt Ideal) ℓ) (c : Dev nD) : FVec Ideal S32x64 .f32 := m ((c.tc : Thread nD τ).loc main_arg3)
abbrev argK1 (m : (ℓ : Loc nD τ sig) → Buf (Elt Ideal) ℓ) (c : Dev nD) : FVec Ideal S2048x256 .f32 := m ((c.tc : Thread nD τ).loc main_arg4)
abbrev argK2 (m : (ℓ : Loc nD τ sig) → Buf (Elt Ideal) ℓ) (c : Dev nD) : FVec Ideal S256x64 .f32 := m ((c.tc : Thread nD τ).loc main_arg5)
abbrev argV1 (m : (ℓ : Loc nD τ sig) → Buf (Elt Ideal) ℓ) (c : Dev nD) : FVec Ideal S2048x256 .f32 := m ((c.tc : Thread nD τ).loc main_arg6)
abbrev argV2 (m : (ℓ : Loc nD τ sig) → Buf (Elt Ideal) ℓ) (c : Dev nD) : FVec Ideal S256x64 .f32 := m ((c.tc : Thread nD τ).loc main_arg7)

/-- The token a block reads, before a negative one would be wrapped. -/
def rawTok : IVec S127x32 32 :=
  addi (broadcastInDim S127x32 ![0, 1] bcast_S127x1_S127x32_0_1 (muli (broadcastInDim S127x1 ![0] bcast_S127_S127x1_0 (iotaInDim S127 32 0)) (broadcastInDim S127x1 ![] bcast_S_S127x1 (constantI S_ 32 16#32))))
    (broadcastInDim S127x32 ![0, 1] bcast_S1x32_S127x32_0_1 (broadcastInDim S1x32 ![1] bcast_S32_S1x32_1 (iotaInDim S32 32 0)))
/-- The token that a place of a block reads. -/
def tokAt : IVec S127x32x1 32 :=
  broadcastInDim S127x32x1 ![0, 1] bcast_S127x32_S127x32x1_0_1 (select (cmpi .slt rawTok (broadcastInDim S127x32 ![] bcast_S_S127x32 (constantI S_ 32 0#32)))
    (addi rawTok (broadcastInDim S127x32 ![] bcast_S_S127x32 (constantI S_ 32 2048#32))) rawTok)
/-- The blocks of tokens, of every head. -/
def blocks (x : FVec Ideal S8x2048x4x64 .f32) : FVec Ideal S8x127x32x4x64 .f32 :=
  Host.gather gather_S8x2048x4x64_S127x32x1_S8x127x32x4x64_034_1_n_n_1_2_81464 x tokAt
/-- The blocks with their positions, each block of a head in a row. -/
def rowsOf (x : FVec Ideal S8x2048x256 .f32) (p : FVec Ideal S32x64 .f32) : FVec Ideal S8x127x4x2048 .f32 :=
  shapeCast S8x127x4x2048 (transpose S8x127x4x32x64 [0, 1, 3, 2, 4] (addf (blocks (shapeCast S8x2048x4x64 x shapeCasts_S8x2048x256_S8x2048x4x64))
    (broadcastInDim S8x127x32x4x64 ![0, 1, 2, 3, 4] bcast_S1x1x32x1x64_S8x127x32x4x64_0_1_2_3_4 (broadcastInDim S1x1x32x1x64 ![2, 4] bcast_S32x64_S1x1x32x1x64_2_4 p)))
    transposes_S8x127x32x4x64_S8x127x4x32x64_0_1_3_2_4) shapeCasts_S8x127x4x32x64_S8x127x4x2048
/-- The hidden layer before its activation. -/
def hidden (x : FVec Ideal S8x2048x256 .f32) (p : FVec Ideal S32x64 .f32) (w : FVec Ideal S2048x256 .f32) : FVec Ideal S8x127x4x256 .f32 :=
  Host.dotGeneral dot_S8x127x4x2048_S2048x256_S8x127x4x256_3_0_012_1_n_n none (rowsOf x p) w
/-- A number for every entry of the hidden layer. -/
abbrev every (b : BitVec 32) : FVec Ideal S8x127x4x256 .f32 := broadcastInDim S8x127x4x256 ![] bcast_S_S8x127x4x256 (constant S_ .f32 b)
/-- The activation. -/
def act (h : FVec Ideal S8x127x4x256 .f32) : FVec Ideal S8x127x4x256 .f32 :=
  mulf h (mulf (every 0x3F000000#32) (addf (every 0x3F800000#32) (Host.tanh (mulf (every 0x3F4C422A#32) (addf h (mulf (every 0x3D372713#32) (mulf (mulf h h) h)))))))
/-- The compressed blocks. -/
def mlp (x : FVec Ideal S8x2048x256 .f32) (p : FVec Ideal S32x64 .f32) (w : FVec Ideal S2048x256 .f32) (w' : FVec Ideal S256x64 .f32) : FVec Ideal S8x127x4x64 .f32 :=
  Host.dotGeneral dot_S8x127x4x256_S256x64_S8x127x4x64_3_0_012_1_n_n none (act (hidden x p w)) w'
/-- Keys and values side by side, head by head. -/
def both (k v : FVec Ideal S8x127x4x64 .f32) : FVec Ideal S8x4x127x128 .f32 :=
  transpose S8x4x127x128 [0, 2, 1, 3] (concatenate S8x127x4x128 3 [⟨S8x127x4x64, k⟩, ⟨S8x127x4x64, v⟩] concatenates_S8x127x4x64_S8x127x4x64_S8x127x4x128_d3) transposes_S8x127x4x128_S8x4x127x128_0_2_1_3

set_option maxHeartbeats 4000000 in
/-- The reference's result is the composition. -/
theorem res_eq (m : (ℓ : Loc nD τ sig) → Buf (Elt Ideal) ℓ) (c : Dev nD) :
    (res_out0 m c : FVec Ideal S8x4x127x128 .bf16) = both (mlp (argK m c) (argPk m c) (argK1 m c) (argK2 m c)) (mlp (argV m c) (argPv m c) (argV1 m c) (argV2 m c)) := by
  unfold res_out0 res_main_v76
  rfl

theorem rawTok_apply (s : Fin 127) (l : Fin 32) : rawTok (ix2 s l) = BitVec.ofNat 32 (16 * s.1 + l.1) := by
  pointwise [rawTok]
  revert s l
  decide +kernel

theorem tokAt_apply (s : Fin 127) (l : Fin 32) : tokAt (ix3 s l 0) = BitVec.ofNat 32 (16 * s.1 + l.1) := by
  pointwise [tokAt]
  simp only [rawTok_apply]
  revert s l
  decide +kernel

theorem both_k (k v : FVec Ideal S8x127x4x64 .f32) (b : Fin 8) (g : Fin 4) (s : Fin 127) (d : Fin 64) :
    both k v (ix4 b g s ⟨d.1, by omega⟩) = k (ix4 b s g d) := by
  pointwise [both]
  done

theorem both_v (k v : FVec Ideal S8x127x4x64 .f32) (b : Fin 8) (g : Fin 4) (s : Fin 127) (d : Fin 64) :
    both k v (ix4 b g s ⟨64 + d.1, by omega⟩) = v (ix4 b s g d) := by
  pointwise [both]
  done

/-- The activation of a number. -/
def gelu (h : EReal) : EReal :=
  h * (Ideal.ofBits .f32 0x3F000000#32 * (1 + Ideal.tanh (Ideal.ofBits .f32 0x3F4C422A#32 * (h + Ideal.ofBits .f32 0x3D372713#32 * (h * h * h)))))

theorem act_apply (h : FVec Ideal S8x127x4x256 .f32) (b : Fin 8) (s : Fin 127) (g : Fin 4) (n : Fin 256) :
    act h (ix4 b s g n) = gelu (h (ix4 b s g n)) := by
  pointwise [act]
  rfl

theorem mlp_apply (x : FVec Ideal S8x2048x256 .f32) (p : FVec Ideal S32x64 .f32) (w : FVec Ideal S2048x256 .f32) (w' : FVec Ideal S256x64 .f32)
    (b : Fin 8) (s : Fin 127) (g : Fin 4) (d : Fin 64) :
    mlp x p w w' (ix4 b s g d) = ∑ n : Fin 256, gelu (hidden x p w (ix4 b s g n)) * w' (ix2 n d) := by
  pointwise [mlp]
  simp only [act_apply]

theorem hidden_apply (x : FVec Ideal S8x2048x256 .f32) (p : FVec Ideal S32x64 .f32) (w : FVec Ideal S2048x256 .f32)
    (b : Fin 8) (s : Fin 127) (g : Fin 4) (n : Fin 256) :
    hidden x p w (ix4 b s g n) = ∑ k : Fin 2048, rowsOf x p (ix4 b s g k) * w (ix2 k n) := by
  pointwise [hidden]
  done

theorem blocks_apply (x : FVec Ideal S8x2048x4x64 .f32) (b : Fin 8) (s : Fin 127) (l : Fin 32) (g : Fin 4) (d : Fin 64) :
    blocks x (ix5 b s l g d) = x (ix4 b ⟨16 * s.1 + l.1, by omega⟩ g d) := by
  unfold blocks Host.gather
  refine congrArg x (funext fun a => Fin.ext ?_)
  have hs := s.isLt
  have hl := l.isLt
  match a with
  | ⟨0, _⟩ => exact (show 0 + 0 + b.1 = b.1 by omega)
  | ⟨1, _⟩ =>
    have e : GatherDims.siIdx gather_S8x2048x4x64_S127x32x1_S8x127x32x4x64_034_1_n_n_1_2_81464 (ix5 b s l g d) ⟨0, by decide⟩ = ix3 s l 0 := by
      funext y
      apply Fin.ext
      match y with
      | ⟨0, _⟩ => rfl
      | ⟨1, _⟩ => rfl
      | ⟨2, _⟩ => rfl
    show min (tokAt (GatherDims.siIdx gather_S8x2048x4x64_S127x32x1_S8x127x32x4x64_034_1_n_n_1_2_81464 (ix5 b s l g d) ⟨0, by decide⟩)).toInt.toNat (2048 - 1) + 0 + 0 = 16 * s.1 + l.1
    rw [e, tokAt_apply, Idealize.ShloMosaic.StableHlo.Predicate.toInt_ofNat_small _ (by omega)]
    omega
  | ⟨2, _⟩ => exact (show 0 + 0 + g.1 = g.1 by omega)
  | ⟨3, _⟩ => exact (show 0 + 0 + d.1 = d.1 by omega)

theorem rowsOf_apply (x : FVec Ideal S8x2048x256 .f32) (p : FVec Ideal S32x64 .f32) (b : Fin 8) (s : Fin 127) (g : Fin 4) (k : Fin 2048) :
    rowsOf x p (ix4 b s g k) = x (ix3 b ⟨16 * s.1 + k.1 / 64, by omega⟩ ⟨64 * g.1 + k.1 % 64, by omega⟩) + p (ix2 ⟨k.1 / 64, by omega⟩ ⟨k.1 % 64, by omega⟩) := by
  pointwise [rowsOf]
  rw [blocks_apply]
  pointwise []
  simp only [Nat.mul_comm g.1 64]

end Cert.Reference7Ideal.Sem

end

end
-- ==== Proof.CmpEqual.lean ====
/- The NSA compression and its reference compute the same array. -/
module

public import proofs.«01_k».proof.Defs
public import proofs.«01_k».proof.Proof.CmpHost
public import proofs.«01_k».proof.Proof.CmpRef
public import proofs.«01_k».proof.Proof.Equal

@[expose] public section

set_option maxRecDepth 16384

noncomputable section

namespace Cert.CmpEqual

open Idealize.ShloMosaic Idealize.ShloMosaic.TcCoe Idealize.ShloMosaic.StableHlo
open Cert.Kernel7Ideal Cert.Kernel7Ideal.Gen Cert.Kernel7Ideal.Cmp Cert.Proj
open Cert.Equal (andi_one)
open Cert.Reference7Ideal.Sem (mlp mlp_apply hidden hidden_apply rowsOf rowsOf_apply both both_k both_v)

/-- The facts that the precondition's program cites. -/
instance facts7 : Cert.Pre_finite7.Facts where
  h_S_ := by decide
  bcast_S_S32x64 := by decide
  reducesTo_S32x64_S_d0_1 := by decide
  bcast_S_S2048x256 := by decide
  reducesTo_S2048x256_S_d0_1 := by decide

instance : Subsingleton Cert.Pre_finite7.S_.Idx := ⟨fun a b => funext fun x => x.elim0⟩

/-- Every entry of an array is real. -/
def Real {s : Shape} (x : FVec Ideal s .f32) : Prop := ∀ i, ∃ r : ℝ, x i = (r : EReal)

/-- An array whose entries' magnitudes are under infinity is real. -/
theorem real_of {s : Shape} (x y : FVec Ideal s .f32) (hy : ∀ i, y i = Ideal.ofBits .f32 0x7F800000#32) (h : ∀ i, cmpf .olt (Host.absf x) y i = 1#1) : Real x := fun i => by
  have hinf : Ideal.ofBits .f32 0x7F800000#32 = ⊤ := by simp [Ideal.ofBits, Ideal.ieee]
  have h2 : BitVec.ofBool (decide (max (x i) (-(x i)) < y i)) = 1#1 := h i
  rw [hy, hinf] at h2
  have h3 : max (x i) (-(x i)) < ⊤ := by
    by_contra hc
    rw [decide_eq_false hc] at h2
    exact absurd h2 (by decide)
  have h4 := max_lt_iff.mp h3
  refine ⟨(x i).toReal, (EReal.coe_toReal h4.1.ne fun hb => ?_).symm⟩
  rw [hb] at h4
  exact absurd h4.2 (by simp)

/-- Under the precondition the entries of the positions and the first weights are real. -/
theorem finite_real (k v : FVec Ideal S8x2048x256 .f32) (pk pv : FVec Ideal S32x64 .f32) (k1 v1 : FVec Ideal S2048x256 .f32) (k2 v2 : FVec Ideal S256x64 .f32)
    (h : Cert.Pre_finite7.fn (F := Ideal) k v pk pv k1 k2 v1 v2 = fun _ => 1#1) : Real pk ∧ Real pv ∧ Real k1 ∧ Real v1 := by
  have h0 := congrFun h (fun a => a.elim0)
  obtain ⟨h0, h4⟩ := andi_one h0
  obtain ⟨h0, h3⟩ := andi_one h0
  obtain ⟨h1, h2⟩ := andi_one h0
  exact ⟨real_of pk _ (fun _ => rfl) (Host.reduce_andi_all _ _ _ _ _ h1), real_of pv _ (fun _ => rfl) (Host.reduce_andi_all _ _ _ _ _ h2),
    real_of k1 _ (fun _ => rfl) (Host.reduce_andi_all _ _ _ _ _ h3), real_of v1 _ (fun _ => rfl) (Host.reduce_andi_all _ _ _ _ _ h4)⟩

/-- A product by a real distributes over a sum with a real. -/
theorem apart (a : EReal) {b w : EReal} (hb : ∃ r : ℝ, b = r) (hw : ∃ r : ℝ, w = r) : (a + b) * w = a * w + b * w := by
  obtain ⟨b, rfl⟩ := hb
  obtain ⟨w, rfl⟩ := hw
  induction a with
  | coe a => rw [← EReal.coe_add, ← EReal.coe_mul, add_mul, EReal.coe_add, EReal.coe_mul, EReal.coe_mul]
  | top =>
    rw [EReal.top_add_coe, ← EReal.coe_mul]
    rcases lt_trichotomy w 0 with h | rfl | h
    · rw [EReal.top_mul_coe_of_neg h, EReal.bot_add]
    · simp
    · rw [EReal.top_mul_coe_of_pos h, EReal.top_add_coe]
  | bot =>
    rw [EReal.bot_add, ← EReal.coe_mul]
    rcases lt_trichotomy w 0 with h | rfl | h
    · rw [EReal.bot_mul_coe_of_neg h, EReal.top_add_coe]
    · simp
    · rw [EReal.bot_mul_coe_of_pos h, EReal.bot_add]

/-- The two halves of a block, each with its positions, summed as the kernel sums them. -/
theorem hidden_hid (x : FVec Ideal S8x2048x256 .f32) (p : FVec Ideal S32x64 .f32) (w : FVec Ideal S2048x256 .f32) (hp : Real p) (hw : Real w)
    (b : Fin 8) (s : Fin 127) (g : Fin 4) (n : Fin 256) : hidden x p w (ix4 b s g n) = hid x p w b s g n := by
  rw [hidden_apply]
  refine (Fin.sum_univ_add (a := 1024) (b := 1024) fun k : Fin 2048 => rowsOf x p (ix4 b s g k) * w (ix2 k n)).trans ?_
  unfold hid
  rw [add_add_add_comm]
  refine congrArg₂ (· + ·) ((Finset.sum_congr rfl fun k _ => ?_).trans Finset.sum_add_distrib) ((Finset.sum_congr rfl fun k _ => ?_).trans Finset.sum_add_distrib)
  · rw [rowsOf_apply]
    exact apart _ (hp _) (hw _)
  · rw [rowsOf_apply]
    refine (apart _ (hp _) (hw _)).trans ?_
    have e1 : (1024 + k.1) / 64 = 16 + k.1 / 64 := by omega
    have e2 : (1024 + k.1) % 64 = k.1 % 64 := by omega
    have e3 : 16 * s.1 + (16 + k.1 / 64) = 16 * (s.1 + 1) + k.1 / 64 := by omega
    simp only [Fin.natAdd, e1, e2, e3]

/-- The two orders of the unit's cube. -/
theorem gelu_eq (h : EReal) : Cert.Reference7Ideal.Sem.gelu h = Cert.Kernel7Ideal.Cmp.gelu h := by
  unfold Cert.Reference7Ideal.Sem.gelu Cert.Kernel7Ideal.Cmp.gelu
  rw [mul_assoc h h h]

/-- The compressed blocks, in the kernel's terms. -/
theorem mlp_hid (x : FVec Ideal S8x2048x256 .f32) (p : FVec Ideal S32x64 .f32) (w : FVec Ideal S2048x256 .f32) (w' : FVec Ideal S256x64 .f32) (hp : Real p) (hw : Real w)
    (b : Fin 8) (s : Fin 127) (g : Fin 4) (d : Fin 64) : mlp x p w w' (ix4 b s g d) = ∑ n, Cert.Kernel7Ideal.Cmp.gelu (hid x p w b s g n) * w' (ix2 n d) := by
  rw [mlp_apply]
  simp only [gelu_eq, hidden_hid x p w hp hw]

/-- A column of the result is a key's or a value's. -/
theorem parts (d : Fin 128) : (∃ e : Fin 64, d = ⟨0 + e.1, by omega⟩) ∨ ∃ e : Fin 64, d = ⟨64 + e.1, by omega⟩ := by
  by_cases h : d.1 < 64
  · exact .inl ⟨⟨d.1, h⟩, Fin.ext (Nat.zero_add _).symm⟩
  · exact .inr ⟨⟨d.1 - 64, by omega⟩, Fin.ext (by show d.1 = 64 + (d.1 - 64); omega)⟩

variable (m : (ℓ : Loc nD τ sig) → Buf (Elt Ideal) ℓ) (c : Dev nD)

/-- The reference's array, of the kernel's arguments, is the kernel's result. -/
theorem result_eq (hpk : Real (argPk m c)) (hpv : Real (argPv m c)) (hk1 : Real (argK1 m c)) (hv1 : Real (argV1 m c)) :
    both (mlp (argK m c) (argPk m c) (argK1 m c) (argK2 m c)) (mlp (argV m c) (argPv m c) (argV1 m c) (argV2 m c)) = result m c := by
  funext x
  obtain ⟨B, g, s, d, rfl⟩ : ∃ (B : Fin 8) (g : Fin 4) (s : Fin 127) (d : Fin 128), x = ix4 B g s d :=
    ⟨x 0, x 1, x 2, x 3, by funext a; match a with | 0 => rfl | 1 => rfl | 2 => rfl | 3 => rfl⟩
  obtain ⟨t, b, rfl⟩ := point (N := 2) (B := 4) (by omega) B
  obtain ⟨e, rfl⟩ | ⟨e, rfl⟩ := parts d
  · refine Eq.trans ?_ (result_k m c t b g s e).symm
    rw [← mlp_hid _ _ _ _ hpk hk1]
    refine Eq.trans (congrArg _ (congrArg (ix4 _ g s) (Fin.ext (Nat.zero_add e.1)))) (both_k _ _ _ g s e)
  · refine Eq.trans ?_ (result_v m c t b g s e).symm
    rw [← mlp_hid _ _ _ _ hpv hv1]
    exact both_v _ _ _ g s e

/-- The compression and its reference compute the same array from arguments that agree and are finite. -/
theorem algebraic7 : Cert.algebraic_Kernel7Ideal_Reference7Ideal_pre_finite7 := fun m g m' g' hpre hag =>
  ⟨_, run_result m g,
   (θ_run _ _ _).mono (fun _ h c => by
      have h0 : Cert.Reference7Ideal.Sem.argK m' c = argK m c := (hag c).1
      have h1 : Cert.Reference7Ideal.Sem.argV m' c = argV m c := (hag c).2.1
      have h2 : Cert.Reference7Ideal.Sem.argPk m' c = argPk m c := (hag c).2.2.1
      have h3 : Cert.Reference7Ideal.Sem.argPv m' c = argPv m c := (hag c).2.2.2.1
      have h4 : Cert.Reference7Ideal.Sem.argK1 m' c = argK1 m c := (hag c).2.2.2.2.1
      have h5 : Cert.Reference7Ideal.Sem.argK2 m' c = argK2 m c := (hag c).2.2.2.2.2.1
      have h6 : Cert.Reference7Ideal.Sem.argV1 m' c = argV1 m c := (hag c).2.2.2.2.2.2.1
      have h7 : Cert.Reference7Ideal.Sem.argV2 m' c = argV2 m c := (hag c).2.2.2.2.2.2.2
      obtain ⟨hpk, hpv, hk1, hv1⟩ := finite_real _ _ _ _ _ _ _ _ (hpre c)
      refine ⟨((h c).1.trans (Cert.Reference7Ideal.Sem.res_eq m' c)).trans ?_, (h c).2⟩
      rw [h0, h1, h2, h3, h4, h5, h6, h7]
      exact result_eq m c hpk hpv hk1 hv1)
     (Cert.Reference7Ideal.Value.run m' g')⟩

end Cert.CmpEqual

end

end
-- ==== Proof.lean ====
/- The certificate's claim: the frames of the programs, the named constants, and each kernel's results equal to its
   reference's over the extended reals. -/
module

public import proofs.«01_k».proof.Defs
public import proofs.«01_k».proof.Proof.Equal
public import proofs.«01_k».proof.Proof.Gen.Kernel.Frame
public import proofs.«01_k».proof.Proof.FfnEqual
public import proofs.«01_k».proof.Proof.ProjEqual
public import proofs.«01_k».proof.Proof.ConvEqual
public import proofs.«01_k».proof.Proof.CmpEqual
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import Idealize.ShloMosaic.Lib.Quiescent

@[expose] public section

open Idealize.ShloMosaic

namespace Cert.Proof

/-- Everything the certificate claims. -/
theorem claim : Cert.Claim :=
  ⟨Cert.Kernel.Gen.facts, Cert.KernelIdeal.Gen.facts, Cert.ReferenceIdeal.Gen.facts,
   Cert.Kernel2.Gen.facts, Cert.Kernel2Ideal.Gen.facts, Cert.Reference2Ideal.Gen.facts,
   Cert.Kernel3.Gen.facts, Cert.Kernel3Ideal.Gen.facts, Cert.Reference3Ideal.Gen.facts,
   Cert.Kernel4.Gen.facts, Cert.Kernel4Ideal.Gen.facts, Cert.Reference4Ideal.Gen.facts,
   Cert.Kernel5.Gen.facts, Cert.Kernel5Ideal.Gen.facts, Cert.Reference5Ideal.Gen.facts,
   Cert.Kernel6.Gen.facts, Cert.Kernel6Ideal.Gen.facts, Cert.Reference6Ideal.Gen.facts,
   Cert.Kernel7.Gen.facts, Cert.Kernel7Ideal.Gen.facts, Cert.Reference7Ideal.Gen.facts,
   Cert.Equal.facts, Cert.CmpEqual.facts7,
   fun m ρ _ => Cert.Kernel.Gen.frame m ρ, fun m ρ _ => Cert.KernelIdeal.Run.frame m ρ, fun m ρ _ => Cert.KernelIdeal.Run.frame m ρ,
   fun m ρ _ => (θ_run _ _ _).mono (fun r h => ⟨fun c => (h c).2, sem_eq_zero_of_no_sems (by decide) r.2⟩)
     (Cert.ReferenceIdeal.Value.run m ρ),
   fun m ρ _ => (θ_run _ _ _).mono (fun r h => ⟨fun c => (h c).2, sem_eq_zero_of_no_sems (by decide) r.2⟩)
     (Cert.ReferenceIdeal.Value.run m ρ),
   fun m ρ _ => Cert.Kernel2.Gen.frame m ρ, fun m ρ _ => Cert.Kernel2Ideal.Gen.frame m ρ,
   fun m ρ _ => (θ_run _ _ _).mono (fun r h => ⟨fun c => (h c).2, sem_eq_zero_of_no_sems (by decide) r.2⟩)
     (Cert.Reference2Ideal.Value.run m ρ),
   fun m ρ _ => Cert.Kernel3.Gen.frame m ρ, fun m ρ _ => Cert.Kernel3Ideal.Gen.frame m ρ,
   fun m ρ _ => (θ_run _ _ _).mono (fun r h => ⟨fun c => (h c).2, sem_eq_zero_of_no_sems (by decide) r.2⟩)
     (Cert.Reference3Ideal.Value.run m ρ),
   fun m ρ _ => Cert.Kernel4.Gen.frame m ρ, fun m ρ _ => Cert.Kernel4Ideal.Gen.frame m ρ,
   fun m ρ _ => (θ_run _ _ _).mono (fun r h => ⟨fun c => (h c).2.2.2.2, sem_eq_zero_of_no_sems (by decide) r.2⟩)
     (Cert.Reference4Ideal.Value.run m ρ),
   fun m ρ _ => Cert.Kernel5.Gen.frame m ρ, fun m ρ _ => Cert.Kernel5Ideal.Gen.frame m ρ,
   fun m ρ _ => (θ_run _ _ _).mono (fun r h => ⟨fun c => (h c).2.2.2.2.2.2, sem_eq_zero_of_no_sems (by decide) r.2⟩)
     (Cert.Reference5Ideal.Value.run m ρ),
   fun m ρ _ => Cert.Kernel6.Gen.frame m ρ, fun m ρ _ => Cert.Kernel6Ideal.Gen.frame m ρ,
   fun m ρ _ => (θ_run _ _ _).mono (fun r h => ⟨fun c => (h c).2.2.2.2.2.2, sem_eq_zero_of_no_sems (by decide) r.2⟩)
     (Cert.Reference6Ideal.Value.run m ρ),
   fun m ρ _ => Cert.Kernel7.Gen.frame m ρ, fun m ρ _ => Cert.Kernel7Ideal.Gen.frame m ρ,
   fun m ρ _ => Cert.Kernel7Ideal.Gen.frame m ρ,
   fun m ρ _ => (θ_run _ _ _).mono (fun r h => ⟨fun c => (h c).2, sem_eq_zero_of_no_sems (by decide) r.2⟩)
     (Cert.Reference7Ideal.Value.run m ρ),
   fun m ρ _ => (θ_run _ _ _).mono (fun r h => ⟨fun c => (h c).2, sem_eq_zero_of_no_sems (by decide) r.2⟩)
     (Cert.Reference7Ideal.Value.run m ρ),
   ⟨IdealRules.named_const.statement Cert.KernelIdeal.κ "q_scale" .f32 0x3E38AA3B#32 _ rfl,
    IdealRules.named_const.statement Cert.KernelIdeal.κ "masked" .f32 0xF149F2CA#32 _ rfl⟩,
   Cert.Equal.algebraic,
   trivial, Cert.FfnEqual.algebraic2,
   trivial, Cert.FfnEqual.algebraic3,
   trivial, Cert.ConvEqual.algebraic4,
   trivial, Cert.ProjEqual.algebraic5,
   trivial, Cert.ProjEqual.algebraic6,
   trivial, Cert.CmpEqual.algebraic7⟩

end Cert.Proof
